-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_gates_above [hPre_gates_above : Cert.Pre_gates_above.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_gates_above.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5)) (m ((c.tc : Thread Cert.HgrnIdeal.nD Cert.HgrnIdeal.τ).loc Cert.HgrnIdeal.main_arg6)) (m ((c.tc : Thread Cert.HgrnIdeal.nD Cert.HgrnIdeal.τ).loc Cert.HgrnIdeal.main_arg7))) = (fun _ => 1#1)

def Pre_HgrnReferenceIdeal (m : (ℓ : Loc Cert.HgrnReferenceIdeal.nD Cert.HgrnReferenceIdeal.τ Cert.HgrnReferenceIdeal.sig) → Buf (Elt Ideal) ℓ) : Prop :=
  True

def Pre_HgrnReferenceIdeal_gates_above [hPre_gates_above : Cert.Pre_gates_above.Facts] (m : (ℓ : Loc Cert.HgrnReferenceIdeal.nD Cert.HgrnReferenceIdeal.τ Cert.HgrnReferenceIdeal.sig) → Buf (Elt Ideal) ℓ) : Prop :=
  ∀ c : Dev Cert.HgrnReferenceIdeal.nD,
    (Cert.Pre_gates_above.fn (F := Ideal) (m ((c.tc : Thread Cert.HgrnReferenceIdeal.nD Cert.HgrnReferenceIdeal.τ).loc Cert.HgrnReferenceIdeal.main_arg0)) (m ((c.tc : Thread Cert.HgrnReferenceIdeal.nD Cert.HgrnReferenceIdeal.τ).loc Cert.HgrnReferenceIdeal.main_arg1)) (m ((c.tc : Thread Cert.HgrnReferenceIdeal.nD Cert.HgrnReferenceIdeal.τ).loc Cert.HgrnReferenceIdeal.main_arg2)) (m ((c.tc : Thread Cert.HgrnReferenceIdeal.nD Cert.HgrnReferenceIdeal.τ).loc Cert.HgrnReferenceIdeal.main_arg3)) (m ((c.tc : Thread Cert.HgrnReferenceIdeal.nD Cert.HgrnReferenceIdeal.τ).loc Cert.HgrnReferenceIdeal.main_arg4)) (m ((c.tc : Thread Cert.HgrnReferenceIdeal.nD Cert.HgrnReferenceIdeal.τ).loc Cert.HgrnReferenceIdeal.main_arg5)) (m ((c.tc : Thread Cert.HgrnReferenceIdeal.nD Cert.HgrnReferenceIdeal.τ).loc Cert.HgrnReferenceIdeal.main_arg6)) (m ((c.tc : Thread Cert.HgrnReferenceIdeal.nD Cert.HgrnReferenceIdeal.τ).loc Cert.HgrnReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3)
      ∧ r.2.mem ((c.tc : Thread Cert.Hgrn.nD Cert.Hgrn.τ).loc Cert.Hgrn.main_arg4) = m ((c.tc : Thread Cert.Hgrn.nD Cert.Hgrn.τ).loc Cert.Hgrn.main_arg4)
      ∧ r.2.mem ((c.tc : Thread Cert.Hgrn.nD Cert.Hgrn.τ).loc Cert.Hgrn.main_arg5) = m ((c.tc : Thread Cert.Hgrn.nD Cert.Hgrn.τ).loc Cert.Hgrn.main_arg5)
      ∧ r.2.mem ((c.tc : Thread Cert.Hgrn.nD Cert.Hgrn.τ).loc Cert.Hgrn.main_arg6) = m ((c.tc : Thread Cert.Hgrn.nD Cert.Hgrn.τ).loc Cert.Hgrn.main_arg6)
      ∧ r.2.mem ((c.tc : Thread Cert.Hgrn.nD Cert.Hgrn.τ).loc Cert.Hgrn.main_arg7) = m ((c.tc : Thread Cert.Hgrn.nD Cert.Hgrn.τ).loc Cert.Hgrn.main_arg7))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5)
      ∧ r.2.mem ((c.tc : Thread Cert.HgrnIdeal.nD Cert.HgrnIdeal.τ).loc Cert.HgrnIdeal.main_arg6) = m ((c.tc : Thread Cert.HgrnIdeal.nD Cert.HgrnIdeal.τ).loc Cert.HgrnIdeal.main_arg6)
      ∧ r.2.mem ((c.tc : Thread Cert.HgrnIdeal.nD Cert.HgrnIdeal.τ).loc Cert.HgrnIdeal.main_arg7) = m ((c.tc : Thread Cert.HgrnIdeal.nD Cert.HgrnIdeal.τ).loc Cert.HgrnIdeal.main_arg7))
      ∧ r.2.sem = fun _ => 0)

def quiescent_HgrnIdeal_pre_gates_above [hHgrnIdeal : Cert.HgrnIdeal.Facts] [hPre_gates_above : Cert.Pre_gates_above.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_gates_above m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5)
      ∧ r.2.mem ((c.tc : Thread Cert.HgrnIdeal.nD Cert.HgrnIdeal.τ).loc Cert.HgrnIdeal.main_arg6) = m ((c.tc : Thread Cert.HgrnIdeal.nD Cert.HgrnIdeal.τ).loc Cert.HgrnIdeal.main_arg6)
      ∧ r.2.mem ((c.tc : Thread Cert.HgrnIdeal.nD Cert.HgrnIdeal.τ).loc Cert.HgrnIdeal.main_arg7) = m ((c.tc : Thread Cert.HgrnIdeal.nD Cert.HgrnIdeal.τ).loc Cert.HgrnIdeal.main_arg7))
      ∧ r.2.sem = fun _ => 0)

def quiescent_HgrnReferenceIdeal [hHgrnReferenceIdeal : Cert.HgrnReferenceIdeal.Facts] : Prop :=
  ∀ (m : (ℓ : Loc Cert.HgrnReferenceIdeal.nD Cert.HgrnReferenceIdeal.τ Cert.HgrnReferenceIdeal.sig) → Buf (Elt Ideal) ℓ) (g : Dev Cert.HgrnReferenceIdeal.nD → PrngReg), Pre_HgrnReferenceIdeal m →
    θ_run (Cert.HgrnReferenceIdeal.defs (F := Ideal)) (onTc (τ := Cert.HgrnReferenceIdeal.τ) (Cert.HgrnReferenceIdeal.main (F := Ideal))) ⟨m, fun _ => 0, g⟩ (fun r => (∀ c : Dev Cert.HgrnReferenceIdeal.nD,
      r.2.mem ((c.tc : Thread Cert.HgrnReferenceIdeal.nD Cert.HgrnReferenceIdeal.τ).loc Cert.HgrnReferenceIdeal.main_arg0) = m ((c.tc : Thread Cert.HgrnReferenceIdeal.nD Cert.HgrnReferenceIdeal.τ).loc Cert.HgrnReferenceIdeal.main_arg0)
      ∧ r.2.mem ((c.tc : Thread Cert.HgrnReferenceIdeal.nD Cert.HgrnReferenceIdeal.τ).loc Cert.HgrnReferenceIdeal.main_arg1) = m ((c.tc : Thread Cert.HgrnReferenceIdeal.nD Cert.HgrnReferenceIdeal.τ).loc Cert.HgrnReferenceIdeal.main_arg1)
      ∧ r.2.mem ((c.tc : Thread Cert.HgrnReferenceIdeal.nD Cert.HgrnReferenceIdeal.τ).loc Cert.HgrnReferenceIdeal.main_arg2) = m ((c.tc : Thread Cert.HgrnReferenceIdeal.nD Cert.HgrnReferenceIdeal.τ).loc Cert.HgrnReferenceIdeal.main_arg2)
      ∧ r.2.mem ((c.tc : Thread Cert.HgrnReferenceIdeal.nD Cert.HgrnReferenceIdeal.τ).loc Cert.HgrnReferenceIdeal.main_arg3) = m ((c.tc : Thread Cert.HgrnReferenceIdeal.nD Cert.HgrnReferenceIdeal.τ).loc Cert.HgrnReferenceIdeal.main_arg3)
      ∧ r.2.mem ((c.tc : Thread Cert.HgrnReferenceIdeal.nD Cert.HgrnReferenceIdeal.τ).loc Cert.HgrnReferenceIdeal.main_arg4) = m ((c.tc : Thread Cert.HgrnReferenceIdeal.nD Cert.HgrnReferenceIdeal.τ).loc Cert.HgrnReferenceIdeal.main_arg4)
      ∧ r.2.mem ((c.tc : Thread Cert.HgrnReferenceIdeal.nD Cert.HgrnReferenceIdeal.τ).loc Cert.HgrnReferenceIdeal.main_arg5) = m ((c.tc : Thread Cert.HgrnReferenceIdeal.nD Cert.HgrnReferenceIdeal.τ).loc Cert.HgrnReferenceIdeal.main_arg5)
      ∧ r.2.mem ((c.tc : Thread Cert.HgrnReferenceIdeal.nD Cert.HgrnReferenceIdeal.τ).loc Cert.HgrnReferenceIdeal.main_arg6) = m ((c.tc : Thread Cert.HgrnReferenceIdeal.nD Cert.HgrnReferenceIdeal.τ).loc Cert.HgrnReferenceIdeal.main_arg6)
      ∧ r.2.mem ((c.tc : Thread Cert.HgrnReferenceIdeal.nD Cert.HgrnReferenceIdeal.τ).loc Cert.HgrnReferenceIdeal.main_arg7) = m ((c.tc : Thread Cert.HgrnReferenceIdeal.nD Cert.HgrnReferenceIdeal.τ).loc Cert.HgrnReferenceIdeal.main_arg7))
      ∧ r.2.sem = fun _ => 0)

def quiescent_HgrnReferenceIdeal_pre_gates_above [hHgrnReferenceIdeal : Cert.HgrnReferenceIdeal.Facts] [hPre_gates_above : Cert.Pre_gates_above.Facts] : Prop :=
  ∀ (m : (ℓ : Loc Cert.HgrnReferenceIdeal.nD Cert.HgrnReferenceIdeal.τ Cert.HgrnReferenceIdeal.sig) → Buf (Elt Ideal) ℓ) (g : Dev Cert.HgrnReferenceIdeal.nD → PrngReg), Pre_HgrnReferenceIdeal_gates_above m →
    θ_run (Cert.HgrnReferenceIdeal.defs (F := Ideal)) (onTc (τ := Cert.HgrnReferenceIdeal.τ) (Cert.HgrnReferenceIdeal.main (F := Ideal))) ⟨m, fun _ => 0, g⟩ (fun r => (∀ c : Dev Cert.HgrnReferenceIdeal.nD,
      r.2.mem ((c.tc : Thread Cert.HgrnReferenceIdeal.nD Cert.HgrnReferenceIdeal.τ).loc Cert.HgrnReferenceIdeal.main_arg0) = m ((c.tc : Thread Cert.HgrnReferenceIdeal.nD Cert.HgrnReferenceIdeal.τ).loc Cert.HgrnReferenceIdeal.main_arg0)
      ∧ r.2.mem ((c.tc : Thread Cert.HgrnReferenceIdeal.nD Cert.HgrnReferenceIdeal.τ).loc Cert.HgrnReferenceIdeal.main_arg1) = m ((c.tc : Thread Cert.HgrnReferenceIdeal.nD Cert.HgrnReferenceIdeal.τ).loc Cert.HgrnReferenceIdeal.main_arg1)
      ∧ r.2.mem ((c.tc : Thread Cert.HgrnReferenceIdeal.nD Cert.HgrnReferenceIdeal.τ).loc Cert.HgrnReferenceIdeal.main_arg2) = m ((c.tc : Thread Cert.HgrnReferenceIdeal.nD Cert.HgrnReferenceIdeal.τ).loc Cert.HgrnReferenceIdeal.main_arg2)
      ∧ r.2.mem ((c.tc : Thread Cert.HgrnReferenceIdeal.nD Cert.HgrnReferenceIdeal.τ).loc Cert.HgrnReferenceIdeal.main_arg3) = m ((c.tc : Thread Cert.HgrnReferenceIdeal.nD Cert.HgrnReferenceIdeal.τ).loc Cert.HgrnReferenceIdeal.main_arg3)
      ∧ r.2.mem ((c.tc : Thread Cert.HgrnReferenceIdeal.nD Cert.HgrnReferenceIdeal.τ).loc Cert.HgrnReferenceIdeal.main_arg4) = m ((c.tc : Thread Cert.HgrnReferenceIdeal.nD Cert.HgrnReferenceIdeal.τ).loc Cert.HgrnReferenceIdeal.main_arg4)
      ∧ r.2.mem ((c.tc : Thread Cert.HgrnReferenceIdeal.nD Cert.HgrnReferenceIdeal.τ).loc Cert.HgrnReferenceIdeal.main_arg5) = m ((c.tc : Thread Cert.HgrnReferenceIdeal.nD Cert.HgrnReferenceIdeal.τ).loc Cert.HgrnReferenceIdeal.main_arg5)
      ∧ r.2.mem ((c.tc : Thread Cert.HgrnReferenceIdeal.nD Cert.HgrnReferenceIdeal.τ).loc Cert.HgrnReferenceIdeal.main_arg6) = m ((c.tc : Thread Cert.HgrnReferenceIdeal.nD Cert.HgrnReferenceIdeal.τ).loc Cert.HgrnReferenceIdeal.main_arg6)
      ∧ r.2.mem ((c.tc : Thread Cert.HgrnReferenceIdeal.nD Cert.HgrnReferenceIdeal.τ).loc Cert.HgrnReferenceIdeal.main_arg7) = m ((c.tc : Thread Cert.HgrnReferenceIdeal.nD Cert.HgrnReferenceIdeal.τ).loc Cert.HgrnReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v8) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2))

def preserves_Ple_PleIdeal : Prop :=
  True

def algebraic_PleIdeal_PleReferenceIdeal [hPleIdeal : Cert.PleIdeal.Facts] [hPleReferenceIdeal : Cert.PleReferenceIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleIdeal m →
    (∀ c : Dev Cert.PleIdeal.nD,
      m' ((c.tc : Thread Cert.PleReferenceIdeal.nD Cert.PleReferenceIdeal.τ).loc Cert.PleReferenceIdeal.main_arg0) = m ((c.tc : Thread Cert.PleIdeal.nD Cert.PleIdeal.τ).loc Cert.PleIdeal.main_arg0)
      ∧ m' ((c.tc : Thread Cert.PleReferenceIdeal.nD Cert.PleReferenceIdeal.τ).loc Cert.PleReferenceIdeal.main_arg1) = m ((c.tc : Thread Cert.PleIdeal.nD Cert.PleIdeal.τ).loc Cert.PleIdeal.main_arg1)
      ∧ m' ((c.tc : Thread Cert.PleReferenceIdeal.nD Cert.PleReferenceIdeal.τ).loc Cert.PleReferenceIdeal.main_arg2) = m ((c.tc : Thread Cert.PleIdeal.nD Cert.PleIdeal.τ).loc Cert.PleIdeal.main_arg2)
      ∧ m' ((c.tc : Thread Cert.PleReferenceIdeal.nD Cert.PleReferenceIdeal.τ).loc Cert.PleReferenceIdeal.main_arg3) = m ((c.tc : Thread Cert.PleIdeal.nD Cert.PleIdeal.τ).loc Cert.PleIdeal.main_arg3)
      ∧ m' ((c.tc : Thread Cert.PleReferenceIdeal.nD Cert.PleReferenceIdeal.τ).loc Cert.PleReferenceIdeal.main_arg4) = m ((c.tc : Thread Cert.PleIdeal.nD Cert.PleIdeal.τ).loc Cert.PleIdeal.main_arg4)
      ∧ m' ((c.tc : Thread Cert.PleReferenceIdeal.nD Cert.PleReferenceIdeal.τ).loc Cert.PleReferenceIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v27) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v7_0)) (v1 : (c : Dev Cert.MixIdeal.nD) → Buf (Elt Ideal) ((c.tc : Thread Cert.MixIdeal.nD Cert.MixIdeal.τ).loc Cert.MixIdeal.main_v7_1)) (v2 : (c : Dev Cert.MixIdeal.nD) → Buf (Elt Ideal) ((c.tc : Thread Cert.MixIdeal.nD Cert.MixIdeal.τ).loc Cert.MixIdeal.main_v7_2)) (v3 : (c : Dev Cert.MixIdeal.nD) → Buf (Elt Ideal) ((c.tc : Thread Cert.MixIdeal.nD Cert.MixIdeal.τ).loc Cert.MixIdeal.main_v7_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7_0) = v0 c
          ∧ r.2.mem ((c.tc : Thread Cert.MixIdeal.nD Cert.MixIdeal.τ).loc Cert.MixIdeal.main_v7_1) = v1 c
          ∧ r.2.mem ((c.tc : Thread Cert.MixIdeal.nD Cert.MixIdeal.τ).loc Cert.MixIdeal.main_v7_2) = v2 c
          ∧ r.2.mem ((c.tc : Thread Cert.MixIdeal.nD Cert.MixIdeal.τ).loc Cert.MixIdeal.main_v7_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v30) = v0 c
          ∧ r.2.mem ((c.tc : Thread Cert.MixReferenceIdeal.nD Cert.MixReferenceIdeal.τ).loc Cert.MixReferenceIdeal.main_v45) = v1 c
          ∧ r.2.mem ((c.tc : Thread Cert.MixReferenceIdeal.nD Cert.MixReferenceIdeal.τ).loc Cert.MixReferenceIdeal.main_v47) = v2 c
          ∧ r.2.mem ((c.tc : Thread Cert.MixReferenceIdeal.nD Cert.MixReferenceIdeal.τ).loc Cert.MixReferenceIdeal.main_v49) = v3 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9))

def preserves_Hgrn_HgrnIdeal : Prop :=
  True

def algebraic_HgrnIdeal_HgrnReferenceIdeal_pre_gates_above [hHgrnIdeal : Cert.HgrnIdeal.Facts] [hHgrnReferenceIdeal : Cert.HgrnReferenceIdeal.Facts] [hPre_gates_above : Cert.Pre_gates_above.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnReferenceIdeal.nD Cert.HgrnReferenceIdeal.τ Cert.HgrnReferenceIdeal.sig) → Buf (Elt Ideal) ℓ) (g' : Dev Cert.HgrnReferenceIdeal.nD → PrngReg), Pre_HgrnIdeal_gates_above m →
    (∀ c : Dev Cert.HgrnIdeal.nD,
      m' ((c.tc : Thread Cert.HgrnReferenceIdeal.nD Cert.HgrnReferenceIdeal.τ).loc Cert.HgrnReferenceIdeal.main_arg0) = m ((c.tc : Thread Cert.HgrnIdeal.nD Cert.HgrnIdeal.τ).loc Cert.HgrnIdeal.main_arg0)
      ∧ m' ((c.tc : Thread Cert.HgrnReferenceIdeal.nD Cert.HgrnReferenceIdeal.τ).loc Cert.HgrnReferenceIdeal.main_arg1) = m ((c.tc : Thread Cert.HgrnIdeal.nD Cert.HgrnIdeal.τ).loc Cert.HgrnIdeal.main_arg1)
      ∧ m' ((c.tc : Thread Cert.HgrnReferenceIdeal.nD Cert.HgrnReferenceIdeal.τ).loc Cert.HgrnReferenceIdeal.main_arg2) = m ((c.tc : Thread Cert.HgrnIdeal.nD Cert.HgrnIdeal.τ).loc Cert.HgrnIdeal.main_arg2)
      ∧ m' ((c.tc : Thread Cert.HgrnReferenceIdeal.nD Cert.HgrnReferenceIdeal.τ).loc Cert.HgrnReferenceIdeal.main_arg3) = m ((c.tc : Thread Cert.HgrnIdeal.nD Cert.HgrnIdeal.τ).loc Cert.HgrnIdeal.main_arg3)
      ∧ m' ((c.tc : Thread Cert.HgrnReferenceIdeal.nD Cert.HgrnReferenceIdeal.τ).loc Cert.HgrnReferenceIdeal.main_arg4) = m ((c.tc : Thread Cert.HgrnIdeal.nD Cert.HgrnIdeal.τ).loc Cert.HgrnIdeal.main_arg4)
      ∧ m' ((c.tc : Thread Cert.HgrnReferenceIdeal.nD Cert.HgrnReferenceIdeal.τ).loc Cert.HgrnReferenceIdeal.main_arg5) = m ((c.tc : Thread Cert.HgrnIdeal.nD Cert.HgrnIdeal.τ).loc Cert.HgrnIdeal.main_arg5)
      ∧ m' ((c.tc : Thread Cert.HgrnReferenceIdeal.nD Cert.HgrnReferenceIdeal.τ).loc Cert.HgrnReferenceIdeal.main_arg6) = m ((c.tc : Thread Cert.HgrnIdeal.nD Cert.HgrnIdeal.τ).loc Cert.HgrnIdeal.main_arg6)
      ∧ m' ((c.tc : Thread Cert.HgrnReferenceIdeal.nD Cert.HgrnReferenceIdeal.τ).loc Cert.HgrnReferenceIdeal.main_arg7) = m ((c.tc : Thread Cert.HgrnIdeal.nD Cert.HgrnIdeal.τ).loc Cert.HgrnIdeal.main_arg7)) →
    ∃ (v0 : (c : Dev Cert.HgrnIdeal.nD) → Buf (Elt Ideal) ((c.tc : Thread Cert.HgrnIdeal.nD Cert.HgrnIdeal.τ).loc Cert.HgrnIdeal.main_v8_0)) (v1 : (c : Dev Cert.HgrnIdeal.nD) → Buf (Elt Ideal) ((c.tc : Thread Cert.HgrnIdeal.nD Cert.HgrnIdeal.τ).loc Cert.HgrnIdeal.main_v8_1)) (v2 : (c : Dev Cert.HgrnIdeal.nD) → Buf (Elt Ideal) ((c.tc : Thread Cert.HgrnIdeal.nD Cert.HgrnIdeal.τ).loc Cert.HgrnIdeal.main_v8_2)) (v3 : (c : Dev Cert.HgrnIdeal.nD) → Buf (Elt Ideal) ((c.tc : Thread Cert.HgrnIdeal.nD Cert.HgrnIdeal.τ).loc Cert.HgrnIdeal.main_v8_3)) (v4 : (c : Dev Cert.HgrnIdeal.nD) → Buf (Elt Ideal) ((c.tc : Thread Cert.HgrnIdeal.nD Cert.HgrnIdeal.τ).loc Cert.HgrnIdeal.main_v8_4)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v8_0) = v0 c
          ∧ r.2.mem ((c.tc : Thread Cert.HgrnIdeal.nD Cert.HgrnIdeal.τ).loc Cert.HgrnIdeal.main_v8_1) = v1 c
          ∧ r.2.mem ((c.tc : Thread Cert.HgrnIdeal.nD Cert.HgrnIdeal.τ).loc Cert.HgrnIdeal.main_v8_2) = v2 c
          ∧ r.2.mem ((c.tc : Thread Cert.HgrnIdeal.nD Cert.HgrnIdeal.τ).loc Cert.HgrnIdeal.main_v8_3) = v3 c
          ∧ r.2.mem ((c.tc : Thread Cert.HgrnIdeal.nD Cert.HgrnIdeal.τ).loc Cert.HgrnIdeal.main_v8_4) = v4 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
          ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
          ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5)
          ∧ r.2.mem ((c.tc : Thread Cert.HgrnIdeal.nD Cert.HgrnIdeal.τ).loc Cert.HgrnIdeal.main_arg6) = m ((c.tc : Thread Cert.HgrnIdeal.nD Cert.HgrnIdeal.τ).loc Cert.HgrnIdeal.main_arg6)
          ∧ r.2.mem ((c.tc : Thread Cert.HgrnIdeal.nD Cert.HgrnIdeal.τ).loc Cert.HgrnIdeal.main_arg7) = m ((c.tc : Thread Cert.HgrnIdeal.nD Cert.HgrnIdeal.τ).loc Cert.HgrnIdeal.main_arg7))
      ∧ θ_run (Cert.HgrnReferenceIdeal.defs (F := Ideal)) (onTc (τ := Cert.HgrnReferenceIdeal.τ) (Cert.HgrnReferenceIdeal.main (F := Ideal))) ⟨m', fun _ => 0, g'⟩ (fun r => ∀ c : Dev Cert.HgrnReferenceIdeal.nD,
          r.2.mem ((c.tc : Thread Cert.HgrnReferenceIdeal.nD Cert.HgrnReferenceIdeal.τ).loc Cert.HgrnReferenceIdeal.main_v66) = v0 c
          ∧ r.2.mem ((c.tc : Thread Cert.HgrnReferenceIdeal.nD Cert.HgrnReferenceIdeal.τ).loc Cert.HgrnReferenceIdeal.main_v68) = v1 c
          ∧ r.2.mem ((c.tc : Thread Cert.HgrnReferenceIdeal.nD Cert.HgrnReferenceIdeal.τ).loc Cert.HgrnReferenceIdeal.main_v70) = v2 c
          ∧ r.2.mem ((c.tc : Thread Cert.HgrnReferenceIdeal.nD Cert.HgrnReferenceIdeal.τ).loc Cert.HgrnReferenceIdeal.main_v72) = v3 c
          ∧ r.2.mem ((c.tc : Thread Cert.HgrnReferenceIdeal.nD Cert.HgrnReferenceIdeal.τ).loc Cert.HgrnReferenceIdeal.main_v74) = v4 c
          ∧ r.2.mem ((c.tc : Thread Cert.HgrnReferenceIdeal.nD Cert.HgrnReferenceIdeal.τ).loc Cert.HgrnReferenceIdeal.main_arg0) = m' ((c.tc : Thread Cert.HgrnReferenceIdeal.nD Cert.HgrnReferenceIdeal.τ).loc Cert.HgrnReferenceIdeal.main_arg0)
          ∧ r.2.mem ((c.tc : Thread Cert.HgrnReferenceIdeal.nD Cert.HgrnReferenceIdeal.τ).loc Cert.HgrnReferenceIdeal.main_arg1) = m' ((c.tc : Thread Cert.HgrnReferenceIdeal.nD Cert.HgrnReferenceIdeal.τ).loc Cert.HgrnReferenceIdeal.main_arg1)
          ∧ r.2.mem ((c.tc : Thread Cert.HgrnReferenceIdeal.nD Cert.HgrnReferenceIdeal.τ).loc Cert.HgrnReferenceIdeal.main_arg2) = m' ((c.tc : Thread Cert.HgrnReferenceIdeal.nD Cert.HgrnReferenceIdeal.τ).loc Cert.HgrnReferenceIdeal.main_arg2)
          ∧ r.2.mem ((c.tc : Thread Cert.HgrnReferenceIdeal.nD Cert.HgrnReferenceIdeal.τ).loc Cert.HgrnReferenceIdeal.main_arg3) = m' ((c.tc : Thread Cert.HgrnReferenceIdeal.nD Cert.HgrnReferenceIdeal.τ).loc Cert.HgrnReferenceIdeal.main_arg3)
          ∧ r.2.mem ((c.tc : Thread Cert.HgrnReferenceIdeal.nD Cert.HgrnReferenceIdeal.τ).loc Cert.HgrnReferenceIdeal.main_arg4) = m' ((c.tc : Thread Cert.HgrnReferenceIdeal.nD Cert.HgrnReferenceIdeal.τ).loc Cert.HgrnReferenceIdeal.main_arg4)
          ∧ r.2.mem ((c.tc : Thread Cert.HgrnReferenceIdeal.nD Cert.HgrnReferenceIdeal.τ).loc Cert.HgrnReferenceIdeal.main_arg5) = m' ((c.tc : Thread Cert.HgrnReferenceIdeal.nD Cert.HgrnReferenceIdeal.τ).loc Cert.HgrnReferenceIdeal.main_arg5)
          ∧ r.2.mem ((c.tc : Thread Cert.HgrnReferenceIdeal.nD Cert.HgrnReferenceIdeal.τ).loc Cert.HgrnReferenceIdeal.main_arg6) = m' ((c.tc : Thread Cert.HgrnReferenceIdeal.nD Cert.HgrnReferenceIdeal.τ).loc Cert.HgrnReferenceIdeal.main_arg6)
          ∧ r.2.mem ((c.tc : Thread Cert.HgrnReferenceIdeal.nD Cert.HgrnReferenceIdeal.τ).loc Cert.HgrnReferenceIdeal.main_arg7) = m' ((c.tc : Thread Cert.HgrnReferenceIdeal.nD Cert.HgrnReferenceIdeal.τ).loc Cert.HgrnReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPle : Cert.Ple.Facts) (hPleIdeal : Cert.PleIdeal.Facts) (hPleReferenceIdeal : Cert.PleReferenceIdeal.Facts) (hMix : Cert.Mix.Facts) (hMixIdeal : Cert.MixIdeal.Facts) (hMixReferenceIdeal : Cert.MixReferenceIdeal.Facts) (hHgrn : Cert.Hgrn.Facts) (hHgrnIdeal : Cert.HgrnIdeal.Facts) (hHgrnReferenceIdeal : Cert.HgrnReferenceIdeal.Facts) (hPre_gates_above : Cert.Pre_gates_above.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Ple (hPle := hPle)
    ∧ quiescent_PleIdeal (hPleIdeal := hPleIdeal)
    ∧ quiescent_PleReferenceIdeal (hPleReferenceIdeal := hPleReferenceIdeal)
    ∧ quiescent_Mix (hMix := hMix)
    ∧ quiescent_MixIdeal (hMixIdeal := hMixIdeal)
    ∧ quiescent_MixReferenceIdeal (hMixReferenceIdeal := hMixReferenceIdeal)
    ∧ quiescent_Hgrn (hHgrn := hHgrn)
    ∧ quiescent_HgrnIdeal (hHgrnIdeal := hHgrnIdeal)
    ∧ quiescent_HgrnIdeal_pre_gates_above (hHgrnIdeal := hHgrnIdeal) (hPre_gates_above := hPre_gates_above)
    ∧ quiescent_HgrnReferenceIdeal (hHgrnReferenceIdeal := hHgrnReferenceIdeal)
    ∧ quiescent_HgrnReferenceIdeal_pre_gates_above (hHgrnReferenceIdeal := hHgrnReferenceIdeal) (hPre_gates_above := hPre_gates_above)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Ple_PleIdeal
    ∧ algebraic_PleIdeal_PleReferenceIdeal (hPleIdeal := hPleIdeal) (hPleReferenceIdeal := hPleReferenceIdeal)
    ∧ preserves_Mix_MixIdeal
    ∧ algebraic_MixIdeal_MixReferenceIdeal (hMixIdeal := hMixIdeal) (hMixReferenceIdeal := hMixReferenceIdeal)
    ∧ preserves_Hgrn_HgrnIdeal
    ∧ algebraic_HgrnIdeal_HgrnReferenceIdeal_pre_gates_above (hHgrnIdeal := hHgrnIdeal) (hHgrnReferenceIdeal := hHgrnReferenceIdeal) (hPre_gates_above := hPre_gates_above)
-- ==== Pre_gates_above.lean ====
abbrev S16384x11264 : Shape := ⟨2, ![16384, 11264]⟩
abbrev S16384x1024 : Shape := ⟨2, ![16384, 1024]⟩
abbrev S2x1024 : Shape := ⟨2, ![2, 1024]⟩
abbrev S1x1024 : Shape := ⟨2, ![1, 1024]⟩
abbrev S1x1024x2048 : Shape := ⟨3, ![1, 1024, 2048]⟩
abbrev S1x2048x2048 : Shape := ⟨3, ![1, 2048, 2048]⟩
abbrev S1x5632x2048 : Shape := ⟨3, ![1, 5632, 2048]⟩
abbrev S_ : Shape := ⟨0, ![]⟩

class Facts : Prop where
  slices_S16384x11264_S16384x1024_0_6144 : S16384x11264.Slices ![0, 6144] S16384x1024
  bcast_S_S16384x1024 : S_.BroadcastsInDim S16384x1024 (![] : Fin 0 → Fin S16384x1024.rank)

variable [Facts]

def fn {F : FTy → Type} [FloatOps F] (main_arg0 : FVec F S16384x11264 .bf16) (main_arg1 : FVec F S16384x1024 .f32) (main_arg2 : FVec F S2x1024 .f32) (main_arg3 : FVec F S1x1024 .f32) (main_arg4 : FVec F S1x1024x2048 .f32) (main_arg5 : FVec F S1x1024x2048 .f32) (main_arg6 : FVec F S1x2048x2048 .f32) (main_arg7 : FVec F S1x5632x2048 .f32) : IVec S16384x1024 1 :=
  let main_v0 : FVec F S16384x1024 .bf16 := (extractStridedSlice S16384x1024 ![0, 6144] · slices_S16384x11264_S16384x1024_0_6144) main_arg0
  let main_cst : FVec F S_ .bf16 := constant S_ .bf16 0xFF80#16
  let main_v1 : FVec F S16384x1024 .bf16 := broadcastInDim S16384x1024 ![] bcast_S_S16384x1024 main_cst
  let main_v2 : IVec S16384x1024 1 := cmpf .ogt main_v0 main_v1
  main_v2
-- ==== Kernel.lean ====
abbrev S8x2048x2048 : Shape := ⟨3, ![8, 2048, 2048]⟩
abbrev S1x2048 : Shape := ⟨2, ![1, 2048]⟩
abbrev S1x2048x11264 : Shape := ⟨3, ![1, 2048, 11264]⟩
abbrev S1x11264 : Shape := ⟨2, ![1, 11264]⟩
abbrev S16384x2048 : Shape := ⟨2, ![16384, 2048]⟩
abbrev S2048 : Shape := ⟨1, ![2048]⟩
abbrev S2048x11264 : Shape := ⟨2, ![2048, 11264]⟩
abbrev S16384x11264 : Shape := ⟨2, ![16384, 11264]⟩
abbrev S16384x1024 : Shape := ⟨2, ![16384, 1024]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S128x2048 : Shape := ⟨2, ![128, 2048]⟩
abbrev S128 : Shape := ⟨1, ![128]⟩
abbrev S128x1 : Shape := ⟨2, ![128, 1]⟩
abbrev S16x11264 : Shape := ⟨2, ![16, 11264]⟩
abbrev S2x1024x2048 : Shape := ⟨3, ![2, 1024, 2048]⟩
abbrev S2 : Shape := ⟨1, ![2]⟩
abbrev S1 : Shape := ⟨1, ![1]⟩
abbrev S_ : Shape := ⟨0, ![]⟩
abbrev S1x1024x2048 : Shape := ⟨3, ![1, 1024, 2048]⟩

abbrev nBuf : Space → Nat
  | .hbm => 16
  | .vmem => 27
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x11264, .f32⟩
  | .hbm, ⟨3, _⟩ => ⟨S1x2048x11264, .f32⟩
  | .hbm, ⟨4, _⟩ => ⟨S1x11264, .f32⟩
  | .hbm, ⟨5, _⟩ => ⟨S16384x2048, .f32⟩
  | .hbm, ⟨6, _⟩ => ⟨S2048, .f32⟩
  | .hbm, ⟨7, _⟩ => ⟨S1x2048, .f32⟩
  | .hbm, ⟨8, _⟩ => ⟨S2048x11264, .f32⟩
  | .hbm, ⟨9, _⟩ => ⟨S2048x11264, .f32⟩
  | .hbm, ⟨10, _⟩ => ⟨S16384x11264, .bf16⟩
  | .hbm, ⟨11, _⟩ => ⟨S16384x1024, .f32⟩
  | .hbm, ⟨12, _⟩ => ⟨S2048x11264, .bf16⟩
  | .hbm, ⟨13, _⟩ => ⟨S16384x11264, .bf16⟩
  | .hbm, ⟨14, _⟩ => ⟨S16384x1024, .f32⟩
  | .hbm, ⟨15, _⟩ => ⟨S2048x11264, .bf16⟩
  | .local _ .vmem, ⟨0, _⟩ => ⟨S1024x2048, .f32⟩
  | .local _ .vmem, ⟨1, _⟩ => ⟨S1x2048, .f32⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S2048x1024, .bf16⟩
  | .local _ .vmem, ⟨10, _⟩ => ⟨S2048x1024, .bf16⟩
  | .local _ .vmem, ⟨11, _⟩ => ⟨S1024x2048, .bf16⟩
  | .local _ .vmem, ⟨12, _⟩ => ⟨S1x2048, .f32⟩
  | .local _ .vmem, ⟨13, _⟩ => ⟨S2048x1024, .bf16⟩
  | .local _ .vmem, ⟨14, _⟩ => ⟨S2048x1024, .bf16⟩
  | .local _ .vmem, ⟨15, _⟩ => ⟨S1x1024, .f32⟩
  | .local _ .vmem, ⟨16, _⟩ => ⟨S1x1024, .f32⟩
  | .local _ .vmem, ⟨17, _⟩ => ⟨S16x11264, .f32⟩
  | .local _ .vmem, ⟨18, _⟩ => ⟨S16x11264, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S1024x1024, .f32⟩
  | .local _ .vmem, ⟨23, _⟩ => ⟨S16x11264, .bf16⟩
  | .local _ .vmem, ⟨24, _⟩ => ⟨S16x11264, .bf16⟩
  | .local _ .vmem, ⟨25, _⟩ => ⟨S1024x2048, .bf16⟩
  | .local _ .vmem, ⟨26, _⟩ => ⟨S2x1024x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_scratch0 : Ref sig .tc := ⟨.vmem, 25, rfl⟩
abbrev cc1_scratch1 : Ref sig .tc := ⟨.vmem, 26, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev grid1 : Pipeline.Grid := ⟨2, ![15, 11], ![false, false]⟩

def k1_cond1 (i : grid1.Coords) : BitVec 1 :=
  let arg1 : BitVec 32 := BitVec.ofNat 32 (i 1).val
  let c0_i32_6 : BitVec 32 := 0#32
  let v14 : BitVec 1 := Scalar.cmpi .eq arg1 c0_i32_6
  let v15 : BitVec 32 := Scalar.extui v14
  let c0_i32_7 : BitVec 32 := 0#32
  let v16 : BitVec 1 := Scalar.cmpi .ne v15 c0_i32_7
  v16

def k1_cond2 (i : grid1.Coords) : BitVec 1 :=
  let arg0 : BitVec 32 := BitVec.ofNat 32 (i 0).val
  let c0_i32_18 : BitVec 32 := 0#32
  let v32 : BitVec 1 := Scalar.cmpi .eq arg0 c0_i32_18
  let v33 : BitVec 32 := Scalar.extui v32
  let c0_i32_19 : BitVec 32 := 0#32
  let v34 : BitVec 1 := Scalar.cmpi .ne v33 c0_i32_19
  v34

def k1_mult1 : BitVec 32 :=
  let c1024_i32_107 : BitVec 32 := 1024#32
  c1024_i32_107
def k1_cond3 (i : grid1.Coords) : BitVec 1 :=
  let arg0 : BitVec 32 := BitVec.ofNat 32 (i 0).val
  let c1_i32_20 : BitVec 32 := 1#32
  let v35 : BitVec 32 := Scalar.addi arg0 c1_i32_20
  let c15_i32 : BitVec 32 := 15#32
  let v36 : BitVec 1 := Scalar.cmpi .slt v35 c15_i32
  let v37 : BitVec 32 := Scalar.extui v36
  let c0_i32_21 : BitVec 32 := 0#32
  let v38 : BitVec 1 := Scalar.cmpi .ne v37 c0_i32_21
  v38

def k1_mult2 (i : grid1.Coords) : BitVec 32 :=
  let arg0 : BitVec 32 := BitVec.ofNat 32 (i 0).val
  let c1_i32_107 : BitVec 32 := 1#32
  let v215 : BitVec 32 := Scalar.addi arg0 c1_i32_107
  let c1_i32_109 : BitVec 32 := 1#32
  let v217 : BitVec 32 := Scalar.addi v215 c1_i32_109
  let c1024_i32_110 : BitVec 32 := 1024#32
  let v218 : BitVec 32 := Scalar.muli v217 c1024_i32_110
  v218
def k1_off1 (i : grid1.Coords) : Fin 1 → Nat :=
  let c1_i32_108 : BitVec 32 := 1#32
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v216 : BitVec 32 := Scalar.subi c1_i32_108 v13
  ![v216.toNat]
def k1_off2 (i : grid1.Coords) : Fin 3 → Nat :=
  let c1_i32_108 : BitVec 32 := 1#32
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v216 : BitVec 32 := Scalar.subi c1_i32_108 v13
  let c0_i32_111 : BitVec 32 := 0#32
  let c0_i32_112 : BitVec 32 := 0#32
  ![v216.toNat, 0, 0]
def k1_off3 (i : grid1.Coords) : Fin 2 → Nat :=
  let arg0 : BitVec 32 := BitVec.ofNat 32 (i 0).val
  let c1_i32_107 : BitVec 32 := 1#32
  let v215 : BitVec 32 := Scalar.addi arg0 c1_i32_107
  let c1_i32_109 : BitVec 32 := 1#32
  let v217 : BitVec 32 := Scalar.addi v215 c1_i32_109
  let c1024_i32_110 : BitVec 32 := 1024#32
  let v218 : BitVec 32 := Scalar.muli v217 c1024_i32_110
  let v219 : BitVec 32 := v218
  let c0_i32_113 : BitVec 32 := 0#32
  ![v219.toNat, 0]
def k1_mult3 (i : grid1.Coords) : BitVec 32 :=
  let arg0 : BitVec 32 := BitVec.ofNat 32 (i 0).val
  let c1_i32_22 : BitVec 32 := 1#32
  let v39 : BitVec 32 := Scalar.addi arg0 c1_i32_22
  let c1024_i32 : BitVec 32 := 1024#32
  let v40 : BitVec 32 := Scalar.muli v39 c1024_i32
  v40
def k1_off4 (i : grid1.Coords) : Fin 1 → Nat :=
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  ![v13.toNat]
def k1_off5 (i : grid1.Coords) : Fin 3 → Nat :=
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_23 : BitVec 32 := 0#32
  let c0_i32_24 : BitVec 32 := 0#32
  ![v13.toNat, 0, 0]
def k1_off6 (i : grid1.Coords) : Fin 2 → Nat :=
  let arg0 : BitVec 32 := BitVec.ofNat 32 (i 0).val
  let c1_i32_22 : BitVec 32 := 1#32
  let v39 : BitVec 32 := Scalar.addi arg0 c1_i32_22
  let c1024_i32 : BitVec 32 := 1024#32
  let v40 : BitVec 32 := Scalar.muli v39 c1024_i32
  let v41 : BitVec 32 := v40
  let c0_i32_25 : BitVec 32 := 0#32
  ![v41.toNat, 0]
def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![v0.toNat, arg1.toNat]

def cc1_transform_8 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S16x11264 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S16x11264 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S8x2048x2048 : Shape := ⟨3, ![8, 2048, 2048]⟩
abbrev S1x2048 : Shape := ⟨2, ![1, 2048]⟩
abbrev S1x2048x11264 : Shape := ⟨3, ![1, 2048, 11264]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x11264 : Shape := ⟨2, ![2048, 11264]⟩
abbrev S16384x11264 : Shape := ⟨2, ![16384, 11264]⟩
abbrev S16384x1024 : Shape := ⟨2, ![16384, 1024]⟩
abbrev S16384x10240 : Shape := ⟨2, ![16384, 10240]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x11264, .f32⟩
  | .hbm, ⟨3, _⟩ => ⟨S1x2048x11264, .f32⟩
  | .hbm, ⟨4, _⟩ => ⟨S16384x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S2048x11264, .f32⟩
  | .hbm, ⟨23, _⟩ => ⟨S16384x11264, .f32⟩
  | .hbm, ⟨24, _⟩ => ⟨S16384x1024, .f32⟩
  | .hbm, ⟨25, _⟩ => ⟨S16384x10240, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x11264, .f32⟩
  | .hbm, ⟨30, _⟩ => ⟨S16384x11264, .bf16⟩
  | .hbm, ⟨31, _⟩ => ⟨S16384x1024, .f32⟩
  | .hbm, ⟨32, _⟩ => ⟨S2048x11264, .f32⟩
  | .hbm, ⟨33, _⟩ => ⟨S2048x11264, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Ffn.lean ====
abbrev S16384x2048 : Shape := ⟨2, ![16384, 2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .bf16⟩
  | .hbm, ⟨2, _⟩ => ⟨S5632x2048, .bf16⟩
  | .hbm, ⟨3, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1024x2048, .f32⟩
  | .local _ .vmem, ⟨9, _⟩ => ⟨S1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnReferenceIdeal.lean ====
abbrev S16384x2048 : Shape := ⟨2, ![16384, 2048]⟩
abbrev S2048x11264 : Shape := ⟨2, ![2048, 11264]⟩
abbrev S5632x2048 : Shape := ⟨2, ![5632, 2048]⟩
abbrev S16384x11264 : Shape := ⟨2, ![16384, 11264]⟩
abbrev S16384x5632 : Shape := ⟨2, ![16384, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11264, .bf16⟩
  | .hbm, ⟨2, _⟩ => ⟨S5632x2048, .bf16⟩
  | .hbm, ⟨3, _⟩ => ⟨S16384x2048, .f32⟩
  | .hbm, ⟨4, _⟩ => ⟨S2048x11264, .f32⟩
  | .hbm, ⟨5, _⟩ => ⟨S16384x11264, .f32⟩
  | .hbm, ⟨6, _⟩ => ⟨S16384x5632, .f32⟩
  | .hbm, ⟨7, _⟩ => ⟨S16384x5632, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S5632x2048, .f32⟩
  | .hbm, ⟨19, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Ple.lean ====
abbrev S16384x2048 : Shape := ⟨2, ![16384, 2048]⟩
abbrev S1x8x2048x256 : Shape := ⟨4, ![1, 8, 2048, 256]⟩
abbrev S2048x2048 : Shape := ⟨2, ![2048, 2048]⟩
abbrev S256x2048 : Shape := ⟨2, ![256, 2048]⟩
abbrev S2048 : Shape := ⟨1, ![2048]⟩
abbrev S8x2048x256 : Shape := ⟨3, ![8, 2048, 256]⟩
abbrev S16384x256 : Shape := ⟨2, ![16384, 256]⟩
abbrev S1x2048 : Shape := ⟨2, ![1, 2048]⟩
abbrev S512x2048 : Shape := ⟨2, ![512, 2048]⟩
abbrev S512x256 : Shape := ⟨2, ![512, 256]⟩
abbrev S512x1 : Shape := ⟨2, ![512, 1]⟩
abbrev S2048x256 : Shape := ⟨2, ![2048, 256]⟩
abbrev S256x256 : Shape := ⟨2, ![256, 256]⟩
abbrev S512 : Shape := ⟨1, ![512]⟩
abbrev S1x256 : Shape := ⟨2, ![1, 256]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x8x2048x256, .f32⟩
  | .hbm, ⟨3, _⟩ => ⟨S2048x2048, .bf16⟩
  | .hbm, ⟨4, _⟩ => ⟨S256x2048, .bf16⟩
  | .hbm, ⟨5, _⟩ => ⟨S2048, .f32⟩
  | .hbm, ⟨6, _⟩ => ⟨S8x2048x256, .f32⟩
  | .hbm, ⟨7, _⟩ => ⟨S16384x256, .f32⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S2048x2048, .bf16⟩
  | .local _ .vmem, ⟨7, _⟩ => ⟨S256x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleReferenceIdeal.lean ====
abbrev S16384x2048 : Shape := ⟨2, ![16384, 2048]⟩
abbrev S1x8x2048x256 : Shape := ⟨4, ![1, 8, 2048, 256]⟩
abbrev S2048x2048 : Shape := ⟨2, ![2048, 2048]⟩
abbrev S256x2048 : Shape := ⟨2, ![256, 2048]⟩
abbrev S2048 : Shape := ⟨1, ![2048]⟩
abbrev S_ : Shape := ⟨0, ![]⟩
abbrev S8x2048x256 : Shape := ⟨3, ![8, 2048, 256]⟩
abbrev S16384x256 : Shape := ⟨2, ![16384, 256]⟩
abbrev S16384 : Shape := ⟨1, ![16384]⟩
abbrev S16384x1 : Shape := ⟨2, ![16384, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x8x2048x256, .f32⟩
  | .hbm, ⟨3, _⟩ => ⟨S2048x2048, .bf16⟩
  | .hbm, ⟨4, _⟩ => ⟨S256x2048, .bf16⟩
  | .hbm, ⟨5, _⟩ => ⟨S2048, .f32⟩
  | .hbm, ⟨6, _⟩ => ⟨S16384x2048, .f32⟩
  | .hbm, ⟨7, _⟩ => ⟨S2048x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S8x2048x256, .f32⟩
  | .hbm, ⟨18, _⟩ => ⟨S16384x256, .f32⟩
  | .hbm, ⟨19, _⟩ => ⟨S256x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x2048, .f32⟩
  | .hbm, ⟨35, _⟩ => ⟨S16384x2048, .f32⟩
  | .hbm, ⟨36, _⟩ => ⟨S1x2048, .f32⟩
  | .hbm, ⟨37, _⟩ => ⟨S16384x2048, .f32⟩
  | .hbm, ⟨38, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Mix.lean ====
abbrev S8x2048x1024 : Shape := ⟨3, ![8, 2048, 1024]⟩
abbrev S16384x11264 : Shape := ⟨2, ![16384, 11264]⟩
abbrev S8x2048x2048 : Shape := ⟨3, ![8, 2048, 2048]⟩
abbrev S1024x2048 : Shape := ⟨2, ![1024, 2048]⟩
abbrev S2048x2048 : Shape := ⟨2, ![2048, 2048]⟩
abbrev S1x2048 : Shape := ⟨2, ![1, 2048]⟩
abbrev S1x2048x2048 : Shape := ⟨3, ![1, 2048, 2048]⟩
abbrev S1x256x2048 : Shape := ⟨3, ![1, 256, 2048]⟩
abbrev S16384x2048 : Shape := ⟨2, ![16384, 2048]⟩
abbrev S16384x1024 : Shape := ⟨2, ![16384, 1024]⟩
abbrev S2048 : Shape := ⟨1, ![2048]⟩
abbrev S256x2048 : Shape := ⟨2, ![256, 2048]⟩
abbrev S512x1024 : Shape := ⟨2, ![512, 1024]⟩
abbrev S512x2048 : Shape := ⟨2, ![512, 2048]⟩
abbrev S64x2048 : Shape := ⟨2, ![64, 2048]⟩
abbrev S16x2048 : Shape := ⟨2, ![16, 2048]⟩
abbrev S1024x256 : Shape := ⟨2, ![1024, 256]⟩
abbrev S512x256 : Shape := ⟨2, ![512, 256]⟩
abbrev S512x1 : Shape := ⟨2, ![512, 1]⟩
abbrev S2048x256 : Shape := ⟨2, ![2048, 256]⟩
abbrev S512 : Shape := ⟨1, ![512]⟩
abbrev S1x256 : Shape := ⟨2, ![1, 256]⟩

abbrev nBuf : Space → Nat
  | .hbm => 21
  | .vmem => 31
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S16384x11264, .bf16⟩
  | .hbm, ⟨3, _⟩ => ⟨S8x2048x2048, .f32⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S1x2048, .f32⟩
  | .hbm, ⟨8, _⟩ => ⟨S1x2048x2048, .f32⟩
  | .hbm, ⟨9, _⟩ => ⟨S1x256x2048, .f32⟩
  | .hbm, ⟨10, _⟩ => ⟨S16384x2048, .f32⟩
  | .hbm, ⟨11, _⟩ => ⟨S16384x1024, .bf16⟩
  | .hbm, ⟨12, _⟩ => ⟨S16384x1024, .bf16⟩
  | .hbm, ⟨13, _⟩ => ⟨S2048, .f32⟩
  | .hbm, ⟨14, _⟩ => ⟨S1x2048, .f32⟩
  | .hbm, ⟨15, _⟩ => ⟨S2048x2048, .f32⟩
  | .hbm, ⟨16, _⟩ => ⟨S256x2048, .f32⟩
  | .hbm, ⟨17, _⟩ => ⟨S16384x2048, .f32⟩
  | .hbm, ⟨18, _⟩ => ⟨S16384x2048, .bf16⟩
  | .hbm, ⟨19, _⟩ => ⟨S2048x2048, .bf16⟩
  | .hbm, ⟨20, _⟩ => ⟨S256x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .f32⟩
  | .local _ .vmem, ⟨13, _⟩ => ⟨S512x2048, .f32⟩
  | .local _ .vmem, ⟨14, _⟩ => ⟨S1024x2048, .bf16⟩
  | .local _ .vmem, ⟨15, _⟩ => ⟨S1024x2048, .bf16⟩
  | .local _ .vmem, ⟨16, _⟩ => ⟨S2048x2048, .bf16⟩
  | .local _ .vmem, ⟨17, _⟩ => ⟨S1x2048, .f32⟩
  | .local _ .vmem, ⟨18, _⟩ => ⟨S64x2048, .f32⟩
  | .local _ .vmem, ⟨19, _⟩ => ⟨S64x2048, .f32⟩
  | .local _ .vmem, ⟨20, _⟩ => ⟨S16x2048, .f32⟩
  | .local _ .vmem, ⟨21, _⟩ => ⟨S16x2048, .f32⟩
  | .local _ .vmem, ⟨22, _⟩ => ⟨S512x2048, .f32⟩
  | .local _ .vmem, ⟨23, _⟩ => ⟨S512x2048, .f32⟩
  | .local _ .vmem, ⟨24, _⟩ => ⟨S512x2048, .bf16⟩
  | .local _ .vmem, ⟨25, _⟩ => ⟨S512x2048, .bf16⟩
  | .local _ .vmem, ⟨26, _⟩ => ⟨S64x2048, .bf16⟩
  | .local _ .vmem, ⟨27, _⟩ => ⟨S64x2048, .bf16⟩
  | .local _ .vmem, ⟨28, _⟩ => ⟨S16x2048, .bf16⟩
  | .local _ .vmem, ⟨29, _⟩ => ⟨S16x2048, .bf16⟩
  | .local _ .vmem, ⟨30, _⟩ => ⟨S512x2048, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixReferenceIdeal.lean ====
abbrev S8x2048x1024 : Shape := ⟨3, ![8, 2048, 1024]⟩
abbrev S16384x11264 : Shape := ⟨2, ![16384, 11264]⟩
abbrev S8x2048x2048 : Shape := ⟨3, ![8, 2048, 2048]⟩
abbrev S1024x2048 : Shape := ⟨2, ![1024, 2048]⟩
abbrev S2048x2048 : Shape := ⟨2, ![2048, 2048]⟩
abbrev S1x2048 : Shape := ⟨2, ![1, 2048]⟩
abbrev S1x2048x2048 : Shape := ⟨3, ![1, 2048, 2048]⟩
abbrev S1x256x2048 : Shape := ⟨3, ![1, 256, 2048]⟩
abbrev S16384x1024 : Shape := ⟨2, ![16384, 1024]⟩
abbrev S16384x4096 : Shape := ⟨2, ![16384, 4096]⟩
abbrev S16384x2048 : Shape := ⟨2, ![16384, 2048]⟩
abbrev S_ : Shape := ⟨0, ![]⟩
abbrev S2048 : Shape := ⟨1, ![2048]⟩
abbrev S16384 : Shape := ⟨1, ![16384]⟩
abbrev S16384x1 : Shape := ⟨2, ![16384, 1]⟩
abbrev S256x2048 : Shape := ⟨2, ![256, 2048]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S16384x11264, .bf16⟩
  | .hbm, ⟨3, _⟩ => ⟨S8x2048x2048, .f32⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S1x2048, .f32⟩
  | .hbm, ⟨8, _⟩ => ⟨S1x2048x2048, .f32⟩
  | .hbm, ⟨9, _⟩ => ⟨S1x256x2048, .f32⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S16384x1024, .f32⟩
  | .hbm, ⟨14, _⟩ => ⟨S16384x4096, .bf16⟩
  | .hbm, ⟨15, _⟩ => ⟨S16384x4096, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S1024x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S1024x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S2048x2048, .f32⟩
  | .hbm, ⟨43, _⟩ => ⟨S16384x2048, .f32⟩
  | .hbm, ⟨44, _⟩ => ⟨S16384x2048, .f32⟩
  | .hbm, ⟨45, _⟩ => ⟨S2048, .f32⟩
  | .hbm, ⟨46, _⟩ => ⟨S16384x2048, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x2048, .f32⟩
  | .hbm, ⟨58, _⟩ => ⟨S16384x2048, .f32⟩
  | .hbm, ⟨59, _⟩ => ⟨S1x2048, .f32⟩
  | .hbm, ⟨60, _⟩ => ⟨S16384x2048, .f32⟩
  | .hbm, ⟨61, _⟩ => ⟨S16384x2048, .f32⟩
  | .hbm, ⟨62, _⟩ => ⟨S16384x2048, .bf16⟩
  | .hbm, ⟨63, _⟩ => ⟨S2048x2048, .f32⟩
  | .hbm, ⟨64, _⟩ => ⟨S2048x2048, .bf16⟩
  | .hbm, ⟨65, _⟩ => ⟨S256x2048, .f32⟩
  | .hbm, ⟨66, _⟩ => ⟨S256x2048, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Hgrn.lean ====
abbrev S16384x11264 : Shape := ⟨2, ![16384, 11264]⟩
abbrev S16384x1024 : Shape := ⟨2, ![16384, 1024]⟩
abbrev S2x1024 : Shape := ⟨2, ![2, 1024]⟩
abbrev S1x1024 : Shape := ⟨2, ![1, 1024]⟩
abbrev S1x1024x2048 : Shape := ⟨3, ![1, 1024, 2048]⟩
abbrev S1x2048x2048 : Shape := ⟨3, ![1, 2048, 2048]⟩
abbrev S1x5632x2048 : Shape := ⟨3, ![1, 5632, 2048]⟩
abbrev S8x2048x11264 : Shape := ⟨3, ![8, 2048, 11264]⟩
abbrev S8x2048x1024 : Shape := ⟨3, ![8, 2048, 1024]⟩
abbrev S1024 : Shape := ⟨1, ![1024]⟩
abbrev S1024x2048 : Shape := ⟨2, ![1024, 2048]⟩
abbrev S2048x2048 : Shape := ⟨2, ![2048, 2048]⟩
abbrev S5632x2048 : Shape := ⟨2, ![5632, 2048]⟩
abbrev S1x256x1024 : Shape := ⟨3, ![1, 256, 1024]⟩
abbrev S16x2048 : Shape := ⟨2, ![16, 2048]⟩
abbrev S32x2048 : Shape := ⟨2, ![32, 2048]⟩
abbrev S128x2048 : Shape := ⟨2, ![128, 2048]⟩
abbrev S8x128x128 : Shape := ⟨3, ![8, 128, 128]⟩
abbrev S256x1024 : Shape := ⟨2, ![256, 1024]⟩
abbrev S64x1024 : Shape := ⟨2, ![64, 1024]⟩
abbrev S256x256 : Shape := ⟨2, ![256, 256]⟩
abbrev S256x128 : Shape := ⟨2, ![256, 128]⟩
abbrev S1x128x128 : Shape := ⟨3, ![1, 128, 128]⟩
abbrev S128x128 : Shape := ⟨2, ![128, 128]⟩
abbrev S64x128 : Shape := ⟨2, ![64, 128]⟩
abbrev S1x128 : Shape := ⟨2, ![1, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 21
  | .vmem => 29
  | .smem => 0
  | _ => 0

abbrev bufTy : (tb : Table) → Fin (tcTables nBuf tb) → BufTy
  | .hbm, ⟨0, _⟩ => ⟨S16384x11264, .bf16⟩
  | .hbm, ⟨1, _⟩ => ⟨S16384x1024, .f32⟩
  | .hbm, ⟨2, _⟩ => ⟨S2x1024, .f32⟩
  | .hbm, ⟨3, _⟩ => ⟨S1x1024, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x5632x2048, .f32⟩
  | .hbm, ⟨8, _⟩ => ⟨S8x2048x11264, .bf16⟩
  | .hbm, ⟨9, _⟩ => ⟨S8x2048x1024, .f32⟩
  | .hbm, ⟨10, _⟩ => ⟨S1024, .f32⟩
  | .hbm, ⟨11, _⟩ => ⟨S1x1024, .f32⟩
  | .hbm, ⟨12, _⟩ => ⟨S1024x2048, .f32⟩
  | .hbm, ⟨13, _⟩ => ⟨S1024x2048, .f32⟩
  | .hbm, ⟨14, _⟩ => ⟨S2048x2048, .f32⟩
  | .hbm, ⟨15, _⟩ => ⟨S5632x2048, .f32⟩
  | .hbm, ⟨16, _⟩ => ⟨S8x2048x1024, .bf16⟩
  | .hbm, ⟨17, _⟩ => ⟨S1024x2048, .bf16⟩
  | .hbm, ⟨18, _⟩ => ⟨S1024x2048, .bf16⟩
  | .hbm, ⟨19, _⟩ => ⟨S2048x2048, .bf16⟩
  | .hbm, ⟨20, _⟩ => ⟨S5632x2048, .bf16⟩
  | .local _ .vmem, ⟨0, _⟩ => ⟨S2x1024, .f32⟩
  | .local _ .vmem, ⟨1, _⟩ => ⟨S1x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S16x2048, .f32⟩
  | .local _ .vmem, ⟨11, _⟩ => ⟨S16x2048, .f32⟩
  | .local _ .vmem, ⟨12, _⟩ => ⟨S16x2048, .f32⟩
  | .local _ .vmem, ⟨13, _⟩ => ⟨S16x2048, .f32⟩
  | .local _ .vmem, ⟨14, _⟩ => ⟨S32x2048, .f32⟩
  | .local _ .vmem, ⟨15, _⟩ => ⟨S32x2048, .f32⟩
  | .local _ .vmem, ⟨16, _⟩ => ⟨S128x2048, .f32⟩
  | .local _ .vmem, ⟨17, _⟩ => ⟨S128x2048, .f32⟩
  | .local _ .vmem, ⟨18, _⟩ => ⟨S1x256x1024, .bf16⟩
  | .local _ .vmem, ⟨19, _⟩ => ⟨S1x256x1024, .bf16⟩
  | .local _ .vmem, ⟨20, _⟩ => ⟨S16x2048, .bf16⟩
  | .local _ .vmem, ⟨21, _⟩ => ⟨S16x2048, .bf16⟩
  | .local _ .vmem, ⟨22, _⟩ => ⟨S16x2048, .bf16⟩
  | .local _ .vmem, ⟨23, _⟩ => ⟨S16x2048, .bf16⟩
  | .local _ .vmem, ⟨24, _⟩ => ⟨S32x2048, .bf16⟩
  | .local _ .vmem, ⟨25, _⟩ => ⟨S32x2048, .bf16⟩
  | .local _ .vmem, ⟨26, _⟩ => ⟨S128x2048, .bf16⟩
  | .local _ .vmem, ⟨27, _⟩ => ⟨S128x2048, .bf16⟩
  | .local _ .vmem, ⟨28, _⟩ => ⟨S8x128x128, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_5 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  ![v2.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  ![v2.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== HgrnReferenceIdeal.lean ====
abbrev S16384x11264 : Shape := ⟨2, ![16384, 11264]⟩
abbrev S16384x1024 : Shape := ⟨2, ![16384, 1024]⟩
abbrev S2x1024 : Shape := ⟨2, ![2, 1024]⟩
abbrev S1x1024 : Shape := ⟨2, ![1, 1024]⟩
abbrev S1x1024x2048 : Shape := ⟨3, ![1, 1024, 2048]⟩
abbrev S1x2048x2048 : Shape := ⟨3, ![1, 2048, 2048]⟩
abbrev S1x5632x2048 : Shape := ⟨3, ![1, 5632, 2048]⟩
abbrev S_ : Shape := ⟨0, ![]⟩
abbrev S1024 : Shape := ⟨1, ![1024]⟩
abbrev S64x64 : Shape := ⟨2, ![64, 64]⟩
abbrev S8x8x128x128 : Shape := ⟨4, ![8, 8, 128, 128]⟩
abbrev S8x32x64x8x128 : Shape := ⟨5, ![8, 32, 64, 8, 128]⟩
abbrev S32x8x8x64x128 : Shape := ⟨5, ![32, 8, 8, 64, 128]⟩
abbrev S1x8x8x64x128 : Shape := ⟨5, ![1, 8, 8, 64, 128]⟩
abbrev S8x8x64x128 : Shape := ⟨4, ![8, 8, 64, 128]⟩
abbrev S8x8x1x128 : Shape := ⟨4, ![8, 8, 1, 128]⟩
abbrev S8x8x64x64 : Shape := ⟨4, ![8, 8, 64, 64]⟩
abbrev S1x1x64x64 : Shape := ⟨4, ![1, 1, 64, 64]⟩
abbrev S8x8x128 : Shape := ⟨3, ![8, 8, 128]⟩
abbrev S8x8x128x1 : Shape := ⟨4, ![8, 8, 128, 1]⟩
abbrev S8x2048x8x128 : Shape := ⟨4, ![8, 2048, 8, 128]⟩
abbrev S8x128 : Shape := ⟨2, ![8, 128]⟩
abbrev S8x2048x8 : Shape := ⟨3, ![8, 2048, 8]⟩
abbrev S8x2048x8x1 : Shape := ⟨4, ![8, 2048, 8, 1]⟩
abbrev S1x1x8x128 : Shape := ⟨4, ![1, 1, 8, 128]⟩
abbrev S8x2048x1024 : Shape := ⟨3, ![8, 2048, 1024]⟩
abbrev S1024x2048 : Shape := ⟨2, ![1024, 2048]⟩
abbrev S2048x2048 : Shape := ⟨2, ![2048, 2048]⟩
abbrev S5632x2048 : Shape := ⟨2, ![5632, 2048]⟩

abbrev nBuf : Space → Nat
  | .hbm => 182
  | .vmem => 0
  | .smem => 0
  | _ => 0

abbrev hbmTy0_0 (i : Nat) : BufTy := match i % 128 with
  | 0 => ⟨S16384x11264, .bf16⟩
  | 1 => ⟨S16384x1024, .f32⟩
  | 2 => ⟨S2x1024, .f32⟩
  | 3 => ⟨S1x1024, .f32⟩
  | 4 => ⟨S1x1024x2048, .f32⟩
  | 5 => ⟨S1x1024x2048, .f32⟩
  | 6 => ⟨S1x2048x2048, .f32⟩
  | 7 => ⟨S1x5632x2048, .f32⟩
  | 8 => ⟨S_, .f32⟩
  | 9 => ⟨S1024, .f32⟩
  | 10 => ⟨S_, .f32⟩
  | 11 => ⟨S1024, .f32⟩
  | 12 => ⟨S1024, .f32⟩
  | 13 => ⟨S1x1024, .f32⟩
  | 14 => ⟨S2x1024, .f32⟩
  | 15 => ⟨S2x1024, .f32⟩
  | 16 => ⟨S2x1024, .f32⟩
  | 17 => ⟨S_, .f32⟩
  | 18 => ⟨S1024, .f32⟩
  | 19 => ⟨S1x1024, .f32⟩
  | 20 => ⟨S2x1024, .f32⟩
  | 21 => ⟨S2x1024, .f32⟩
  | 22 => ⟨S_, .f32⟩
  | 23 => ⟨S_, .f32⟩
  | 24 => ⟨S2x1024, .f32⟩
  | 25 => ⟨S1x1024, .f32⟩
  | 26 => ⟨S1024, .f32⟩
  | 27 => ⟨S_, .f32⟩
  | 28 => ⟨S64x64, .f32⟩
  | 29 => ⟨S64x64, .i32⟩
  | 30 => ⟨S_, .i32⟩
  | 31 => ⟨S64x64, .i32⟩
  | 32 => ⟨S64x64, .i32⟩
  | 33 => ⟨S64x64, .i32⟩
  | 34 => ⟨S64x64, .i1⟩
  | 35 => ⟨S_, .f32⟩
  | 36 => ⟨S64x64, .f32⟩
  | 37 => ⟨S64x64, .f32⟩
  | 38 => ⟨S_, .f32⟩
  | 39 => ⟨S8x8x128x128, .f32⟩
  | 40 => ⟨S_, .f32⟩
  | 41 => ⟨S1024, .f32⟩
  | 42 => ⟨S1024, .f32⟩
  | 43 => ⟨S16384x1024, .f32⟩
  | 44 => ⟨S16384x1024, .f32⟩
  | 45 => ⟨S_, .f32⟩
  | 46 => ⟨S16384x1024, .f32⟩
  | 47 => ⟨S16384x1024, .f32⟩
  | 48 => ⟨S_, .f32⟩
  | 49 => ⟨S16384x1024, .f32⟩
  | 50 => ⟨S16384x1024, .f32⟩
  | 51 => ⟨S1x1024, .f32⟩
  | 52 => ⟨S16384x1024, .f32⟩
  | 53 => ⟨S16384x1024, .f32⟩
  | 54 => ⟨S1x1024, .f32⟩
  | 55 => ⟨S16384x1024, .f32⟩
  | 56 => ⟨S16384x1024, .f32⟩
  | 57 => ⟨S16384x1024, .bf16⟩
  | 58 => ⟨S16384x1024, .f32⟩
  | 59 => ⟨S8x32x64x8x128, .f32⟩
  | 60 => ⟨S32x8x8x64x128, .f32⟩
  | 61 => ⟨S8x32x64x8x128, .f32⟩
  | 62 => ⟨S32x8x8x64x128, .f32⟩
  | 63 => ⟨S16384x1024, .bf16⟩
  | 64 => ⟨S16384x1024, .f32⟩
  | 65 => ⟨S8x32x64x8x128, .f32⟩
  | 66 => ⟨S32x8x8x64x128, .f32⟩
  | 67 => ⟨S_, .f32⟩
  | 68 => ⟨S32x8x8x64x128, .f32⟩
  | 69 => ⟨S_, .i32⟩
  | 70 => ⟨S32x8x8x64x128, .f32⟩
  | 71 => ⟨S32x8x8x64x128, .f32⟩
  | 72 => ⟨S32x8x8x64x128, .f32⟩
  | 73 => ⟨S64x64, .f32⟩
  | 74 => ⟨S_, .i32⟩
  | 75 => ⟨S8x8x128x128, .f32⟩
  | 76 => ⟨S32x8x8x64x128, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S1x8x8x64x128, .f32⟩
  | 84 => ⟨S8x8x64x128, .f32⟩
  | 85 => ⟨S_, .i32⟩
  | 86 => ⟨S_, .i32⟩
  | 87 => ⟨S_, .i32⟩
  | 88 => ⟨S_, .i32⟩
  | 89 => ⟨S1x8x8x64x128, .f32⟩
  | 90 => ⟨S8x8x64x128, .f32⟩
  | 91 => ⟨S_, .i32⟩
  | 92 => ⟨S_, .i32⟩
  | 93 => ⟨S_, .i32⟩
  | 94 => ⟨S_, .i32⟩
  | 95 => ⟨S1x8x8x64x128, .f32⟩
  | 96 => ⟨S8x8x64x128, .f32⟩
  | 97 => ⟨S8x8x64x128, .f32⟩
  | 98 => ⟨S_, .f32⟩
  | 99 => ⟨S_, .f32⟩
  | 100 => ⟨S8x8x64x128, .f32⟩
  | 101 => ⟨S8x8x1x128, .f32⟩
  | 102 => ⟨S8x8x64x128, .f32⟩
  | 103 => ⟨S8x8x64x128, .f32⟩
  | 104 => ⟨S_, .f32⟩
  | 105 => ⟨S8x8x64x128, .f32⟩
  | 106 => ⟨S8x8x64x128, .f32⟩
  | 107 => ⟨S8x8x64x128, .f32⟩
  | 108 => ⟨S8x8x64x128, .f32⟩
  | 109 => ⟨S8x8x64x128, .f32⟩
  | 110 => ⟨S_, .f32⟩
  | 111 => ⟨S8x8x64x128, .f32⟩
  | 112 => ⟨S8x8x64x128, .f32⟩
  | 113 => ⟨S8x8x64x128, .f32⟩
  | 114 => ⟨S8x8x64x128, .f32⟩
  | 115 => ⟨S8x8x64x128, .f32⟩
  | 116 => ⟨S8x8x64x128, .f32⟩
  | 117 => ⟨S8x8x64x64, .f32⟩
  | 118 => ⟨S1x1x64x64, .f32⟩
  | 119 => ⟨S8x8x64x64, .f32⟩
  | 120 => ⟨S8x8x64x64, .f32⟩
  | 121 => ⟨S8x8x64x128, .f32⟩
  | 122 => ⟨S8x8x64x128, .f32⟩
  | 123 => ⟨S8x8x64x128, .f32⟩
  | 124 => ⟨S8x8x1x128, .f32⟩
  | 125 => ⟨S8x8x128, .f32⟩
  | 126 => ⟨S8x8x128x1, .f32⟩
  | 127 => ⟨S8x8x128x128, .f32⟩
  | _ => ⟨S16384x11264, .bf16⟩

abbrev hbmTy0_1 (i : Nat) : BufTy := match i % 128 with
  | 0 => ⟨S8x8x128x128, .f32⟩
  | 1 => ⟨S8x8x128x128, .f32⟩
  | 2 => ⟨S8x8x128x128, .f32⟩
  | 3 => ⟨S1x8x8x64x128, .f32⟩
  | 4 => ⟨S_, .i32⟩
  | 5 => ⟨S_, .i32⟩
  | 6 => ⟨S_, .i32⟩
  | 7 => ⟨S_, .i32⟩
  | 8 => ⟨S32x8x8x64x128, .f32⟩
  | 9 => ⟨S_, .i32⟩
  | 10 => ⟨S_, .i32⟩
  | 11 => ⟨S8x32x64x8x128, .f32⟩
  | 12 => ⟨S8x2048x8x128, .f32⟩
  | 13 => ⟨S1024, .f32⟩
  | 14 => ⟨S8x128, .f32⟩
  | 15 => ⟨S8x2048x8x128, .f32⟩
  | 16 => ⟨S_, .f32⟩
  | 17 => ⟨S8x2048x8, .f32⟩
  | 18 => ⟨S8x2048x8x1, .f32⟩
  | 19 => ⟨S_, .f32⟩
  | 20 => ⟨S8x2048x8x1, .f32⟩
  | 21 => ⟨S8x2048x8x1, .f32⟩
  | 22 => ⟨S_, .f32⟩
  | 23 => ⟨S8x2048x8x1, .f32⟩
  | 24 => ⟨S8x2048x8x1, .f32⟩
  | 25 => ⟨S8x2048x8x1, .f32⟩
  | 26 => ⟨S8x2048x8x128, .f32⟩
  | 27 => ⟨S8x2048x8x128, .f32⟩
  | 28 => ⟨S1x1x8x128, .f32⟩
  | 29 => ⟨S8x2048x8x128, .f32⟩
  | 30 => ⟨S8x2048x8x128, .f32⟩
  | 31 => ⟨S8x2048x1024, .f32⟩
  | 32 => ⟨S16384x1024, .bf16⟩
  | 33 => ⟨S16384x1024, .f32⟩
  | 34 => ⟨S16384x1024, .f32⟩
  | 35 => ⟨S16384x1024, .f32⟩
  | 36 => ⟨S_, .f32⟩
  | 37 => ⟨S16384x1024, .f32⟩
  | 38 => ⟨S16384x1024, .f32⟩
  | 39 => ⟨S_, .f32⟩
  | 40 => ⟨S16384x1024, .f32⟩
  | 41 => ⟨S16384x1024, .f32⟩
  | 42 => ⟨S16384x1024, .f32⟩
  | 43 => ⟨S8x2048x1024, .f32⟩
  | 44 => ⟨S8x2048x1024, .f32⟩
  | 45 => ⟨S8x2048x1024, .bf16⟩
  | 46 => ⟨S1024x2048, .f32⟩
  | 47 => ⟨S1024x2048, .bf16⟩
  | 48 => ⟨S1024x2048, .f32⟩
  | 49 => ⟨S1024x2048, .bf16⟩
  | 50 => ⟨S2048x2048, .f32⟩
  | 51 => ⟨S2048x2048, .bf16⟩
  | 52 => ⟨S5632x2048, .f32⟩
  | 53 => ⟨S5632x2048, .bf16⟩
  | _ => ⟨S16384x11264, .bf16⟩

abbrev hbmTy (i : Nat) : BufTy := match i / 128 with
  | 0 => hbmTy0_0 i
  | 1 => hbmTy0_1 i
  | _ => ⟨S16384x11264, .bf16⟩

abbrev bufTy : (tb : Table) → Fin (tcTables nBuf tb) → BufTy
  | .hbm, ⟨i, _⟩ => hbmTy i
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_call0_cst : Ref sig .tc := ⟨.hbm, 22, rfl⟩
abbrev main_call0_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_cst : Ref sig .tc := ⟨.hbm, 35, rfl⟩
abbrev main_call1_v5 : Ref sig .tc := ⟨.hbm, 36, rfl⟩
abbrev main_v15 : Ref sig .tc := ⟨.hbm, 37, rfl⟩
abbrev main_cst_3 : Ref sig .tc := ⟨.hbm, 38, rfl⟩
abbrev main_v16 : Ref sig .tc := ⟨.hbm, 39, rfl⟩
abbrev main_cst_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_5 : Ref sig .tc := ⟨.hbm, 45, rfl⟩
abbrev main_v21 : Ref sig .tc := ⟨.hbm, 46, rfl⟩
abbrev main_v22 : Ref sig .tc := ⟨.hbm, 47, rfl⟩
abbrev main_cst_6 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_c : Ref sig .tc := ⟨.hbm, 69, rfl⟩
abbrev main_v42_0 : Ref sig .tc := ⟨.hbm, 70, rfl⟩
abbrev main_v42_1 : Ref sig .tc := ⟨.hbm, 71, rfl⟩
abbrev main_v42_2 : Ref sig .tc := ⟨.hbm, 72, rfl⟩
abbrev main_v42_3 : Ref sig .tc := ⟨.hbm, 73, rfl⟩
abbrev main_v42_4 : Ref sig .tc := ⟨.hbm, 74, rfl⟩
abbrev main_v42_5 : Ref sig .tc := ⟨.hbm, 75, rfl⟩
abbrev main_v42_6 : Ref sig .tc := ⟨.hbm, 76, rfl⟩
abbrev main_while0c_c_17 : Ref sig .tc := ⟨.hbm, 77, rfl⟩
abbrev main_while0c_v75 : Ref sig .tc := ⟨.hbm, 78, rfl⟩
abbrev main_while0b_call2_c : Ref sig .tc := ⟨.hbm, 79, rfl⟩
abbrev main_while0b_call2_c_0 : Ref sig .tc := ⟨.hbm, 80, rfl⟩
abbrev main_while0b_call2_c_1 : Ref sig .tc := ⟨.hbm, 81, rfl⟩
abbrev main_while0b_call2_c_2 : Ref sig .tc := ⟨.hbm, 82, rfl⟩
abbrev main_while0b_call2_v0 : Ref sig .tc := ⟨.hbm, 83, rfl⟩
abbrev main_while0b_v75 : Ref sig .tc := ⟨.hbm, 84, rfl⟩
abbrev main_while0b_call3_c : Ref sig .tc := ⟨.hbm, 85, rfl⟩
abbrev main_while0b_call3_c_0 : Ref sig .tc := ⟨.hbm, 86, rfl⟩
abbrev main_while0b_call3_c_1 : Ref sig .tc := ⟨.hbm, 87, rfl⟩
abbrev main_while0b_call3_c_2 : Ref sig .tc := ⟨.hbm, 88, rfl⟩
abbrev main_while0b_call3_v0 : Ref sig .tc := ⟨.hbm, 89, rfl⟩
abbrev main_while0b_v76 : Ref sig .tc := ⟨.hbm, 90, rfl⟩
abbrev main_while0b_call4_c : Ref sig .tc := ⟨.hbm, 91, rfl⟩
abbrev main_while0b_call4_c_0 : Ref sig .tc := ⟨.hbm, 92, rfl⟩
abbrev main_while0b_call4_c_1 : Ref sig .tc := ⟨.hbm, 93, rfl⟩
abbrev main_while0b_call4_c_2 : Ref sig .tc := ⟨.hbm, 94, rfl⟩
abbrev main_while0b_call4_v0 : Ref sig .tc := ⟨.hbm, 95, rfl⟩
abbrev main_while0b_v77 : Ref sig .tc := ⟨.hbm, 96, rfl⟩
abbrev main_while0b_v78 : Ref sig .tc := ⟨.hbm, 97, rfl⟩
abbrev main_while0b_call5_call0_cst : Ref sig .tc := ⟨.hbm, 98, rfl⟩
abbrev main_while0b_call5_call0_v0 : Ref sig .tc := ⟨.hbm, 99, rfl⟩
abbrev main_while0b_v79 : Ref sig .tc := ⟨.hbm, 100, rfl⟩
abbrev main_while0b_v80 : Ref sig .tc := ⟨.hbm, 101, rfl⟩
abbrev main_while0b_v81 : Ref sig .tc := ⟨.hbm, 102, rfl⟩
abbrev main_while0b_v82 : Ref sig .tc := ⟨.hbm, 103, rfl⟩
abbrev main_while0b_cst_17 : Ref sig .tc := ⟨.hbm, 104, rfl⟩
abbrev main_while0b_v83 : Ref sig .tc := ⟨.hbm, 105, rfl⟩
abbrev main_while0b_v84 : Ref sig .tc := ⟨.hbm, 106, rfl⟩
abbrev main_while0b_v85 : Ref sig .tc := ⟨.hbm, 107, rfl⟩
abbrev main_while0b_v86 : Ref sig .tc := ⟨.hbm, 108, rfl⟩
abbrev main_while0b_v87 : Ref sig .tc := ⟨.hbm, 109, rfl⟩
abbrev main_while0b_cst_18 : Ref sig .tc := ⟨.hbm, 110, rfl⟩
abbrev main_while0b_v88 : Ref sig .tc := ⟨.hbm, 111, rfl⟩
abbrev main_while0b_v89 : Ref sig .tc := ⟨.hbm, 112, rfl⟩
abbrev main_while0b_v90 : Ref sig .tc := ⟨.hbm, 113, rfl⟩
abbrev main_while0b_v91 : Ref sig .tc := ⟨.hbm, 114, rfl⟩
abbrev main_while0b_v92 : Ref sig .tc := ⟨.hbm, 115, rfl⟩
abbrev main_while0b_v93 : Ref sig .tc := ⟨.hbm, 116, rfl⟩
abbrev main_while0b_v94 : Ref sig .tc := ⟨.hbm, 117, rfl⟩
abbrev main_while0b_v95 : Ref sig .tc := ⟨.hbm, 118, rfl⟩
abbrev main_while0b_v96 : Ref sig .tc := ⟨.hbm, 119, rfl⟩
abbrev main_while0b_v97 : Ref sig .tc := ⟨.hbm, 120, rfl⟩
abbrev main_while0b_v98 : Ref sig .tc := ⟨.hbm, 121, rfl⟩
abbrev main_while0b_v99 : Ref sig .tc := ⟨.hbm, 122, rfl⟩
abbrev main_while0b_v100 : Ref sig .tc := ⟨.hbm, 123, rfl⟩
abbrev main_while0b_v101 : Ref sig .tc := ⟨.hbm, 124, rfl⟩
abbrev main_while0b_v102 : Ref sig .tc := ⟨.hbm, 125, rfl⟩
abbrev main_while0b_v103 : Ref sig .tc := ⟨.hbm, 126, rfl⟩
abbrev main_while0b_v104 : Ref sig .tc := ⟨.hbm, 127, rfl⟩
abbrev main_while0b_v105 : Ref sig .tc := ⟨.hbm, 128, rfl⟩
abbrev main_while0b_v106 : Ref sig .tc := ⟨.hbm, 129, rfl⟩
abbrev main_while0b_v107 : Ref sig .tc := ⟨.hbm, 130, rfl⟩
abbrev main_while0b_call6_v0 : Ref sig .tc := ⟨.hbm, 131, rfl⟩
abbrev main_while0b_call6_c : Ref sig .tc := ⟨.hbm, 132, rfl⟩
abbrev main_while0b_call6_c_0 : Ref sig .tc := ⟨.hbm, 133, rfl⟩
abbrev main_while0b_call6_c_1 : Ref sig .tc := ⟨.hbm, 134, rfl⟩
abbrev main_while0b_call6_c_2 : Ref sig .tc := ⟨.hbm, 135, rfl⟩
abbrev main_while0b_v108 : Ref sig .tc := ⟨.hbm, 136, rfl⟩
abbrev main_while0b_c_19 : Ref sig .tc := ⟨.hbm, 137, rfl⟩
abbrev main_while0b_v109 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_cst_8 : Ref sig .tc := ⟨.hbm, 144, rfl⟩
abbrev main_v48 : Ref sig .tc := ⟨.hbm, 145, rfl⟩
abbrev main_v49 : Ref sig .tc := ⟨.hbm, 146, rfl⟩
abbrev main_cst_9 : Ref sig .tc := ⟨.hbm, 147, rfl⟩
abbrev main_v50 : Ref sig .tc := ⟨.hbm, 148, rfl⟩
abbrev main_v51 : Ref sig .tc := ⟨.hbm, 149, rfl⟩
abbrev main_cst_10 : Ref sig .tc := ⟨.hbm, 150, rfl⟩
abbrev main_v52 : Ref sig .tc := ⟨.hbm, 151, rfl⟩
abbrev main_v53 : Ref sig .tc := ⟨.hbm, 152, rfl⟩
abbrev main_v54 : Ref sig .tc := ⟨.hbm, 153, rfl⟩
abbrev main_v55 : Ref sig .tc := ⟨.hbm, 154, rfl⟩
abbrev main_v56 : Ref sig .tc := ⟨.hbm, 155, rfl⟩
abbrev main_v57 : Ref sig .tc := ⟨.hbm, 156, rfl⟩
abbrev main_v58 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_call7_v0 : Ref sig .tc := ⟨.hbm, 162, rfl⟩
abbrev main_call7_v1 : Ref sig .tc := ⟨.hbm, 163, rfl⟩
abbrev main_call7_cst : Ref sig .tc := ⟨.hbm, 164, rfl⟩
abbrev main_call7_v2 : Ref sig .tc := ⟨.hbm, 165, rfl⟩
abbrev main_call7_v3 : Ref sig .tc := ⟨.hbm, 166, rfl⟩
abbrev main_call7_cst_0 : Ref sig .tc := ⟨.hbm, 167, rfl⟩
abbrev main_call7_v4 : Ref sig .tc := ⟨.hbm, 168, rfl⟩
abbrev main_call7_v5 : Ref sig .tc := ⟨.hbm, 169, rfl⟩
abbrev main_v63 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev main_v72 : Ref sig .tc := ⟨.hbm, 179, rfl⟩
abbrev main_v73 : Ref sig .tc := ⟨.hbm, 180, rfl⟩
abbrev main_v74 : Ref sig .tc := ⟨.hbm, 181, rfl⟩

abbrev nD : Nat := 1
abbrev τ : Topo := Topo.v7x

variable {F : FTy → Type} [FloatOps F]

abbrev main_while0_count : Scf.Loop 32 := ⟨0#32, 32#32, 1#32⟩
-- ==== Proof.Common.lean ====
/-
What both calls of the input projection share: the rows the kernel normalises (`nrm`, eight chunks of 128 rows
making one row tile, `hval`), and how a masked store of a whole block reads.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Pipeline.ReadBack
public import Idealize.ShloMosaic.Lib.WholeRead
public import Idealize.ShloMosaic.Lib.VecWindow
public import Idealize.ShloMosaic.Lib.TopK.GroupedStream
public import Idealize.ShloMosaic.Lib.Ring
public import Idealize.ShloMosaic.Lib.Tactic
public import Idealize.ShloMosaic.Lib.WordCmp

@[expose] public section

set_option maxRecDepth 16384

noncomputable section

namespace Cert.Proof.InProj

open Idealize.ShloMosaic Idealize.ShloMosaic.TcCoe Idealize.ShloMosaic.Tactic
open Cert.KernelIdeal Cert.KernelIdeal.Gen

variable {F : FTy → Type} [FloatOps F]

/-- The index of a 1024 × 2048 row tile at row `128 * k + z 0`, column `z 1`. -/
def rowIx (k : Fin 8) (z : S128x2048.Idx) : S1024x2048.Idx :=
  fun a => ⟨(![128 * k.val + (z 0).val, (z 1).val] : Fin 2 → ℕ) a, by
    have h0 : (z 0).val < 128 := (z 0).isLt
    have h1 : (z 1).val < 2048 := (z 1).isLt
    have hk := k.isLt
    fin_cases a
    · show 128 * k.val + (z 0).val < 1024; omega
    · show (z 1).val < 2048; omega⟩

/-- The chunk of 128 rows of a row tile that starts at row `128 * k`. -/
def rowsOf (X : Vec F S1024x2048 .f32) (k : Fin 8) : Vec F S128x2048 .f32 := fun z => X (rowIx k z)

/-- A chunk of 128 rows normalised and scaled, in bf16: the kernel's own chain. -/
abbrev nrm (x : Vec F S128x2048 .f32) (g : Vec F S1x2048 .f32) : Vec F S128x2048 .bf16 := k0_pay6 x g

/-- The chunk a row of a row tile lies in. -/
def chunkOf (y : S1024x2048.Idx) : Fin 8 := ⟨(y 0).val / 128, by
  have h : (y 0).val < 1024 := (y 0).isLt
  omega⟩

/-- The place of an index of a row tile within its chunk. -/
def inChunk (y : S1024x2048.Idx) : S128x2048.Idx :=
  fun a => ⟨(![(y 0).val % 128, (y 1).val] : Fin 2 → ℕ) a, by
    have h1 : (y 1).val < 2048 := (y 1).isLt
    fin_cases a
    · show (y 0).val % 128 < 128; omega
    · show (y 1).val < 2048; omega⟩

/-- A row tile normalised: the contents the kernel's bf16 scratch holds, all eight chunks stored. -/
def hval (X : Vec F S1024x2048 .f32) (g : Vec F S1x2048 .f32) : Vec F S1024x2048 .bf16 :=
  fun y => nrm (rowsOf X (chunkOf y)) g (inChunk y)

theorem chunkOf_rowIx (k : Fin 8) (z : S128x2048.Idx) : chunkOf (rowIx k z) = k := by
  have h0 : (z 0).val < 128 := (z 0).isLt
  apply Fin.ext
  show (128 * k.val + (z 0).val) / 128 = k.val
  omega

theorem inChunk_rowIx (k : Fin 8) (z : S128x2048.Idx) : inChunk (rowIx k z) = z := by
  have h0 : (z 0).val < 128 := (z 0).isLt
  funext a
  apply Fin.ext
  fin_cases a
  · show (128 * k.val + (z 0).val) % 128 = (z 0).val
    omega
  · rfl

theorem hval_rowIx (X : Vec F S1024x2048 .f32) (g : Vec F S1x2048 .f32) (k : Fin 8) (z : S128x2048.Idx) :
    hval X g (rowIx k z) = nrm (rowsOf X k) g z := by
  unfold hval; rw [chunkOf_rowIx, inChunk_rowIx]

/-- The block a masked store of a whole block leaves: the stored vector where the mask is on, the block before elsewhere. -/
def maskSel (p : IVec S1024x1024 1) (v d : Vec F S1024x1024 .f32) : Vec F S1024x1024 .f32 :=
  fun y => if p y = 1#1 then v y else d y

/-- A masked store through a rectangle that places every index at itself, read back: the stored vector where the mask
    is on, the contents before elsewhere. -/
theorem read_mask_rect {sg : RefSig} {κ : Kind} {sp : Space} {s : Shape} {e : EltTy} (v : View sg κ sp s e)
    (f : v.ty.Contents (Elt F)) (r : Rect s) (p : IVec r.shape 1) (w : r.shape.Idx → Elt F e) (x : r.shape.Idx) :
    v.read (Elt F) ((v.slice r).write (Elt F) f w (IVec.on p)) (r.emb x)
      = if p x = 1#1 then w x else v.read (Elt F) f (r.emb x) := by
  by_cases hp : p x = 1#1
  · rw [if_pos hp]
    exact View.read_slice_write_emb r f w ((IVec.mem_on_iff p x).mpr hp)
  · rw [if_neg hp]
    refine View.read_slice_write_of_not_mem r f w _ fun hm => hp ?_
    rw [Finset.mem_map' r.emb] at hm
    exact (IVec.mem_on_iff p x).mp hm

/-- A masked store of a whole 1024 × 1024 block, read back: the stored vector where the mask is on. -/
theorem read_mask_whole {sg : RefSig} {κ : Kind} {sp : Space} (v : View sg κ sp S1024x1024 .f32)
    (f : v.ty.Contents (Elt F)) (p : IVec S1024x1024 1) (w : Vec F S1024x1024 .f32) (d : Vec F S1024x1024 .f32)
    (inb : ∀ a, (![0, 0] : Fin 2 → ℕ) a + S1024x1024.size a ≤ S1024x1024.size a) (hd : v.read (Elt F) f = d) :
    v.read (Elt F) ((v.slice (Rect.unit (s := S1024x1024) ![0, 0] S1024x1024.size inb)).write (Elt F) f w (IVec.on p))
      = maskSel p w d := by
  subst hd
  funext y
  have ey : (Rect.unit (s := S1024x1024) ![0, 0] S1024x1024.size inb).emb y = y := Rect.emb_unit_full (s := S1024x1024) inb y
  have := read_mask_rect v f (Rect.unit (s := S1024x1024) ![0, 0] S1024x1024.size inb) p w y
  rw [ey] at this
  exact this

/-- A load of a whole memref held at the contents that read `X` reads `X`. -/
theorem readAt_all {sg : RefSig} {κ : Kind} {sp : Space} {s : Shape} {e : EltTy} {m : Memref sg κ sp s e} (h : m.IsWhole)
    (X : s.Idx → Elt F e) {off : Fin s.rank → ℕ} (inb : ∀ a, off a + s.size a ≤ s.size a) :
    m.view.readAt (Elt F) (Rect.unit off s.size inb).toLoadRect (h.unread X) = X :=
  (View.readAt_full m.view _ inb).trans (h.read_unread X)

/-- The rectangle of one chunk of a row tile places its indices at the chunk's rows. -/
theorem emb_chunk (k : Fin 8) {o : ℕ} (ho : o = 128 * k.val) (inb : ∀ a, (![o, 0] : Fin 2 → ℕ) a + S128x2048.size a ≤ S1024x2048.size a)
    (z : S128x2048.Idx) : (Rect.unit (s := S1024x2048) ![o, 0] S128x2048.size inb).emb z = rowIx k z := by
  subst ho
  funext a
  apply Fin.ext
  fin_cases a
  · show 128 * k.val + 1 * (z 0).val = 128 * k.val + (z 0).val; omega
  · show 0 + 1 * (z 1).val = (z 1).val; omega

/-- A load of one chunk of a row tile held at the contents that read `X` reads the chunk's rows. -/
theorem readAt_chunk {sg : RefSig} {κ : Kind} {sp : Space} {m : Memref sg κ sp S1024x2048 .f32} (h : m.IsWhole)
    (X : Vec F S1024x2048 .f32) (k : Fin 8) {o : ℕ} (ho : o = 128 * k.val)
    (inb : ∀ a, (![o, 0] : Fin 2 → ℕ) a + S128x2048.size a ≤ S1024x2048.size a) :
    m.view.readAt (Elt F) (Rect.unit (s := S1024x2048) ![o, 0] S128x2048.size inb).toLoadRect (h.unread X) = rowsOf X k := by
  funext z
  exact (congrFun (h.read_unread X) _).trans (congrArg X (emb_chunk k ho inb z))

/-- Eight stores, one to each chunk of a row tile, each of that chunk normalised, leave the row tile normalised. -/
theorem read_chunks {sg : RefSig} {κ : Kind} {sp : Space} (v : View sg κ sp S1024x2048 .bf16)
    (f : v.ty.Contents (Elt F)) (L : List (View.Piece (Elt F) S1024x2048 .bf16)) (X : Vec F S1024x2048 .f32) (g : Vec F S1x2048 .f32)
    (hL : ∀ p ∈ L, ∀ x : p.1.shape.Idx, p.2 x = hval X g (p.1.emb x)) (hc : ∀ y, ∃ p ∈ L, y ∈ p.1.set) :
    v.read (Elt F) (v.writes (Elt F) f L) = hval X g :=
  funext fun y => View.read_writes_apply_of_pieces v f (hval X g) L hL y (hc y)

/-- One such store's payload is the normalised row tile at the chunk's rows. -/
theorem piece_chunk (X : Vec F S1024x2048 .f32) (g : Vec F S1x2048 .f32) (k : Fin 8) {o : ℕ} (ho : o = 128 * k.val)
    (inb : ∀ a, (![o, 0] : Fin 2 → ℕ) a + S128x2048.size a ≤ S1024x2048.size a) (w : Vec F S128x2048 .bf16)
    (hw : w = nrm (rowsOf X k) g) (x : S128x2048.Idx) :
    w x = hval X g ((Rect.unit (s := S1024x2048) ![o, 0] S128x2048.size inb).emb x) := by
  rw [emb_chunk k ho inb, hval_rowIx, hw]

/-- The same of a payload printed over its two loads. -/
theorem piece_load {pay : Vec F S128x2048 .f32 → Vec F S1x2048 .f32 → Vec F S128x2048 .bf16} (hp : pay = k0_pay6)
    {X : Vec F S1024x2048 .f32} {g : Vec F S1x2048 .f32} (k : Fin 8) {o : ℕ} (ho : o = 128 * k.val)
    (inb : ∀ a, (![o, 0] : Fin 2 → ℕ) a + S128x2048.size a ≤ S1024x2048.size a)
    {a : Vec F S128x2048 .f32} {b : Vec F S1x2048 .f32} (ha : a = rowsOf X k) (hb : b = g) (x : S128x2048.Idx) :
    pay a b x = hval X g ((Rect.unit (s := S1024x2048) ![o, 0] S128x2048.size inb).emb x) := by
  subst hp ha hb
  exact piece_chunk X b k ho inb _ rfl x

end Cert.Proof.InProj

end
-- ==== Proof.First.lean ====
/-
The first call of the input projection (one row tile, eleven column tiles): the runs of its body with what it leaves
in every buffer stated.
-/
module

public import proofs.«01_k».proof.Proof.Common
public import Idealize.ShloMosaic.Lib.Pipeline.DatRel
public import Idealize.ShloMosaic.Lib.Pipeline.ArrRel

@[expose] public section

set_option maxRecDepth 16384

noncomputable section

namespace Cert.Proof.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The condition of the body's `scf.if` (the first column tile normalises the row tile). -/
abbrev cond0 (i : grid0.Coords) : Prop := (Scalar.cmpi .ne (Scalar.extui (Scalar.cmpi .eq (BitVec.ofNat 32 (i 1).val) 0#32)) 0#32) = 1#1
/-- It holds at the first point only. -/
theorem hcond0 : ∀ t : Fin cfg0.N, cond0 (grid0.coords t) ↔ t.val % 11 = 0 :=
  (fun t => by
    have ht : t.val < 11 := Nat.lt_of_lt_of_eq t.isLt N_0
    have e0 : (grid0.coords t 0).val = t.val / 11 % 1 := Pipeline.Grid.coords_val t 0 (by decide) rfl
    have e1 : (grid0.coords t 1).val = t.val / 1 % 11 := Pipeline.Grid.coords_val t 1 (by decide) rfl
    simp only [cond0, e0, e1]
    word_cmp
   : ∀ t : Fin grid0.N, cond0 (grid0.coords t) ↔ t.val % 11 = 0)

set_option maxHeartbeats 1000000 in
/-- The body away from the first column tile: the scratch holds a row tile `h` and is left so; the result tile, the
    masked tile and the bf16 weights are what the kernel's chains say. -/
theorem run0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S2048x1024 .bf16) (harg8 : arg8.IsWhole) (arg9 : Memref sig .tc .vmem S1024x2048 .bf16) (harg9 : arg9.IsWhole) (hc0 : ¬ cond0 i)
    (x0 : Vec F S1024x2048 .f32) (x1 : Vec F S1x2048 .f32) (x2 : Vec F S2048x1024 .f32) (x3 : Vec F S1x1024 .f32) (d : Vec F S1024x1024 .f32) (h : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d ∗ (∃ d, owns (c : Thread nD τ) arg8 fullShare d) ∗ owns (c : Thread nD τ) arg9 fullShare h
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x2 h x3) ∗ owns (c : Thread nD τ) arg7 fullShare (maskSel (k0_pay5 i) (k0_pay4 x2 h) d) ∗ owns (c : Thread nD τ) arg8 fullShare (k0_pay1 x2) ∗ owns (c : Thread nD τ) arg9 fullShare h) -∗ K ⟨⟩))
          ⊢ wp frame (wpE (defs₀ (F := F)) Variants.none c none) E (cc0_in_proj_first i arg2 harg2 arg3 harg3 arg4 harg4 arg5 harg5 arg6 harg6 arg7 harg7 arg8 harg8 arg9 harg9) K := by
    intro E K
    simp only [cc0_in_proj_first_eq_skeleton]; unfold cc0_in_proj_first_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hf5; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full, readAt_all harg4, readAt_all harg9, readAt_all harg5]
    isplitl [H5]
    · iexists _; isplitr; swap; · iexact H5
      ipureintro
      refine (read_mask_whole arg7.view _ _ _ d _ (harg7.read_unread d)).trans ?_
      rw [readAt_all harg4, readAt_all harg9]
    isplitl [H6]
    · iexists _; isplitr; swap; · iexact H6
      ipureintro
      rw [View.read_writes_full, readAt_all harg4]
    iexists _; isplitr; swap; · iexact HS0
    ipureintro; exact harg9.read_unread _

set_option maxHeartbeats 1000000 in
/-- The body at the first column tile: the scratch is left at the row tile normalised; the result tile, the
    masked tile and the bf16 weights are what the kernel's chains say. -/
theorem run0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (arg8 : Memref sig .tc .vmem S2048x1024 .bf16) (harg8 : arg8.IsWhole) (arg9 : Memref sig .tc .vmem S1024x2048 .bf16) (harg9 : arg9.IsWhole) (hc0 : cond0 i)
    (x0 : Vec F S1024x2048 .f32) (x1 : Vec F S1x2048 .f32) (x2 : Vec F S2048x1024 .f32) (x3 : Vec F S1x1024 .f32) (d : Vec F S1024x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x2 (hval x0 x1) x3) ∗ owns (c : Thread nD τ) arg7 fullShare (maskSel (k0_pay5 i) (k0_pay4 x2 (hval x0 x1)) d) ∗ owns (c : Thread nD τ) arg8 fullShare (k0_pay1 x2) ∗ owns (c : Thread nD τ) arg9 fullShare (hval x0 x1)) -∗ K ⟨⟩))
          ⊢ wp frame (wpE (defs₀ (F := F)) Variants.none c none) E (cc0_in_proj_first i arg2 harg2 arg3 harg3 arg4 harg4 arg5 harg5 arg6 harg6 arg7 harg7 arg8 harg8 arg9 harg9) K := by
    intro E K
    simp only [cc0_in_proj_first_eq_skeleton]; unfold cc0_in_proj_first_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg7.eq_unread hf5
    sl_exec (disch := first | sl_exact hc0)
    sl_step
    have hscr : ∀ f, View.read (Elt F) arg9.view (arg9.view.writes (Elt F) f (run0_A.sl.HS0_8 c arg2 harg2 arg3 harg3 x0 x1)) = hval x0 x1 := by
      intro f
      refine read_chunks _ _ _ _ _ ?_ (View.cover_of_tiledL _ S128x2048.size (by sl_kernel_rfl))
      unfold run0_A.sl.HS0_8
      refine List.forall_mem_cons.mpr ⟨fun x => piece_load (pay := k0_pay13) rfl 7 rfl (by decide) (by exact readAt_chunk harg2 x0 7 rfl (by decide)) (by exact readAt_all harg3 x1 (by decide)) x, ?_⟩
      refine List.forall_mem_cons.mpr ⟨fun x => piece_load (pay := k0_pay12) rfl 6 rfl (by decide) (by exact readAt_chunk harg2 x0 6 rfl (by decide)) (by exact readAt_all harg3 x1 (by decide)) x, ?_⟩
      refine List.forall_mem_cons.mpr ⟨fun x => piece_load (pay := k0_pay11) rfl 5 rfl (by decide) (by exact readAt_chunk harg2 x0 5 rfl (by decide)) (by exact readAt_all harg3 x1 (by decide)) x, ?_⟩
      refine List.forall_mem_cons.mpr ⟨fun x => piece_load (pay := k0_pay10) rfl 4 rfl (by decide) (by exact readAt_chunk harg2 x0 4 rfl (by decide)) (by exact readAt_all harg3 x1 (by decide)) x, ?_⟩
      refine List.forall_mem_cons.mpr ⟨fun x => piece_load (pay := k0_pay9) rfl 3 rfl (by decide) (by exact readAt_chunk harg2 x0 3 rfl (by decide)) (by exact readAt_all harg3 x1 (by decide)) x, ?_⟩
      refine List.forall_mem_cons.mpr ⟨fun x => piece_load (pay := k0_pay8) rfl 2 rfl (by decide) (by exact readAt_chunk harg2 x0 2 rfl (by decide)) (by exact readAt_all harg3 x1 (by decide)) x, ?_⟩
      refine List.forall_mem_cons.mpr ⟨fun x => piece_load (pay := k0_pay7) rfl 1 rfl (by decide) (by exact readAt_chunk harg2 x0 1 rfl (by decide)) (by exact readAt_all harg3 x1 (by decide)) x, ?_⟩
      refine List.forall_mem_cons.mpr ⟨fun x => piece_load (pay := k0_pay6) rfl 0 rfl (by decide) (by exact readAt_chunk harg2 x0 0 rfl (by decide)) (by exact readAt_all harg3 x1 (by decide)) x, ?_⟩
      exact fun _ h => absurd h List.not_mem_nil
    have hv7 : run0_A.sl.v7 c arg2 harg2 arg3 harg3 arg9 x0 x1 = hval x0 x1 := by
      unfold run0_A.sl.v7
      exact (View.readAt_full arg9.view _ _).trans (hscr _)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_full, hv7, readAt_all harg4, readAt_all harg5]
    isplitl [H5]
    · iexists _; isplitr; swap; · iexact H5
      ipureintro
      refine (read_mask_whole arg7.view _ _ _ d _ (harg7.read_unread d)).trans ?_
      rw [readAt_all harg4, hv7]
    isplitl [H6]
    · iexists _; isplitr; swap; · iexact H6
      ipureintro
      rw [View.read_writes_full, readAt_all harg4]
    iexists _; isplitr; swap; · iexact HS0
    ipureintro; exact hscr fs0

/-! ## The proof data -/

/-- What the buffers hold when the call is entered, core by core. -/
abbrev Vals (F : FTy → Type) : Type := Dev nD → Valuation τ sig (Elt F)

variable (V : Vals F)

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first point, and the point of column tile 4 (the one the masked store keeps). -/
abbrev pt0_0 : Fin cfg0.N := ⟨0, by rw [show cfg0.N = 11 from N_0]; omega⟩
abbrev pt0_4 : Fin cfg0.N := ⟨4, by rw [show cfg0.N = 11 from N_0]; omega⟩

/-- The row tile the first point normalises into the scratch. -/
def hrow0 (c : Dev nD) : Vec F S1024x2048 .bf16 := hval (iblk0 V c 0 pt0_0) (iblk0 V c 1 pt0_0)

/-- The scratch operand. -/
abbrev scM0 : Memref sig .tc .vmem S1024x2048 .bf16 := Memref.whole cc0_scratch0

/-- A scoped buffer whole at some contents. -/
abbrev someBuf (c : Dev nD) (b : Ref sig .tc) : sProp 𝕄 :=
  iprop(∃ f : Buf (Elt F) ((c : Thread nD τ).loc b), ((c : Thread nD τ).loc b) ↦{fullShare} f)

/-- What the first call's body never touches: the generator register, and the buffers that serve the second call. -/
def keep0 (c : Dev nD) : sProp 𝕄 :=
  iprop((∃ r, prngReg c r) ∗ someBuf c cc1_stg0_0 ∗ someBuf c cc1_stg1_0 ∗ someBuf c cc1_stg1_1 ∗ someBuf c cc1_stg2_0
    ∗ someBuf c cc1_stg2_1 ∗ someBuf c cc1_stg3_0 ∗ someBuf c cc1_stg3_1 ∗ someBuf c cc1_stg4_0 ∗ someBuf c cc1_stg4_1
    ∗ someBuf c cc1_stg5_0 ∗ someBuf c cc1_stg5_1 ∗ someBuf c cc1_stg6_0 ∗ someBuf c cc1_stg6_1 ∗ someBuf c cc1_scratch0
    ∗ someBuf c cc1_scratch1)

/-- The body's invariant: the scratch at anything before the first point, at the normalised row tile after it. -/
def Phi0 (c : Dev nD) (n : Fin (cfg0.N + 1)) : sProp 𝕄 :=
  iprop((if n.val = 0 then iprop(∃ d, owns (c : Thread nD τ) scM0 fullShare d) else owns (c : Thread nD τ) scM0 fullShare (hrow0 V c))
    ∗ keep0 c)

theorem Phi0_zero (c : Dev nD) (n : Fin (cfg0.N + 1)) (h : n.val = 0) :
    Phi0 V c n = iprop(iprop(∃ d, owns (c : Thread nD τ) scM0 fullShare d) ∗ keep0 c) := by
  unfold Phi0; rw [if_pos h]

theorem Phi0_pos (c : Dev nD) (n : Fin (cfg0.N + 1)) (h : n.val ≠ 0) :
    Phi0 V c n = iprop(owns (c : Thread nD τ) scM0 fullShare (hrow0 V c) ∗ keep0 c) := by
  unfold Phi0; rw [if_neg h]

/-- The call's proof data: each operand at its block, the result tile, the kept tile and the bf16 weights as the
    kernel's chains compute them. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (iblk0 V c 2 t) (hrow0 V c) (iblk0 V c 3 t)
    | ⟨5, _⟩ => k0_pay4 (iblk0 V c 2 pt0_4) (hrow0 V c)
    | ⟨6, _⟩ => k0_pay1 (iblk0 V c 2 t)
  Φ n := Phi0 V c n
  q _ := fullShare
  owed _ := 0

theorem dat0_A (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay3 (iblk0 V c 2 t) (hrow0 V c) (iblk0 V c 3 t) := by dsimp only [dat0]
theorem after0_5 (c : Dev nD) (t : Fin cfg0.N) : (dat0 V c).after 5 t = k0_pay4 (iblk0 V c 2 pt0_4) (hrow0 V c) := by dsimp only [dat0]
theorem after0_6 (c : Dev nD) (t : Fin cfg0.N) : (dat0 V c).after 6 t = k0_pay1 (iblk0 V c 2 t) := by dsimp only [dat0]

/-- Each operand's staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [dat0_A]; try rfl) t d).trans
    (by unfold Dat.fetched Dat.blockOf iblk0; rw [dat0_A]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [dat0_A]; try rfl) t d).trans
    (by unfold Dat.fetched Dat.blockOf iblk0; rw [dat0_A]; try rfl)

/-- The window whose store is masked: what its buffer holds is stated only from column tile 4 on. -/
def fgt0 : Fin cfg0.W → Bool := fun w => w.val == 5

/-- From column tile 4 on, a masked window's buffer holds what the proof data say. -/
def Rl0 (c : Dev nD) (w : Fin cfg0.W) (t : Fin cfg0.N) (X : (cfg0.win w).block.Idx → Elt F (cfg0.win w).elt) : Prop :=
  4 ≤ t.val % 11 → X = (dat0 V c).after w t

/-- The mask is on at column tile 4 only. -/
theorem mask0 (t : Fin cfg0.N) (y : S1024x1024.Idx) : k0_pay5 (grid0.coords t) y = 1#1 ↔ t.val % 11 = 4 := by
  have ht : t.val < 11 := Nat.lt_of_lt_of_eq t.isLt N_0
  have e1 : (grid0.coords t 1).val = t.val / 1 % 11 := Pipeline.Grid.coords_val t 1 (by decide) rfl
  show (Scalar.cmpi .eq (BitVec.ofNat 32 (grid0.coords t 1).val) 4#32) = 1#1 ↔ _
  rw [e1]
  word_cmp

theorem maskSel0 (t : Fin cfg0.N) (v d : Vec F S1024x1024 .f32) :
    maskSel (k0_pay5 (grid0.coords t)) v d = if t.val % 11 = 4 then v else d := by
  funext y
  unfold maskSel
  by_cases h : t.val % 11 = 4
  · rw [if_pos ((mask0 t y).mpr h), if_pos h]
  · rw [if_neg (fun h' => h ((mask0 t y).mp h')), if_neg h]

/-- After column tile 4 the masked window is found as the proof data say. -/
theorem finds0 (c : Dev nD) (t : Fin cfg0.N) (ht : 4 < t.val % 11) (Y : (cfg0.win 5).block.Idx → Elt F (cfg0.win 5).elt)
    (h : ((dat0 V c).toRRel fgt0 (Rl0 V c)).Finds 5 t Y) : Y = (dat0 V c).after 5 t := by
  rw [Pipeline.RDat.finds_of_pos _ (by rfl) (by omega)] at h
  rcases h with h | h
  · have := (flush0_5 _).mp h
    simp only at this
    omega
  · have := (dat0 V c).toRRel_leaves (fgt := fgt0) (by rfl) h (show 4 ≤ (t.val - 1) % 11 by omega)
    rw [this, after0_5, after0_5]

/-- So what the masked store leaves meets the proof data. -/
theorem leaves0 (c : Dev nD) (t : Fin cfg0.N) (Y : (cfg0.win 5).block.Idx → Elt F (cfg0.win 5).elt)
    (h : ((dat0 V c).toRRel fgt0 (Rl0 V c)).Finds 5 t Y) :
    Rl0 V c 5 t (maskSel (k0_pay5 (grid0.coords t)) (k0_pay4 (iblk0 V c 2 t) (hrow0 V c)) Y) := by
  intro h4
  have hN : t.val < 11 := lt_of_lt_of_eq t.isLt (show cfg0.N = 11 from N_0)
  rw [maskSel0, after0_5]
  by_cases h : t.val % 11 = 4
  · rw [if_pos h]
    have : t = pt0_4 := Fin.ext (by show t.val = 4; omega)
    rw [this]
  · rw [if_neg h]
    rw [← after0_5 V c t]
    exact finds0 V c t (by omega) Y ‹_›

/-! ## The body obligation -/

abbrev ms0_0 (t : Fin cfg0.N) : Memref sig .tc .vmem S1024x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S2048x1024 .f32 := win0_2.stage (cfg0.slots t 2)
abbrev ms0_3 (t : Fin cfg0.N) : Memref sig .tc .vmem S1x1024 .f32 := win0_3.stage (cfg0.slots t 3)
abbrev ms0_4 (t : Fin cfg0.N) : Memref sig .tc .vmem S1024x1024 .bf16 := win0_4.stage (cfg0.slots t 4)
abbrev ms0_5 (t : Fin cfg0.N) : Memref sig .tc .vmem S1024x1024 .f32 := win0_5.stage (cfg0.slots t 5)
abbrev ms0_6 (t : Fin cfg0.N) : Memref sig .tc .vmem S2048x1024 .bf16 := win0_6.stage (cfg0.slots t 6)

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ Y, ⌜((dat0 V c).toRRel fgt0 (Rl0 V c)).Finds 5 t Y⌝ ∗ owns (c : Thread nD τ) (ms0_5 t) fullShare Y)
    ∗ (∃ d, owns (c : Thread nD τ) (ms0_6 t) fullShare ((dat0 V c).before 6 t d)))

/-- and what it returns. -/
def post0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ (∃ X, ⌜Rl0 V c 5 t X⌝ ∗ owns (c : Thread nD τ) (ms0_5 t) fullShare X)
    ∗ owns (c : Thread nD τ) (ms0_6 t) fullShare ((dat0 V c).after 6 t))

set_option maxHeartbeats 1600000 in
/-- The body at any point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3]
  rw [show (dat0 V c).owesAt () t.succ = (dat0 V c).owesAt () t.castSucc from rfl,
    after0_0, after0_1, after0_2, after0_3, after0_4, after0_6]
  rw [show (dat0 V c).Φ t.castSucc = Phi0 V c t.castSucc from rfl, show (dat0 V c).Φ t.succ = Phi0 V c t.succ from rfl]
  have hN : t.val < 11 := lt_of_lt_of_eq t.isLt (show cfg0.N = 11 from N_0)
  rw [Phi0_pos V c t.succ (by show t.val + 1 ≠ 0; omega)]
  by_cases h0 : t.val % 11 = 0
  · rw [Phi0_zero V c t.castSucc (by show t.val = 0; omega)]
    have et : t = pt0_0 := Fin.ext (by show t.val = 0; omega)
    have eh : hval (iblk0 V c 0 t) (iblk0 V c 1 t) = hrow0 V c := by rw [et]; rfl
    iintro ⟨⟨HS0, Hg⟩, Ho, ⟨%d0, H0⟩, ⟨%d1, H1⟩, ⟨%d2, H2⟩, ⟨%d3, H3⟩, ⟨%d4, H4⟩, ⟨%Y, %hY, H5⟩, ⟨%d6, H6⟩⟩
    have hl := leaves0 V c t Y hY
    rw [← eh] at hl
    rw [← eh]
    iapply ((run0_A c (grid0.coords t) _ _ _ _ _ _ _ _ _ _ _ _ _ _ _ _ ((hcond0 t).mpr h0) (iblk0 V c 0 t) (iblk0 V c 1 t) (iblk0 V c 2 t) (iblk0 V c 3 t) Y) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; exact hl
    iexact H6
  · rw [Phi0_pos V c t.castSucc (by show t.val ≠ 0; omega)]
    iintro ⟨⟨HS0, Hg⟩, Ho, ⟨%d0, H0⟩, ⟨%d1, H1⟩, ⟨%d2, H2⟩, ⟨%d3, H3⟩, ⟨%d4, H4⟩, ⟨%Y, %hY, H5⟩, ⟨%d6, H6⟩⟩
    have hl := leaves0 V c t Y hY
    iapply ((run0_B c (grid0.coords t) _ _ _ _ _ _ _ _ _ _ _ _ _ _ _ _ (fun h => h0 ((hcond0 t).mp h)) (iblk0 V c 0 t) (iblk0 V c 1 t) (iblk0 V c 2 t) (iblk0 V c 3 t) Y (hrow0 V c)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; exact hl
    iexact H6

/-- The body table's row at point `t`'s slots is the body. -/
theorem row0 (t : Fin cfg0.N) :
    defs₀ (F := F) .tc cfg0.body (cfg0.bodyArgs t (cfg0.slots t)) = bodyAt0 t := by
  unfold defs₀; rw [Defs.onTc_tc]

/-- The call's body obligation, the masked window held to `Rl0`. -/
theorem obl0 (c : Dev nD) : Pipeline.BodyObligationRel (dat0 V c) (defs₀ (F := F)) Variants.none () Set.univ fgt0 (Rl0 V c) := fun t => by
  rw [bigSep_W0, bigSep_W0, row0]
  exact triple_restated (sound0 V c t) rfl .rfl fun _ => .rfl

end Cert.Proof.InProj

end
-- ==== Proof.Ring.lean ====
/-
The second call of the input projection: its branch conditions in closed form, and the ring in which the body streams the
row tiles of the input through two slots of scratch, one block ahead of the one it normalises.
-/
module

public import proofs.«01_k».proof.Proof.First

@[expose] public section

set_option maxRecDepth 16384

noncomputable section

namespace Cert.Proof.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : Vals F)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 11) — by arithmetic of the point. -/
theorem hcond1_0 : ∀ t : Fin cfg1.N, cond1_0 (grid1.coords t) ↔ t.val % 11 = 0 :=
  (fun t => by
    have ht : t.val < 165 := Nat.lt_of_lt_of_eq t.isLt N_1
    have e0 : (grid1.coords t 0).val = t.val / 11 % 15 := Pipeline.Grid.coords_val t 0 (by decide) rfl
    have e1 : (grid1.coords t 1).val = t.val / 1 % 11 := Pipeline.Grid.coords_val t 1 (by decide) rfl
    simp only [cond1_0, k1_cond1, e0, e1]
    word_cmp
   : ∀ t : Fin grid1.N, cond1_0 (grid1.coords t) ↔ t.val % 11 = 0)

/-- The condition of the body's `scf.if` 1 (`k1_h2`), from the grid coordinates (the skeleton's scalar
    chain substituted). -/
abbrev cond1_1 (i : grid1.Coords) : Prop := k1_cond2 i = 1#1
/-- It holds at the points before point 11 — by arithmetic of the point. -/
theorem hcond1_1 : ∀ t : Fin cfg1.N, cond1_1 (grid1.coords t) ↔ t.val < 11 :=
  (fun t => by
    have ht : t.val < 165 := Nat.lt_of_lt_of_eq t.isLt N_1
    have e0 : (grid1.coords t 0).val = t.val / 11 % 15 := Pipeline.Grid.coords_val t 0 (by decide) rfl
    have e1 : (grid1.coords t 1).val = t.val / 1 % 11 := Pipeline.Grid.coords_val t 1 (by decide) rfl
    simp only [cond1_1, k1_cond2, e0, e1]
    word_cmp
   : ∀ t : Fin grid1.N, cond1_1 (grid1.coords t) ↔ t.val < 11)

/-- The condition of the body's `scf.if` 2 (`k1_h3`), from the grid coordinates (the skeleton's scalar
    chain substituted). -/
abbrev cond1_2 (i : grid1.Coords) : Prop := k1_cond3 i = 1#1
/-- It holds at the points before point 154 — decided over the grid. -/
theorem hcond1_2 : ∀ t : Fin cfg1.N, cond1_2 (grid1.coords t) ↔ t.val < 154 :=
  (by decide +kernel : ∀ t : Fin grid1.N, cond1_2 (grid1.coords t) ↔ t.val < 154)

/-! ## The kernel body on any staging memrefs: a subtype the run finds -/

/-- Each window's current staging memref at point `t`, spelled as the pipeline passes it (`bodyAt1`), and its wholeness. -/
abbrev ms1_0 (t : Fin cfg1.N) : Memref sig .tc .vmem S1x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x11264 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S16x11264 .bf16 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S1024x2048 .bf16 := Memref.whole cc1_scratch0
abbrev scM1_1 : Memref sig .tc .vmem S2x1024x2048 .f32 := Memref.whole cc1_scratch1
/-- The operands left in HBM that the body copies into scratch itself, whole. -/
abbrev hbM1_0 : Memref sig .tc .hbm S16384x2048 .f32 := Memref.whole main_v0
abbrev hbM1_1 : Memref sig .tc .hbm S16384x11264 .bf16 := Memref.whole main_v5_0
abbrev hbM1_2 : Memref sig .tc .hbm S16384x1024 .f32 := Memref.whole main_v5_1
/-- Memref `M`'s buffer on core `c`: its contents type, and it held whole at `f` — behind this abbreviation, so that the
    run's rewriting of the goal leaves `Memref.view` intact (the form the executor reads a held buffer in). -/
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem1 : Fin 2 → SemLoc sig := fun j => (![SemLoc.dma 24, SemLoc.dma 25] : Fin 2 → SemLoc sig) j
theorem ownSemFacts1 : Pipeline.OwnSemFacts spec1 osem1 := by decide
/-- The cells at zero, listed. -/
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 24) 0 ∗ semVal ((c : Thread nD τ), SemLoc.dma 25) 0) := by
  rw [Pipeline.ownSems0_eq_of_list c osem1 [0, 1] (by decide) (by decide)]; rfl
/-- The HBM operands the body moves, as references: unscoped, no window's array (`Pipeline.restRefs`). -/
def H1 : Finset (Ref sig .tc) := {main_v0, main_v5_0, main_v5_1}
theorem H1_sub : H1 ⊆ Pipeline.restRefs sig spec1 := by decide
/-- Their points-tos at the launch contents, listed. -/
theorem hbmPts1_eq (c : Dev nD) :
    (bigSep H1 (fun b => ((c : Thread nD τ).loc b) ↦{fullShare} V c b) : sProp 𝕄) = iprop(hbPt1 c hbM1_0 (V c main_v0) ∗ hbPt1 c hbM1_1 (V c main_v5_0) ∗ hbPt1 c hbM1_2 (V c main_v5_1)) := by
  rw [BI.bigSep_eq_bigSepL_of_eq [main_v0, main_v5_0, main_v5_1] (by decide) (by decide)]; rfl

/-! ## The ring: `main_v0` streamed through the 2 slots of `cc1_scratch1` on the cells of `cc1_scratch2`, 1 block ahead, in 15 steps -/

instance : NeZero grid1.N := ⟨by rw [N_1]; decide⟩
/-- The ring's STEPS before point `t` (the waits for a block of it at earlier points): one every 11 points, the first at point 0. -/
def ringStep1_0 (t : ℕ) : ℕ := (t + 10) / 11
theorem inb_slot1_0 (s : Fin 2) : ∀ a, (![s.val, 0, 0] : Fin 3 → Nat) a + S1x1024x2048.size a ≤ S2x1024x2048.size a := by
  have := s.isLt; intro a; fin_cases a <;> simp <;> omega
theorem inb_src1_0 (b : Fin 15) : ∀ a, (![1024 * b.val + 1024, 0] : Fin 2 → Nat) a + S1024x2048.size a ≤ S16384x2048.size a := by
  have := b.isLt; intro a; fin_cases a <;> simp <;> omega
theorem inb_cell1_0 (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot1_0 (s : Fin 2) : Memref sig .tc .vmem S1024x2048 .f32 :=
  (scM1_1.slice (Rect.unit (s := S2x1024x2048) ![s.val, 0, 0] S1x1024x2048.size (inb_slot1_0 s)) (fun _ => rfl)).squeeze S1024x2048 squeezes_S1x1024x2048_S1024x2048
/-- Block `b` of the operand (the block step `b` waits), spelt as the transfers spell their source, at offsets in `b`. -/
def srcB1_0 (b : Fin 15) : Memref sig .tc .hbm S1024x2048 .f32 :=
  hbM1_0.slice (Rect.unit (s := S16384x2048) ![1024 * b.val + 1024, 0] S1024x2048.size (inb_src1_0 b)) (fun _ => rfl)
/-- Cell `s` of `cc1_scratch2`, spelt as the body spells a cell; its number in the pool. -/
def cellA1_0 (s : Fin 2) : DmaSems sig S_ := (cc1_scratch2.slice (Rect.unit (s := S2) ![s.val] S1.size (inb_cell1_0 s))).squeeze S_ squeezes_S1_S_
abbrev cellR1_0 (s : Fin 2) : SemLoc sig := SemLoc.dma (cellA1_0 s).sem
theorem cellR1_0_0 : cellR1_0 0 = SemLoc.dma 24 := by decide
theorem cellR1_0_1 : cellR1_0 1 = SemLoc.dma 25 := by decide

section Ring1_0
variable (c : Dev nD) (W : HbBuf1 (F := F) c hbM1_0)
/-- The operand is lent BY SHARE, one read-share copy of it per slot (the left and right halves of the full share): whatever
    blocks two transfers in flight stream — the same one twice, two that overlap —, each borrows from its own slot's copy. -/
abbrev qs1_0 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP1_0 (s : Fin 2) (f : HbBuf1 (F := F) c (rslot1_0 s)) : sProp 𝕄 := (rslot1_0 s).view.loc (c : Thread nD τ) ↦[(rslot1_0 s).view.set]{fullShare} f
abbrev cellP1_0 (s : Fin 2) : sProp 𝕄 := semVal ((c : Thread nD τ), cellR1_0 s) 0
abbrev srcP1_0 (s : Fin 2) (b : Fin 15) : sProp 𝕄 := (srcB1_0 b).view.loc (c : Thread nD τ) ↦[(srcB1_0 b).view.set]{qs1_0 s} W
/-- (a `def`: no run reads this rest, and folded it stays out of the executor's table of held buffers) -/
def restP1_0 (s : Fin 2) (b : Fin 15) : sProp 𝕄 := ((c : Thread nD τ).loc main_v0) ↦[Finset.univ \ (srcB1_0 b).view.set]{qs1_0 s} W
abbrev wholeP1_0 (s : Fin 2) : sProp 𝕄 := ((c : Thread nD τ).loc main_v0) ↦[Finset.univ]{qs1_0 s} W
abbrev landed1_0 (s : Fin 2) (b : Fin 15) (f : HbBuf1 (F := F) c (rslot1_0 s)) : HbBuf1 (F := F) c (rslot1_0 s) :=
  (rslot1_0 s).view.writes (Elt F) f [⟨Rect.whole S1024x2048, ReadAs.same.apply ((srcB1_0 b).view.read (Elt F) W)⟩]
abbrev flightP1_0 (s : Fin 2) (b : Fin 15) (f : HbBuf1 (F := F) c (rslot1_0 s)) : sProp 𝕄 :=
  Transfers.Flight countersEmb (c : Thread nD τ) (cellR1_0 s) default ((rslot1_0 s).view.amount (cellR1_0 s))
    iprop(slotP1_0 c s (landed1_0 c W s b f) ∗ srcP1_0 c W s b)
/-- Lib/Ring.lean's `slot` and `flight` families: a slot not in flight carries its copy of the operand whole; a flight, the
    rest of the copy it borrowed from. No block is held apart: the `home` family is `emp`. -/
abbrev slotW1_0 (s : Fin 2) (f : HbBuf1 (F := F) c (rslot1_0 s)) : sProp 𝕄 := iprop(slotP1_0 c s f ∗ wholeP1_0 c W s)
abbrev flightW1_0 (s : Fin 2) (b : Fin 15) (f : HbBuf1 (F := F) c (rslot1_0 s)) : sProp 𝕄 := iprop(flightP1_0 c W s b f ∗ restP1_0 c W s b)
abbrev noHome1_0 (b : Fin 15) : sProp 𝕄 := iprop(emp)
/-- The ring before its step `k` (Lib/Ring.lean `AtK`): every slot free before the first; from then on block `k` in flight
    into slot `k`, slot `k + 1` KEEPING block `k - 1` (landed, readable) until the step starts block `k + 1` over it. -/
def ringAt1_0 (k : ℕ) : sProp 𝕄 :=
  if k = 0 then Ring.At₀ (cellP1_0 c) (slotW1_0 c W) noHome1_0
  else Ring.AtK 1 (cellP1_0 c) (slotW1_0 c W) noHome1_0 (flightW1_0 c W) (landed1_0 c W) k
omit [FloatOps F] in
theorem cellP1_0_0 : cellP1_0 (F := F) c 0 = semVal ((c : Thread nD τ), SemLoc.dma 24) 0 := congrArg (fun x => (semVal ((c : Thread nD τ), x) 0 : sProp 𝕄)) cellR1_0_0
omit [FloatOps F] in
theorem cellP1_0_1 : cellP1_0 (F := F) c 1 = semVal ((c : Thread nD τ), SemLoc.dma 25) 0 := congrArg (fun x => (semVal ((c : Thread nD τ), x) 0 : sProp 𝕄)) cellR1_0_1
end Ring1_0

/-! ### The slots, disjoint and covering the scratch (Lib/Ring.lean `lead_disjoint` / `lead_cover`) -/

abbrev slotSet1_0 (s : Fin 2) : Finset S2x1024x2048.Idx := (Rect.unit (s := S2x1024x2048) ![s.val, 0, 0] S1x1024x2048.size (inb_slot1_0 s)).set
theorem slotSet1_0_eq (s : Fin 2) : (rslot1_0 s).view.set = slotSet1_0 s := by
  simp only [rslot1_0, Memref.view_squeeze, View.set_reshape]; exact View.set_slice_whole _ _
theorem slots1_0_disjoint (s s' : Fin 2) (h : s ≠ s') : Disjoint (slotSet1_0 s) (slotSet1_0 s') :=
  Ring.lead_disjoint (s := S2x1024x2048) (0 : Fin 3) 1 (fun s : Fin 2 => (![s.val, 0, 0] : Fin 3 → Nat)) S1x1024x2048.size inb_slot1_0 (fun s => by simp) rfl s s' h
theorem slots1_0_cover : Finset.univ.biUnion slotSet1_0 = Finset.univ :=
  Ring.lead_cover (s := S2x1024x2048) (0 : Fin 3) 1 (fun s : Fin 2 => (![s.val, 0, 0] : Fin 3 → Nat)) S1x1024x2048.size inb_slot1_0 (fun s => by simp)
    (fun s a ha => by fin_cases a <;> first | exact absurd rfl ha | rfl) rfl (fun a ha => by fin_cases a <;> first | exact absurd rfl ha | rfl) rfl

/-! ### What the launch hands the ring, and takes back -/

section InOut1_0
variable (c : Dev nD) (W : HbBuf1 (F := F) c hbM1_0)
theorem slotP1_0_eq (s : Fin 2) (f) : slotP1_0 (F := F) c s f = (((c : Thread nD τ).loc cc1_scratch1) ↦[slotSet1_0 s]{fullShare} f : sProp 𝕄) := by
  unfold slotP1_0; rw [slotSet1_0_eq]; rfl
/-- A slot's copy of the operand, whole, is block `b`'s elements and the rest (any `b`: what a run splits off before its step
    starts block `b`, and joins back once the wait returned it); -/
theorem src1_0_split (s : Fin 2) (b : Fin 15) : wholeP1_0 (F := F) c W s ⊣⊢ iprop(srcP1_0 c W s b ∗ restP1_0 c W s b) := by
  unfold restP1_0; exact pointsTo_split_subset (Finset.subset_univ _)
/-- the operand whole at the full share is the two copies. -/
theorem whole1_0_split : (hbPt1 c hbM1_0 W : sProp 𝕄) ⊣⊢ iprop(wholeP1_0 c W 0 ∗ wholeP1_0 c W 1) :=
  pointsTo_share (PosShare.mem_left_op_right fullShare)
set_option maxHeartbeats 1000000 in
/-- the scratch whole at anything is its slots at something each, and back. -/
theorem slots1_0_in : iprop(∃ d, owns (c : Thread nD τ) scM1_1 fullShare d) ⊢ (iprop((∃ f, slotP1_0 (F := F) c 0 f) ∗ ∃ f, slotP1_0 (F := F) c 1 f) : sProp 𝕄) := by
  simp only [scM1_1, owns_whole]
  exact Ring.slots2_split (U := Pipeline.UD sig nD τ) (ℓ := (c : Thread nD τ).loc cc1_scratch1) (q := fullShare) slotSet1_0 slots1_0_disjoint slots1_0_cover
    (slotP1_0 c 0) (slotP1_0 c 1) (slotP1_0_eq c 0) (slotP1_0_eq c 1)
set_option maxHeartbeats 1000000 in
theorem slots1_0_out : (iprop((∃ f, slotP1_0 (F := F) c 0 f) ∗ ∃ f, slotP1_0 (F := F) c 1 f) : sProp 𝕄) ⊢ iprop(∃ d, owns (c : Thread nD τ) scM1_1 fullShare d) := by
  simp only [scM1_1, owns_whole]
  exact Ring.slots2_join (U := Pipeline.UD sig nD τ) (ℓ := (c : Thread nD τ).loc cc1_scratch1) (q := fullShare) slotSet1_0 slots1_0_disjoint slots1_0_cover
    (slotP1_0 c 0) (slotP1_0 c 1) (slotP1_0_eq c 0) (slotP1_0_eq c 1)
end InOut1_0

/-- INTO THE RING: the launch's pieces — the scratch whole, the cells at zero, the operand whole — are the ring before its first step; -/
theorem ring1_0_in (c : Dev nD) :
    iprop((∃ d, owns (c : Thread nD τ) scM1_1 fullShare d) ∗ (semVal ((c : Thread nD τ), SemLoc.dma 24) 0 ∗ semVal ((c : Thread nD τ), SemLoc.dma 25) 0) ∗ hbPt1 c hbM1_0 (V c main_v0))
      ⊢ ringAt1_0 c (V c main_v0) 0 := by
  unfold ringAt1_0; rw [if_pos rfl]; unfold Ring.At₀
  rw [Ring.bigSep_fin2]
  simp only [Ring.free, cellP1_0_0, cellP1_0_1]
  iintro ⟨HS, Hc, HW⟩
  iapply Ring.with_homes₀
  icases Hc with ⟨H0, H1⟩
  ihave HS' := (slots1_0_in (F := F) c) $$ HS
  icases HS' with ⟨⟨%d0, HS0⟩, ⟨%d1, HS1⟩⟩
  ihave HW' := (whole1_0_split (F := F) c (V c main_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring1_0_out (c : Dev nD) :
    ringAt1_0 c (V c main_v0) 15
      ⊢ iprop((∃ d, owns (c : Thread nD τ) scM1_1 fullShare d) ∗ (semVal ((c : Thread nD τ), SemLoc.dma 24) 0 ∗ semVal ((c : Thread nD τ), SemLoc.dma 25) 0) ∗ hbPt1 c hbM1_0 (V c main_v0)) := by
  unfold ringAt1_0; rw [if_neg (by decide)]
  iintro H
  ihave H' := (Ring.free2_of_AtK_last _ _ _ _ _) $$ H
  simp only [Ring.free, cellP1_0_0, cellP1_0_1]
  icases H' with ⟨-, ⟨H0, ⟨%f0, HS0, HW0⟩⟩, ⟨H1, ⟨%f1, HS1, HW1⟩⟩⟩
  isplitl [HS0 HS1]
  · iapply (slots1_0_out (F := F) c); isplitl [HS0]; · iexists f0; iexact HS0
    iexists f1; iexact HS1
  isplitl [H0 H1]
  · isplitl [H0]; · iexact H0
    iexact H1
  · iapply (whole1_0_split (F := F) c (V c main_v0)).2; isplitl [HW0]; · iexact HW0
    iexact HW1

/-! ### Ring 0's steps at each case's points, and its canonical names: the body's operands at point `t` are the ring's slots, blocks and cells -/

section Canon1_0
omit [FloatOps F]
/-- At the points of case A the ring takes its FIRST step. -/
theorem rstep1_0_A : ∀ t : Fin grid1.N, cond1_0 (grid1.coords t) → cond1_1 (grid1.coords t) → cond1_2 (grid1.coords t) → (ringStep1_0 t.val) = 0 ∧ (ringStep1_0 (t.val + 1)) = 1 := by decide +kernel
/-- At the points of case B the ring is IDLE (nothing started or waited). -/
theorem rstep1_0_B : ∀ t : Fin grid1.N, ¬cond1_0 (grid1.coords t) → (ringStep1_0 (t.val + 1)) = (ringStep1_0 t.val) ∧ (ringStep1_0 t.val) ≤ 15 := by decide +kernel
/-- At the points of case C the ring takes a step, a block still to start. -/
theorem rstep1_0_C : ∀ t : Fin grid1.N, cond1_0 (grid1.coords t) → ¬cond1_1 (grid1.coords t) → cond1_2 (grid1.coords t) → 1 ≤ (ringStep1_0 t.val) ∧ (ringStep1_0 t.val) + 1 < 15 ∧ (ringStep1_0 (t.val + 1)) = (ringStep1_0 t.val) + 1 := by decide +kernel
/-- At the points of case D the ring takes its LAST step. -/
theorem rstep1_0_D : ∀ t : Fin grid1.N, cond1_0 (grid1.coords t) → ¬cond1_1 (grid1.coords t) → ¬cond1_2 (grid1.coords t) → 1 ≤ (ringStep1_0 t.val) ∧ (ringStep1_0 t.val) + 1 = 15 ∧ (ringStep1_0 (t.val + 1)) = (ringStep1_0 t.val) + 1 := by decide +kernel
set_option synthInstance.maxSize 4096 in
theorem coff1_0_1 : ∀ t : Fin grid1.N, cond1_0 (grid1.coords t) → cond1_1 (grid1.coords t) → cond1_2 (grid1.coords t) → (![0, 0, 0] : Fin 3 → Nat) = ![(Ring.sl 2 (ringStep1_0 t.val)).val, 0, 0] := by decide +kernel
@[sl_canon] theorem canon1_0_1 (t : Fin grid1.N) (h0 : cond1_0 (grid1.coords t)) (h1 : cond1_1 (grid1.coords t)) (h2 : cond1_2 (grid1.coords t)) :
    (scM1_1.slice (Rect.unit (s := S2x1024x2048) ![0, 0, 0] S1x1024x2048.size inb_S2x1024x2048_S1x1024x2048_0_0_0) (fun _ => rfl)).squeeze S1024x2048 squeezes_S1x1024x2048_S1024x2048 = rslot1_0 (Ring.sl 2 (ringStep1_0 t.val)) :=
  congrArg (fun M : Memref sig .tc .vmem S1x1024x2048 .f32 => M.squeeze S1024x2048 squeezes_S1x1024x2048_S1024x2048) (Memref.slice_unit_congr _ (coff1_0_1 t h0 h1 h2) _ _ (fun _ => rfl) (fun _ => rfl))
set_option synthInstance.maxSize 4096 in
theorem coff1_0_2 : ∀ t : Fin grid1.N, cond1_0 (grid1.coords t) → cond1_1 (grid1.coords t) → cond1_2 (grid1.coords t) → (![0] : Fin 1 → Nat) = ![(Ring.sl 2 (ringStep1_0 t.val)).val] := by decide +kernel
@[sl_canon] theorem canon1_0_2 (t : Fin grid1.N) (h0 : cond1_0 (grid1.coords t)) (h1 : cond1_1 (grid1.coords t)) (h2 : cond1_2 (grid1.coords t)) :
    (cc1_scratch2.slice (Rect.unit (s := S2) ![0] S1.size inb_S2_S1_0)).squeeze S_ squeezes_S1_S_ = cellA1_0 (Ring.sl 2 (ringStep1_0 t.val)) :=
  congrArg (fun A : DmaSems sig S1 => A.squeeze S_ squeezes_S1_S_) (SemArray.slice_unit_congr _ (coff1_0_2 t h0 h1 h2) _ _)
set_option synthInstance.maxSize 4096 in
theorem coff1_0_3 : ∀ t : Fin grid1.N, cond1_0 (grid1.coords t) → cond1_1 (grid1.coords t) → cond1_2 (grid1.coords t) → (![1024, 0] : Fin 2 → Nat) = ![1024 * (Ring.bk 15 (ringStep1_0 t.val)).val + 1024, 0] := by decide +kernel
@[sl_canon] theorem canon1_0_3 (t : Fin grid1.N) (h0 : cond1_0 (grid1.coords t)) (h1 : cond1_1 (grid1.coords t)) (h2 : cond1_2 (grid1.coords t)) :
    hbM1_0.slice (Rect.unit (s := S16384x2048) ![1024, 0] S1024x2048.size inb_S16384x2048_S1024x2048_1024_0) (fun _ => rfl) = srcB1_0 (Ring.bk 15 (ringStep1_0 t.val)) :=
  congrArg (fun M : Memref sig .tc .hbm S1024x2048 .f32 => M) (Memref.slice_unit_congr _ (coff1_0_3 t h0 h1 h2) _ _ (fun _ => rfl) (fun _ => rfl))
set_option synthInstance.maxSize 4096 in
theorem coff1_0_4 : ∀ t : Fin grid1.N, cond1_0 (grid1.coords t) → cond1_1 (grid1.coords t) → cond1_2 (grid1.coords t) → k1_off2 (grid1.coords t) = ![(Ring.sl 2 ((ringStep1_0 t.val) + 1)).val, 0, 0] := by decide +kernel
@[sl_canon] theorem canon1_0_4 (t : Fin grid1.N) (h0 : cond1_0 (grid1.coords t)) (h1 : cond1_1 (grid1.coords t)) (h2 : cond1_2 (grid1.coords t)) :
    (scM1_1.slice (Rect.unit (s := S2x1024x2048) (k1_off2 (grid1.coords t)) S1x1024x2048.size (k1_off2_inb (grid1.coords t) h0 h2)) (fun _ => rfl)).squeeze S1024x2048 squeezes_S1x1024x2048_S1024x2048 = rslot1_0 (Ring.sl 2 ((ringStep1_0 t.val) + 1)) :=
  congrArg (fun M : Memref sig .tc .vmem S1x1024x2048 .f32 => M.squeeze S1024x2048 squeezes_S1x1024x2048_S1024x2048) (Memref.slice_unit_congr _ (coff1_0_4 t h0 h1 h2) _ _ (fun _ => rfl) (fun _ => rfl))
set_option synthInstance.maxSize 4096 in
theorem coff1_0_5 : ∀ t : Fin grid1.N, cond1_0 (grid1.coords t) → cond1_1 (grid1.coords t) → cond1_2 (grid1.coords t) → k1_off1 (grid1.coords t) = ![(Ring.sl 2 ((ringStep1_0 t.val) + 1)).val] := by decide +kernel
@[sl_canon] theorem canon1_0_5 (t : Fin grid1.N) (h0 : cond1_0 (grid1.coords t)) (h1 : cond1_1 (grid1.coords t)) (h2 : cond1_2 (grid1.coords t)) :
    (cc1_scratch2.slice (Rect.unit (s := S2) (k1_off1 (grid1.coords t)) S1.size (k1_off1_inb (grid1.coords t) h0 h2))).squeeze S_ squeezes_S1_S_ = cellA1_0 (Ring.sl 2 ((ringStep1_0 t.val) + 1)) :=
  congrArg (fun A : DmaSems sig S1 => A.squeeze S_ squeezes_S1_S_) (SemArray.slice_unit_congr _ (coff1_0_5 t h0 h1 h2) _ _)
set_option synthInstance.maxSize 4096 in
theorem coff1_0_6 : ∀ t : Fin grid1.N, cond1_0 (grid1.coords t) → cond1_1 (grid1.coords t) → cond1_2 (grid1.coords t) → k1_off3 (grid1.coords t) = ![1024 * (Ring.bk 15 ((ringStep1_0 t.val) + 1)).val + 1024, 0] := by decide +kernel
@[sl_canon] theorem canon1_0_6 (t : Fin grid1.N) (h0 : cond1_0 (grid1.coords t)) (h1 : cond1_1 (grid1.coords t)) (h2 : cond1_2 (grid1.coords t)) :
    hbM1_0.slice (Rect.unit (s := S16384x2048) (k1_off3 (grid1.coords t)) S1024x2048.size (k1_off3_inb (grid1.coords t) h0 h2)) (fun _ => rfl) = srcB1_0 (Ring.bk 15 ((ringStep1_0 t.val) + 1)) :=
  congrArg (fun M : Memref sig .tc .hbm S1024x2048 .f32 => M) (Memref.slice_unit_congr _ (coff1_0_6 t h0 h1 h2) _ _ (fun _ => rfl) (fun _ => rfl))
set_option synthInstance.maxSize 4096 in
theorem coff1_0_7 : ∀ t : Fin grid1.N, cond1_0 (grid1.coords t) → cond1_1 (grid1.coords t) → cond1_2 (grid1.coords t) → k1_off5 (grid1.coords t) = ![(Ring.sl 2 (ringStep1_0 t.val)).val, 0, 0] := by decide +kernel
@[sl_canon] theorem canon1_0_7 (t : Fin grid1.N) (h0 : cond1_0 (grid1.coords t)) (h1 : cond1_1 (grid1.coords t)) (h2 : cond1_2 (grid1.coords t)) :
    (scM1_1.slice (Rect.unit (s := S2x1024x2048) (k1_off5 (grid1.coords t)) S1x1024x2048.size (k1_off5_inb (grid1.coords t) h0)) (fun _ => rfl)).squeeze S1024x2048 squeezes_S1x1024x2048_S1024x2048 = rslot1_0 (Ring.sl 2 (ringStep1_0 t.val)) :=
  congrArg (fun M : Memref sig .tc .vmem S1x1024x2048 .f32 => M.squeeze S1024x2048 squeezes_S1x1024x2048_S1024x2048) (Memref.slice_unit_congr _ (coff1_0_7 t h0 h1 h2) _ _ (fun _ => rfl) (fun _ => rfl))
set_option synthInstance.maxSize 4096 in
theorem coff1_0_8 : ∀ t : Fin grid1.N, cond1_0 (grid1.coords t) → cond1_1 (grid1.coords t) → cond1_2 (grid1.coords t) → k1_off4 (grid1.coords t) = ![(Ring.sl 2 (ringStep1_0 t.val)).val] := by decide +kernel
@[sl_canon] theorem canon1_0_8 (t : Fin grid1.N) (h0 : cond1_0 (grid1.coords t)) (h1 : cond1_1 (grid1.coords t)) (h2 : cond1_2 (grid1.coords t)) :
    (cc1_scratch2.slice (Rect.unit (s := S2) (k1_off4 (grid1.coords t)) S1.size (k1_off4_inb (grid1.coords t) h0))).squeeze S_ squeezes_S1_S_ = cellA1_0 (Ring.sl 2 (ringStep1_0 t.val)) :=
  congrArg (fun A : DmaSems sig S1 => A.squeeze S_ squeezes_S1_S_) (SemArray.slice_unit_congr _ (coff1_0_8 t h0 h1 h2) _ _)
set_option synthInstance.maxSize 4096 in
theorem coff1_0_9 : ∀ t : Fin grid1.N, cond1_0 (grid1.coords t) → ¬cond1_1 (grid1.coords t) → cond1_2 (grid1.coords t) → k1_off2 (grid1.coords t) = ![(Ring.sl 2 ((ringStep1_0 t.val) + 1)).val, 0, 0] := by decide +kernel
@[sl_canon] theorem canon1_0_9 (t : Fin grid1.N) (h0 : cond1_0 (grid1.coords t)) (h1 : ¬cond1_1 (grid1.coords t)) (h2 : cond1_2 (grid1.coords t)) :
    (scM1_1.slice (Rect.unit (s := S2x1024x2048) (k1_off2 (grid1.coords t)) S1x1024x2048.size (k1_off2_inb (grid1.coords t) h0 h2)) (fun _ => rfl)).squeeze S1024x2048 squeezes_S1x1024x2048_S1024x2048 = rslot1_0 (Ring.sl 2 ((ringStep1_0 t.val) + 1)) :=
  congrArg (fun M : Memref sig .tc .vmem S1x1024x2048 .f32 => M.squeeze S1024x2048 squeezes_S1x1024x2048_S1024x2048) (Memref.slice_unit_congr _ (coff1_0_9 t h0 h1 h2) _ _ (fun _ => rfl) (fun _ => rfl))
set_option synthInstance.maxSize 4096 in
theorem coff1_0_10 : ∀ t : Fin grid1.N, cond1_0 (grid1.coords t) → ¬cond1_1 (grid1.coords t) → cond1_2 (grid1.coords t) → k1_off1 (grid1.coords t) = ![(Ring.sl 2 ((ringStep1_0 t.val) + 1)).val] := by decide +kernel
@[sl_canon] theorem canon1_0_10 (t : Fin grid1.N) (h0 : cond1_0 (grid1.coords t)) (h1 : ¬cond1_1 (grid1.coords t)) (h2 : cond1_2 (grid1.coords t)) :
    (cc1_scratch2.slice (Rect.unit (s := S2) (k1_off1 (grid1.coords t)) S1.size (k1_off1_inb (grid1.coords t) h0 h2))).squeeze S_ squeezes_S1_S_ = cellA1_0 (Ring.sl 2 ((ringStep1_0 t.val) + 1)) :=
  congrArg (fun A : DmaSems sig S1 => A.squeeze S_ squeezes_S1_S_) (SemArray.slice_unit_congr _ (coff1_0_10 t h0 h1 h2) _ _)
set_option synthInstance.maxSize 4096 in
theorem coff1_0_11 : ∀ t : Fin grid1.N, cond1_0 (grid1.coords t) → ¬cond1_1 (grid1.coords t) → cond1_2 (grid1.coords t) → k1_off3 (grid1.coords t) = ![1024 * (Ring.bk 15 ((ringStep1_0 t.val) + 1)).val + 1024, 0] := by decide +kernel
@[sl_canon] theorem canon1_0_11 (t : Fin grid1.N) (h0 : cond1_0 (grid1.coords t)) (h1 : ¬cond1_1 (grid1.coords t)) (h2 : cond1_2 (grid1.coords t)) :
    hbM1_0.slice (Rect.unit (s := S16384x2048) (k1_off3 (grid1.coords t)) S1024x2048.size (k1_off3_inb (grid1.coords t) h0 h2)) (fun _ => rfl) = srcB1_0 (Ring.bk 15 ((ringStep1_0 t.val) + 1)) :=
  congrArg (fun M : Memref sig .tc .hbm S1024x2048 .f32 => M) (Memref.slice_unit_congr _ (coff1_0_11 t h0 h1 h2) _ _ (fun _ => rfl) (fun _ => rfl))
set_option synthInstance.maxSize 4096 in
theorem coff1_0_12 : ∀ t : Fin grid1.N, cond1_0 (grid1.coords t) → ¬cond1_1 (grid1.coords t) → cond1_2 (grid1.coords t) → k1_off5 (grid1.coords t) = ![(Ring.sl 2 (ringStep1_0 t.val)).val, 0, 0] := by decide +kernel
@[sl_canon] theorem canon1_0_12 (t : Fin grid1.N) (h0 : cond1_0 (grid1.coords t)) (h1 : ¬cond1_1 (grid1.coords t)) (h2 : cond1_2 (grid1.coords t)) :
    (scM1_1.slice (Rect.unit (s := S2x1024x2048) (k1_off5 (grid1.coords t)) S1x1024x2048.size (k1_off5_inb (grid1.coords t) h0)) (fun _ => rfl)).squeeze S1024x2048 squeezes_S1x1024x2048_S1024x2048 = rslot1_0 (Ring.sl 2 (ringStep1_0 t.val)) :=
  congrArg (fun M : Memref sig .tc .vmem S1x1024x2048 .f32 => M.squeeze S1024x2048 squeezes_S1x1024x2048_S1024x2048) (Memref.slice_unit_congr _ (coff1_0_12 t h0 h1 h2) _ _ (fun _ => rfl) (fun _ => rfl))
set_option synthInstance.maxSize 4096 in
theorem coff1_0_13 : ∀ t : Fin grid1.N, cond1_0 (grid1.coords t) → ¬cond1_1 (grid1.coords t) → cond1_2 (grid1.coords t) → k1_off4 (grid1.coords t) = ![(Ring.sl 2 (ringStep1_0 t.val)).val] := by decide +kernel
@[sl_canon] theorem canon1_0_13 (t : Fin grid1.N) (h0 : cond1_0 (grid1.coords t)) (h1 : ¬cond1_1 (grid1.coords t)) (h2 : cond1_2 (grid1.coords t)) :
    (cc1_scratch2.slice (Rect.unit (s := S2) (k1_off4 (grid1.coords t)) S1.size (k1_off4_inb (grid1.coords t) h0))).squeeze S_ squeezes_S1_S_ = cellA1_0 (Ring.sl 2 (ringStep1_0 t.val)) :=
  congrArg (fun A : DmaSems sig S1 => A.squeeze S_ squeezes_S1_S_) (SemArray.slice_unit_congr _ (coff1_0_13 t h0 h1 h2) _ _)
set_option synthInstance.maxSize 4096 in
theorem coff1_0_14 : ∀ t : Fin grid1.N, cond1_0 (grid1.coords t) → ¬cond1_1 (grid1.coords t) → ¬cond1_2 (grid1.coords t) → k1_off5 (grid1.coords t) = ![(Ring.sl 2 (ringStep1_0 t.val)).val, 0, 0] := by decide +kernel
@[sl_canon] theorem canon1_0_14 (t : Fin grid1.N) (h0 : cond1_0 (grid1.coords t)) (h1 : ¬cond1_1 (grid1.coords t)) (h2 : ¬cond1_2 (grid1.coords t)) :
    (scM1_1.slice (Rect.unit (s := S2x1024x2048) (k1_off5 (grid1.coords t)) S1x1024x2048.size (k1_off5_inb (grid1.coords t) h0)) (fun _ => rfl)).squeeze S1024x2048 squeezes_S1x1024x2048_S1024x2048 = rslot1_0 (Ring.sl 2 (ringStep1_0 t.val)) :=
  congrArg (fun M : Memref sig .tc .vmem S1x1024x2048 .f32 => M.squeeze S1024x2048 squeezes_S1x1024x2048_S1024x2048) (Memref.slice_unit_congr _ (coff1_0_14 t h0 h1 h2) _ _ (fun _ => rfl) (fun _ => rfl))
set_option synthInstance.maxSize 4096 in
theorem coff1_0_15 : ∀ t : Fin grid1.N, cond1_0 (grid1.coords t) → ¬cond1_1 (grid1.coords t) → ¬cond1_2 (grid1.coords t) → k1_off4 (grid1.coords t) = ![(Ring.sl 2 (ringStep1_0 t.val)).val] := by decide +kernel
@[sl_canon] theorem canon1_0_15 (t : Fin grid1.N) (h0 : cond1_0 (grid1.coords t)) (h1 : ¬cond1_1 (grid1.coords t)) (h2 : ¬cond1_2 (grid1.coords t)) :
    (cc1_scratch2.slice (Rect.unit (s := S2) (k1_off4 (grid1.coords t)) S1.size (k1_off4_inb (grid1.coords t) h0))).squeeze S_ squeezes_S1_S_ = cellA1_0 (Ring.sl 2 (ringStep1_0 t.val)) :=
  congrArg (fun A : DmaSems sig S1 => A.squeeze S_ squeezes_S1_S_) (SemArray.slice_unit_congr _ (coff1_0_15 t h0 h1 h2) _ _)
end Canon1_0

end Cert.Proof.InProj

end
-- ==== Proof.Second.lean ====
/-
The second call of the input projection: the runs of its body, one row tile after another, with what it leaves in every
buffer stated.
-/
module

public import proofs.«01_k».proof.Proof.Ring

@[expose] public section

set_option maxRecDepth 16384

noncomputable section

namespace Cert.Proof.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- Row tile `b` of the streamed operand: what the transfer of block `b` carries. -/
def tile1 (c : Dev nD) (W : HbBuf1 (F := F) c hbM1_0) (b : Fin 15) : Vec F S1024x2048 .f32 := (srcB1_0 b).view.read (Elt F) W

/-- A load of one chunk of a slot in which block `b` landed reads the chunk's rows of the block. -/
theorem readAt_landed (c : Dev nD) (W : HbBuf1 (F := F) c hbM1_0) (s : Fin 2) (b : Fin 15) (f : HbBuf1 (F := F) c (rslot1_0 s))
    (k : Fin 8) {o : ℕ} (ho : o = 128 * k.val) (inb : ∀ a, (![o, 0] : Fin 2 → ℕ) a + S128x2048.size a ≤ S1024x2048.size a) :
    (rslot1_0 s).view.readAt (Elt F) (Rect.unit (s := S1024x2048) ![o, 0] S128x2048.size inb).toLoadRect (landed1_0 c W s b f)
      = rowsOf (tile1 c W b) k := by
  funext z
  exact (congrFun (View.read_writes_whole (rslot1_0 s).view f _) _).trans (congrArg (tile1 c W b) (emb_chunk k ho inb z))

/-! Each chunk's chain is the same. -/

theorem pay1_0 : @k1_pay2 F _ = k0_pay6 := by
  funext a b
  unfold k0_pay6
  dsimp only
  rw [shapeCast_self a]
  rfl
theorem pay1_1 : @k1_pay3 F _ = k0_pay6 := (show @k1_pay3 F _ = k1_pay2 from rfl).trans pay1_0
theorem pay1_2 : (fun a b => k1_pay5 (F := F) (k1_pay4 a b)) = k0_pay6 := (show (fun a b => k1_pay5 (F := F) (k1_pay4 a b)) = k1_pay2 from rfl).trans pay1_0
theorem pay1_3 : @k1_pay6 F _ = k0_pay6 := (show @k1_pay6 F _ = k1_pay2 from rfl).trans pay1_0
theorem pay1_4 : (fun a b => k1_pay8 (F := F) (k1_pay7 a) b) = k0_pay6 := (show (fun a b => k1_pay8 (F := F) (k1_pay7 a) b) = k1_pay2 from rfl).trans pay1_0
theorem pay1_5 : @k1_pay9 F _ = k0_pay6 := (show @k1_pay9 F _ = k1_pay2 from rfl).trans pay1_0
theorem pay1_6 : (fun a b => k1_pay12 (F := F) a (k1_pay10 a) b) = k0_pay6 := (show (fun a b => k1_pay12 (F := F) a (k1_pay10 a) b) = k1_pay2 from rfl).trans pay1_0
theorem pay1_7 : @k1_pay13 F _ = k0_pay6 := (show @k1_pay13 F _ = k1_pay2 from rfl).trans pay1_0

set_option maxHeartbeats 1000000 in
/-- The body away from the first column tile (the ring untouched). -/
theorem run1_B (c : Dev nD) (t : Fin cfg1.N) (arg3 : Memref sig .tc .vmem S1x2048 .f32) (harg3 : arg3.IsWhole) (arg4 : Memref sig .tc .vmem S2048x1024 .bf16) (harg4 : arg4.IsWhole) (arg5 : Memref sig .tc .vmem S1x1024 .f32) (harg5 : arg5.IsWhole) (arg8 : Memref sig .tc .vmem S16x11264 .f32) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S16x11264 .bf16) (harg11 : arg11.IsWhole) (arg12 : Memref sig .tc .vmem S1024x2048 .bf16) (harg12 : arg12.IsWhole) (hc0 : ¬cond1_0 (grid1.coords t))
    (x0 : Vec F S1x2048 .f32) (x1 : Vec F S2048x1024 .bf16) (x2 : Vec F S1x1024 .f32) (x3 : Vec F S16x11264 .f32) (d : Vec F S1024x1024 .f32) (h : Vec F S1024x2048 .bf16) (fh0 : HbBuf1 (F := F) c hbM1_0) (fh1 : HbBuf1 (F := F) c hbM1_1) (fh2 : HbBuf1 (F := F) c hbM1_2) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg8 fullShare x3 ∗ (∃ d, owns (c : Thread nD τ) arg9 fullShare d) ∗ owns (c : Thread nD τ) arg10 fullShare d ∗ (∃ d, owns (c : Thread nD τ) arg11 fullShare d) ∗ owns (c : Thread nD τ) arg12 fullShare h ∗ hbPt1 c hbM1_1 fh1 ∗ hbPt1 c hbM1_2 fh2 ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg8 fullShare x3 ∗ owns (c : Thread nD τ) arg9 fullShare (k1_pay15 x1 h x2) ∗ owns (c : Thread nD τ) arg10 fullShare (maskSel (k1_pay16 (grid1.coords t)) (k1_pay14 x1 h) d) ∗ owns (c : Thread nD τ) arg11 fullShare (k1_pay11 x3) ∗ owns (c : Thread nD τ) arg12 fullShare h ∗ hbPt1 c hbM1_1 fh1 ∗ hbPt1 c hbM1_2 fh2 ∗ (∃ W', owes (c : Thread nD τ) 0 W')) -∗ K ⟨⟩))
          ⊢ wp frame (wpE (defs₀ (F := F)) Variants.none c none) Set.univ (cc1_in_proj (grid1.coords t) (Memref.whole main_v0) (Memref.isWhole_whole _) arg3 harg3 arg4 harg4 arg5 harg5 (Memref.whole main_v5_0) (Memref.isWhole_whole _) (Memref.whole main_v5_1) (Memref.isWhole_whole _) arg8 harg8 arg9 harg9 arg10 harg10 arg11 harg11 arg12 harg12 scM1_1 (Memref.isWhole_whole _) cc1_scratch2) K := by
    intro W K
    haveI : Fact (¬cond1_0 (grid1.coords t)) := ⟨hc0⟩
    simp only [cc1_in_proj_eq_skeleton]; unfold cc1_in_proj_skel
    simp only [k1_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%fs0, %hfs0, HS0⟩, Hh1, Hh2, HW, Hk⟩
    obtain rfl := harg3.eq_unread hf0; obtain rfl := harg4.eq_unread hf1; obtain rfl := harg5.eq_unread hf2; obtain rfl := harg8.eq_unread hf3
    obtain rfl := harg10.eq_unread hf5; obtain rfl := harg12.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg8.read_unread _
      iexact H3
    isplitl [H4]
    · iexists _; isplitr; swap; · iexact H4
      ipureintro
      rw [View.read_writes_full, readAt_all harg4, readAt_all harg12, readAt_all harg5]
    isplitl [H5]
    · iexists _; isplitr; swap; · iexact H5
      ipureintro
      refine (read_mask_whole arg10.view _ _ _ d _ (harg10.read_unread d)).trans ?_
      unfold run1_B.sl.r run1_B.sl.r_1 k1_pay1 k1_pay17
      rw [readAt_all harg4, readAt_all harg12, shapeCast_self, shapeCast_self]
    isplitl [H6]
    · iexists _; isplitr; swap; · iexact H6
      ipureintro
      rw [View.read_writes_full, readAt_all harg8]
    isplitl [HS0]
    · iexists _; isplitr; swap; · iexact HS0
      ipureintro; exact harg12.read_unread _
    isplitl [Hh1]; · iexact Hh1
    isplitl [Hh2]; · iexact Hh2
    iexists _; iexact HW

set_option maxHeartbeats 1000000 in
/-- The body at the first column tile of the last row tile (its transfer waited). -/
theorem run1_D (c : Dev nD) (t : Fin cfg1.N) (arg3 : Memref sig .tc .vmem S1x2048 .f32) (harg3 : arg3.IsWhole) (arg4 : Memref sig .tc .vmem S2048x1024 .bf16) (harg4 : arg4.IsWhole) (arg5 : Memref sig .tc .vmem S1x1024 .f32) (harg5 : arg5.IsWhole) (arg8 : Memref sig .tc .vmem S16x11264 .f32) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S16x11264 .bf16) (harg11 : arg11.IsWhole) (arg12 : Memref sig .tc .vmem S1024x2048 .bf16) (harg12 : arg12.IsWhole) (hc0 : cond1_0 (grid1.coords t)) (hc1 : ¬cond1_1 (grid1.coords t)) (hc2 : ¬cond1_2 (grid1.coords t))
    (x0 : Vec F S1x2048 .f32) (x1 : Vec F S2048x1024 .bf16) (x2 : Vec F S1x1024 .f32) (x3 : Vec F S16x11264 .f32) (d : Vec F S1024x1024 .f32) (fh0 : HbBuf1 (F := F) c hbM1_0) (fh1 : HbBuf1 (F := F) c hbM1_1) (fh2 : HbBuf1 (F := F) c hbM1_2) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg8 fullShare x3 ∗ (∃ d, owns (c : Thread nD τ) arg9 fullShare d) ∗ owns (c : Thread nD τ) arg10 fullShare d ∗ (∃ d, owns (c : Thread nD τ) arg11 fullShare d) ∗ (∃ d, owns (c : Thread nD τ) arg12 fullShare d) ∗ hbPt1 c hbM1_1 fh1 ∗ hbPt1 c hbM1_2 fh2 ∗ Ring.inflight (flightW1_0 c fh0) (Ring.sl 2 (ringStep1_0 t.val)) (Ring.bk 15 (ringStep1_0 t.val)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg8 fullShare x3 ∗ owns (c : Thread nD τ) arg9 fullShare (k1_pay15 x1 (hval (tile1 c fh0 (Ring.bk 15 (ringStep1_0 t.val))) x0) x2) ∗ owns (c : Thread nD τ) arg10 fullShare (maskSel (k1_pay16 (grid1.coords t)) (k1_pay14 x1 (hval (tile1 c fh0 (Ring.bk 15 (ringStep1_0 t.val))) x0)) d) ∗ owns (c : Thread nD τ) arg11 fullShare (k1_pay11 x3) ∗ owns (c : Thread nD τ) arg12 fullShare (hval (tile1 c fh0 (Ring.bk 15 (ringStep1_0 t.val))) x0) ∗ hbPt1 c hbM1_1 fh1 ∗ hbPt1 c hbM1_2 fh2 ∗ Ring.kept (cellP1_0 c) (slotW1_0 c fh0) (landed1_0 c fh0) (Ring.sl 2 (ringStep1_0 t.val)) (Ring.bk 15 (ringStep1_0 t.val)) ∗ (∃ W', owes (c : Thread nD τ) 0 W')) -∗ K ⟨⟩))
          ⊢ wp frame (wpE (defs₀ (F := F)) Variants.none c none) Set.univ (cc1_in_proj (grid1.coords t) (Memref.whole main_v0) (Memref.isWhole_whole _) arg3 harg3 arg4 harg4 arg5 harg5 (Memref.whole main_v5_0) (Memref.isWhole_whole _) (Memref.whole main_v5_1) (Memref.isWhole_whole _) arg8 harg8 arg9 harg9 arg10 harg10 arg11 harg11 arg12 harg12 scM1_1 (Memref.isWhole_whole _) cc1_scratch2) K := by
    intro W K
    haveI : Fact (cond1_0 (grid1.coords t)) := ⟨hc0⟩
    haveI : Fact (¬cond1_1 (grid1.coords t)) := ⟨hc1⟩
    haveI : Fact (¬cond1_2 (grid1.coords t)) := ⟨hc2⟩
    simp only [cc1_in_proj_eq_skeleton]; unfold cc1_in_proj_skel
    simp only [k1_part5_eq_skeleton, k1_part1_eq_skeleton, k1_part2_eq_skeleton, k1_part3_eq_skeleton, k1_part4_eq_skeleton]
    have hcanon0 := canon1_0_14 t hc0 hc1 hc2
    unfold owns Ring.inflight Ring.kept
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%ds0, %fs0, -, HS0⟩, Hh1, Hh2, ⟨%ff, Hf, Hrf⟩, HW, Hk⟩
    obtain rfl := harg3.eq_unread hf0; obtain rfl := harg4.eq_unread hf1; obtain rfl := harg5.eq_unread hf2; obtain rfl := harg8.eq_unread hf3
    obtain rfl := harg10.eq_unread hf5
    sl_exec (disch := first | sl_exact hc0 | sl_exact hc1 | sl_exact hc2)
    sl_step
    have hscr : ∀ f, View.read (Elt F) arg12.view (arg12.view.writes (Elt F) f (run1_D.sl.HS0_8 c t arg3 harg3 x0 fh0)) = hval (tile1 c fh0 (Ring.bk 15 (ringStep1_0 t.val))) x0 := by
      intro f
      have l0 : run1_D.sl.v49 c t fh0 = rowsOf (tile1 c fh0 (Ring.bk 15 (ringStep1_0 t.val))) 0 := by unfold run1_D.sl.v49; exact readAt_landed c fh0 _ _ _ 0 rfl (by decide)
      have l1 : run1_D.sl.v70 c t fh0 = rowsOf (tile1 c fh0 (Ring.bk 15 (ringStep1_0 t.val))) 1 := by unfold run1_D.sl.v70; exact readAt_landed c fh0 _ _ _ 1 rfl (by decide)
      have l2 : run1_D.sl.v91 c t fh0 = rowsOf (tile1 c fh0 (Ring.bk 15 (ringStep1_0 t.val))) 2 := by unfold run1_D.sl.v91; exact readAt_landed c fh0 _ _ _ 2 rfl (by decide)
      have l3 : run1_D.sl.v112 c t fh0 = rowsOf (tile1 c fh0 (Ring.bk 15 (ringStep1_0 t.val))) 3 := by unfold run1_D.sl.v112; exact readAt_landed c fh0 _ _ _ 3 rfl (by decide)
      have l4 : run1_D.sl.v133 c t fh0 = rowsOf (tile1 c fh0 (Ring.bk 15 (ringStep1_0 t.val))) 4 := by unfold run1_D.sl.v133; exact readAt_landed c fh0 _ _ _ 4 rfl (by decide)
      have l5 : run1_D.sl.v154 c t fh0 = rowsOf (tile1 c fh0 (Ring.bk 15 (ringStep1_0 t.val))) 5 := by unfold run1_D.sl.v154; exact readAt_landed c fh0 _ _ _ 5 rfl (by decide)
      have l6 : run1_D.sl.v175 c t fh0 = rowsOf (tile1 c fh0 (Ring.bk 15 (ringStep1_0 t.val))) 6 := by unfold run1_D.sl.v175; exact readAt_landed c fh0 _ _ _ 6 rfl (by decide)
      have l7 : run1_D.sl.v196 c t fh0 = rowsOf (tile1 c fh0 (Ring.bk 15 (ringStep1_0 t.val))) 7 := by unfold run1_D.sl.v196; exact readAt_landed c fh0 _ _ _ 7 rfl (by decide)
      have hg := readAt_all harg3 x0 (off := ![0, 0]) inb_S1x2048_S1x2048_0_0
      refine read_chunks _ _ _ _ _ ?_ (View.cover_of_tiledL _ S128x2048.size (by sl_kernel_rfl))
      unfold run1_D.sl.HS0_8 run1_D.sl.r_3 run1_D.sl.r_2 run1_D.sl.r_1 run1_D.sl.r
      refine List.forall_mem_cons.mpr ⟨fun x => piece_load (pay := k1_pay13) (by exact pay1_7) 7 rfl (by decide) (by exact l7) (by exact hg) x, ?_⟩
      refine List.forall_mem_cons.mpr ⟨fun x => piece_load (pay := fun a b => k1_pay12 a (k1_pay10 a) b) (by exact pay1_6) 6 rfl (by decide) (by exact l6) (by exact hg) x, ?_⟩
      refine List.forall_mem_cons.mpr ⟨fun x => piece_load (pay := k1_pay9) (by exact pay1_5) 5 rfl (by decide) (by exact l5) (by exact hg) x, ?_⟩
      refine List.forall_mem_cons.mpr ⟨fun x => piece_load (pay := fun a b => k1_pay8 (k1_pay7 a) b) (by exact pay1_4) 4 rfl (by decide) (by exact l4) (by exact hg) x, ?_⟩
      refine List.forall_mem_cons.mpr ⟨fun x => piece_load (pay := k1_pay6) (by exact pay1_3) 3 rfl (by decide) (by exact l3) (by exact hg) x, ?_⟩
      refine List.forall_mem_cons.mpr ⟨fun x => piece_load (pay := fun a b => k1_pay5 (k1_pay4 a b)) (by exact pay1_2) 2 rfl (by decide) (by exact l2) (by exact hg) x, ?_⟩
      refine List.forall_mem_cons.mpr ⟨fun x => piece_load (pay := k1_pay3) (by exact pay1_1) 1 rfl (by decide) (by exact l1) (by exact hg) x, ?_⟩
      refine List.forall_mem_cons.mpr ⟨fun x => piece_load (pay := k1_pay2) (by exact pay1_0) 0 rfl (by decide) (by exact l0) (by exact hg) x, ?_⟩
      exact fun _ h => absurd h List.not_mem_nil
    have hv : run1_D.sl.v19 c t arg3 harg3 arg12 x0 fh0 = hval (tile1 c fh0 (Ring.bk 15 (ringStep1_0 t.val))) x0 := by
      unfold run1_D.sl.v19
      exact (View.readAt_full arg12.view _ _).trans (hscr _)
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg8.read_unread _
      iexact H3
    isplitl [H4]
    · iexists _; isplitr; swap; · iexact H4
      ipureintro
      rw [View.read_writes_full, readAt_all harg4, hv, readAt_all harg5]
    isplitl [H5]
    · iexists _; isplitr; swap; · iexact H5
      ipureintro
      refine (read_mask_whole arg10.view _ _ _ d _ (harg10.read_unread d)).trans ?_
      unfold run1_D.sl.r_4 run1_D.sl.r_5 k1_pay1 k1_pay17
      rw [readAt_all harg4, hv, shapeCast_self, shapeCast_self]
    isplitl [H6]
    · iexists _; isplitr; swap; · iexact H6
      ipureintro
      rw [View.read_writes_full, readAt_all harg8]
    isplitl [HS0]
    · iexists _; isplitr; swap; · iexact HS0
      ipureintro; exact hscr fs0
    isplitl [Hh1]; · iexact Hh1
    isplitl [Hh2]; · iexact Hh2
    isplitl [Hf Hf_dst Hf_src Hrf]
    · isplitl [Hf]; · iexact Hf
      iexists _; isplitl [Hf_dst]; · iexact Hf_dst
      iapply (src1_0_split c fh0 (Ring.sl 2 (ringStep1_0 t.val)) (Ring.bk 15 (ringStep1_0 t.val))).2; isplitl [Hf_src]; · iexact Hf_src
      iexact Hrf
    iexists _; iexact HW

set_option maxHeartbeats 1000000 in
/-- The body at the first column tile of a middle row tile (the next transfer started, this one waited). -/
theorem run1_C (c : Dev nD) (t : Fin cfg1.N) (arg3 : Memref sig .tc .vmem S1x2048 .f32) (harg3 : arg3.IsWhole) (arg4 : Memref sig .tc .vmem S2048x1024 .bf16) (harg4 : arg4.IsWhole) (arg5 : Memref sig .tc .vmem S1x1024 .f32) (harg5 : arg5.IsWhole) (arg8 : Memref sig .tc .vmem S16x11264 .f32) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S16x11264 .bf16) (harg11 : arg11.IsWhole) (arg12 : Memref sig .tc .vmem S1024x2048 .bf16) (harg12 : arg12.IsWhole) (hc0 : cond1_0 (grid1.coords t)) (hc1 : ¬cond1_1 (grid1.coords t)) (hc2 : cond1_2 (grid1.coords t))
    (x0 : Vec F S1x2048 .f32) (x1 : Vec F S2048x1024 .bf16) (x2 : Vec F S1x1024 .f32) (x3 : Vec F S16x11264 .f32) (d : Vec F S1024x1024 .f32) (fh0 : HbBuf1 (F := F) c hbM1_0) (fh1 : HbBuf1 (F := F) c hbM1_1) (fh2 : HbBuf1 (F := F) c hbM1_2) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg8 fullShare x3 ∗ (∃ d, owns (c : Thread nD τ) arg9 fullShare d) ∗ owns (c : Thread nD τ) arg10 fullShare d ∗ (∃ d, owns (c : Thread nD τ) arg11 fullShare d) ∗ (∃ d, owns (c : Thread nD τ) arg12 fullShare d) ∗ hbPt1 c hbM1_1 fh1 ∗ hbPt1 c hbM1_2 fh2 ∗ Ring.inflight (flightW1_0 c fh0) (Ring.sl 2 (ringStep1_0 t.val)) (Ring.bk 15 (ringStep1_0 t.val)) ∗ Ring.kept (cellP1_0 c) (slotW1_0 c fh0) (landed1_0 c fh0) (Ring.sl 2 ((ringStep1_0 t.val) + 1)) (Ring.bk 15 ((ringStep1_0 t.val) - 1)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg8 fullShare x3 ∗ owns (c : Thread nD τ) arg9 fullShare (k1_pay15 x1 (hval (tile1 c fh0 (Ring.bk 15 (ringStep1_0 t.val))) x0) x2) ∗ owns (c : Thread nD τ) arg10 fullShare (maskSel (k1_pay16 (grid1.coords t)) (k1_pay14 x1 (hval (tile1 c fh0 (Ring.bk 15 (ringStep1_0 t.val))) x0)) d) ∗ owns (c : Thread nD τ) arg11 fullShare (k1_pay11 x3) ∗ owns (c : Thread nD τ) arg12 fullShare (hval (tile1 c fh0 (Ring.bk 15 (ringStep1_0 t.val))) x0) ∗ hbPt1 c hbM1_1 fh1 ∗ hbPt1 c hbM1_2 fh2 ∗ Ring.inflight (flightW1_0 c fh0) (Ring.sl 2 ((ringStep1_0 t.val) + 1)) (Ring.bk 15 ((ringStep1_0 t.val) + 1)) ∗ Ring.kept (cellP1_0 c) (slotW1_0 c fh0) (landed1_0 c fh0) (Ring.sl 2 (ringStep1_0 t.val)) (Ring.bk 15 (ringStep1_0 t.val)) ∗ (∃ W', owes (c : Thread nD τ) 0 W')) -∗ K ⟨⟩))
          ⊢ wp frame (wpE (defs₀ (F := F)) Variants.none c none) Set.univ (cc1_in_proj (grid1.coords t) (Memref.whole main_v0) (Memref.isWhole_whole _) arg3 harg3 arg4 harg4 arg5 harg5 (Memref.whole main_v5_0) (Memref.isWhole_whole _) (Memref.whole main_v5_1) (Memref.isWhole_whole _) arg8 harg8 arg9 harg9 arg10 harg10 arg11 harg11 arg12 harg12 scM1_1 (Memref.isWhole_whole _) cc1_scratch2) K := by
    intro W K
    haveI : Fact (cond1_0 (grid1.coords t)) := ⟨hc0⟩
    haveI : Fact (¬cond1_1 (grid1.coords t)) := ⟨hc1⟩
    haveI : Fact (cond1_2 (grid1.coords t)) := ⟨hc2⟩
    simp only [cc1_in_proj_eq_skeleton]; unfold cc1_in_proj_skel
    simp only [k1_part5_eq_skeleton, k1_part1_eq_skeleton, k1_part2_eq_skeleton, k1_part3_eq_skeleton, k1_part4_eq_skeleton]
    have hcanon0 := canon1_0_12 t hc0 hc1 hc2
    unfold owns Ring.inflight Ring.kept
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%ds0, %fs0, -, HS0⟩, Hh1, Hh2, ⟨%ff, Hf, Hrf⟩, ⟨Hc1, ⟨%fr1, Hs1, Hw1⟩⟩, HW, Hk⟩
    ihave Hsp1 := (src1_0_split c fh0 (Ring.sl 2 ((ringStep1_0 t.val) + 1)) (Ring.bk 15 ((ringStep1_0 t.val) + 1))).1 $$ Hw1
    icases Hsp1 with ⟨Hh0_1, Hr1⟩
    obtain rfl := harg3.eq_unread hf0; obtain rfl := harg4.eq_unread hf1; obtain rfl := harg5.eq_unread hf2; obtain rfl := harg8.eq_unread hf3
    obtain rfl := harg10.eq_unread hf5
    sl_exec (disch := first | sl_exact hc0 | sl_exact hc1 | sl_exact hc2)
    sl_step
    have hscr : ∀ f, View.read (Elt F) arg12.view (arg12.view.writes (Elt F) f (run1_C.sl.HS0_8 c t arg3 harg3 x0 fh0)) = hval (tile1 c fh0 (Ring.bk 15 (ringStep1_0 t.val))) x0 := by
      intro f
      have l0 : run1_C.sl.v49 c t fh0 = rowsOf (tile1 c fh0 (Ring.bk 15 (ringStep1_0 t.val))) 0 := by unfold run1_C.sl.v49; exact readAt_landed c fh0 _ _ _ 0 rfl (by decide)
      have l1 : run1_C.sl.v70 c t fh0 = rowsOf (tile1 c fh0 (Ring.bk 15 (ringStep1_0 t.val))) 1 := by unfold run1_C.sl.v70; exact readAt_landed c fh0 _ _ _ 1 rfl (by decide)
      have l2 : run1_C.sl.v91 c t fh0 = rowsOf (tile1 c fh0 (Ring.bk 15 (ringStep1_0 t.val))) 2 := by unfold run1_C.sl.v91; exact readAt_landed c fh0 _ _ _ 2 rfl (by decide)
      have l3 : run1_C.sl.v112 c t fh0 = rowsOf (tile1 c fh0 (Ring.bk 15 (ringStep1_0 t.val))) 3 := by unfold run1_C.sl.v112; exact readAt_landed c fh0 _ _ _ 3 rfl (by decide)
      have l4 : run1_C.sl.v133 c t fh0 = rowsOf (tile1 c fh0 (Ring.bk 15 (ringStep1_0 t.val))) 4 := by unfold run1_C.sl.v133; exact readAt_landed c fh0 _ _ _ 4 rfl (by decide)
      have l5 : run1_C.sl.v154 c t fh0 = rowsOf (tile1 c fh0 (Ring.bk 15 (ringStep1_0 t.val))) 5 := by unfold run1_C.sl.v154; exact readAt_landed c fh0 _ _ _ 5 rfl (by decide)
      have l6 : run1_C.sl.v175 c t fh0 = rowsOf (tile1 c fh0 (Ring.bk 15 (ringStep1_0 t.val))) 6 := by unfold run1_C.sl.v175; exact readAt_landed c fh0 _ _ _ 6 rfl (by decide)
      have l7 : run1_C.sl.v196 c t fh0 = rowsOf (tile1 c fh0 (Ring.bk 15 (ringStep1_0 t.val))) 7 := by unfold run1_C.sl.v196; exact readAt_landed c fh0 _ _ _ 7 rfl (by decide)
      have hg := readAt_all harg3 x0 (off := ![0, 0]) inb_S1x2048_S1x2048_0_0
      refine read_chunks _ _ _ _ _ ?_ (View.cover_of_tiledL _ S128x2048.size (by sl_kernel_rfl))
      unfold run1_C.sl.HS0_8 run1_C.sl.r_3 run1_C.sl.r_2 run1_C.sl.r_1 run1_C.sl.r
      refine List.forall_mem_cons.mpr ⟨fun x => piece_load (pay := k1_pay13) (by exact pay1_7) 7 rfl (by decide) (by exact l7) (by exact hg) x, ?_⟩
      refine List.forall_mem_cons.mpr ⟨fun x => piece_load (pay := fun a b => k1_pay12 a (k1_pay10 a) b) (by exact pay1_6) 6 rfl (by decide) (by exact l6) (by exact hg) x, ?_⟩
      refine List.forall_mem_cons.mpr ⟨fun x => piece_load (pay := k1_pay9) (by exact pay1_5) 5 rfl (by decide) (by exact l5) (by exact hg) x, ?_⟩
      refine List.forall_mem_cons.mpr ⟨fun x => piece_load (pay := fun a b => k1_pay8 (k1_pay7 a) b) (by exact pay1_4) 4 rfl (by decide) (by exact l4) (by exact hg) x, ?_⟩
      refine List.forall_mem_cons.mpr ⟨fun x => piece_load (pay := k1_pay6) (by exact pay1_3) 3 rfl (by decide) (by exact l3) (by exact hg) x, ?_⟩
      refine List.forall_mem_cons.mpr ⟨fun x => piece_load (pay := fun a b => k1_pay5 (k1_pay4 a b)) (by exact pay1_2) 2 rfl (by decide) (by exact l2) (by exact hg) x, ?_⟩
      refine List.forall_mem_cons.mpr ⟨fun x => piece_load (pay := k1_pay3) (by exact pay1_1) 1 rfl (by decide) (by exact l1) (by exact hg) x, ?_⟩
      refine List.forall_mem_cons.mpr ⟨fun x => piece_load (pay := k1_pay2) (by exact pay1_0) 0 rfl (by decide) (by exact l0) (by exact hg) x, ?_⟩
      exact fun _ h => absurd h List.not_mem_nil
    have hv : run1_C.sl.v19 c t arg3 harg3 arg12 x0 fh0 = hval (tile1 c fh0 (Ring.bk 15 (ringStep1_0 t.val))) x0 := by
      unfold run1_C.sl.v19
      exact (View.readAt_full arg12.view _ _).trans (hscr _)
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg8.read_unread _
      iexact H3
    isplitl [H4]
    · iexists _; isplitr; swap; · iexact H4
      ipureintro
      rw [View.read_writes_full, readAt_all harg4, hv, readAt_all harg5]
    isplitl [H5]
    · iexists _; isplitr; swap; · iexact H5
      ipureintro
      refine (read_mask_whole arg10.view _ _ _ d _ (harg10.read_unread d)).trans ?_
      unfold run1_C.sl.r_4 run1_C.sl.r_5 k1_pay1 k1_pay17
      rw [readAt_all harg4, hv, shapeCast_self, shapeCast_self]
    isplitl [H6]
    · iexists _; isplitr; swap; · iexact H6
      ipureintro
      rw [View.read_writes_full, readAt_all harg8]
    isplitl [HS0]
    · iexists _; isplitr; swap; · iexact HS0
      ipureintro; exact hscr fs0
    isplitl [Hh1]; · iexact Hh1
    isplitl [Hh2]; · iexact Hh2
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (src1_0_split c fh0 (Ring.sl 2 (ringStep1_0 t.val)) (Ring.bk 15 (ringStep1_0 t.val))).2; isplitl [Hf_src]; · iexact Hf_src
      iexact Hrf
    iexists _; iexact HW

set_option maxHeartbeats 1000000 in
/-- The body at the first point of the first row tile (both transfers started, the first waited). -/
theorem run1_A (c : Dev nD) (t : Fin cfg1.N) (arg3 : Memref sig .tc .vmem S1x2048 .f32) (harg3 : arg3.IsWhole) (arg4 : Memref sig .tc .vmem S2048x1024 .bf16) (harg4 : arg4.IsWhole) (arg5 : Memref sig .tc .vmem S1x1024 .f32) (harg5 : arg5.IsWhole) (arg8 : Memref sig .tc .vmem S16x11264 .f32) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S16x11264 .bf16) (harg11 : arg11.IsWhole) (arg12 : Memref sig .tc .vmem S1024x2048 .bf16) (harg12 : arg12.IsWhole) (hc0 : cond1_0 (grid1.coords t)) (hc1 : cond1_1 (grid1.coords t)) (hc2 : cond1_2 (grid1.coords t))
    (x0 : Vec F S1x2048 .f32) (x1 : Vec F S2048x1024 .bf16) (x2 : Vec F S1x1024 .f32) (x3 : Vec F S16x11264 .f32) (d : Vec F S1024x1024 .f32) (fh0 : HbBuf1 (F := F) c hbM1_0) (fh1 : HbBuf1 (F := F) c hbM1_1) (fh2 : HbBuf1 (F := F) c hbM1_2) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg8 fullShare x3 ∗ (∃ d, owns (c : Thread nD τ) arg9 fullShare d) ∗ owns (c : Thread nD τ) arg10 fullShare d ∗ (∃ d, owns (c : Thread nD τ) arg11 fullShare d) ∗ (∃ d, owns (c : Thread nD τ) arg12 fullShare d) ∗ hbPt1 c hbM1_1 fh1 ∗ hbPt1 c hbM1_2 fh2 ∗ Ring.free (cellP1_0 c) (slotW1_0 c fh0) (Ring.sl 2 (ringStep1_0 t.val)) ∗ Ring.free (cellP1_0 c) (slotW1_0 c fh0) (Ring.sl 2 ((ringStep1_0 t.val) + 1)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg8 fullShare x3 ∗ owns (c : Thread nD τ) arg9 fullShare (k1_pay15 x1 (hval (tile1 c fh0 (Ring.bk 15 (ringStep1_0 t.val))) x0) x2) ∗ owns (c : Thread nD τ) arg10 fullShare (maskSel (k1_pay16 (grid1.coords t)) (k1_pay14 x1 (hval (tile1 c fh0 (Ring.bk 15 (ringStep1_0 t.val))) x0)) d) ∗ owns (c : Thread nD τ) arg11 fullShare (k1_pay11 x3) ∗ owns (c : Thread nD τ) arg12 fullShare (hval (tile1 c fh0 (Ring.bk 15 (ringStep1_0 t.val))) x0) ∗ hbPt1 c hbM1_1 fh1 ∗ hbPt1 c hbM1_2 fh2 ∗ Ring.inflight (flightW1_0 c fh0) (Ring.sl 2 ((ringStep1_0 t.val) + 1)) (Ring.bk 15 ((ringStep1_0 t.val) + 1)) ∗ Ring.kept (cellP1_0 c) (slotW1_0 c fh0) (landed1_0 c fh0) (Ring.sl 2 (ringStep1_0 t.val)) (Ring.bk 15 (ringStep1_0 t.val)) ∗ (∃ W', owes (c : Thread nD τ) 0 W')) -∗ K ⟨⟩))
          ⊢ wp frame (wpE (defs₀ (F := F)) Variants.none c none) Set.univ (cc1_in_proj (grid1.coords t) (Memref.whole main_v0) (Memref.isWhole_whole _) arg3 harg3 arg4 harg4 arg5 harg5 (Memref.whole main_v5_0) (Memref.isWhole_whole _) (Memref.whole main_v5_1) (Memref.isWhole_whole _) arg8 harg8 arg9 harg9 arg10 harg10 arg11 harg11 arg12 harg12 scM1_1 (Memref.isWhole_whole _) cc1_scratch2) K := by
    intro W K
    haveI : Fact (cond1_0 (grid1.coords t)) := ⟨hc0⟩
    haveI : Fact (cond1_1 (grid1.coords t)) := ⟨hc1⟩
    haveI : Fact (cond1_2 (grid1.coords t)) := ⟨hc2⟩
    simp only [cc1_in_proj_eq_skeleton]; unfold cc1_in_proj_skel
    simp only [k1_part5_eq_skeleton, k1_part1_eq_skeleton, k1_part2_eq_skeleton, k1_part3_eq_skeleton, k1_part4_eq_skeleton]
    have hcanon0 := canon1_0_7 t hc0 hc1 hc2
    unfold owns Ring.free Ring.inflight Ring.kept
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%ds0, %fs0, -, HS0⟩, Hh1, Hh2, ⟨Hc0, ⟨%fr0, Hs0, Hw0⟩⟩, ⟨Hc1, ⟨%fr1, Hs1, Hw1⟩⟩, HW, Hk⟩
    ihave Hsp0 := (src1_0_split c fh0 (Ring.sl 2 (ringStep1_0 t.val)) (Ring.bk 15 (ringStep1_0 t.val))).1 $$ Hw0
    icases Hsp0 with ⟨Hh0_0, Hr0⟩
    ihave Hsp1 := (src1_0_split c fh0 (Ring.sl 2 ((ringStep1_0 t.val) + 1)) (Ring.bk 15 ((ringStep1_0 t.val) + 1))).1 $$ Hw1
    icases Hsp1 with ⟨Hh0_1, Hr1⟩
    obtain rfl := harg3.eq_unread hf0; obtain rfl := harg4.eq_unread hf1; obtain rfl := harg5.eq_unread hf2; obtain rfl := harg8.eq_unread hf3
    obtain rfl := harg10.eq_unread hf5
    sl_exec (disch := first | sl_exact hc0 | sl_exact hc1 | sl_exact hc2)
    sl_step
    have hscr : ∀ f, View.read (Elt F) arg12.view (arg12.view.writes (Elt F) f (run1_A.sl.HS0_8 c t arg3 harg3 x0 fh0)) = hval (tile1 c fh0 (Ring.bk 15 (ringStep1_0 t.val))) x0 := by
      intro f
      have l0 : run1_A.sl.v49 c t fh0 = rowsOf (tile1 c fh0 (Ring.bk 15 (ringStep1_0 t.val))) 0 := by unfold run1_A.sl.v49; exact readAt_landed c fh0 _ _ _ 0 rfl (by decide)
      have l1 : run1_A.sl.v70 c t fh0 = rowsOf (tile1 c fh0 (Ring.bk 15 (ringStep1_0 t.val))) 1 := by unfold run1_A.sl.v70; exact readAt_landed c fh0 _ _ _ 1 rfl (by decide)
      have l2 : run1_A.sl.v91 c t fh0 = rowsOf (tile1 c fh0 (Ring.bk 15 (ringStep1_0 t.val))) 2 := by unfold run1_A.sl.v91; exact readAt_landed c fh0 _ _ _ 2 rfl (by decide)
      have l3 : run1_A.sl.v112 c t fh0 = rowsOf (tile1 c fh0 (Ring.bk 15 (ringStep1_0 t.val))) 3 := by unfold run1_A.sl.v112; exact readAt_landed c fh0 _ _ _ 3 rfl (by decide)
      have l4 : run1_A.sl.v133 c t fh0 = rowsOf (tile1 c fh0 (Ring.bk 15 (ringStep1_0 t.val))) 4 := by unfold run1_A.sl.v133; exact readAt_landed c fh0 _ _ _ 4 rfl (by decide)
      have l5 : run1_A.sl.v154 c t fh0 = rowsOf (tile1 c fh0 (Ring.bk 15 (ringStep1_0 t.val))) 5 := by unfold run1_A.sl.v154; exact readAt_landed c fh0 _ _ _ 5 rfl (by decide)
      have l6 : run1_A.sl.v175 c t fh0 = rowsOf (tile1 c fh0 (Ring.bk 15 (ringStep1_0 t.val))) 6 := by unfold run1_A.sl.v175; exact readAt_landed c fh0 _ _ _ 6 rfl (by decide)
      have l7 : run1_A.sl.v196 c t fh0 = rowsOf (tile1 c fh0 (Ring.bk 15 (ringStep1_0 t.val))) 7 := by unfold run1_A.sl.v196; exact readAt_landed c fh0 _ _ _ 7 rfl (by decide)
      have hg := readAt_all harg3 x0 (off := ![0, 0]) inb_S1x2048_S1x2048_0_0
      refine read_chunks _ _ _ _ _ ?_ (View.cover_of_tiledL _ S128x2048.size (by sl_kernel_rfl))
      unfold run1_A.sl.HS0_8 run1_A.sl.r_3 run1_A.sl.r_2 run1_A.sl.r_1 run1_A.sl.r
      refine List.forall_mem_cons.mpr ⟨fun x => piece_load (pay := k1_pay13) (by exact pay1_7) 7 rfl (by decide) (by exact l7) (by exact hg) x, ?_⟩
      refine List.forall_mem_cons.mpr ⟨fun x => piece_load (pay := fun a b => k1_pay12 a (k1_pay10 a) b) (by exact pay1_6) 6 rfl (by decide) (by exact l6) (by exact hg) x, ?_⟩
      refine List.forall_mem_cons.mpr ⟨fun x => piece_load (pay := k1_pay9) (by exact pay1_5) 5 rfl (by decide) (by exact l5) (by exact hg) x, ?_⟩
      refine List.forall_mem_cons.mpr ⟨fun x => piece_load (pay := fun a b => k1_pay8 (k1_pay7 a) b) (by exact pay1_4) 4 rfl (by decide) (by exact l4) (by exact hg) x, ?_⟩
      refine List.forall_mem_cons.mpr ⟨fun x => piece_load (pay := k1_pay6) (by exact pay1_3) 3 rfl (by decide) (by exact l3) (by exact hg) x, ?_⟩
      refine List.forall_mem_cons.mpr ⟨fun x => piece_load (pay := fun a b => k1_pay5 (k1_pay4 a b)) (by exact pay1_2) 2 rfl (by decide) (by exact l2) (by exact hg) x, ?_⟩
      refine List.forall_mem_cons.mpr ⟨fun x => piece_load (pay := k1_pay3) (by exact pay1_1) 1 rfl (by decide) (by exact l1) (by exact hg) x, ?_⟩
      refine List.forall_mem_cons.mpr ⟨fun x => piece_load (pay := k1_pay2) (by exact pay1_0) 0 rfl (by decide) (by exact l0) (by exact hg) x, ?_⟩
      exact fun _ h => absurd h List.not_mem_nil
    have hv : run1_A.sl.v19 c t arg3 harg3 arg12 x0 fh0 = hval (tile1 c fh0 (Ring.bk 15 (ringStep1_0 t.val))) x0 := by
      unfold run1_A.sl.v19
      exact (View.readAt_full arg12.view _ _).trans (hscr _)
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg8.read_unread _
      iexact H3
    isplitl [H4]
    · iexists _; isplitr; swap; · iexact H4
      ipureintro
      rw [View.read_writes_full, readAt_all harg4, hv, readAt_all harg5]
    isplitl [H5]
    · iexists _; isplitr; swap; · iexact H5
      ipureintro
      refine (read_mask_whole arg10.view _ _ _ d _ (harg10.read_unread d)).trans ?_
      unfold run1_A.sl.r_4 run1_A.sl.r_5 k1_pay1 k1_pay17
      rw [readAt_all harg4, hv, shapeCast_self, shapeCast_self]
    isplitl [H6]
    · iexists _; isplitr; swap; · iexact H6
      ipureintro
      rw [View.read_writes_full, readAt_all harg8]
    isplitl [HS0]
    · iexists _; isplitr; swap; · iexact HS0
      ipureintro; exact hscr fs0
    isplitl [Hh1]; · iexact Hh1
    isplitl [Hh2]; · iexact Hh2
    isplitl [Hc1 Hr1]
    · iexists _; isplitl [Hc1]; · iexact Hc1
      iexact Hr1
    isplitl [Hc0 Hs0 Hh0_0 Hr0]
    · isplitl [Hc0]; · iexact Hc0
      iexists _; isplitl [Hs0]; · iexact Hs0
      iapply (src1_0_split c fh0 (Ring.sl 2 (ringStep1_0 t.val)) (Ring.bk 15 (ringStep1_0 t.val))).2; isplitl [Hh0_0]; · iexact Hh0_0
      iexact Hr0
    iexists _; iexact HW

end Cert.Proof.InProj

end
-- ==== Proof.SecondBody.lean ====
/-
The second call of the input projection: its proof data and its body obligation.
-/
module

public import proofs.«01_k».proof.Proof.Second

@[expose] public section

set_option maxRecDepth 16384

noncomputable section

namespace Cert.Proof.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : Vals F)

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of `t`'s row tile, and its point of column tile 4 (the one the masked store keeps). -/
abbrev pt1_0 (t : Fin cfg1.N) : Fin cfg1.N := ⟨11 * (t.val / 11), by have := t.isLt; rw [show cfg1.N = 165 from N_1] at *; omega⟩
abbrev pt1_4 (t : Fin cfg1.N) : Fin cfg1.N := ⟨11 * (t.val / 11) + 4, by have h : t.val < 165 := lt_of_lt_of_eq t.isLt N_1; exact lt_of_lt_of_eq (show 11 * (t.val / 11) + 4 < 165 by omega) N_1.symm⟩

/-- The row tile normalised into the scratch at the first point of `t`'s row tile. -/
def hrow1 (c : Dev nD) (t : Fin cfg1.N) : Vec F S1024x2048 .bf16 :=
  hval (tile1 c (V c main_v0) (Ring.bk 15 (t.val / 11))) (iblk1 V c 0 (pt1_0 t))

/-- Points of one row tile have one normalised row tile. -/
theorem hrow1_congr (c : Dev nD) (t t' : Fin cfg1.N) (h : t.val / 11 = t'.val / 11) : hrow1 V c t = hrow1 V c t' := by
  have e : pt1_0 t = pt1_0 t' := Fin.ext (by show 11 * (t.val / 11) = 11 * (t'.val / 11); rw [h])
  unfold hrow1
  rw [h, e]

/-- What the second call's body never touches: the generator register, and the buffers that served the first call. -/
def keep1 (c : Dev nD) : sProp 𝕄 :=
  iprop((∃ r, prngReg c r) ∗ someBuf c cc0_stg0_0 ∗ someBuf c cc0_stg1_0 ∗ someBuf c cc0_stg2_0 ∗ someBuf c cc0_stg2_1
    ∗ someBuf c cc0_stg3_0 ∗ someBuf c cc0_stg3_1 ∗ someBuf c cc0_stg4_0 ∗ someBuf c cc0_stg4_1 ∗ someBuf c cc0_stg5_0
    ∗ someBuf c cc0_stg6_0 ∗ someBuf c cc0_stg6_1 ∗ someBuf c cc0_scratch0)

/-- The body's invariant before point `n`: the scratch at anything before the first point, at the row tile of the point
    before it afterwards; what it never touches (`keep1`); the two operands the body does not touch; the ring. -/
def Phi1 (c : Dev nD) (n : ℕ) (hn : n < cfg1.N + 1) : sProp 𝕄 :=
  iprop((if h : n = 0 then iprop(∃ d, owns (c : Thread nD τ) scM1_0 fullShare d)
      else owns (c : Thread nD τ) scM1_0 fullShare (hrow1 V c ⟨n - 1, by omega⟩))
    ∗ keep1 c ∗ hbPt1 c hbM1_1 (V c main_v5_0) ∗ hbPt1 c hbM1_2 (V c main_v5_1)
    ∗ ringAt1_0 c (V c main_v0) (ringStep1_0 n))

/-- The call's proof data: each operand at its block, the result tile, the kept tile and the bf16 slab as the kernel's
    chains compute them. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay15 (iblk1 V c 1 t) (hrow1 V c t) (iblk1 V c 2 t)
    | ⟨5, _⟩ => k1_pay14 (iblk1 V c 1 (pt1_4 t)) (hrow1 V c t)
    | ⟨6, _⟩ => k1_pay11 (iblk1 V c 3 t)
  Φ n := Phi1 V c n.val n.isLt
  q _ := fullShare
  owed _ := 0

theorem dat1_A (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay15 (iblk1 V c 1 t) (hrow1 V c t) (iblk1 V c 2 t) := by dsimp only [dat1]
theorem after1_5 (c : Dev nD) (t : Fin cfg1.N) : (dat1 V c).after 5 t = k1_pay14 (iblk1 V c 1 (pt1_4 t)) (hrow1 V c t) := by dsimp only [dat1]
theorem after1_6 (c : Dev nD) (t : Fin cfg1.N) : (dat1 V c).after 6 t = k1_pay11 (iblk1 V c 3 t) := by dsimp only [dat1]

/-- Each operand's staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [dat1_A]; try rfl) t d).trans
    (by unfold Dat.fetched Dat.blockOf iblk1; rw [dat1_A]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [dat1_A]; try rfl) t d).trans
    (by unfold Dat.fetched Dat.blockOf iblk1; rw [dat1_A]; try rfl)

/-- The window whose store is masked: what its buffer holds is stated only from column tile 4 on. -/
def fgt1 : Fin cfg1.W → Bool := fun w => w.val == 5

/-- From column tile 4 on, a masked window's buffer holds what the proof data say. -/
def Rl1 (c : Dev nD) (w : Fin cfg1.W) (t : Fin cfg1.N) (X : (cfg1.win w).block.Idx → Elt F (cfg1.win w).elt) : Prop :=
  4 ≤ t.val % 11 → X = (dat1 V c).after w t

/-- The mask is on at column tile 4 only. -/
theorem mask1 (t : Fin cfg1.N) (y : S1024x1024.Idx) : k1_pay16 (grid1.coords t) y = 1#1 ↔ t.val % 11 = 4 := by
  have ht : t.val < 165 := Nat.lt_of_lt_of_eq t.isLt N_1
  have e1 : (grid1.coords t 1).val = t.val / 1 % 11 := Pipeline.Grid.coords_val t 1 (by decide) rfl
  show (Scalar.cmpi .eq (BitVec.ofNat 32 (grid1.coords t 1).val) 4#32) = 1#1 ↔ _
  rw [e1]
  word_cmp

theorem maskSel1 (t : Fin cfg1.N) (v d : Vec F S1024x1024 .f32) :
    maskSel (k1_pay16 (grid1.coords t)) v d = if t.val % 11 = 4 then v else d := by
  funext y
  unfold maskSel
  by_cases h : t.val % 11 = 4
  · rw [if_pos ((mask1 t y).mpr h), if_pos h]
  · rw [if_neg (fun h' => h ((mask1 t y).mp h')), if_neg h]

/-- Points of one row tile keep one tile. -/
theorem after1_5_congr (c : Dev nD) (t t' : Fin cfg1.N) (h : t.val / 11 = t'.val / 11) : (dat1 V c).after 5 t = (dat1 V c).after 5 t' := by
  have e : pt1_4 t = pt1_4 t' := Fin.ext (by show 11 * (t.val / 11) + 4 = 11 * (t'.val / 11) + 4; rw [h])
  rw [after1_5, after1_5, hrow1_congr V c t t' h, e]

/-- After column tile 4 the masked window is found as the proof data say. -/
theorem finds1 (c : Dev nD) (t : Fin cfg1.N) (ht : 4 < t.val % 11) (Y : (cfg1.win 5).block.Idx → Elt F (cfg1.win 5).elt)
    (h : ((dat1 V c).toRRel fgt1 (Rl1 V c)).Finds 5 t Y) : Y = (dat1 V c).after 5 t := by
  rw [Pipeline.RDat.finds_of_pos _ (by rfl) (by omega)] at h
  rcases h with h | h
  · have := (flush1_5 _).mp h
    simp only at this
    omega
  · have := (dat1 V c).toRRel_leaves (fgt := fgt1) (by rfl) h (show 4 ≤ (t.val - 1) % 11 by omega)
    rw [this]
    exact after1_5_congr V c _ _ (show (t.val - 1) / 11 = t.val / 11 by omega)

/-- So what the masked store leaves meets the proof data. -/
theorem leaves1 (c : Dev nD) (t : Fin cfg1.N) (Y : (cfg1.win 5).block.Idx → Elt F (cfg1.win 5).elt)
    (h : ((dat1 V c).toRRel fgt1 (Rl1 V c)).Finds 5 t Y) :
    Rl1 V c 5 t (maskSel (k1_pay16 (grid1.coords t)) (k1_pay14 (iblk1 V c 1 t) (hrow1 V c t)) Y) := by
  intro h4
  rw [maskSel1, after1_5]
  by_cases h : t.val % 11 = 4
  · rw [if_pos h]
    have : pt1_4 t = t := Fin.ext (by show 11 * (t.val / 11) + 4 = t.val; omega)
    rw [this]
  · rw [if_neg h]
    rw [← after1_5 V c t]
    exact finds1 V c t (by omega) Y ‹_›

/-! ## The body obligation -/

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ Y, ⌜((dat1 V c).toRRel fgt1 (Rl1 V c)).Finds 5 t Y⌝ ∗ owns (c : Thread nD τ) (ms1_5 t) fullShare Y)
    ∗ (∃ d, owns (c : Thread nD τ) (ms1_6 t) fullShare ((dat1 V c).before 6 t d)))

/-- and what it returns. -/
def post1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ (∃ X, ⌜Rl1 V c 5 t X⌝ ∗ owns (c : Thread nD τ) (ms1_5 t) fullShare X)
    ∗ owns (c : Thread nD τ) (ms1_6 t) fullShare ((dat1 V c).after 6 t))

/-- The scratch, whatever it holds. -/
theorem scratch1_any (c : Dev nD) (n : ℕ) (hn : n < cfg1.N + 1) :
    (if h : n = 0 then iprop(∃ d, owns (c : Thread nD τ) scM1_0 fullShare d)
      else owns (c : Thread nD τ) scM1_0 fullShare (hrow1 V c ⟨n - 1, by omega⟩) : sProp 𝕄)
      ⊢ iprop(∃ d, owns (c : Thread nD τ) scM1_0 fullShare d) := by
  split
  · exact .rfl
  · iintro H; iexists _; iexact H

set_option maxHeartbeats 3200000 in
/-- The body at any point. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3]
  rw [after1_0, after1_1, after1_2, after1_3, after1_4, after1_6]
  rw [show (dat1 V c).Φ t.castSucc = Phi1 V c t.val (by have := t.isLt; omega) from rfl,
    show (dat1 V c).Φ t.succ = Phi1 V c (t.val + 1) (by have := t.isLt; omega) from rfl]
  unfold Dat.owesAt Pipeline.owesWithin
  rw [show (dat1 V c).owed t.castSucc = 0 from rfl, show (dat1 V c).owed t.succ = 0 from rfl]
  unfold Phi1 ringAt1_0
  have hgN : grid1.N = 165 := N_1
  have hN : t.val < 165 := lt_of_lt_of_eq t.isLt (show cfg1.N = 165 from N_1)
  rw [dif_neg (show ¬ t.val + 1 = 0 by omega)]
  have et : (⟨t.val + 1 - 1, by have := t.isLt; omega⟩ : Fin cfg1.N) = t := Fin.ext (Nat.add_sub_cancel _ _)
  rw [et]
  by_cases h0 : t.val % 11 = 0
  · have eh : hval (tile1 c (V c main_v0) (Ring.bk 15 (ringStep1_0 t.val))) (iblk1 V c 0 t) = hrow1 V c t := by
      have e0 : pt1_0 t = t := Fin.ext (by show 11 * (t.val / 11) = t.val; omega)
      unfold hrow1 ringStep1_0
      rw [e0, show (t.val + 10) / 11 = t.val / 11 by omega]
    by_cases h1 : t.val < 11
    · have hr0 := rstep1_0_A t ((hcond1_0 t).mpr h0) ((hcond1_1 t).mpr h1) ((hcond1_2 t).mpr (by omega))
      obtain ⟨hK00, hK10⟩ := hr0
      rw [show (ringStep1_0 (t.val + 1)) = (ringStep1_0 t.val) + 1 by omega, if_pos hK00, if_neg (show ¬(ringStep1_0 t.val) + 1 = 0 by omega)]
      rw [Ring.At₀_eq2' _ _ _ (ringStep1_0 t.val) hK00 (by decide : 2 ≤ 15), Ring.AtK2_one' _ _ _ _ _ (ringStep1_0 t.val) hK00 (by decide : 1 < 15)]
      iintro ⟨⟨HS0, Hg, Hh1, Hh2, ⟨-, Hfr0, Hfr1⟩⟩, ⟨%W, -, HW⟩, ⟨%d0, H0⟩, ⟨%d1, H1⟩, ⟨%d2, H2⟩, ⟨%d3, H3⟩, ⟨%d4, H4⟩, ⟨%Y, %hY, H5⟩, ⟨%d6, H6⟩⟩
      have hl := leaves1 V c t Y hY
      rw [← eh] at hl
      rw [← eh]
      iapply ((run1_A c t _ _ _ _ _ _ _ _ _ _ _ _ _ _ _ _ ((hcond1_0 t).mpr h0) ((hcond1_1 t).mpr h1) ((hcond1_2 t).mpr (by omega)) (iblk1 V c 0 t) (iblk1 V c 1 t) (iblk1 V c 2 t) (iblk1 V c 3 t) Y (V c main_v0) (V c main_v5_0) (V c main_v5_1)) W _)
      isplitl [H0]; · iexact H0
      isplitl [H1]; · iexact H1
      isplitl [H2]; · iexact H2
      isplitl [H3]; · iexact H3
      isplitl [H4]; · iexists _; iexact H4
      isplitl [H5]; · iexact H5
      isplitl [H6]; · iexists _; iexact H6
      isplitl [HS0]; · iapply (scratch1_any V c t.val (by omega)); iexact HS0
      isplitl [Hh1]; · iexact Hh1
      isplitl [Hh2]; · iexact Hh2
      isplitl [Hfr0]; · iexact Hfr0
      isplitl [Hfr1]; · iexact Hfr1
      isplitl [HW]; · iexact HW
      iintro ⟨H0, H1, H2, H3, H4, H5, H6, HS0, Hh1, Hh2, Hfl', Hkp', ⟨%W', HW'⟩⟩
      isplitl [HS0 Hg Hh1 Hh2 Hfl' Hkp']
      · isplitl [HS0]; · iexact HS0
        isplitl [Hg]; · iexact Hg
        isplitl [Hh1]; · iexact Hh1
        isplitl [Hh2]; · iexact Hh2
        iapply Ring.with_homes₀
        isplitl [Hfl']; · iexact Hfl'
        iexact Hkp'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; exact hl
      iexact H6
    · by_cases h2 : t.val < 154
      · have hr0 := rstep1_0_C t ((hcond1_0 t).mpr h0) (fun h => h1 ((hcond1_1 t).mp h)) ((hcond1_2 t).mpr h2)
        obtain ⟨hK10, hKB0, hKs0⟩ := hr0
        rw [hKs0, if_neg (show ¬(ringStep1_0 t.val) = 0 by omega), if_neg (show ¬(ringStep1_0 t.val) + 1 = 0 by omega)]
        rw [Ring.AtK2_here _ _ _ _ _ (ringStep1_0 t.val) hK10 hKB0, Ring.AtK2_next _ _ _ _ _ (ringStep1_0 t.val) hK10 hKB0]
        iintro ⟨⟨HS0, Hg, Hh1, Hh2, ⟨-, Hfl, Hkp⟩⟩, ⟨%W, -, HW⟩, ⟨%d0, H0⟩, ⟨%d1, H1⟩, ⟨%d2, H2⟩, ⟨%d3, H3⟩, ⟨%d4, H4⟩, ⟨%Y, %hY, H5⟩, ⟨%d6, H6⟩⟩
        have hl := leaves1 V c t Y hY
        rw [← eh] at hl
        rw [← eh]
        iapply ((run1_C c t _ _ _ _ _ _ _ _ _ _ _ _ _ _ _ _ ((hcond1_0 t).mpr h0) (fun h => h1 ((hcond1_1 t).mp h)) ((hcond1_2 t).mpr h2) (iblk1 V c 0 t) (iblk1 V c 1 t) (iblk1 V c 2 t) (iblk1 V c 3 t) Y (V c main_v0) (V c main_v5_0) (V c main_v5_1)) W _)
        isplitl [H0]; · iexact H0
        isplitl [H1]; · iexact H1
        isplitl [H2]; · iexact H2
        isplitl [H3]; · iexact H3
        isplitl [H4]; · iexists _; iexact H4
        isplitl [H5]; · iexact H5
        isplitl [H6]; · iexists _; iexact H6
        isplitl [HS0]; · iapply (scratch1_any V c t.val (by omega)); iexact HS0
        isplitl [Hh1]; · iexact Hh1
        isplitl [Hh2]; · iexact Hh2
        isplitl [Hfl]; · iexact Hfl
        isplitl [Hkp]; · iexact Hkp
        isplitl [HW]; · iexact HW
        iintro ⟨H0, H1, H2, H3, H4, H5, H6, HS0, Hh1, Hh2, Hfl', Hkp', ⟨%W', HW'⟩⟩
        isplitl [HS0 Hg Hh1 Hh2 Hfl' Hkp']
        · isplitl [HS0]; · iexact HS0
          isplitl [Hg]; · iexact Hg
          isplitl [Hh1]; · iexact Hh1
          isplitl [Hh2]; · iexact Hh2
          iapply (Ring.with_homes (Idealize.SL.BI.Entails.refl _))
          isplitl [Hfl']; · iexact Hfl'
          iexact Hkp'
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]
        · iexists _; isplitr; swap; · iexact H5
          ipureintro; exact hl
        iexact H6
      · have hr0 := rstep1_0_D t ((hcond1_0 t).mpr h0) (fun h => h1 ((hcond1_1 t).mp h)) (fun h => h2 ((hcond1_2 t).mp h))
        obtain ⟨hK10, hKB0, hKs0⟩ := hr0
        rw [hKs0, if_neg (show ¬(ringStep1_0 t.val) = 0 by omega), if_neg (show ¬(ringStep1_0 t.val) + 1 = 0 by omega)]
        rw [Ring.AtK2_here_last _ _ _ _ _ (ringStep1_0 t.val) hK10 hKB0, Ring.AtK2_next_last _ _ _ _ _ (ringStep1_0 t.val) hK10 hKB0]
        iintro ⟨⟨HS0, Hg, Hh1, Hh2, ⟨-, Hfl, Hkp⟩⟩, ⟨%W, -, HW⟩, ⟨%d0, H0⟩, ⟨%d1, H1⟩, ⟨%d2, H2⟩, ⟨%d3, H3⟩, ⟨%d4, H4⟩, ⟨%Y, %hY, H5⟩, ⟨%d6, H6⟩⟩
        have hl := leaves1 V c t Y hY
        rw [← eh] at hl
        rw [← eh]
        iapply ((run1_D c t _ _ _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t) Y (V c main_v0) (V c main_v5_0) (V c main_v5_1)) W _)
        isplitl [H0]; · iexact H0
        isplitl [H1]; · iexact H1
        isplitl [H2]; · iexact H2
        isplitl [H3]; · iexact H3
        isplitl [H4]; · iexists _; iexact H4
        isplitl [H5]; · iexact H5
        isplitl [H6]; · iexists _; iexact H6
        isplitl [HS0]; · iapply (scratch1_any V c t.val (by omega)); iexact HS0
        isplitl [Hh1]; · iexact Hh1
        isplitl [Hh2]; · iexact Hh2
        isplitl [Hfl]; · iexact Hfl
        isplitl [HW]; · iexact HW
        iintro ⟨H0, H1, H2, H3, H4, H5, H6, HS0, Hh1, Hh2, Hkp', ⟨%W', HW'⟩⟩
        isplitl [HS0 Hg Hh1 Hh2 Hkp Hkp']
        · isplitl [HS0]; · iexact HS0
          isplitl [Hg]; · iexact Hg
          isplitl [Hh1]; · iexact Hh1
          isplitl [Hh2]; · iexact Hh2
          iapply (Ring.with_homes (Idealize.SL.BI.Entails.refl _))
          isplitl [Hkp]; · iexact Hkp
          iexact Hkp'
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]
        · iexists _; isplitr; swap; · iexact H5
          ipureintro; exact hl
        iexact H6
  · have hr0 := rstep1_0_B t (fun h => h0 ((hcond1_0 t).mp h))
    obtain ⟨hKs0, -⟩ := hr0
    rw [hKs0, dif_neg (show ¬ t.val = 0 by omega), hrow1_congr V c ⟨t.val - 1, by omega⟩ t (show (t.val - 1) / 11 = t.val / 11 by omega)]
    iintro ⟨⟨HS0, Hg, Hh1, Hh2, HR⟩, ⟨%W, -, HW⟩, ⟨%d0, H0⟩, ⟨%d1, H1⟩, ⟨%d2, H2⟩, ⟨%d3, H3⟩, ⟨%d4, H4⟩, ⟨%Y, %hY, H5⟩, ⟨%d6, H6⟩⟩
    have hl := leaves1 V c t Y hY
    iapply ((run1_B c t _ _ _ _ _ _ _ _ _ _ _ _ _ _ _ _ (fun h => h0 ((hcond1_0 t).mp h)) (iblk1 V c 0 t) (iblk1 V c 1 t) (iblk1 V c 2 t) (iblk1 V c 3 t) Y (hrow1 V c t) (V c main_v0) (V c main_v5_0) (V c main_v5_1)) W _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    isplitl [HS0]; · iexact HS0
    isplitl [Hh1]; · iexact Hh1
    isplitl [Hh2]; · iexact Hh2
    isplitl [HW]; · iexact HW
    iintro ⟨H0, H1, H2, H3, H4, H5, H6, HS0, Hh1, Hh2, ⟨%W', HW'⟩⟩
    isplitl [HS0 Hg Hh1 Hh2 HR]
    · isplitl [HS0]; · iexact HS0
      isplitl [Hg]; · iexact Hg
      isplitl [Hh1]; · iexact Hh1
      isplitl [Hh2]; · iexact Hh2
      iexact HR
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; exact hl
    iexact H6

/-- The body table's row at point `t`'s slots is the body. -/
theorem row1 (t : Fin cfg1.N) :
    defs₀ (F := F) .tc cfg1.body (cfg1.bodyArgs t (cfg1.slots t)) = bodyAt1 t := by
  unfold defs₀; rw [Defs.onTc_tc]

/-- The call's body obligation, the masked window held to `Rl1`. -/
theorem obl1 (c : Dev nD) : Pipeline.BodyObligationRel (dat1 V c) (defs₀ (F := F)) Variants.none () Set.univ fgt1 (Rl1 V c) := fun t => by
  rw [bigSep_W1, bigSep_W1, row1]
  exact triple_restated (sound1 V c t) rfl .rfl fun _ => .rfl

end Cert.Proof.InProj

end
-- ==== Proof.Launch.lean ====
/-
The run of the input projection program: its two calls as segments between the host stretches, the memory after each
segment, and what every final state holds.
-/
module

public import proofs.«01_k».proof.Proof.SecondBody
public import proofs.«01_k».proof.Proof.Gen.KernelIdeal.Regions
public import Idealize.ShloMosaic.Lib.Pipeline.ArrRel
public import Idealize.ShloMosaic.Lib.Pipeline.FrameSuffix
public import Idealize.ShloMosaic.Lib.Pipeline.RegionsLoop

@[expose] public section

noncomputable section

namespace Cert.Proof.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## A window held to a relation that fixes its contents where it is written back -/

section Exact

variable {nD' : Nat} {τ' : Topo} {sig' : RefSig} {Val : EltTy → Type} {Λ : Idealize.SL.Sem.Labels}
variable {Ix : Type} [DecidableEq Ix] {Name : Type} [DecidableEq Name] {U : Type} [URA U] {Lvl : Type} [∀ e, Nonempty (Val e)]
variable {cfg : Cfg sig' Λ} {c : Dev nD'} (dat : Dat τ' Val Ix Name U Lvl cfg c)

/-- If each marked window's relation names the proof data's contents at every point that writes the window back, the
    arrays after any number of points are the exact ones. -/
theorem arraysAt_exact (fgt : Fin cfg.W → Bool) (Rl : (w : Fin cfg.W) → Fin cfg.N → ((cfg.win w).block.Idx → Val (cfg.win w).elt) → Prop)
    (h : ∀ w, fgt w = true → ∀ (u : Fin cfg.N) X, (cfg.win w).flush u = true → Rl w u X → X = dat.after w u) (n : ℕ) :
    (dat.toRRel fgt Rl).arraysAt n ⊢ (dat.arrays (dat.arrAt · n) : sProp (MT nD' τ' sig' Ix Val Name U Lvl)) :=
  BI.bigSep_mono fun w _ =>
    show iprop(∃ G, ⌜(dat.toRRel fgt Rl).ArrAt w n G⌝ ∗ (cfg.win w).arr.view.loc (c.tc : Thread nD' τ') ↦[(cfg.win w).arr.view.set]{dat.share w} G)
        ⊢ ((cfg.win w).arr.view.loc (c.tc : Thread nD' τ') ↦[(cfg.win w).arr.view.set]{dat.share w} dat.arrAt w n : sProp (MT nD' τ' sig' Ix Val Name U Lvl)) from by
      iintro ⟨%G, %hG, H⟩
      have e : G = dat.arrAt w n := by
        cases hw : fgt w with
        | false => exact ((dat.toR.override_arrAt (by simp only [hw]) n G).trans (dat.toR_arrAt_iff w n G)).mp hG
        | true =>
          obtain ⟨X, hX, hA⟩ := hG.exists_exact
          exact hA dat.after fun u hu hf => (h w hw u (X u) hf (Dat.toRRel_leaves dat hw (hX u hu hf))).symm
      rw [e]; iexact H

end Exact

variable {F : FTy → Type} [FloatOps F]

local notation "𝕄" => MT nD τ sig Unit (Elt F) ℕ (Pipeline.UD sig nD τ) ℕ

/-- Column tile 5 is written back at the last column tile of a row, where it holds what the proof data say. -/
theorem exact0 (V : Vals F) (c : Dev nD) : ∀ w, fgt0 w = true → ∀ (u : Fin cfg0.N) X, (cfg0.win w).flush u = true → Rl0 V c w u X → X = (dat0 V c).after w u := by
  intro w hw u X hf hX
  have e : w = 5 := Fin.ext (by simpa [fgt0] using hw)
  subst e
  have := (flush0_5 u).mp hf
  exact hX (by omega)

theorem exact1 (V : Vals F) (c : Dev nD) : ∀ w, fgt1 w = true → ∀ (u : Fin cfg1.N) X, (cfg1.win w).flush u = true → Rl1 V c w u X → X = (dat1 V c).after w u := by
  intro w hw u X hf hX
  have e : w = 5 := Fin.ext (by simpa [fgt1] using hw)
  subst e
  have := (flush1_5 u).mp hf
  exact hX (by omega)

/-! ## The memory after each segment -/

variable (m : (ℓ : Loc nD τ sig) → Buf (Elt F) ℓ) (ρ : Dev nD → PrngReg)

/-- At launch; -/
abbrev W0 : Vals F := fun c b => m (c, b)
/-- when the first call is entered; -/
abbrev W1 : Vals F := fun c => StableHlo.after hostOps0 (W0 m c)
/-- when it is left: its arrays as written back, every other buffer as entered; -/
def W2 : Vals F := fun c => Pipeline.withArrays spec0 c (W1 m c) fun w => (dat0 (W1 m) c).arrAt w cfg0.N
/-- when the second call is entered; -/
abbrev W3 : Vals F := fun c => StableHlo.after hostOps1 (W2 m c)
/-- at the end. -/
def W4 : Vals F := fun c => Pipeline.withArrays spec1 c (W3 m c) fun w => (dat1 (W3 m) c).arrAt w cfg1.N

theorem W2_arr (c : Dev nD) (w : Fin cfg0.W) : W2 m c (Pipeline.arrRef spec0 w) = (dat0 (W1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) : W2 m c b = W1 m c b := by
  unfold W2; exact Pipeline.withArrays_of_ne spec0 c _ _ b hb
theorem W2_in (c : Dev nD) (w : Fin cfg0.W) (h : (cfg0.win w).isOut = false) :
    W2 m c (Pipeline.arrRef spec0 w) = W1 m c (Pipeline.arrRef spec0 w) :=
  (W2_arr m c w).trans (((dat0 (W1 m) c).arrAt_in w h _).trans (dat0_A (W1 m) c w))
theorem W4_arr (c : Dev nD) (w : Fin cfg1.W) : W4 m c (Pipeline.arrRef spec1 w) = (dat1 (W3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) : W4 m c b = W3 m c b := by
  unfold W4; exact Pipeline.withArrays_of_ne spec1 c _ _ b hb

/-- A buffer that neither host stretch writes and that is no call's array ends as launched. -/
theorem W4_kept (c : Dev nD) (b : Ref sig .tc) (h0 : b ∉ hostOps0_W) (h1 : b ∉ hostOps1_W)
    (ha : ∀ w, Pipeline.arrRef spec0 w ≠ b) (hb : ∀ w, Pipeline.arrRef spec1 w ≠ b) : W4 m c b = m ((c : Thread nD τ).loc b) :=
  (W4_of_ne m c b hb).trans <| (StableHlo.after_of_writes_sub hostOps1 _ hostOps1_writes h1).trans <|
    (W2_of_ne m c b ha).trans (StableHlo.after_of_writes_sub hostOps0 _ hostOps0_writes h0)

/-! ## The calls as segments -/

/-- Each call's proof data, entered at the memory before it, the window of the masked store held to its relation. -/
def rdats : (p : Fin 2) → (c : Dev nD) → Pipeline.RDat τ (Elt F) Unit ℕ (Pipeline.UD sig nD τ) ℕ (Pipeline.pin (pcfgs (F := F)) adm p) c
  | ⟨0, _⟩ => fun c => (dat0 (W1 m) c).toRRel fgt0 (Rl0 (W1 m) c)
  | ⟨1, _⟩ => fun c => (dat1 (W3 m) c).toRRel fgt1 (Rl1 (W3 m) c)

/-- The same with no relation. -/
def edats : (p : Fin 2) → (c : Dev nD) → Dat τ (Elt F) Unit ℕ (Pipeline.UD sig nD τ) ℕ (Pipeline.pin (pcfgs (F := F)) adm p) c
  | ⟨0, _⟩ => fun c => dat0 (W1 m) c
  | ⟨1, _⟩ => fun c => dat1 (W3 m) c

/-- No core owes another anything: no level is assigned. -/
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)

/-- The unscoped buffers held at a valuation. -/
abbrev heldAt (W : Vals F) (c : Dev nD) : sProp 𝕄 := StableHlo.held (c : Thread nD τ) (Pipeline.ucRefs τ sig) (W c)

/-- The buffers the second call leaves alone, at the memory before it. -/
abbrev bypass1 (c : Dev nD) : sProp 𝕄 :=
  bigSep (Pipeline.restRefs sig spec1 \ H1) fun b => ((c : Thread nD τ).loc b) ↦{fullShare} W3 m c b

set_option backward.isDefEq.respectTransparency.types false in
/-- The first call, from the memory after the host's preparation to the memory it leaves. -/
def reg0 : Pipeline.RDat.RegionSeg (pcfgs (F := F)) adm (rdats m) () defs₀ Variants.none L lv 0 where
  win := launch0.win.to₀
  block_pos := launch0.block_pos
  stage_whole := launch0.stage_whole
  K := PEmpty
  osem k := k.elim
  ho := Pipeline.OwnSemFacts.none _
  hbody c := (obl0 (W1 m) c).toRRel
  hwaits := Pipeline.RDat.hwaits_of_owed_zero _ _ _ _ L lv 0 fun _ _ => rfl
  pre c := iprop(heldAt (W1 m) c ∗ R c)
  post c := iprop(heldAt (W2 m) c ∗ R c)
  X c := iprop(∃ r, prngReg c r)
  Y c := iprop(∃ r, prngReg c r)
  Z c := Pipeline.unscopedRest (Ix := Unit) (Name := ℕ) (U := Pipeline.UD sig nD τ) (Lvl := ℕ) spec0 c (fun b => W1 m c b)
  hentry c := by
    rw [Pipeline.ownSems0_none]
    have hsplit := Pipeline.RDat.arrays_of_unscopedBufs (p := 0) (pcfgs (F := F)) adm (rdats m) launch0.win launch0.arr_whole c
      ((dat0 (W1 m) c).share_full fun _ => rfl) (fun b => W1 m c b) (dat0_A (W1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Phi0 (W1 m) c 0 from rfl, Phi0_zero (W1 m) c 0 rfl]
    unfold keep0
    simp only [scM0, owns_whole]
    rw [show Pipeline.scopedRest (Ix := Unit) (Name := ℕ) (U := Pipeline.UD sig nD τ) (Lvl := ℕ) (Val := Elt F) (Pipeline.pin (pcfgs (F := F)) adm 0).spec c = _ from scopedRest0_eq c]
    iintro ⟨Hp, -, Hs, Hr⟩
    isplitl [Hs]; · iexact Hs
    isplitl [Hp]; · iexact Hp
    iexact Hr
  hout c := by
    rw [Pipeline.ownSems0_none, show (rdats m 0 c).Φ (Fin.last _) = Phi0 (W1 m) c (Fin.last _) from rfl,
      Phi0_pos (W1 m) c (Fin.last _) (by rw [Fin.val_last, show cfg0.N = 11 from N_0]; omega)]
    unfold keep0
    simp only [scM0, owns_whole]
    rw [show Pipeline.scopedRest (Ix := Unit) (Name := ℕ) (U := Pipeline.UD sig nD τ) (Lvl := ℕ) (Val := Elt F) (Pipeline.pin (pcfgs (F := F)) adm 0).spec c = _ from scopedRest0_eq c]
    iintro ⟨Hs, Hp, Hr⟩
    isplitl [Hp]; · iexact Hp
    isplitr; · iempintro
    isplitl [Hs]; · iexists _; iexact Hs
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (edats m) ((dat0 (W1 m) c).share_full fun _ => rfl)
      (fun b => W1 m c b) (fun b => W2 m c b) ((dat0 (W1 m) c).arrAt · cfg0.N) (fun w => (W2_arr m c w).symm)
      (fun b hb => W2_of_ne m c b fun w e => hb (Finset.mem_image.mpr ⟨w, Finset.mem_univ _, e⟩))
    rw [Pipeline.unscopedBufs_held] at hjoin
    have hex : (rdats m 0 c).arraysAt cfg0.N ⊢ _ := arraysAt_exact (dat0 (W1 m) c) fgt0 (Rl0 (W1 m) c) (exact0 (W1 m) c) cfg0.N
    iintro ⟨Ha, HO, HY, Hrest⟩
    ihave Ha' := hex $$ Ha
    imodintro
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

set_option backward.isDefEq.respectTransparency.types false in
/-- The second call, from the memory before it to the memory at the end: the row operand and the two results handed on
    go into its invariant and come back as they were. -/
def reg1 : Pipeline.RDat.RegionSeg (pcfgs (F := F)) adm (rdats m) () defs₀ Variants.none L lv 1 where
  win := launch1.win.to₀
  block_pos := launch1.block_pos
  stage_whole := launch1.stage_whole
  K := Fin 2
  osem := osem1
  ho := ownSemFacts1
  hbody c := (obl1 (W3 m) c).toRRel
  hwaits := Pipeline.RDat.hwaits_of_owed_zero _ _ _ _ L lv 1 fun _ _ => rfl
  pre c := iprop(heldAt (W3 m) c ∗ R c)
  post c := iprop(heldAt (W4 m) c ∗ R c)
  X c := iprop((∃ r, prngReg c r) ∗ (semVal ((c : Thread nD τ), SemLoc.dma 24) 0 ∗ semVal ((c : Thread nD τ), SemLoc.dma 25) 0)
    ∗ hbPt1 c hbM1_0 (W3 m c main_v0) ∗ hbPt1 c hbM1_1 (W3 m c main_v5_0) ∗ hbPt1 c hbM1_2 (W3 m c main_v5_1))
  Y c := iprop((∃ r, prngReg c r) ∗ hbPt1 c hbM1_0 (W3 m c main_v0) ∗ hbPt1 c hbM1_1 (W3 m c main_v5_0) ∗ hbPt1 c hbM1_2 (W3 m c main_v5_1))
  Z c := bypass1 m c
  hentry c := by
    rw [ownSems01_eq]
    have hsplit := Pipeline.RDat.arrays_of_unscopedBufs (p := 1) (pcfgs (F := F)) adm (rdats m) launch1.win launch1.arr_whole c
      ((dat1 (W3 m) c).share_full fun _ => rfl) (fun b => W3 m c b) (dat1_A (W3 m) c)
    have hrest : Pipeline.unscopedRest (Ix := Unit) (Name := ℕ) (U := Pipeline.UD sig nD τ) (Lvl := ℕ) (Pipeline.pin (pcfgs (F := F)) adm 1).spec c (fun b => W3 m c b)
        = iprop(_ ∗ _) := Pipeline.unscopedRest_sdiff spec1 H1 H1_sub c (fun b => W3 m c b)
    rw [Pipeline.unscopedBufs_held, hrest, hbmPts1_eq (W3 m) c] at hsplit
    iintro ⟨⟨Hub, Hp, HO⟩, Hos, -⟩
    ihave H := hsplit $$ Hub
    icases H with ⟨Ha, Hh, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp Hos Hh]
    · isplitl [Hp]; · iexact Hp
      isplitl [Hos]; · iexact Hos
      iexact Hh
    iexact Hrest
  hin c := by
    rw [show (rdats m 1 c).Φ 0 = Phi1 (W3 m) c 0 (Nat.succ_pos _) from rfl]
    unfold Phi1 keep1
    rw [dif_pos rfl, show ringStep1_0 0 = 0 from rfl]
    rw [show Pipeline.scopedRest (Ix := Unit) (Name := ℕ) (U := Pipeline.UD sig nD τ) (Lvl := ℕ) (Val := Elt F) (Pipeline.pin (pcfgs (F := F)) adm 1).spec c = _ from scopedRest1_eq c]
    iintro ⟨⟨Hp, Hos, Hh0, Hh1, Hh2⟩, -, K0, K1, K2, K3, K4, K5, K6, K7, K8, K9, K10, K11, Hs0, Hs1⟩
    isplitl [Hs0]; · simp only [scM1_0, owns_whole]; iexact Hs0
    isplitl [Hp K0 K1 K2 K3 K4 K5 K6 K7 K8 K9 K10 K11]
    · isplitl [Hp]; · iexact Hp
      isplitl [K0]; · iexact K0
      isplitl [K1]; · iexact K1
      isplitl [K2]; · iexact K2
      isplitl [K3]; · iexact K3
      isplitl [K4]; · iexact K4
      isplitl [K5]; · iexact K5
      isplitl [K6]; · iexact K6
      isplitl [K7]; · iexact K7
      isplitl [K8]; · iexact K8
      isplitl [K9]; · iexact K9
      isplitl [K10]; · iexact K10
      iexact K11
    isplitl [Hh1]; · iexact Hh1
    isplitl [Hh2]; · iexact Hh2
    iapply (ring1_0_in (W3 m) c)
    isplitl [Hs1]; · simp only [scM1_1, owns_whole]; iexact Hs1
    isplitl [Hos]; · iexact Hos
    iexact Hh0
  hout c := by
    rw [ownSems01_eq, show (rdats m 1 c).Φ (Fin.last _) = Phi1 (W3 m) c cfg1.N (Nat.lt_succ_self _) from rfl]
    unfold Phi1 keep1
    rw [show ringStep1_0 cfg1.N = 15 by rw [show cfg1.N = 165 from N_1]; rfl]
    rw [show Pipeline.scopedRest (Ix := Unit) (Name := ℕ) (U := Pipeline.UD sig nD τ) (Lvl := ℕ) (Val := Elt F) (Pipeline.pin (pcfgs (F := F)) adm 1).spec c = _ from scopedRest1_eq c]
    have hs := scratch1_any (W3 m) c cfg1.N (Nat.lt_succ_self _)
    iintro ⟨Hs0, ⟨Hp, K0, K1, K2, K3, K4, K5, K6, K7, K8, K9, K10, K11⟩, Hh1, Hh2, HR⟩
    ihave Hs0' := hs $$ Hs0
    ihave HX := (ring1_0_out (W3 m) c) $$ HR
    icases HX with ⟨Hs1, Hos, Hh0⟩
    isplitl [Hp Hh0 Hh1 Hh2]
    · isplitl [Hp]; · iexact Hp
      isplitl [Hh0]; · iexact Hh0
      isplitl [Hh1]; · iexact Hh1
      iexact Hh2
    isplitl [Hos]; · iexact Hos
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11]; · iexact K11
    simp only [scM1_0, scM1_1, owns_whole]
    isplitl [Hs0']; · iexact Hs0'
    iexact Hs1
  hexit c := by
    have hjoin := Pipeline.unscopedBufs_of_arrays (p := 1) (pcfgs (F := F)) adm (Ix := Unit) (Name := ℕ) (U := Pipeline.UD sig nD τ) (Lvl := ℕ)
      launch1.win launch1.arr_whole c (edats m) ((dat1 (W3 m) c).share_full fun _ => rfl)
      (fun b => W3 m c b) (fun b => W4 m c b) ((dat1 (W3 m) c).arrAt · cfg1.N) (fun w => (W4_arr m c w).symm)
      (fun b hb => W4_of_ne m c b fun w e => hb (Finset.mem_image.mpr ⟨w, Finset.mem_univ _, e⟩))
    have hrest : Pipeline.unscopedRest (Ix := Unit) (Name := ℕ) (U := Pipeline.UD sig nD τ) (Lvl := ℕ) (Pipeline.pin (pcfgs (F := F)) adm 1).spec c (fun b => W3 m c b)
        = iprop(_ ∗ _) := Pipeline.unscopedRest_sdiff spec1 H1 H1_sub c (fun b => W3 m c b)
    rw [Pipeline.unscopedBufs_held, hrest, hbmPts1_eq (W3 m) c] at hjoin
    have hex : (rdats m 1 c).arraysAt cfg1.N ⊢ _ := arraysAt_exact (dat1 (W3 m) c) fgt1 (Rl1 (W3 m) c) (exact1 (W3 m) c) cfg1.N
    iintro ⟨Ha, HO, ⟨Hp, Hh⟩, Hrest⟩
    ihave Ha' := hex $$ Ha
    imodintro
    isplitl [Ha' Hh Hrest]
    · iapply hjoin
      isplitl [Ha']; · iexact Ha'
      isplitl [Hh]; · iexact Hh
      iexact Hrest
    isplitl [Hp]; · iexact Hp
    unfold Pipeline.RDat.owesAt Pipeline.owesWithin
    icases HO with ⟨%W, -, HO⟩; iexists W; iexact HO

/-! ## The program as a list of segments -/

/-- A host stretch between two calls. -/
abbrev hseg (ops : List (HloOp τ sig (Elt F))) (hsub : ops.Forall fun op => op.bufs ⊆ StableHlo.tcRefs τ sig)
    (hfresh : ops.Forall fun op => op.fresh = ∅) (W : Vals F) :
    Pipeline.HostSeg (Name := ℕ) (U := Pipeline.UD sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev rsegs : List (Pipeline.RDat.Seg (pcfgs (F := F)) adm (rdats m) () defs₀ Variants.none L lv) :=
  [ .host (hseg hostOps0 hostOps0_sub hostOps0_fresh (W0 m)),
    .region (reg0 m),
    .host (hseg hostOps1 hostOps1_sub hostOps1_fresh (W2 m)),
    .region (reg1 m) ]

/-- The launch element: the pipelines' at their cells, and no transfer counted yet. -/
def u₀ : Pipeline.UD sig nD τ := (initOf (Pipeline.cells cfgs cellOf_inj) (Pipeline.launchToks cfgs cellOf_inj), 1)

set_option backward.isDefEq.respectTransparency.types false in
/-- From any memory with zero counters every weakly fair execution terminates, and every final state holds every
    unscoped buffer at `W4` and every semaphore counter at zero. -/
theorem run_main : θ_run defs (onTc (τ := τ) (main (F := F))) ⟨m, fun _ => 0, ρ⟩ (fun r =>
    (∀ c : Dev nD, ∀ b ∈ Pipeline.ucRefs τ sig, r.2.mem ((c : Thread nD τ).1, b) = W4 m c b) ∧ r.2.sem = fun _ => 0) :=
  Pipeline.RDat.θ_run_regions_kit_sems (pcfgs (F := F)) adm (rdats m) () cellOf_inj embL defs₀ Variants.none L lv m ρ main (rsegs m)
    (fun c Q => by
      rewrite [main_chain c, Pipeline.RDat.Seg.run_eq_chain,
        show (rsegs m).map Pipeline.RDat.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (by simp only [rsegs, Pipeline.RDat.Seg.pipes_host, Pipeline.RDat.Seg.pipes_region, Pipeline.RDat.Seg.pipes_nil]; decide)
    (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(heldAt (W0 m) c ∗ R c)) (Tₙ := fun c => iprop(heldAt (W4 m) c ∗ ∃ r, prngReg c r))
    (hch := ⟨fun _ => .rfl, fun _ => .rfl, fun _ => .rfl, fun _ => .rfl, fun c => by
      dsimp only [Pipeline.RDat.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = heldAt (W0 m) c from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W4 m c b)
    (hfin := fun c s' => by
      iintro ⟨⟨Hh, -⟩, HSI⟩
      unfold heldAt StableHlo.held
      imodintro
      iapply (pointsTo_read_all (Pipeline.ucRefs τ sig) (fun b => (((c : Thread nD τ)).1, b)) (W4 m c) s')
      isplitl [Hh] <;> iassumption)
    (hQ := fun s h hz => ⟨h, funext fun g => hz g (.inr (regions_no_unscoped g.2))⟩)

/-- An unscoped reference is among those `run_main` speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What every final state holds, argument by argument and result by result: each argument as launched, each result as
    the second call's write-backs leave it, every semaphore counter at zero. -/
theorem run_out : θ_run defs (onTc (τ := τ) (main (F := F))) ⟨m, fun _ => 0, ρ⟩ (fun r => (∀ c : Dev nD,
      r.2.mem ((c : Thread nD τ).loc main_v6_0) = (dat1 (W3 m) c).arrAt 4 cfg1.N
      ∧ r.2.mem ((c : Thread nD τ).loc main_v6_1) = (dat1 (W3 m) c).arrAt 5 cfg1.N
      ∧ r.2.mem ((c : Thread nD τ).loc main_v6_2) = (dat1 (W3 m) c).arrAt 6 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c =>
    ⟨(h.1 c _ (mem_uc main_v6_0 (by decide))).trans (W4_arr m c 4),
      (h.1 c _ (mem_uc main_v6_1 (by decide))).trans (W4_arr m c 5),
      (h.1 c _ (mem_uc main_v6_2 (by decide))).trans (W4_arr m c 6),
      (h.1 c _ (mem_uc main_arg0 (by decide))).trans (W4_kept m c main_arg0 (by decide) (by decide) (by decide) (by decide)),
      (h.1 c _ (mem_uc main_arg1 (by decide))).trans (W4_kept m c main_arg1 (by decide) (by decide) (by decide) (by decide)),
      (h.1 c _ (mem_uc main_arg2 (by decide))).trans (W4_kept m c main_arg2 (by decide) (by decide) (by decide) (by decide)),
      (h.1 c _ (mem_uc main_arg3 (by decide))).trans (W4_kept m c main_arg3 (by decide) (by decide) (by decide) (by decide))⟩, h.2⟩)
    (run_main m ρ)

end Cert.Proof.InProj

end
-- ==== Proof.Value.lean ====
/-
What the two calls of the input projection compute at the ideal instance, array by array: the normalised rows times the
weights, each column times its scale; the one column tile kept unscaled; the weights the calls hand on.
-/
module

public import proofs.«01_k».proof.Proof.SecondBody
public import Idealize.ShloMosaic.Lib.Pointwise
public import Idealize.ShloMosaic.Lib.Pipeline.ValueKit

@[expose] public section

set_option maxRecDepth 16384

noncomputable section

namespace Cert.Proof.InProj

open Idealize.ShloMosaic Idealize.ShloMosaic.TcCoe
open Idealize.ShloMosaic.Pipeline (Dat Cfg Window)
open Cert.KernelIdeal Cert.KernelIdeal.Gen

/-! ## The mathematics on whole arrays -/

/-- Row `r` of `X` divided by its root mean square (plus the epsilon), times the gain. -/
def hOf (X : S16384x2048.Idx → EReal) (G : S1x2048.Idx → EReal) (r : Fin 16384) (k : Fin 2048) : EReal :=
  X (ix2 r k) * Ideal.rsqrt (Ideal.div (∑ x : Fin 2048, X (ix2 r x) * X (ix2 r x)) (Ideal.ofBits FTy.f32 1157627904#32) + Ideal.ofBits FTy.f32 897988541#32) * G (ix2 0 k)

/-- The projection of the normalised rows. -/
def projOf (X : S16384x2048.Idx → EReal) (G : S1x2048.Idx → EReal) (W : S2048x11264.Idx → EReal) (r : Fin 16384) (n : Fin 11264) : EReal :=
  ∑ k : Fin 2048, hOf X G r k * W (ix2 k n)

/-- The projection with each column times its scale. -/
def resOf (X : S16384x2048.Idx → EReal) (G : S1x2048.Idx → EReal) (W : S2048x11264.Idx → EReal) (C : S1x11264.Idx → EReal) : S16384x11264.Idx → EReal :=
  fun i => projOf X G W (i 0) (i 1) * C (ix2 0 (i 1))

/-- Column `n` of column tile `j`. -/
def colOf (j : Fin 11) (n : Fin 1024) : Fin 11264 := ⟨j.val * 1024 + n.val, by omega⟩
/-- Row `r` of row tile `i`. -/
def rowOf (i : Fin 16) (r : Fin 1024) : Fin 16384 := ⟨i.val * 1024 + r.val, by omega⟩

/-- Column tile 4 of the projection, unscaled. -/
def fbOf (X : S16384x2048.Idx → EReal) (G : S1x2048.Idx → EReal) (W : S2048x11264.Idx → EReal) : S16384x1024.Idx → EReal :=
  fun i => projOf X G W (i 0) (colOf 4 (i 1))

/-! ## The kernel's chains at an index -/

/-- A chunk's chain, at an index. -/
theorem nrm_apply (x : Vec Ideal S128x2048 .f32) (g : Vec Ideal S1x2048 .f32) (r : Fin 128) (k : Fin 2048) :
    nrm x g (ix2 r k) = x (ix2 r k) * Ideal.rsqrt (Ideal.div (∑ j : Fin 2048, x (ix2 r j) * x (ix2 r j)) (Ideal.ofBits FTy.f32 1157627904#32) + Ideal.ofBits FTy.f32 897988541#32) * g (ix2 0 k) := by
  pointwise [nrm, k0_pay6]

/-- A row tile whose rows are rows of `X` is normalised to rows of `hOf X G`. -/
theorem hval_apply (X : S16384x2048.Idx → EReal) (G : S1x2048.Idx → EReal) (x : Vec Ideal S1024x2048 .f32) (g : Vec Ideal S1x2048 .f32)
    (ρ : Fin 1024 → Fin 16384) (hx : ∀ r k, x (ix2 r k) = X (ix2 (ρ r) k)) (hg : ∀ k, g (ix2 0 k) = G (ix2 0 k)) (r : Fin 1024) (k : Fin 2048) :
    hval x g (ix2 r k) = hOf X G (ρ r) k := by
  have e : ∀ j : Fin 2048, rowsOf x (chunkOf (ix2 r k)) (ix2 ⟨r.val % 128, by omega⟩ j) = X (ix2 (ρ r) j) := by
    intro j
    rw [← hx]
    refine congrArg x ?_
    funext a; apply Fin.ext
    fin_cases a
    · show 128 * (r.val / 128) + r.val % 128 = r.val; omega
    · rfl
  have ei : inChunk (ix2 r k) = ix2 ⟨r.val % 128, by omega⟩ k := by
    funext a; apply Fin.ext
    fin_cases a <;> rfl
  unfold hval
  rw [ei, nrm_apply]
  simp only [e, hg]
  rfl

theorem pay15_apply (w : Vec Ideal S2048x1024 .bf16) (h : Vec Ideal S1024x2048 .bf16) (s : Vec Ideal S1x1024 .f32) (r : Fin 1024) (n : Fin 1024) :
    k1_pay15 w h s (ix2 r n) = (∑ k : Fin 2048, h (ix2 r k) * w (ix2 k n)) * s (ix2 0 n) := by
  pointwise [k1_pay15, k1_pay14]

theorem pay14_apply (w : Vec Ideal S2048x1024 .bf16) (h : Vec Ideal S1024x2048 .bf16) (r : Fin 1024) (n : Fin 1024) :
    k1_pay14 w h (ix2 r n) = ∑ k : Fin 2048, h (ix2 r k) * w (ix2 k n) := by
  pointwise [k1_pay14]

theorem pay3_apply (w : Vec Ideal S2048x1024 .f32) (h : Vec Ideal S1024x2048 .bf16) (s : Vec Ideal S1x1024 .f32) (r : Fin 1024) (n : Fin 1024) :
    k0_pay3 w h s (ix2 r n) = (∑ k : Fin 2048, h (ix2 r k) * w (ix2 k n)) * s (ix2 0 n) := by
  pointwise [k0_pay3, k0_pay2, k0_pay1]

theorem pay4_apply (w : Vec Ideal S2048x1024 .f32) (h : Vec Ideal S1024x2048 .bf16) (r : Fin 1024) (n : Fin 1024) :
    k0_pay4 w h (ix2 r n) = ∑ k : Fin 2048, h (ix2 r k) * w (ix2 k n) := by
  pointwise [k0_pay4, k0_pay2, k0_pay1]

/-! ## Where the blocks lie -/

theorem ix0_0 : ∀ t : Fin cfg0.N, win0_0.index t = ![0, 0] := (by decide +kernel : ∀ t : Fin grid0.N, win0_0.index t = ![0, 0])
theorem ix0_1 : ∀ t : Fin cfg0.N, win0_1.index t = ![0, 0] := (by decide +kernel : ∀ t : Fin grid0.N, win0_1.index t = ![0, 0])
theorem ix0_2 : ∀ t : Fin cfg0.N, win0_2.index t = ![0, t.val] := (by decide +kernel : ∀ t : Fin grid0.N, win0_2.index t = ![0, t.val])
theorem ix0_3 : ∀ t : Fin cfg0.N, win0_3.index t = ![0, t.val] := (by decide +kernel : ∀ t : Fin grid0.N, win0_3.index t = ![0, t.val])
theorem ix0_4 : ∀ t : Fin cfg0.N, win0_4.index t = ![0, t.val] := (by decide +kernel : ∀ t : Fin grid0.N, win0_4.index t = ![0, t.val])
theorem ix0_5 : ∀ t : Fin cfg0.N, win0_5.index t = ![0, 0] := (by decide +kernel : ∀ t : Fin grid0.N, win0_5.index t = ![0, 0])
theorem ix0_6 : ∀ t : Fin cfg0.N, win0_6.index t = ![0, t.val] := (by decide +kernel : ∀ t : Fin grid0.N, win0_6.index t = ![0, t.val])
theorem ix1_0 : ∀ t : Fin cfg1.N, win1_0.index t = ![0, 0] := (by decide +kernel : ∀ t : Fin grid1.N, win1_0.index t = ![0, 0])
theorem ix1_1 : ∀ t : Fin cfg1.N, win1_1.index t = ![0, t.val % 11] := (by decide +kernel : ∀ t : Fin grid1.N, win1_1.index t = ![0, t.val % 11])
theorem ix1_2 : ∀ t : Fin cfg1.N, win1_2.index t = ![0, t.val % 11] := (by decide +kernel : ∀ t : Fin grid1.N, win1_2.index t = ![0, t.val % 11])
theorem ix1_3 : ∀ t : Fin cfg1.N, win1_3.index t = ![min t.val 127, 0] := (by decide +kernel : ∀ t : Fin grid1.N, win1_3.index t = ![min t.val 127, 0])
theorem ix1_4 : ∀ t : Fin cfg1.N, win1_4.index t = ![t.val / 11 + 1, t.val % 11] := (by decide +kernel : ∀ t : Fin grid1.N, win1_4.index t = ![t.val / 11 + 1, t.val % 11])
theorem ix1_5 : ∀ t : Fin cfg1.N, win1_5.index t = ![t.val / 11 + 1, 0] := (by decide +kernel : ∀ t : Fin grid1.N, win1_5.index t = ![t.val / 11 + 1, 0])
theorem ix1_6 : ∀ t : Fin cfg1.N, win1_6.index t = ![min t.val 127, 0] := (by decide +kernel : ∀ t : Fin grid1.N, win1_6.index t = ![min t.val 127, 0])

theorem lt_N0 (t : Fin cfg0.N) : t.val < 11 := lt_of_lt_of_eq t.isLt N_0
theorem lt_N1 (t : Fin cfg1.N) : t.val < 165 := lt_of_lt_of_eq t.isLt N_1

variable (V : Vals Ideal) (c : Dev nD)

/-! The first call's blocks at an index. -/

theorem iblk0_0_apply (t : Fin cfg0.N) (r : Fin 1024) (k : Fin 2048) : iblk0 V c 0 t (ix2 r k) = V c main_v0 (ix2 (rowOf 0 r) k) := by
  unfold iblk0
  blk_simp
  refine congrArg (V c main_v0) ?_
  blk_ext [ix0_0, rowOf]

theorem iblk0_1_apply (t : Fin cfg0.N) (k : Fin 2048) : iblk0 V c 1 t (ix2 0 k) = V c main_v2 (ix2 0 k) := by
  unfold iblk0
  blk_simp
  refine congrArg (V c main_v2) ?_
  blk_ext [ix0_1]

theorem iblk0_2_apply (t : Fin cfg0.N) (k : Fin 2048) (n : Fin 1024) : iblk0 V c 2 t (ix2 k n) = V c main_v3 (ix2 k (colOf ⟨t.val, lt_N0 t⟩ n)) := by
  unfold iblk0
  blk_simp
  refine congrArg (V c main_v3) ?_
  blk_ext [ix0_2, colOf]

theorem iblk0_3_apply (t : Fin cfg0.N) (n : Fin 1024) : iblk0 V c 3 t (ix2 0 n) = V c main_cst (ix2 0 (colOf ⟨t.val, lt_N0 t⟩ n)) := by
  unfold iblk0
  blk_simp
  refine congrArg (V c main_cst) ?_
  blk_ext [ix0_3, colOf]

end Cert.Proof.InProj

end
-- ==== Proof.Arrays.lean ====
/-
What every array of the input projection's two calls holds once the call is over, at the ideal instance: the blocks a call
writes back hold the projection, the rest of the array what it held before.
-/
module

public import proofs.«01_k».proof.Proof.Value

@[expose] public section

set_option maxRecDepth 16384

noncomputable section

namespace Cert.Proof.InProj

open Idealize.ShloMosaic Idealize.ShloMosaic.TcCoe
open Idealize.ShloMosaic.Pipeline (Dat Cfg Window)
open Cert.KernelIdeal Cert.KernelIdeal.Gen

variable (V : Vals Ideal) (c : Dev nD)

theorem pay1_apply (w : Vec Ideal S2048x1024 .f32) (k : Fin 2048) (n : Fin 1024) : k0_pay1 w (ix2 k n) = w (ix2 k n) := by
  pointwise [k0_pay1]

theorem pay11_apply (w : Vec Ideal S16x11264 .f32) (k : Fin 16) (n : Fin 11264) : k1_pay11 w (ix2 k n) = w (ix2 k n) := by
  pointwise [k1_pay11]

/-! ## The first call -/

/-- The scratch of the first call: the first row tile, normalised. -/
theorem hrow0_apply (r : Fin 1024) (k : Fin 2048) : hrow0 V c (ix2 r k) = hOf (V c main_v0) (V c main_v2) (rowOf 0 r) k := by
  unfold hrow0
  exact hval_apply _ _ _ _ (rowOf 0) (iblk0_0_apply V c _) (iblk0_1_apply V c _) r k

/-- The first call's result: the scaled projection on the first row tile. -/
theorem arr0_4 (i : S16384x11264.Idx) (hi : (i 0).val < 1024) :
    (dat0 V c).arrAt 4 cfg0.N i = resOf (V c main_v0) (V c main_v2) (V c main_v3) (V c main_cst) i := by
  have h1 : (i 1).val < 11264 := (i 1).isLt
  obtain ⟨t, ht⟩ : ∃ t : Fin cfg0.N, t.val = (i 1).val / 1024 := ⟨⟨_, lt_of_lt_of_eq (show (i 1).val / 1024 < 11 by omega) N_0.symm⟩, rfl⟩
  refine (dat0 V c).arrAt_forall_of_flushed 4 (fun i v => v = resOf (V c main_v0) (V c main_v2) (V c main_v3) (V c main_cst) i) ?_ cfg0.N
    t i t.isLt ?_ ?_
  · intro t _ y
    idx_bounds y
    have ey : (win0_4.blk t).view.emb y = ix2 (rowOf 0 (y 0)) (colOf ⟨t.val, lt_N0 t⟩ (y 1)) := by
      blk_ext [ix0_4, rowOf, colOf]
    blk_simp
    rw [after0_4]
    refine ((congrArg _ (eq_ix2 y)).trans (pay3_apply _ _ _ _ _)).trans ?_
    refine Eq.trans ?_ (congrArg (resOf (V c main_v0) (V c main_v2) (V c main_v3) (V c main_cst)) ey).symm
    exact congrArg₂ (· * ·) (Finset.sum_congr rfl fun k _ => congrArg₂ (· * ·) (hrow0_apply V c _ _) (iblk0_2_apply V c _ _ _)) (iblk0_3_apply V c _ _)
  · exact flush0_4 _
  · mem_blk [ix0_4]
    omega

/-- The column tile kept unscaled, on the first row tile. -/
theorem arr0_5 (i : S16384x1024.Idx) (hi : (i 0).val < 1024) :
    (dat0 V c).arrAt 5 cfg0.N i = fbOf (V c main_v0) (V c main_v2) (V c main_v3) i := by
  have h1 : (i 1).val < 1024 := (i 1).isLt
  obtain ⟨t, ht⟩ : ∃ t : Fin cfg0.N, t.val = 10 := ⟨⟨10, lt_of_lt_of_eq (show 10 < 11 by omega) N_0.symm⟩, rfl⟩
  refine (dat0 V c).arrAt_forall_of_flushed 5 (fun i v => v = fbOf (V c main_v0) (V c main_v2) (V c main_v3) i) ?_ cfg0.N
    t i t.isLt ?_ ?_
  · intro t _ y
    idx_bounds y
    have ey : (win0_5.blk t).view.emb y = ix2 (rowOf 0 (y 0)) (y 1) := by
      blk_ext [ix0_5, rowOf]
    blk_simp
    rw [after0_5]
    refine ((congrArg _ (eq_ix2 y)).trans (pay4_apply _ _ _ _)).trans ?_
    refine Eq.trans ?_ (congrArg (fbOf (V c main_v0) (V c main_v2) (V c main_v3)) ey).symm
    exact Finset.sum_congr rfl fun k _ => congrArg₂ (· * ·) (hrow0_apply V c _ _) (iblk0_2_apply V c _ _ _)
  · exact (flush0_5 t).mpr (by omega)
  · mem_blk [ix0_5]
    omega

/-- The weights the first call hands on: the weights, at every index. -/
theorem arr0_6 : ((dat0 V c).arrAt 6 cfg0.N : S2048x11264.Idx → EReal) = V c main_v3 := by
  refine (dat0 V c).arrAt_eq_of_covers 6 (V c main_v3) (by decide +kernel) fun t _ y => ?_
  idx_bounds y
  have ey : (win0_6.blk t).view.emb y = ix2 (y 0) (colOf ⟨t.val, lt_N0 t⟩ (y 1)) := by
    blk_ext [ix0_6, colOf]
  blk_simp
  rw [after0_6]
  refine Eq.trans ?_ (congrArg (V c main_v3) ey).symm
  exact ((congrArg (k0_pay1 (iblk0 V c 2 t)) (eq_ix2 y)).trans (pay1_apply _ _ _)).trans (iblk0_2_apply V c _ _ _)

/-! ## The second call -/

/-- The row tile a point of the second call works on: tile 0 is the first call's. -/
def rowTile (t : Fin cfg1.N) : Fin 16 := ⟨t.val / 11 + 1, by have := lt_N1 t; omega⟩

/-- The column tile. -/
def colTile (t : Fin cfg1.N) : Fin 11 := ⟨t.val % 11, by omega⟩

/-- A streamed row tile at an index. -/
theorem tile1_apply (W : HbBuf1 (F := Ideal) c hbM1_0) (b : Fin 15) (r : Fin 1024) (k : Fin 2048) :
    tile1 c W b (ix2 r k) = W (ix2 (rowOf ⟨b.val + 1, by omega⟩ r) k) := by
  show W _ = W _
  refine congrArg W ?_
  funext a; apply Fin.ext
  fin_cases a
  · show (1024 * b.val + 1024) + 1 * r.val = (b.val + 1) * 1024 + r.val; omega
  · show 0 + 1 * k.val = k.val; omega

theorem iblk1_0_apply (t : Fin cfg1.N) (k : Fin 2048) : iblk1 V c 0 t (ix2 0 k) = V c main_v2 (ix2 0 k) := by
  unfold iblk1
  blk_simp
  refine congrArg (V c main_v2) ?_
  blk_ext [ix1_0]

theorem iblk1_1_apply (t : Fin cfg1.N) (k : Fin 2048) (n : Fin 1024) : iblk1 V c 1 t (ix2 k n) = V c main_v5_2 (ix2 k (colOf (colTile t) n)) := by
  unfold iblk1
  blk_simp
  refine congrArg (V c main_v5_2) ?_
  blk_ext [ix1_1, colOf, colTile]

theorem iblk1_2_apply (t : Fin cfg1.N) (n : Fin 1024) : iblk1 V c 2 t (ix2 0 n) = V c main_cst (ix2 0 (colOf (colTile t) n)) := by
  unfold iblk1
  blk_simp
  refine congrArg (V c main_cst) ?_
  blk_ext [ix1_2, colOf, colTile]

/-- The scratch of the second call: the point's row tile, normalised. -/
theorem hrow1_apply (t : Fin cfg1.N) (r : Fin 1024) (k : Fin 2048) :
    hrow1 V c t (ix2 r k) = hOf (V c main_v0) (V c main_v2) (rowOf (rowTile t) r) k := by
  have ht := lt_N1 t
  unfold hrow1
  refine hval_apply _ _ _ _ (rowOf (rowTile t)) (fun r k => (tile1_apply c _ _ r k).trans ?_) (iblk1_0_apply V c _) r k
  have e : (⟨(Ring.bk 15 (t.val / 11)).val + 1, by omega⟩ : Fin 16) = rowTile t :=
    Fin.ext (congrArg (· + 1) (Ring.bk_val (show t.val / 11 < 15 by omega)))
  rw [e]

/-- The second call's result past the first row tile: the scaled projection. -/
theorem arr1_4 (i : S16384x11264.Idx) (hi : 1024 ≤ (i 0).val) :
    (dat1 V c).arrAt 4 cfg1.N i = resOf (V c main_v0) (V c main_v2) (V c main_v5_2) (V c main_cst) i := by
  have h0 : (i 0).val < 16384 := (i 0).isLt
  have h1 : (i 1).val < 11264 := (i 1).isLt
  obtain ⟨t, ht⟩ : ∃ t : Fin cfg1.N, t.val = ((i 0).val / 1024 - 1) * 11 + (i 1).val / 1024 :=
    ⟨⟨_, lt_of_lt_of_eq (show ((i 0).val / 1024 - 1) * 11 + (i 1).val / 1024 < 165 by omega) N_1.symm⟩, rfl⟩
  refine (dat1 V c).arrAt_forall_of_flushed 4 (fun i v => v = resOf (V c main_v0) (V c main_v2) (V c main_v5_2) (V c main_cst) i) ?_ cfg1.N
    t i t.isLt ?_ ?_
  · intro t _ y
    idx_bounds y
    have ey : (win1_4.blk t).view.emb y = ix2 (rowOf (rowTile t) (y 0)) (colOf (colTile t) (y 1)) := by
      blk_ext [ix1_4, rowOf, colOf, rowTile, colTile]
    blk_simp
    rw [after1_4]
    refine ((congrArg _ (eq_ix2 y)).trans (pay15_apply _ _ _ _ _)).trans ?_
    refine Eq.trans ?_ (congrArg (resOf (V c main_v0) (V c main_v2) (V c main_v5_2) (V c main_cst)) ey).symm
    exact congrArg₂ (· * ·) (Finset.sum_congr rfl fun k _ => congrArg₂ (· * ·) (hrow1_apply V c _ _ _) (iblk1_1_apply V c _ _ _)) (iblk1_2_apply V c _ _)
  · exact flush1_4 _
  · mem_blk [ix1_4]
    omega

/-- On the first row tile: what the array held before. -/
theorem arr1_4_kept (i : S16384x11264.Idx) (hi : (i 0).val < 1024) : (dat1 V c).arrAt 4 cfg1.N i = V c main_v6_0 i := by
  refine ((dat1 V c).arrAt_apply_of_forall_not_mem 4 cfg1.N i fun t _ _ h => ?_).trans (congrFun (dat1_A V c 4) i)
  mem_blk [ix1_4] at h
  omega

/-- The second call's unscaled column tile past the first row tile. -/
theorem arr1_5 (i : S16384x1024.Idx) (hi : 1024 ≤ (i 0).val) :
    (dat1 V c).arrAt 5 cfg1.N i = fbOf (V c main_v0) (V c main_v2) (V c main_v5_2) i := by
  have h0 : (i 0).val < 16384 := (i 0).isLt
  have h1 : (i 1).val < 1024 := (i 1).isLt
  obtain ⟨t, ht⟩ : ∃ t : Fin cfg1.N, t.val = ((i 0).val / 1024 - 1) * 11 + 10 :=
    ⟨⟨_, lt_of_lt_of_eq (show ((i 0).val / 1024 - 1) * 11 + 10 < 165 by omega) N_1.symm⟩, rfl⟩
  refine (dat1 V c).arrAt_forall_of_flushed 5 (fun i v => v = fbOf (V c main_v0) (V c main_v2) (V c main_v5_2) i) ?_ cfg1.N
    t i t.isLt ?_ ?_
  · intro t _ y
    idx_bounds y
    have ey : (win1_5.blk t).view.emb y = ix2 (rowOf (rowTile t) (y 0)) (y 1) := by
      blk_ext [ix1_5, rowOf, rowTile]
    have ec : colTile (pt1_4 t) = 4 := Fin.ext (show (11 * (t.val / 11) + 4) % 11 = 4 by omega)
    blk_simp
    rw [after1_5]
    refine ((congrArg _ (eq_ix2 y)).trans (pay14_apply _ _ _ _)).trans ?_
    refine Eq.trans ?_ (congrArg (fbOf (V c main_v0) (V c main_v2) (V c main_v5_2)) ey).symm
    exact Finset.sum_congr rfl fun k _ => congrArg₂ (· * ·) (hrow1_apply V c _ _ _) ((iblk1_1_apply V c _ _ _).trans (by rw [ec]))
  · exact (flush1_5 t).mpr (by omega)
  · mem_blk [ix1_5]
    omega

theorem arr1_5_kept (i : S16384x1024.Idx) (hi : (i 0).val < 1024) : (dat1 V c).arrAt 5 cfg1.N i = V c main_v6_1 i := by
  refine ((dat1 V c).arrAt_apply_of_forall_not_mem 5 cfg1.N i fun t _ _ h => ?_).trans (congrFun (dat1_A V c 5) i)
  mem_blk [ix1_5] at h
  omega

/-- The slabs the second call carries over: the whole operand, cast; the last slab is written at several points, each
    time with the same contents. -/
theorem arr1_6 : ((dat1 V c).arrAt 6 cfg1.N : S2048x11264.Idx → EReal) = V c main_v4 := by
  refine (dat1 V c).arrAt_eq_of_covers 6 (V c main_v4) (by decide +kernel) fun t _ y => ?_
  blk_simp
  rw [after1_6]
  refine ((congrArg (k1_pay11 (iblk1 V c 3 t)) (eq_ix2 y)).trans (pay11_apply _ _ _)).trans ?_
  refine (congrArg (iblk1 V c 3 t) (eq_ix2 y).symm).trans ?_
  unfold iblk1
  blk_simp
  refine congrArg (V c main_v4) ?_
  blk_ext [ix1_3, ix1_6]

end Cert.Proof.InProj

end
-- ==== Proof.Scale.lean ====
module

public import proofs.«01_k».proof.Proof.Gen.KernelIdeal

@[expose] public section

noncomputable section

/-! # The column scales

The kernel multiplies each of the 11264 columns of the projection by a float32 read off a table: a constant for the
1024 query columns and one for the rest. -/

namespace Cert.Proof.InProj

open Idealize.ShloMosaic

/-- The scale of column `n`, as bits: `log2(e)/√128` in the first 1024 columns, `1` in the others. -/
def scaleBits (n : Nat) : BitVec 32 := if n < 1024 then 0x3E0293EE#32 else 0x3F800000#32

/-- Every entry of the printed table, read by its page and its place in the page. -/
theorem table_at : ∀ (a : Fin 88) (b : Fin 128),
    Cert.KernelIdeal.lit0t (128 * a.val + b.val) = scaleBits (128 * a.val + b.val) := by
  decide +kernel

/-- The table's entry at a column is that column's scale. -/
theorem table_eq (n : Fin 11264) : Cert.KernelIdeal.lit0 n = scaleBits n.val := by
  have h := table_at ⟨n.val / 128, by omega⟩ ⟨n.val % 128, by omega⟩
  have e : 128 * (n.val / 128) + n.val % 128 = n.val := Nat.div_add_mod _ _
  simp only [e] at h
  exact h

end Cert.Proof.InProj

end
-- ==== Proof.Join.lean ====
/-
The kernel's results against the reference's, at the ideal instance: the two calls' arrays joined, and the reference's
stages read at an index.
-/
module

public import proofs.«01_k».proof.Proof.Arrays
public import proofs.«01_k».proof.Proof.Launch
public import proofs.«01_k».proof.Proof.Scale
public import proofs.«01_k».proof.Proof.Gen.ReferenceIdeal.Read

@[expose] public section

set_option maxRecDepth 16384

noncomputable section

namespace Cert.Proof.InProj

open Idealize.ShloMosaic Idealize.ShloMosaic.TcCoe
open Idealize.ShloMosaic.Pipeline (Dat Cfg Window)
open Cert.KernelIdeal Cert.KernelIdeal.Gen
open Cert.ReferenceIdeal.Read (val_main_v0 val_main_v1 val_main_v12 val_main_v15 val_main_v16 val_main_v22 val_main_v23 val_main_v25)

/-! ## The reference at an index -/

/-- The column scales as the kernel is handed them. -/
def scales : S1x11264.Idx → EReal := fun i => Ideal.ofBits .f32 (lit0 (S1x11264.rowMajor i))

/-- They are the scale of the query columns on the first 1024 columns and one elsewhere. -/
theorem scales_apply (n : Fin 11264) : scales (ix2 0 n) = Ideal.ofBits .f32 (scaleBits n.val) := by
  unfold scales
  have e : S1x11264.rowMajor (ix2 0 n) = n := Fin.ext (by simp [Shape.rowMajor_val_two])
  rw [e, table_eq]

variable (x0 : Vec Ideal S8x2048x2048 .f32) (x1 : Vec Ideal S1x2048 .f32) (x2 : Vec Ideal S1x2048x11264 .f32) (x3 : Vec Ideal S1x2048x11264 .f32)

/-- The reference's projection, at an index. -/
theorem ref_proj (r : Fin 16384) (n : Fin 11264) :
    val_main_v16 (F := Ideal) x0 x1 x2 (ix2 r n) = projOf (val_main_v0 (F := Ideal) x0) (val_main_v12 (F := Ideal) x1) (val_main_v15 (F := Ideal) x2) r n := by
  unfold projOf hOf
  pointwise [Cert.ReferenceIdeal.Read.val_main_v16, Cert.ReferenceIdeal.Read.val_main_v14, Cert.ReferenceIdeal.Read.val_main_v11, Cert.ReferenceIdeal.Read.val_main_v10,
     Cert.ReferenceIdeal.Read.val_main_v9, Cert.ReferenceIdeal.Read.val_main_v8, Cert.ReferenceIdeal.Read.val_main_v7, Cert.ReferenceIdeal.Read.val_main_v6, Cert.ReferenceIdeal.Read.val_main_v5, Cert.ReferenceIdeal.Read.val_main_v4, Cert.ReferenceIdeal.Read.val_main_v3, Cert.ReferenceIdeal.Read.val_main_v2, Cert.ReferenceIdeal.Read.val_main_cst, Cert.ReferenceIdeal.Read.val_main_cst_0, Cert.ReferenceIdeal.Read.val_main_cst_1, Cert.ReferenceIdeal.Read.val_main_v13]

/-- The reference's first result: the scaled projection. -/
theorem ref_res : (val_main_v22 (F := Ideal) x0 x1 x2 : S16384x11264.Idx → EReal)
    = resOf (val_main_v0 (F := Ideal) x0) (val_main_v12 (F := Ideal) x1) (val_main_v15 (F := Ideal) x2) scales := by
  funext i
  obtain ⟨r, n, rfl⟩ : ∃ (r : Fin 16384) (n : Fin 11264), i = ix2 r n := ⟨i 0, i 1, eq_ix2 i⟩
  refine Eq.trans (b := if n.val < 1024 then val_main_v16 (F := Ideal) x0 x1 x2 (ix2 r n) * Ideal.ofBits FTy.f32 1040356334#32 else val_main_v16 (F := Ideal) x0 x1 x2 (ix2 r n)) ?_ ?_
  · pointwise [Cert.ReferenceIdeal.Read.val_main_v22, Cert.ReferenceIdeal.Read.val_main_v21, Cert.ReferenceIdeal.Read.val_main_v20,
      Cert.ReferenceIdeal.Read.val_main_v19, Cert.ReferenceIdeal.Read.val_main_v18, Cert.ReferenceIdeal.Read.val_main_v17, Cert.ReferenceIdeal.Read.val_main_cst_2]
    by_cases h : n.val < 1024
    · simp only [dif_pos h, if_pos h]
    · simp only [dif_neg h, if_neg h]
      exact congrArg (fun n => val_main_v16 (F := Ideal) x0 x1 x2 (ix2 r n)) (Fin.ext (show 1024 + (n.val - 1024) = n.val by omega))
  · rw [ref_proj]
    show _ = projOf _ _ _ r n * scales (ix2 0 n)
    rw [scales_apply]
    unfold scaleBits
    by_cases h : n.val < 1024
    · simp only [if_pos h]
    · simp only [if_neg h]
      rw [Ideal.ofBits_one_f32, mul_one]

/-- The reference's second result: column tile 4 of the projection. -/
theorem ref_fb : (val_main_v23 (F := Ideal) x0 x1 x2 : S16384x1024.Idx → EReal)
    = fbOf (val_main_v0 (F := Ideal) x0) (val_main_v12 (F := Ideal) x1) (val_main_v15 (F := Ideal) x2) := by
  funext i
  obtain ⟨r, n, rfl⟩ : ∃ (r : Fin 16384) (n : Fin 1024), i = ix2 r n := ⟨i 0, i 1, eq_ix2 i⟩
  refine Eq.trans (b := val_main_v16 (F := Ideal) x0 x1 x2 (ix2 r (colOf 4 n))) ?_ (ref_proj x0 x1 x2 r _)
  pointwise [Cert.ReferenceIdeal.Read.val_main_v23]
  exact congrArg (fun n => val_main_v16 (F := Ideal) x0 x1 x2 (ix2 r n)) (Fin.ext (show 4096 + n.val = 4 * 1024 + n.val by omega))

/-! ## The memory between the kernel's steps -/

variable (m : (ℓ : Loc nD τ sig) → Buf (Elt Ideal) ℓ) (c : Dev nD)

theorem W1_v0 : (W1 m c main_v0 : S16384x2048.Idx → EReal) = val_main_v0 (F := Ideal) (m ((c : Thread nD τ).loc main_arg0)) := by
  show StableHlo.after hostOps0 (W0 m c) main_v0 = _
  after_results <;> rfl

theorem W1_v2 : (W1 m c main_v2 : S1x2048.Idx → EReal) = val_main_v12 (F := Ideal) (m ((c : Thread nD τ).loc main_arg1)) := by
  show StableHlo.after hostOps0 (W0 m c) main_v2 = _
  after_results <;> rfl

theorem W1_v3 : (W1 m c main_v3 : S2048x11264.Idx → EReal) = val_main_v15 (F := Ideal) (m ((c : Thread nD τ).loc main_arg2)) := by
  show StableHlo.after hostOps0 (W0 m c) main_v3 = _
  after_results <;> rfl

theorem W1_v4 : (W1 m c main_v4 : S2048x11264.Idx → EReal) = val_main_v25 (F := Ideal) (m ((c : Thread nD τ).loc main_arg3)) := by
  show StableHlo.after hostOps0 (W0 m c) main_v4 = _
  after_results <;> rfl

theorem W1_cst : (W1 m c main_cst : S1x11264.Idx → EReal) = scales := by
  show StableHlo.after hostOps0 (W0 m c) main_cst = _
  after_results <;> rfl

/-- A buffer the copies between the calls do not write is as the first call left it. -/
theorem W3_of (b : Ref sig .tc) (h : b ∉ hostOps1_W) : W3 m c b = W2 m c b :=
  StableHlo.after_of_writes_sub hostOps1 _ hostOps1_writes h

theorem W3_v0 : W3 m c main_v0 = W1 m c main_v0 := (W3_of m c main_v0 (by decide)).trans (W2_in m c 0 rfl)
theorem W3_v2 : W3 m c main_v2 = W1 m c main_v2 := (W3_of m c main_v2 (by decide)).trans (W2_in m c 1 rfl)
theorem W3_cst : W3 m c main_cst = W1 m c main_cst := (W3_of m c main_cst (by decide)).trans (W2_in m c 3 rfl)
theorem W3_v4 : W3 m c main_v4 = W1 m c main_v4 := (W3_of m c main_v4 (by decide)).trans (W2_of_ne m c main_v4 (by decide))
theorem W3_v5_2 : (W3 m c main_v5_2 : S2048x11264.Idx → EReal) = W1 m c main_v3 :=
  ((W3_of m c main_v5_2 (by decide)).trans (W2_arr m c 6)).trans (arr0_6 (W1 m) c)

theorem W3_v6_0 : (W3 m c main_v6_0 : S16384x11264.Idx → EReal) = (dat0 (W1 m) c).arrAt 4 cfg0.N := by
  refine Eq.trans (b := W2 m c main_v5_0) ?_ (W2_arr m c 4)
  show StableHlo.after hostOps1 (W2 m c) main_v6_0 = _
  after_results <;> rfl

theorem W3_v6_1 : (W3 m c main_v6_1 : S16384x1024.Idx → EReal) = (dat0 (W1 m) c).arrAt 5 cfg0.N := by
  refine Eq.trans (b := W2 m c main_v5_1) ?_ (W2_arr m c 5)
  show StableHlo.after hostOps1 (W2 m c) main_v6_1 = _
  after_results <;> rfl

/-! ## The kernel's results -/

/-- The kernel's first result is the reference's. -/
theorem res_eq : ((dat1 (W3 m) c).arrAt 4 cfg1.N : S16384x11264.Idx → EReal)
    = val_main_v22 (F := Ideal) (m ((c : Thread nD τ).loc main_arg0)) (m ((c : Thread nD τ).loc main_arg1)) (m ((c : Thread nD τ).loc main_arg2)) := by
  rw [ref_res]
  funext i
  rw [← W1_v0, ← W1_v2, ← W1_v3, ← W1_cst m c]
  by_cases h : (i 0).val < 1024
  · exact ((arr1_4_kept (W3 m) c i h).trans (congrFun (W3_v6_0 m c) i)).trans (arr0_4 (W1 m) c i h)
  · refine (arr1_4 (W3 m) c i (by omega)).trans ?_
    rw [W3_v0, W3_v2, W3_cst]
    exact congrArg (fun W => resOf _ _ W _ i) (W3_v5_2 m c)

/-- The kernel's second result is the reference's. -/
theorem fb_eq : ((dat1 (W3 m) c).arrAt 5 cfg1.N : S16384x1024.Idx → EReal)
    = val_main_v23 (F := Ideal) (m ((c : Thread nD τ).loc main_arg0)) (m ((c : Thread nD τ).loc main_arg1)) (m ((c : Thread nD τ).loc main_arg2)) := by
  rw [ref_fb]
  funext i
  rw [← W1_v0, ← W1_v2, ← W1_v3]
  by_cases h : (i 0).val < 1024
  · exact ((arr1_5_kept (W3 m) c i h).trans (congrFun (W3_v6_1 m c) i)).trans (arr0_5 (W1 m) c i h)
  · refine (arr1_5 (W3 m) c i (by omega)).trans ?_
    rw [W3_v0, W3_v2]
    exact congrArg (fun W => fbOf _ _ W i) (W3_v5_2 m c)

/-- The kernel's third result is the reference's: the second weights, cast. -/
theorem slab_eq : ((dat1 (W3 m) c).arrAt 6 cfg1.N : S2048x11264.Idx → EReal) = val_main_v25 (F := Ideal) (m ((c : Thread nD τ).loc main_arg3)) :=
  ((arr1_6 (W3 m) c).trans (W3_v4 m c)).trans (W1_v4 m c)

end Cert.Proof.InProj

end
-- ==== Proof.Same.lean ====
module

public import proofs.«01_k».proof.Proof.Gen.Kernel
public import proofs.«01_k».proof.Proof.Scale

@[expose] public section

noncomputable section

/-! # One text, two programs

The unidealized program is, at any float instance, the same program as the idealized one: the two printed texts have the
same bodies, the same table and the same host code. What is proved of the one at every instance holds of the other. -/

namespace Cert.Proof.InProj

open Idealize.ShloMosaic

/-- Every entry of the printed table, read by its page and its place in the page. -/
theorem table_at_kernel : ∀ (a : Fin 88) (b : Fin 128),
    Cert.Kernel.lit0t (128 * a.val + b.val) = scaleBits (128 * a.val + b.val) := by
  decide +kernel

/-- The table's entry at a column is that column's scale. -/
theorem table_eq_kernel (n : Fin 11264) : Cert.Kernel.lit0 n = scaleBits n.val := by
  have h := table_at_kernel ⟨n.val / 128, by omega⟩ ⟨n.val % 128, by omega⟩
  have e : 128 * (n.val / 128) + n.val % 128 = n.val := Nat.div_add_mod _ _
  simp only [e] at h
  exact h

variable {F : FTy → Type} [FloatOps F]

/-- The two programs' bodies. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | 1, (t, s) => rfl

/-- The two programs' body tables, the pipelines included. -/
theorem defs_eq : Cert.Kernel.defs (F := F) = Cert.KernelIdeal.defs (F := F) := congrArg (Pipeline.defs _) bodies_eq

/-- The two tables of column scales. -/
theorem tables_eq : Cert.Kernel.lit0 = Cert.KernelIdeal.lit0 :=
  funext fun n => (table_eq_kernel n).trans (table_eq n).symm

/-- The two programs' host code. -/
theorem main_eq : Cert.Kernel.main (F := F) = Cert.KernelIdeal.main (F := F) := by
  unfold Cert.Kernel.main Cert.KernelIdeal.main
  rw [tables_eq]
  rfl

end Cert.Proof.InProj

end
-- ==== Proof.Ffn.lean ====
/-
  The gated feed-forward call at the ideal instance: each row tile of the result is accumulated over eleven slices of
  the hidden columns, and ends holding the whole sum over the 5632 hidden columns.
-/
module

public import proofs.«01_k».proof.Proof.Gen.FfnIdeal.Value
public import proofs.«01_k».proof.Proof.Gen.FfnReferenceIdeal.Read
public import Idealize.ShloMosaic.Lib.Pointwise
public import Idealize.ShloMosaic.Lib.Pipeline.ValueKit

@[expose] public section

set_option maxRecDepth 16384

noncomputable section

namespace Cert.Proof.Ffn

open Idealize.ShloMosaic Idealize.ShloMosaic.TcCoe
open Idealize.ShloMosaic.Pipeline (Dat Cfg Window)
open Cert.FfnIdeal Cert.FfnIdeal.Gen

/-! ## The mathematics on whole arrays -/

/-- Column `n` of row `r` of `X · W`. -/
def dotOf (X : S16384x2048.Idx → EReal) (W : S2048x11264.Idx → EReal) (r : Fin 16384) (n : Fin 11264) : EReal :=
  ∑ k : Fin 2048, X (ix2 r k) * W (ix2 k n)

/-- Hidden column `l` of row `r`: the gate times its logistic, times the up projection. -/
def actOf (X : S16384x2048.Idx → EReal) (W : S2048x11264.Idx → EReal) (r : Fin 16384) (l : Fin 5632) : EReal :=
  dotOf X W r ⟨l.val, by omega⟩ * Ideal.logistic (dotOf X W r ⟨l.val, by omega⟩) * dotOf X W r ⟨5632 + l.val, by omega⟩

/-- The feed-forward block: the hidden columns times the down projection. -/
def ffnOf (X : S16384x2048.Idx → EReal) (W : S2048x11264.Idx → EReal) (D : S5632x2048.Idx → EReal) : S16384x2048.Idx → EReal :=
  fun i => ∑ l : Fin 5632, actOf X W (i 0) l * D (ix2 l (i 1))

/-- Hidden column `l`'s part of the result at row `r` of row tile `a` and column `n`, for natural `a` and `l` (zero outside the arrays). -/
def partOf (X : S16384x2048.Idx → EReal) (W : S2048x11264.Idx → EReal) (D : S5632x2048.Idx → EReal) (a l : ℕ) (i : S1024x2048.Idx) : EReal :=
  if h : a < 16 ∧ l < 5632 then
    actOf X W ⟨a * 1024 + (i 0).val, by have : (i 0).val < 1024 := (i 0).isLt; omega⟩ ⟨l, h.2⟩ * D (ix2 ⟨l, h.2⟩ (i 1)) else 0

/-- What grid point `(a, j)` adds: its 512 hidden columns' parts. -/
def termOf (X : S16384x2048.Idx → EReal) (W : S2048x11264.Idx → EReal) (D : S5632x2048.Idx → EReal) (a j : ℕ) (i : S1024x2048.Idx) : EReal :=
  ∑ q ∈ Finset.range 512, partOf X W D a (j * 512 + q) i

/-- Eleven points' parts are the whole sum. -/
theorem sum_terms (X : S16384x2048.Idx → EReal) (W : S2048x11264.Idx → EReal) (D : S5632x2048.Idx → EReal) (a : ℕ) (ha : a < 16)
    (r : Fin 1024) (n : Fin 2048) :
    ∑ j ∈ Finset.range 11, termOf X W D a j (ix2 r n) = ffnOf X W D (ix2 ⟨a * 1024 + r.val, by omega⟩ n) := by
  unfold termOf
  rw [Finset.sum_range_range_mul_add 11 512 (fun l => partOf X W D a l (ix2 r n)), ← Fin.sum_univ_eq_sum_range]
  unfold ffnOf
  refine Finset.sum_congr rfl fun l _ => ?_
  unfold partOf
  exact dif_pos ⟨ha, l.isLt⟩

/-! ## The body at an index -/

theorem pay1_apply (i : S1024x2048.Idx) : k0_pay1 (F := Ideal) i = 0 := by
  pointwise [k0_pay1]

theorem pay2_apply (h : Vec Ideal S1024x2048 .bf16) (w0 w1 w2 w3 : Vec Ideal S2048x256 .bf16) (o : Vec Ideal S1024x2048 .f32)
    (d0 d1 : Vec Ideal S256x2048 .bf16) (r : Fin 1024) (n : Fin 2048) :
    k0_pay2 h w0 w1 w2 w3 o d0 d1 (ix2 r n) = o (ix2 r n)
      + ((∑ x : Fin 256, ((∑ k : Fin 2048, h (ix2 r k) * w0 (ix2 k x)) * Ideal.logistic (∑ k : Fin 2048, h (ix2 r k) * w0 (ix2 k x))
            * ∑ k : Fin 2048, h (ix2 r k) * w1 (ix2 k x)) * d0 (ix2 x n))
        + ∑ x : Fin 256, ((∑ k : Fin 2048, h (ix2 r k) * w2 (ix2 k x)) * Ideal.logistic (∑ k : Fin 2048, h (ix2 r k) * w2 (ix2 k x))
            * ∑ k : Fin 2048, h (ix2 r k) * w3 (ix2 k x)) * d1 (ix2 x n)) := by
  pointwise [k0_pay2]

/-! ## Where the blocks lie -/

theorem ix0 : ∀ t : Fin cfg0.N, win0_0.index t = ![t.val / 11, 0] := (by decide +kernel : ∀ t : Fin grid0.N, win0_0.index t = ![t.val / 11, 0])
theorem ix1 : ∀ t : Fin cfg0.N, win0_1.index t = ![0, t.val % 11] := (by decide +kernel : ∀ t : Fin grid0.N, win0_1.index t = ![0, t.val % 11])
theorem ix2' : ∀ t : Fin cfg0.N, win0_2.index t = ![0, t.val % 11 + 11] := (by decide +kernel : ∀ t : Fin grid0.N, win0_2.index t = ![0, t.val % 11 + 11])
theorem ix3 : ∀ t : Fin cfg0.N, win0_3.index t = ![t.val % 11, 0] := (by decide +kernel : ∀ t : Fin grid0.N, win0_3.index t = ![t.val % 11, 0])
theorem ix4 : ∀ t : Fin cfg0.N, win0_4.index t = ![t.val / 11, 0] := (by decide +kernel : ∀ t : Fin grid0.N, win0_4.index t = ![t.val / 11, 0])

theorem lt_N (t : Fin cfg0.N) : t.val < 176 := lt_of_lt_of_eq t.isLt N_0

variable (m : (ℓ : Loc nD τ sig) → Buf (Elt Ideal) ℓ) (c : Dev nD)

theorem iblk0_apply (t : Fin cfg0.N) (r : Fin 1024) (k : Fin 2048) :
    iblk m c 0 t (ix2 r k) = V m c main_arg0 (ix2 ⟨t.val / 11 * 1024 + r.val, by have := lt_N t; omega⟩ k) := by
  unfold iblk
  blk_simp
  refine congrArg (V m c main_arg0) ?_
  blk_ext [ix0]

theorem iblk1_apply (t : Fin cfg0.N) (k : Fin 2048) (n : Fin 512) :
    iblk m c 1 t (ix2 k n) = V m c main_arg1 (ix2 k ⟨t.val % 11 * 512 + n.val, by omega⟩) := by
  unfold iblk
  blk_simp
  refine congrArg (V m c main_arg1) ?_
  blk_ext [ix1]

theorem iblk2_apply (t : Fin cfg0.N) (k : Fin 2048) (n : Fin 512) :
    iblk m c 2 t (ix2 k n) = V m c main_arg1 (ix2 k ⟨5632 + (t.val % 11 * 512 + n.val), by omega⟩) := by
  unfold iblk
  blk_simp
  refine congrArg (V m c main_arg1) ?_
  blk_ext [ix2']

theorem iblk3_apply (t : Fin cfg0.N) (k : Fin 512) (n : Fin 2048) :
    iblk m c 3 t (ix2 k n) = V m c main_arg2 (ix2 ⟨t.val % 11 * 512 + k.val, by omega⟩ n) := by
  unfold iblk
  blk_simp
  refine congrArg (V m c main_arg2) ?_
  blk_ext [ix3]

/-! ## One point, and all of them -/

/-- Half `s` of the point's hidden columns: column `x` of the half. -/
def halfCol (t : Fin cfg0.N) (s : Fin 2) (x : Fin 256) : Fin 5632 := ⟨t.val % 11 * 512 + (s.val * 256 + x.val), by omega⟩

/-- A half's parts, from the blocks the point is handed. -/
theorem half_apply (t : Fin cfg0.N) (s : Fin 2) (h : Vec Ideal S1024x2048 .bf16) (wg wu : Vec Ideal S2048x256 .bf16) (d : Vec Ideal S256x2048 .bf16)
    (hh : ∀ r k, h (ix2 r k) = V m c main_arg0 (ix2 ⟨t.val / 11 * 1024 + r.val, by have := lt_N t; omega⟩ k))
    (hg : ∀ k x, wg (ix2 k x) = V m c main_arg1 (ix2 k ⟨(halfCol t s x).val, by have := (halfCol t s x).isLt; omega⟩))
    (hu : ∀ k x, wu (ix2 k x) = V m c main_arg1 (ix2 k ⟨5632 + (halfCol t s x).val, by have := (halfCol t s x).isLt; omega⟩))
    (hd : ∀ x n, d (ix2 x n) = V m c main_arg2 (ix2 (halfCol t s x) n)) (r : Fin 1024) (n : Fin 2048) :
    (∑ x : Fin 256, ((∑ k : Fin 2048, h (ix2 r k) * wg (ix2 k x)) * Ideal.logistic (∑ k : Fin 2048, h (ix2 r k) * wg (ix2 k x))
        * ∑ k : Fin 2048, h (ix2 r k) * wu (ix2 k x)) * d (ix2 x n))
      = ∑ x : Fin 256, partOf (V m c main_arg0) (V m c main_arg1) (V m c main_arg2) (t.val / 11) (t.val % 11 * 512 + (s.val * 256 + x.val)) (ix2 r n) := by
  have ht := lt_N t
  refine Finset.sum_congr rfl fun x _ => ?_
  have eg : (∑ k : Fin 2048, h (ix2 r k) * wg (ix2 k x)) = dotOf (V m c main_arg0) (V m c main_arg1)
      ⟨t.val / 11 * 1024 + r.val, by omega⟩ ⟨(halfCol t s x).val, by have := (halfCol t s x).isLt; omega⟩ :=
    Finset.sum_congr rfl fun k _ => congrArg₂ (· * ·) (hh r k) (hg k x)
  have eu : (∑ k : Fin 2048, h (ix2 r k) * wu (ix2 k x)) = dotOf (V m c main_arg0) (V m c main_arg1)
      ⟨t.val / 11 * 1024 + r.val, by omega⟩ ⟨5632 + (halfCol t s x).val, by have := (halfCol t s x).isLt; omega⟩ :=
    Finset.sum_congr rfl fun k _ => congrArg₂ (· * ·) (hh r k) (hu k x)
  rw [eg, eu, hd]
  unfold partOf
  have hc : t.val / 11 < 16 ∧ t.val % 11 * 512 + (s.val * 256 + x.val) < 5632 := ⟨by omega, (halfCol t s x).isLt⟩
  rw [dif_pos hc]
  rfl

/-- Columns `o, …, o + 255` of the gate's block. -/
theorem gate_apply (t : Fin cfg0.N) (s : Fin 2) (o : ℕ) (ho : o = s.val * 256)
    (inb : ∀ a : Fin S2048x512.rank, ![0, o] a + (![2048, 256] : Fin 2 → ℕ) a ≤ S2048x512.size a) (k : Fin 2048) (x : Fin 256) :
    View.ld (iblk m c 1 t) (Rect.unit ![0, o] ![2048, 256] inb) (ix2 k x)
      = V m c main_arg1 (ix2 k ⟨(halfCol t s x).val, by have := (halfCol t s x).isLt; omega⟩) := by
  refine (View.ld_unit_apply_of _ _ _ _ _ (ix2 k ⟨o + x.val, by omega⟩) ?_).trans ((iblk1_apply m c t k _).trans (congrArg (fun n => V m c main_arg1 (ix2 k n)) (Fin.ext ?_)))
  · intro a; fin_cases a <;> simp
  · simp [halfCol, ho]

/-- Columns `o, …, o + 255` of the up projection's block. -/
theorem up_apply (t : Fin cfg0.N) (s : Fin 2) (o : ℕ) (ho : o = s.val * 256)
    (inb : ∀ a : Fin S2048x512.rank, ![0, o] a + (![2048, 256] : Fin 2 → ℕ) a ≤ S2048x512.size a) (k : Fin 2048) (x : Fin 256) :
    View.ld (iblk m c 2 t) (Rect.unit ![0, o] ![2048, 256] inb) (ix2 k x)
      = V m c main_arg1 (ix2 k ⟨5632 + (halfCol t s x).val, by have := (halfCol t s x).isLt; omega⟩) := by
  refine (View.ld_unit_apply_of _ _ _ _ _ (ix2 k ⟨o + x.val, by omega⟩) ?_).trans ((iblk2_apply m c t k _).trans (congrArg (fun n => V m c main_arg1 (ix2 k n)) (Fin.ext ?_)))
  · intro a; fin_cases a <;> simp
  · simp [halfCol, ho]

/-- Rows `o, …, o + 255` of the down projection's block. -/
theorem down_apply (t : Fin cfg0.N) (s : Fin 2) (o : ℕ) (ho : o = s.val * 256)
    (inb : ∀ a : Fin S512x2048.rank, ![o, 0] a + (![256, 2048] : Fin 2 → ℕ) a ≤ S512x2048.size a) (x : Fin 256) (n : Fin 2048) :
    View.ld (iblk m c 3 t) (Rect.unit ![o, 0] ![256, 2048] inb) (ix2 x n) = V m c main_arg2 (ix2 (halfCol t s x) n) := by
  refine (View.ld_unit_apply_of _ _ _ _ _ (ix2 ⟨o + x.val, by omega⟩ n) ?_).trans ((iblk3_apply m c t _ n).trans (congrArg (fun k => V m c main_arg2 (ix2 k n)) (Fin.ext ?_)))
  · intro a; fin_cases a <;> simp
  · simp [halfCol, ho]

/-- The point's parts are its two halves' parts. -/
theorem termOf_halves (X : S16384x2048.Idx → EReal) (W : S2048x11264.Idx → EReal) (D : S5632x2048.Idx → EReal) (a j : ℕ) (i : S1024x2048.Idx) :
    (∑ x : Fin 256, partOf X W D a (j * 512 + ((0 : Fin 2).val * 256 + x.val)) i) + ∑ x : Fin 256, partOf X W D a (j * 512 + ((1 : Fin 2).val * 256 + x.val)) i
      = termOf X W D a j i := by
  unfold termOf
  rw [← Fin.sum_univ_eq_sum_range (fun q => partOf X W D a (j * 512 + q) i) 512]
  exact (Fin.sum_univ_two (fun s : Fin 2 => ∑ x : Fin 256, partOf X W D a (j * 512 + (s.val * 256 + x.val)) i)).symm.trans
    (Fin.sum_univ_univ_mul_add 2 256 (fun q => partOf X W D a (j * 512 + q) i))

/-- What a point adds to the block. -/
theorem step_apply (t : Fin cfg0.N) (o : Vec Ideal S1024x2048 .f32) (i : S1024x2048.Idx) :
    k0_pay2 (iblk m c 0 t) (View.ld (iblk m c 1 t) (Rect.unit ![0, 0] ![2048, 256] inb_S2048x512_S2048x256_0_0))
      (View.ld (iblk m c 2 t) (Rect.unit ![0, 0] ![2048, 256] inb_S2048x512_S2048x256_0_0))
      (View.ld (iblk m c 1 t) (Rect.unit ![0, 256] ![2048, 256] inb_S2048x512_S2048x256_0_256))
      (View.ld (iblk m c 2 t) (Rect.unit ![0, 256] ![2048, 256] inb_S2048x512_S2048x256_0_256)) o
      (View.ld (iblk m c 3 t) (Rect.unit ![0, 0] ![256, 2048] inb_S512x2048_S256x2048_0_0))
      (View.ld (iblk m c 3 t) (Rect.unit ![256, 0] ![256, 2048] inb_S512x2048_S256x2048_256_0)) i
      = o i + termOf (V m c main_arg0) (V m c main_arg1) (V m c main_arg2) (t.val / 11) (t.val % 11) i := by
  obtain ⟨r, n, rfl⟩ : ∃ (r : Fin 1024) (n : Fin 2048), i = ix2 r n := ⟨i 0, i 1, eq_ix2 i⟩
  rw [← termOf_halves]
  exact (pay2_apply _ _ _ _ _ _ _ _ r n).trans (congrArg (o (ix2 r n) + ·)
    (congrArg₂ (· + ·)
      (half_apply m c t 0 _ _ _ _ (iblk0_apply m c t) (gate_apply m c t 0 0 rfl _) (up_apply m c t 0 0 rfl _) (down_apply m c t 0 0 rfl _) r n)
      (half_apply m c t 1 _ _ _ _ (iblk0_apply m c t) (gate_apply m c t 1 256 rfl _) (up_apply m c t 1 256 rfl _) (down_apply m c t 1 256 rfl _) r n)))

/-- What the output's buffer holds after a point: the parts of the hidden columns so far. -/
theorem outs_apply (t : Fin cfg0.N) (i : S1024x2048.Idx) :
    outsAt0 m c t.val t.isLt i = ∑ j ∈ Finset.range (t.val % 11 + 1), termOf (V m c main_arg0) (V m c main_arg1) (V m c main_arg2) (t.val / 11) j i := by
  refine (Pipeline.eq_sum_of_reset_step_apply_divmod (fun n h => outsAt0 m c n h) 11 (fun _ => (0 : EReal))
    (termOf (V m c main_arg0) (V m c main_arg1) (V m c main_arg2)) ?_ ?_ t i).trans (zero_add _)
  · intro t h i
    show outsAt0 m c t.val t.isLt i = _
    rw [outsAt0_A m c t h]; frame_out
    exact (step_apply m c t _ i).trans (congrArg (· + _) (pay1_apply i))
  · intro t h i
    show outsAt0 m c t.val t.isLt i = _
    rw [outsAt0_B m c t h]; frame_out
    exact step_apply m c t _ i

/-- The result array after the run: the feed-forward block of the arguments. -/
theorem arr : ((dats m 0 c).arrAt 4 cfg0.N : S16384x2048.Idx → EReal) = ffnOf (V m c main_arg0) (V m c main_arg1) (V m c main_arg2) := by
  refine funext fun i => ?_
  have hi0 : (i 0).val < 16384 := (i 0).isLt
  have hi1 : (i 1).val < 2048 := (i 1).isLt
  obtain ⟨t, ht⟩ : ∃ t : Fin cfg0.N, t.val = (i 0).val / 1024 * 11 + 10 :=
    ⟨⟨(i 0).val / 1024 * 11 + 10, lt_of_lt_of_eq (by omega) N_0.symm⟩, rfl⟩
  refine (dats m 0 c).arrAt_forall_of_flushed 4 (fun i v => v = ffnOf (V m c main_arg0) (V m c main_arg1) (V m c main_arg2) i) ?_ cfg0.N t i t.isLt ?_ ?_
  · intro t hf y
    idx_bounds y
    have hr : t.val % 11 = 10 := (flush0_4 t).mp hf
    have hN := lt_N t
    have ey : (win0_4.blk t).view.emb y = ix2 ⟨t.val / 11 * 1024 + (y 0).val, by omega⟩ (y 1) := by
      blk_ext [ix4]
    blk_simp
    rw [after0_4]
    refine Eq.trans ?_ (congrArg (ffnOf (V m c main_arg0) (V m c main_arg1) (V m c main_arg2)) ey).symm
    refine (congrArg _ (eq_ix2 y)).trans ((outs_apply m c t (ix2 (y 0) (y 1))).trans ?_)
    rw [hr]
    exact sum_terms _ _ _ _ (by omega) (y 0) (y 1)
  · exact (flush0_4 t).mpr (by omega)
  · mem_blk [ix4]
    exact ⟨⟨by omega, by omega⟩, by omega, by omega⟩

/-! ## The reference -/

/-- The reference's result is the feed-forward block of its arguments. -/
theorem ref (x0 : Vec Ideal S16384x2048 .bf16) (x1 : Vec Ideal S2048x11264 .bf16) (x2 : Vec Ideal S5632x2048 .bf16) :
    (Cert.FfnReferenceIdeal.Read.val_main_v8 (F := Ideal) x0 x1 x2 : S16384x2048.Idx → EReal) = ffnOf x0 x1 x2 := by
  funext i
  obtain ⟨r, n, rfl⟩ : ∃ (r : Fin 16384) (n : Fin 2048), i = ix2 r n := ⟨i 0, i 1, eq_ix2 i⟩
  unfold ffnOf actOf dotOf Ideal.logistic
  pointwise [Cert.FfnReferenceIdeal.Read.val_main_v0, Cert.FfnReferenceIdeal.Read.val_main_v1, Cert.FfnReferenceIdeal.Read.val_main_v2,
    Cert.FfnReferenceIdeal.Read.val_main_v3, Cert.FfnReferenceIdeal.Read.val_main_v4, Cert.FfnReferenceIdeal.Read.val_main_v5,
    Cert.FfnReferenceIdeal.Read.val_main_v6, Cert.FfnReferenceIdeal.Read.val_main_v7, Cert.FfnReferenceIdeal.Read.val_main_v8,
    Cert.FfnReferenceIdeal.Read.val_main_call0_v0, Cert.FfnReferenceIdeal.Read.val_main_call0_v1, Cert.FfnReferenceIdeal.Read.val_main_call0_v2,
    Cert.FfnReferenceIdeal.Read.val_main_call0_v3, Cert.FfnReferenceIdeal.Read.val_main_call0_v4, Cert.FfnReferenceIdeal.Read.val_main_call0_v5,
    Cert.FfnReferenceIdeal.Read.val_main_call0_cst, Cert.FfnReferenceIdeal.Read.val_main_call0_cst_0]

/-- The result array after the run is the reference's result of the arguments. -/
theorem res_eq : ((dats m 0 c).arrAt 4 cfg0.N : S16384x2048.Idx → EReal)
    = Cert.FfnReferenceIdeal.Read.val_main_v8 (F := Ideal) (m ((c : Thread nD τ).loc main_arg0)) (m ((c : Thread nD τ).loc main_arg1)) (m ((c : Thread nD τ).loc main_arg2)) := by
  rw [ref, ← V_main_arg0 m c, ← V_main_arg1 m c, ← V_main_arg2 m c]
  exact arr m c

end Cert.Proof.Ffn

end
-- ==== Proof.Tiles.lean ====
/-
  A block of 512 rows and 2048 columns written in eight tiles of 256 columns, and a row's sum taken tile by tile.
-/
module

public import Idealize.ShloMosaic.Lib.Pointwise
public import Idealize.ShloMosaic.Lib.Ring
public import Idealize.ShloMosaic.Lib.Tactic
public import Idealize.ShloMosaic.Lib.Pipeline.ReadBack
public import Idealize.ShloMosaic.Lib.Pipeline.CanonAppend
public import Idealize.ShloMosaic.Lib.Pipeline.ValueKit

@[expose] public section

set_option maxRecDepth 16384

noncomputable section

namespace Cert.Proof.Tiles

open Idealize.ShloMosaic Idealize.ShloMosaic.TcCoe

/-- The whole block. -/
abbrev Blk : Shape := ⟨2, ![512, 2048]⟩
/-- One tile of columns. -/
abbrev Tile : Shape := ⟨2, ![512, 256]⟩

/-- Column `n` of tile `j`. -/
def col (j : Fin 8) (n : Fin 256) : Fin 2048 := ⟨j.val * 256 + n.val, by omega⟩

/-- Columns `o, …, o + 255` of a block of `m` rows, at an index. -/
theorem ld_cols {Val : EltTy → Type} {e : EltTy} {m o : ℕ} (j : Fin 8) (ho : o = j.val * 256) (X : (⟨2, ![m, 2048]⟩ : Shape).Idx → Val e)
    (inb : ∀ a : Fin (⟨2, ![m, 2048]⟩ : Shape).rank, ![0, o] a + (![m, 256] : Fin 2 → ℕ) a ≤ (⟨2, ![m, 2048]⟩ : Shape).size a) (r : Fin m) (n : Fin 256) :
    View.ld X (Rect.unit (s := ⟨2, ![m, 2048]⟩) ![0, o] ![m, 256] inb) (ix2 r n) = X (ix2 r (col j n)) := by
  refine View.ld_unit_apply_of _ _ _ _ _ (ix2 r (col j n)) ?_
  intro a; fin_cases a <;> simp [col, ho]

variable {Val : EltTy → Type} [∀ e, Nonempty (Val e)] {e : EltTy}

/-- Where tile `j` lies in the block. -/
theorem emb_cols {o : ℕ} (j : Fin 8) (ho : o = j.val * 256)
    (inb : ∀ a : Fin Blk.rank, ![0, o] a + (![512, 256] : Fin 2 → ℕ) a ≤ Blk.size a) (x : Tile.Idx) :
    (Rect.unit (s := Blk) ![0, o] ![512, 256] inb).emb x = ix2 (x 0) (col j (x 1)) := by
  funext a; apply Fin.ext
  refine (Rect.idx_unit_val _ _ _ x a).trans ?_
  fin_cases a <;> simp [col, ho]

/-- Eight tiles that are the tiles of one array make that array, whatever was written before. -/
theorem canon_cols (G : Blk.Idx → Val e) (w0 w1 w2 w3 w4 w5 w6 w7 : Tile.Idx → Val e) (L' : List (View.Piece Val Blk e))
    (h0 : ∀ r n, w0 (ix2 r n) = G (ix2 r (col 0 n))) (h1 : ∀ r n, w1 (ix2 r n) = G (ix2 r (col 1 n)))
    (h2 : ∀ r n, w2 (ix2 r n) = G (ix2 r (col 2 n))) (h3 : ∀ r n, w3 (ix2 r n) = G (ix2 r (col 3 n)))
    (h4 : ∀ r n, w4 (ix2 r n) = G (ix2 r (col 4 n))) (h5 : ∀ r n, w5 (ix2 r n) = G (ix2 r (col 5 n)))
    (h6 : ∀ r n, w6 (ix2 r n) = G (ix2 r (col 6 n))) (h7 : ∀ r n, w7 (ix2 r n) = G (ix2 r (col 7 n)))
    (i0 : ∀ a : Fin Blk.rank, ![0, 0] a + (![512, 256] : Fin 2 → ℕ) a ≤ Blk.size a)
    (i1 : ∀ a : Fin Blk.rank, ![0, 256] a + (![512, 256] : Fin 2 → ℕ) a ≤ Blk.size a)
    (i2 : ∀ a : Fin Blk.rank, ![0, 512] a + (![512, 256] : Fin 2 → ℕ) a ≤ Blk.size a)
    (i3 : ∀ a : Fin Blk.rank, ![0, 768] a + (![512, 256] : Fin 2 → ℕ) a ≤ Blk.size a)
    (i4 : ∀ a : Fin Blk.rank, ![0, 1024] a + (![512, 256] : Fin 2 → ℕ) a ≤ Blk.size a)
    (i5 : ∀ a : Fin Blk.rank, ![0, 1280] a + (![512, 256] : Fin 2 → ℕ) a ≤ Blk.size a)
    (i6 : ∀ a : Fin Blk.rank, ![0, 1536] a + (![512, 256] : Fin 2 → ℕ) a ≤ Blk.size a)
    (i7 : ∀ a : Fin Blk.rank, ![0, 1792] a + (![512, 256] : Fin 2 → ℕ) a ≤ Blk.size a) :
    View.canon (⟨Rect.unit (s := Blk) ![0, 1792] ![512, 256] i7, w7⟩ :: ⟨Rect.unit (s := Blk) ![0, 1536] ![512, 256] i6, w6⟩
      :: ⟨Rect.unit (s := Blk) ![0, 1280] ![512, 256] i5, w5⟩ :: ⟨Rect.unit (s := Blk) ![0, 1024] ![512, 256] i4, w4⟩
      :: ⟨Rect.unit (s := Blk) ![0, 768] ![512, 256] i3, w3⟩ :: ⟨Rect.unit (s := Blk) ![0, 512] ![512, 256] i2, w2⟩
      :: ⟨Rect.unit (s := Blk) ![0, 256] ![512, 256] i1, w1⟩ :: ⟨Rect.unit (s := Blk) ![0, 0] ![512, 256] i0, w0⟩ :: L') = G := by
  funext y
  have put : ∀ (j : Fin 8) (o : ℕ) (ho : o = j.val * 256) (inb : ∀ a : Fin Blk.rank, ![0, o] a + (![512, 256] : Fin 2 → ℕ) a ≤ Blk.size a)
      (w : Tile.Idx → Val e), (∀ r n, w (ix2 r n) = G (ix2 r (col j n))) →
      ∀ x : Tile.Idx, w x = G ((Rect.unit (s := Blk) ![0, o] ![512, 256] inb).emb x) := by
    intro j o ho inb w hw x
    rw [emb_cols j ho inb x]
    exact (congrArg w (eq_ix2 x)).trans (hw (x 0) (x 1))
  refine View.canon_append_of_piecesOf G L'
    [⟨Rect.unit (s := Blk) ![0, 1792] ![512, 256] i7, w7⟩, ⟨Rect.unit (s := Blk) ![0, 1536] ![512, 256] i6, w6⟩,
      ⟨Rect.unit (s := Blk) ![0, 1280] ![512, 256] i5, w5⟩, ⟨Rect.unit (s := Blk) ![0, 1024] ![512, 256] i4, w4⟩,
      ⟨Rect.unit (s := Blk) ![0, 768] ![512, 256] i3, w3⟩, ⟨Rect.unit (s := Blk) ![0, 512] ![512, 256] i2, w2⟩,
      ⟨Rect.unit (s := Blk) ![0, 256] ![512, 256] i1, w1⟩, ⟨Rect.unit (s := Blk) ![0, 0] ![512, 256] i0, w0⟩]
    ⟨put 7 _ rfl i7 w7 h7, put 6 _ rfl i6 w6 h6, put 5 _ rfl i5 w5 h5, put 4 _ rfl i4 w4 h4, put 3 _ rfl i3 w3 h3, put 2 _ rfl i2 w2 h2,
      put 1 _ rfl i1 w1 h1, put 0 _ rfl i0 w0 h0, trivial⟩ y ?_
  exact View.cover_of_tiledL _ ![512, 256] (by sl_kernel_rfl) y

/-- A whole block read back after its eight tiles were written is the array whose tiles they are. -/
theorem read_cols {sig : RefSig} {κ : Kind} {sp : Space} (v : View sig κ sp Blk e) (G : Blk.Idx → Val e) (w0 w1 w2 w3 w4 w5 w6 w7 : Tile.Idx → Val e)
    (h0 : ∀ r n, w0 (ix2 r n) = G (ix2 r (col 0 n))) (h1 : ∀ r n, w1 (ix2 r n) = G (ix2 r (col 1 n)))
    (h2 : ∀ r n, w2 (ix2 r n) = G (ix2 r (col 2 n))) (h3 : ∀ r n, w3 (ix2 r n) = G (ix2 r (col 3 n)))
    (h4 : ∀ r n, w4 (ix2 r n) = G (ix2 r (col 4 n))) (h5 : ∀ r n, w5 (ix2 r n) = G (ix2 r (col 5 n)))
    (h6 : ∀ r n, w6 (ix2 r n) = G (ix2 r (col 6 n))) (h7 : ∀ r n, w7 (ix2 r n) = G (ix2 r (col 7 n)))
    (i0 : ∀ a : Fin Blk.rank, ![0, 0] a + (![512, 256] : Fin 2 → ℕ) a ≤ Blk.size a)
    (i1 : ∀ a : Fin Blk.rank, ![0, 256] a + (![512, 256] : Fin 2 → ℕ) a ≤ Blk.size a)
    (i2 : ∀ a : Fin Blk.rank, ![0, 512] a + (![512, 256] : Fin 2 → ℕ) a ≤ Blk.size a)
    (i3 : ∀ a : Fin Blk.rank, ![0, 768] a + (![512, 256] : Fin 2 → ℕ) a ≤ Blk.size a)
    (i4 : ∀ a : Fin Blk.rank, ![0, 1024] a + (![512, 256] : Fin 2 → ℕ) a ≤ Blk.size a)
    (i5 : ∀ a : Fin Blk.rank, ![0, 1280] a + (![512, 256] : Fin 2 → ℕ) a ≤ Blk.size a)
    (i6 : ∀ a : Fin Blk.rank, ![0, 1536] a + (![512, 256] : Fin 2 → ℕ) a ≤ Blk.size a)
    (i7 : ∀ a : Fin Blk.rank, ![0, 1792] a + (![512, 256] : Fin 2 → ℕ) a ≤ Blk.size a)
    (ii : ∀ a : Fin Blk.rank, ![0, 0] a + (![512, 2048] : Fin 2 → ℕ) a ≤ Blk.size a) :
    v.readCov
      [⟨Rect.unit (s := Blk) ![0, 1792] ![512, 256] i7, w7⟩, ⟨Rect.unit (s := Blk) ![0, 1536] ![512, 256] i6, w6⟩,
      ⟨Rect.unit (s := Blk) ![0, 1280] ![512, 256] i5, w5⟩, ⟨Rect.unit (s := Blk) ![0, 1024] ![512, 256] i4, w4⟩,
      ⟨Rect.unit (s := Blk) ![0, 768] ![512, 256] i3, w3⟩, ⟨Rect.unit (s := Blk) ![0, 512] ![512, 256] i2, w2⟩,
      ⟨Rect.unit (s := Blk) ![0, 256] ![512, 256] i1, w1⟩, ⟨Rect.unit (s := Blk) ![0, 0] ![512, 256] i0, w0⟩]
      (Rect.unit (s := Blk) ![0, 0] ![512, 2048] ii).toLoadRect = G := by
  refine (View.readCov_eq_canon_ld v _ (Rect.unit (s := Blk) ![0, 0] ![512, 2048] ii) (View.cover_of_tiledL _ ![512, 256] (by sl_kernel_rfl))).trans ?_
  rw [canon_cols G w0 w1 w2 w3 w4 w5 w6 w7 [] h0 h1 h2 h3 h4 h5 h6 h7 i0 i1 i2 i3 i4 i5 i6 i7]
  funext x
  refine View.ld_unit_apply_of _ _ _ _ _ x ?_
  intro a; fin_cases a <;> simp

/-- One over the root mean square of a row, the mean taken of 2048 entries and shifted by the constant of the kernel. -/
def invRms (T : Fin 2048 → EReal) : EReal :=
  Ideal.rsqrt (Ideal.div (∑ n : Fin 2048, T n * T n) (Ideal.ofBits FTy.f32 1157627904#32) + Ideal.ofBits FTy.f32 897988541#32)

/-- A row's sum, tile by tile. -/
theorem sum_cols (f : Fin 2048 → EReal) :
    (∑ n : Fin 256, f (col 0 n)) + (∑ n : Fin 256, f (col 1 n)) + (∑ n : Fin 256, f (col 2 n)) + (∑ n : Fin 256, f (col 3 n))
      + (∑ n : Fin 256, f (col 4 n)) + (∑ n : Fin 256, f (col 5 n)) + (∑ n : Fin 256, f (col 6 n)) + (∑ n : Fin 256, f (col 7 n)) = ∑ n : Fin 2048, f n := by
  rw [← Fin.sum_mul_add_fin 8 256 f]
  exact (Fin.sum_univ_eight (fun s : Fin 8 => ∑ n : Fin 256, f (col s n))).symm

/-- Multiplying by the constant `1 / 2048` is dividing by the constant `2048`. -/
theorem mul_inv_2048 (s : EReal) : s * Ideal.ofBits FTy.f32 973078528#32 = Ideal.div s (Ideal.ofBits FTy.f32 1157627904#32) := by
  have e1 : Ideal.ofBits FTy.f32 973078528#32 = (((1 : ℝ) / 2048 : ℝ) : EReal) := by
    simp [Ideal.ofBits, Ideal.ieee, -EReal.coe_mul]; norm_num
  have e2 : Ideal.ofBits FTy.f32 1157627904#32 = ((2048 : ℝ) : EReal) := by
    simp [Ideal.ofBits, Ideal.ieee, -EReal.coe_mul]; norm_num
  rw [e1, e2, Ideal.div_coe (by norm_num)]

end Cert.Proof.Tiles

end
-- ==== Proof.Ple.lean ====
/-
  The gated per-layer-input call at the ideal instance: each block of 512 rows is finished in one grid point, in two
  passes over eight column tiles. The first pass writes the unscaled rows and sums their squares; the second scales them.
-/
module

public import proofs.«01_k».proof.Proof.Gen.PleIdeal.Value
public import proofs.«01_k».proof.Proof.Gen.PleReferenceIdeal.Read
public import proofs.«01_k».proof.Proof.Tiles

@[expose] public section

set_option maxRecDepth 16384

noncomputable section

namespace Cert.Proof.Ple

open Idealize.ShloMosaic Idealize.ShloMosaic.TcCoe
open Idealize.ShloMosaic.Pipeline (Dat Cfg Window)
open Cert.PleIdeal Cert.PleIdeal.Gen

/-! ## The mathematics, for any number of rows -/

/-- Row `r`, column `n` before the last normalization: the sum of the two inputs, and the gated projection of the per-layer input. -/
def rowOf {M : ℕ} (a b : (⟨2, ![M, 2048]⟩ : Shape).Idx → EReal) (p : (⟨2, ![M, 256]⟩ : Shape).Idx → EReal) (wg : S2048x2048.Idx → EReal)
    (wp : S256x2048.Idx → EReal) (r : Fin M) (n : Fin 2048) : EReal :=
  a (ix2 r n) + b (ix2 r n) + Ideal.logistic (∑ k : Fin 2048, (a (ix2 r k) + b (ix2 r k)) * wg (ix2 k n)) * ∑ k : Fin 256, p (ix2 r k) * wp (ix2 k n)

/-- The normalized row, times the gains. -/
def pleOf {M : ℕ} (a b : (⟨2, ![M, 2048]⟩ : Shape).Idx → EReal) (p : (⟨2, ![M, 256]⟩ : Shape).Idx → EReal) (wg : S2048x2048.Idx → EReal)
    (wp : S256x2048.Idx → EReal) (g : Fin 2048 → EReal) : (⟨2, ![M, 2048]⟩ : Shape).Idx → EReal :=
  fun i => rowOf a b p wg wp (i 0) (i 1) * Tiles.invRms (rowOf a b p wg wp (i 0)) * g (i 1)

/-- A row of a result reads only that row of the inputs. -/
theorem pleOf_row {M M' : ℕ} (a b : (⟨2, ![M, 2048]⟩ : Shape).Idx → EReal) (p : (⟨2, ![M, 256]⟩ : Shape).Idx → EReal) (wg : S2048x2048.Idx → EReal)
    (wp : S256x2048.Idx → EReal) (g : Fin 2048 → EReal) (a' b' : (⟨2, ![M', 2048]⟩ : Shape).Idx → EReal) (p' : (⟨2, ![M', 256]⟩ : Shape).Idx → EReal)
    (wg' : S2048x2048.Idx → EReal) (wp' : S256x2048.Idx → EReal) (g' : Fin 2048 → EReal) (r : Fin M) (r' : Fin M')
    (ha : ∀ k, a (ix2 r k) = a' (ix2 r' k)) (hb : ∀ k, b (ix2 r k) = b' (ix2 r' k)) (hp : ∀ k, p (ix2 r k) = p' (ix2 r' k))
    (hw : ∀ k n, wg (ix2 k n) = wg' (ix2 k n)) (hwp : ∀ k n, wp (ix2 k n) = wp' (ix2 k n)) (hg : ∀ n, g n = g' n) (n : Fin 2048) :
    pleOf a b p wg wp g (ix2 r n) = pleOf a' b' p' wg' wp' g' (ix2 r' n) := by
  have hT : rowOf a b p wg wp r = rowOf a' b' p' wg' wp' r' := by
    funext k
    unfold rowOf
    simp only [ha, hb, hp, hw, hwp]
  show rowOf a b p wg wp r n * Tiles.invRms (rowOf a b p wg wp r) * g n = rowOf a' b' p' wg' wp' r' n * Tiles.invRms (rowOf a' b' p' wg' wp' r') * g' n
  rw [hT, hg]

/-! ## The body at an index -/

/-- A tile of the first pass. -/
theorem tile_apply (j : Fin 8) (x0 x1 : Vec Ideal S512x2048 .f32) (x2 : Vec Ideal S512x256 .f32) (x3 : Vec Ideal S2048x2048 .bf16) (x4 : Vec Ideal S256x2048 .bf16)
    (w : Vec Ideal S2048x256 .bf16) (p : Vec Ideal S256x256 .bf16) (s : Vec Ideal S512x256 .f32)
    (hw : ∀ k n, w (ix2 k n) = x3 (ix2 k (Tiles.col j n))) (hp : ∀ k n, p (ix2 k n) = x4 (ix2 k (Tiles.col j n)))
    (hs : ∀ r n, s (ix2 r n) = k0_pay1 x0 x1 (ix2 r (Tiles.col j n))) (r : Fin 512) (n : Fin 256) :
    k0_pay4 (k0_pay1 x0 x1) x2 w p s (ix2 r n) = rowOf x0 x1 x2 x3 x4 r (Tiles.col j n) := by
  have e1 : ∀ r k, k0_pay1 x0 x1 (ix2 r k) = x0 (ix2 r k) + x1 (ix2 r k) := by
    intro r k
    pointwise [k0_pay1]
  have e4 : k0_pay4 (k0_pay1 x0 x1) x2 w p s (ix2 r n)
      = s (ix2 r n) + Ideal.logistic (∑ x : Fin 2048, k0_pay1 x0 x1 (ix2 r x) * w (ix2 x n)) * ∑ x : Fin 256, x2 (ix2 r x) * p (ix2 x n) := by
    pointwise [k0_pay4, k0_pay2, k0_pay3]
  rw [e4]
  unfold rowOf
  simp only [hw, hp, hs, e1]

/-- The same, of the columns the body loads. -/
theorem tile_ld (j : Fin 8) (o : ℕ) (ho : o = j.val * 256) (x0 x1 : Vec Ideal S512x2048 .f32) (x2 : Vec Ideal S512x256 .f32) (x3 : Vec Ideal S2048x2048 .bf16)
    (x4 : Vec Ideal S256x2048 .bf16) (iw : ∀ a : Fin S2048x2048.rank, ![0, o] a + (![2048, 256] : Fin 2 → ℕ) a ≤ S2048x2048.size a)
    (ip : ∀ a : Fin S256x2048.rank, ![0, o] a + (![256, 256] : Fin 2 → ℕ) a ≤ S256x2048.size a)
    (is : ∀ a : Fin S512x2048.rank, ![0, o] a + (![512, 256] : Fin 2 → ℕ) a ≤ S512x2048.size a) (r : Fin 512) (n : Fin 256) :
    k0_pay4 (k0_pay1 x0 x1) x2 (View.ld x3 (Rect.unit ![0, o] ![2048, 256] iw)) (View.ld x4 (Rect.unit ![0, o] ![256, 256] ip))
      (View.ld (Val := Elt Ideal) (e' := .f32) (k0_pay1 x0 x1) (Rect.unit (s := S512x2048) ![0, o] ![512, 256] is)) (ix2 r n) = rowOf x0 x1 x2 x3 x4 r (Tiles.col j n) :=
  tile_apply j x0 x1 x2 x3 x4 _ _ _ (fun k n => Tiles.ld_cols j ho x3 iw k n) (fun k n => Tiles.ld_cols j ho x4 ip k n)
    (fun r n => Tiles.ld_cols (Val := Elt Ideal) (e := .f32) j ho (k0_pay1 x0 x1) is r n) r n

/-- The sum of squares after the first tile. -/
theorem ssq1 (X : Vec Ideal S512x2048 .f32) (P : Vec Ideal S512x256 .f32) (w : Vec Ideal S2048x256 .bf16) (p : Vec Ideal S256x256 .bf16)
    (s : Vec Ideal S512x256 .f32) (r : Fin 512) :
    k0_pay5 X P w p s (ix2 r 0) = ∑ n : Fin 256, k0_pay4 X P w p s (ix2 r n) * k0_pay4 X P w p s (ix2 r n) := by
  pointwise [k0_pay5]

/-- Two more tiles' squares. -/
theorem ssq2 (X : Vec Ideal S512x2048 .f32) (P : Vec Ideal S512x256 .f32) (v : FVec Ideal S512x1 .f32) (w w' : Vec Ideal S2048x256 .bf16)
    (p p' : Vec Ideal S256x256 .bf16) (s s' : Vec Ideal S512x256 .f32) (r : Fin 512) :
    k0_pay9 (k0_pay2 X) (k0_pay3 P) v (k0_pay6 X w) p (constant S512x256 .f32 0#32) s w' p' s' (ix2 r 0)
      = v (ix2 r 0) + (∑ n : Fin 256, k0_pay4 X P w p s (ix2 r n) * k0_pay4 X P w p s (ix2 r n))
        + ∑ n : Fin 256, k0_pay4 X P w' p' s' (ix2 r n) * k0_pay4 X P w' p' s' (ix2 r n) := by
  have e : k0_pay7 (k0_pay3 P) (k0_pay6 X w) p (constant S512x256 .f32 0#32) s = k0_pay4 X P w p s := rfl
  have e' : k0_pay8 (k0_pay2 X) (k0_pay3 P) w' p' s' = k0_pay4 X P w' p' s' := rfl
  rw [← e, ← e']
  pointwise [k0_pay9]

/-- Three more tiles' squares. -/
theorem ssq3 (X : Vec Ideal S512x2048 .f32) (P : Vec Ideal S512x256 .f32) (v : FVec Ideal S512x1 .f32) (w w' w'' : Vec Ideal S2048x256 .bf16)
    (p p' p'' : Vec Ideal S256x256 .bf16) (s s' s'' : Vec Ideal S512x256 .f32) (r : Fin 512) :
    k0_pay13 (k0_pay2 X) (k0_pay3 P) v (k0_pay10 (k0_pay2 X) (k0_pay3 P) w p s) w' p' s' w'' p'' s'' (ix2 r 0)
      = v (ix2 r 0) + (∑ n : Fin 256, k0_pay4 X P w p s (ix2 r n) * k0_pay4 X P w p s (ix2 r n))
        + (∑ n : Fin 256, k0_pay4 X P w' p' s' (ix2 r n) * k0_pay4 X P w' p' s' (ix2 r n))
        + ∑ n : Fin 256, k0_pay4 X P w'' p'' s'' (ix2 r n) * k0_pay4 X P w'' p'' s'' (ix2 r n) := by
  have e : k0_pay10 (k0_pay2 X) (k0_pay3 P) w p s = k0_pay4 X P w p s := rfl
  have e' : k0_pay11 (k0_pay2 X) (k0_pay3 P) w' p' s' = k0_pay4 X P w' p' s' := rfl
  have e'' : k0_pay12 (k0_pay2 X) (k0_pay3 P) w'' p'' s'' = k0_pay4 X P w'' p'' s'' := rfl
  rw [e, ← e', ← e'']
  pointwise [k0_pay13]

/-- The last two tiles' squares, and the scale. -/
theorem ssq4 (X : Vec Ideal S512x2048 .f32) (P : Vec Ideal S512x256 .f32) (v : FVec Ideal S512x1 .f32) (w w' : Vec Ideal S2048x256 .bf16)
    (p p' : Vec Ideal S256x256 .bf16) (s s' : Vec Ideal S512x256 .f32) (r : Fin 512) :
    k0_pay17 (k0_pay2 X) (k0_pay3 P) v (k0_pay14 (k0_pay2 X) w) p s w' p' s' (ix2 r 0)
      = Ideal.rsqrt ((v (ix2 r 0) + (∑ n : Fin 256, k0_pay4 X P w p s (ix2 r n) * k0_pay4 X P w p s (ix2 r n))
        + ∑ n : Fin 256, k0_pay4 X P w' p' s' (ix2 r n) * k0_pay4 X P w' p' s' (ix2 r n)) * Ideal.ofBits FTy.f32 973078528#32
          + Ideal.ofBits FTy.f32 897988541#32) := by
  have e : k0_pay15 (k0_pay3 P) (k0_pay14 (k0_pay2 X) w) p s = k0_pay4 X P w p s := rfl
  have e' : k0_pay16 (k0_pay2 X) (k0_pay3 P) w' p' s' = k0_pay4 X P w' p' s' := rfl
  rw [← e, ← e']
  pointwise [k0_pay17]

/-- The scale the second pass multiplies by: one over the root mean square of the whole row. -/
theorem inv_apply (X : Vec Ideal S512x2048 .f32) (P : Vec Ideal S512x256 .f32) (w0  w1  w2  w3  w4  w5  w6  w7 : Vec Ideal S2048x256 .bf16)
    (p0 p1 p2 p3 p4 p5 p6 p7 : Vec Ideal S256x256 .bf16) (s0 s1 s2 s3 s4 s5 s6 s7 : Vec Ideal S512x256 .f32) (r : Fin 512) (T : Fin 2048 → EReal)
    (h0 : ∀ n, k0_pay4 X P w0 p0 s0 (ix2 r n) = T (Tiles.col 0 n))
    (h1 : ∀ n, k0_pay4 X P w1 p1 s1 (ix2 r n) = T (Tiles.col 1 n))
    (h2 : ∀ n, k0_pay4 X P w2 p2 s2 (ix2 r n) = T (Tiles.col 2 n))
    (h3 : ∀ n, k0_pay4 X P w3 p3 s3 (ix2 r n) = T (Tiles.col 3 n))
    (h4 : ∀ n, k0_pay4 X P w4 p4 s4 (ix2 r n) = T (Tiles.col 4 n))
    (h5 : ∀ n, k0_pay4 X P w5 p5 s5 (ix2 r n) = T (Tiles.col 5 n))
    (h6 : ∀ n, k0_pay4 X P w6 p6 s6 (ix2 r n) = T (Tiles.col 6 n))
    (h7 : ∀ n, k0_pay4 X P w7 p7 s7 (ix2 r n) = T (Tiles.col 7 n)) :
    k0_pay17 (k0_pay2 X) (k0_pay3 P)
      (k0_pay13 (k0_pay2 X) (k0_pay3 P)
        (k0_pay9 (k0_pay2 X) (k0_pay3 P) (k0_pay5 X P w0 p0 s0) (k0_pay6 X w1) p1 (constant S512x256 .f32 0#32) s1 w2 p2 s2)
        (k0_pay10 (k0_pay2 X) (k0_pay3 P) w3 p3 s3) w4 p4 s4 w5 p5 s5)
      (k0_pay14 (k0_pay2 X) w6) p6 s6 w7 p7 s7 (ix2 r 0) = Tiles.invRms T := by
  rw [ssq4, ssq3, ssq2, ssq1]
  simp only [h0, h1, h2, h3, h4, h5, h6, h7]
  unfold Tiles.invRms
  rw [← Tiles.mul_inv_2048, ← Tiles.sum_cols (fun n => T n * T n)]

/-- A tile of the second pass: the first pass's tile, times the row's scale, times the column's gain. -/
theorem scaled_apply (v : Vec Ideal S512x1 .f32) (b : Vec Ideal S512x256 .f32) (g : Vec Ideal S1x256 .f32) (r : Fin 512) (n : Fin 256) :
    k0_pay20 v b g (ix2 r n) = b (ix2 r n) * v (ix2 r 0) * g (ix2 0 n) := by
  pointwise [k0_pay20]

/-- The block a grid point writes, from the blocks it is handed. -/
theorem out_eq (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x256 .f32) (harg3 : arg3.IsWhole) (arg4 : Memref sig .tc .vmem S2048x2048 .bf16) (harg4 : arg4.IsWhole) (arg5 : Memref sig .tc .vmem S256x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole)
    (x0 x1 : Vec Ideal S512x2048 .f32) (x2 : Vec Ideal S512x256 .f32) (x3 : Vec Ideal S2048x2048 .bf16) (x4 : Vec Ideal S256x2048 .bf16) (x5 : Vec Ideal S1x2048 .f32) :
    (out0_A_6 c i arg1 harg1 arg2 harg2 arg3 harg3 arg4 harg4 arg5 harg5 arg6 harg6 arg7 harg7 arg8 harg8 x0 x1 x2 x3 x4 x5 : S512x2048.Idx → EReal) = pleOf x0 x1 x2 x3 x4 (fun n => x5 (ix2 0 n)) := by
  have inv_apply' := fun r : Fin 512 => inv_apply (k0_pay1 x0 x1) x2 _ _ _ _ _ _ _ _ _ _ _ _ _ _ _ _ _ _ _ _ _ _ _ _ r (rowOf x0 x1 x2 x3 x4 r)
      (tile_ld 0 0 rfl x0 x1 x2 x3 x4 inb_S2048x2048_S2048x256_0_0 inb_S256x2048_S256x256_0_0 inb_S512x2048_S512x256_0_0 r)
      (tile_ld 1 256 rfl x0 x1 x2 x3 x4 inb_S2048x2048_S2048x256_0_256 inb_S256x2048_S256x256_0_256 inb_S512x2048_S512x256_0_256 r)
      (tile_ld 2 512 rfl x0 x1 x2 x3 x4 inb_S2048x2048_S2048x256_0_512 inb_S256x2048_S256x256_0_512 inb_S512x2048_S512x256_0_512 r)
      (tile_ld 3 768 rfl x0 x1 x2 x3 x4 inb_S2048x2048_S2048x256_0_768 inb_S256x2048_S256x256_0_768 inb_S512x2048_S512x256_0_768 r)
      (tile_ld 4 1024 rfl x0 x1 x2 x3 x4 inb_S2048x2048_S2048x256_0_1024 inb_S256x2048_S256x256_0_1024 inb_S512x2048_S512x256_0_1024 r)
      (tile_ld 5 1280 rfl x0 x1 x2 x3 x4 inb_S2048x2048_S2048x256_0_1280 inb_S256x2048_S256x256_0_1280 inb_S512x2048_S512x256_0_1280 r)
      (tile_ld 6 1536 rfl x0 x1 x2 x3 x4 inb_S2048x2048_S2048x256_0_1536 inb_S256x2048_S256x256_0_1536 inb_S512x2048_S512x256_0_1536 r)
      (tile_ld 7 1792 rfl x0 x1 x2 x3 x4 inb_S2048x2048_S2048x256_0_1792 inb_S256x2048_S256x256_0_1792 inb_S512x2048_S512x256_0_1792 r)
  frame_open
  simp (disch := decide) only [↓ View.readCov_skip, ↓ View.readCov_cons_toLoadRect, ↓ View.readCov_fill]
  frame_out
  refine Tiles.canon_cols (Val := Elt Ideal) (e := .f32) (pleOf x0 x1 x2 x3 x4 (fun n => x5 (ix2 0 n))) _ _ _ _ _ _ _ _ _ ?_ ?_ ?_ ?_ ?_ ?_ ?_ ?_ _ _ _ _ _ _ _ _
  · intro r n
    refine (scaled_apply _ _ _ r n).trans ?_
    exact congrArg₂ (· * ·) (congrArg₂ (· * ·) (tile_ld 0 0 rfl x0 x1 x2 x3 x4 inb_S2048x2048_S2048x256_0_0 inb_S256x2048_S256x256_0_0 inb_S512x2048_S512x256_0_0 r n) (inv_apply' r)) (Tiles.ld_cols 0 rfl x5 _ 0 n)
  · intro r n
    refine (scaled_apply _ _ _ r n).trans ?_
    exact congrArg₂ (· * ·) (congrArg₂ (· * ·) (tile_ld 1 256 rfl x0 x1 x2 x3 x4 inb_S2048x2048_S2048x256_0_256 inb_S256x2048_S256x256_0_256 inb_S512x2048_S512x256_0_256 r n) (inv_apply' r)) (Tiles.ld_cols 1 rfl x5 _ 0 n)
  · intro r n
    refine (scaled_apply _ _ _ r n).trans ?_
    exact congrArg₂ (· * ·) (congrArg₂ (· * ·) (tile_ld 2 512 rfl x0 x1 x2 x3 x4 inb_S2048x2048_S2048x256_0_512 inb_S256x2048_S256x256_0_512 inb_S512x2048_S512x256_0_512 r n) (inv_apply' r)) (Tiles.ld_cols 2 rfl x5 _ 0 n)
  · intro r n
    refine (scaled_apply _ _ _ r n).trans ?_
    exact congrArg₂ (· * ·) (congrArg₂ (· * ·) (tile_ld 3 768 rfl x0 x1 x2 x3 x4 inb_S2048x2048_S2048x256_0_768 inb_S256x2048_S256x256_0_768 inb_S512x2048_S512x256_0_768 r n) (inv_apply' r)) (Tiles.ld_cols 3 rfl x5 _ 0 n)
  · intro r n
    refine (scaled_apply _ _ _ r n).trans ?_
    exact congrArg₂ (· * ·) (congrArg₂ (· * ·) (tile_ld 4 1024 rfl x0 x1 x2 x3 x4 inb_S2048x2048_S2048x256_0_1024 inb_S256x2048_S256x256_0_1024 inb_S512x2048_S512x256_0_1024 r n) (inv_apply' r)) (Tiles.ld_cols 4 rfl x5 _ 0 n)
  · intro r n
    refine (scaled_apply _ _ _ r n).trans ?_
    exact congrArg₂ (· * ·) (congrArg₂ (· * ·) (tile_ld 5 1280 rfl x0 x1 x2 x3 x4 inb_S2048x2048_S2048x256_0_1280 inb_S256x2048_S256x256_0_1280 inb_S512x2048_S512x256_0_1280 r n) (inv_apply' r)) (Tiles.ld_cols 5 rfl x5 _ 0 n)
  · intro r n
    refine (scaled_apply _ _ _ r n).trans ?_
    exact congrArg₂ (· * ·) (congrArg₂ (· * ·) (tile_ld 6 1536 rfl x0 x1 x2 x3 x4 inb_S2048x2048_S2048x256_0_1536 inb_S256x2048_S256x256_0_1536 inb_S512x2048_S512x256_0_1536 r n) (inv_apply' r)) (Tiles.ld_cols 6 rfl x5 _ 0 n)
  · intro r n
    refine (scaled_apply _ _ _ r n).trans ?_
    exact congrArg₂ (· * ·) (congrArg₂ (· * ·) (tile_ld 7 1792 rfl x0 x1 x2 x3 x4 inb_S2048x2048_S2048x256_0_1792 inb_S256x2048_S256x256_0_1792 inb_S512x2048_S512x256_0_1792 r n) (inv_apply' r)) (Tiles.ld_cols 7 rfl x5 _ 0 n)

/-! ## Where the blocks lie -/

theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![t.val, 0] := (by decide +kernel : ∀ t : Fin grid0.N, win0_2.index t = ![t.val, 0])
theorem at3 : ∀ t : Fin cfg0.N, win0_3.index t = ![0, 0] := (by decide +kernel : ∀ t : Fin grid0.N, win0_3.index t = ![0, 0])
theorem at4 : ∀ t : Fin cfg0.N, win0_4.index t = ![0, 0] := (by decide +kernel : ∀ t : Fin grid0.N, win0_4.index t = ![0, 0])
theorem at5 : ∀ t : Fin cfg0.N, win0_5.index t = ![0, 0] := (by decide +kernel : ∀ t : Fin grid0.N, win0_5.index t = ![0, 0])
theorem at6 : ∀ t : Fin cfg0.N, win0_6.index t = ![t.val, 0] := (by decide +kernel : ∀ t : Fin grid0.N, win0_6.index t = ![t.val, 0])

theorem lt_N (t : Fin cfg0.N) : t.val < 32 := lt_of_lt_of_eq t.isLt N_0

variable (m : (ℓ : Loc nD τ sig) → Buf (Elt Ideal) ℓ) (c : Dev nD)

/-- Row `r` of the block of point `t`. -/
def rowAt (t : Fin cfg0.N) (r : Fin 512) : Fin 16384 := ⟨t.val * 512 + r.val, by have := lt_N t; omega⟩

theorem iblk0_apply (t : Fin cfg0.N) (r : Fin 512) (k : Fin 2048) : iblk m c 0 t (ix2 r k) = V m c main_arg0 (ix2 (rowAt t r) k) := by
  unfold iblk
  blk_simp
  refine congrArg (V m c main_arg0) ?_
  blk_ext [at0, rowAt]

theorem iblk1_apply (t : Fin cfg0.N) (r : Fin 512) (k : Fin 2048) : iblk m c 1 t (ix2 r k) = V m c main_arg1 (ix2 (rowAt t r) k) := by
  unfold iblk
  blk_simp
  refine congrArg (V m c main_arg1) ?_
  blk_ext [at1, rowAt]

theorem iblk2_apply (t : Fin cfg0.N) (r : Fin 512) (k : Fin 256) : iblk m c 2 t (ix2 r k) = V m c main_v1 (ix2 (rowAt t r) k) := by
  unfold iblk
  blk_simp
  refine congrArg (V m c main_v1) ?_
  blk_ext [at2, rowAt]

theorem iblk3_apply (t : Fin cfg0.N) (k n : Fin 2048) : iblk m c 3 t (ix2 k n) = V m c main_arg3 (ix2 k n) := by
  unfold iblk
  blk_simp
  refine congrArg (V m c main_arg3) ?_
  blk_ext [at3]

theorem iblk4_apply (t : Fin cfg0.N) (k : Fin 256) (n : Fin 2048) : iblk m c 4 t (ix2 k n) = V m c main_arg4 (ix2 k n) := by
  unfold iblk
  blk_simp
  refine congrArg (V m c main_arg4) ?_
  blk_ext [at4]

theorem iblk5_apply (t : Fin cfg0.N) (n : Fin 2048) : iblk m c 5 t (ix2 0 n) = V m c main_v2 (ix2 0 n) := by
  unfold iblk
  blk_simp
  refine congrArg (V m c main_v2) ?_
  blk_ext [at5]

/-! ## The arrays -/

/-- The call's result, from the arrays the call is handed. -/
def resOf (m : (ℓ : Loc nD τ sig) → Buf (Elt Ideal) ℓ) (c : Dev nD) : S16384x2048.Idx → EReal :=
  pleOf (V m c main_arg0) (V m c main_arg1) (V m c main_v1) (V m c main_arg3) (V m c main_arg4) (fun n => V m c main_v2 (ix2 0 n))

theorem outs_apply (t : Fin cfg0.N) (r : Fin 512) (n : Fin 2048) : outsAt0 m c t (ix2 r n) = resOf m c (ix2 (rowAt t r) n) := by
  unfold outsAt0
  refine (congrFun (out_eq c _ _ _ _ _ _ _ _ _ _ _ _ _ _ _ _ _ _ _ _ _ _ _) (ix2 r n)).trans ?_
  exact pleOf_row _ _ _ _ _ _ _ _ _ _ _ _ r (rowAt t r) (iblk0_apply m c t r) (iblk1_apply m c t r) (iblk2_apply m c t r) (iblk3_apply m c t) (iblk4_apply m c t)
    (iblk5_apply m c t) n

/-- The result array after the run. -/
theorem arr : ((dats m 0 c).arrAt 6 cfg0.N : S16384x2048.Idx → EReal) = resOf m c := by
  refine funext fun i => ?_
  have hi0 : (i 0).val < 16384 := (i 0).isLt
  have hi1 : (i 1).val < 2048 := (i 1).isLt
  obtain ⟨t, ht⟩ : ∃ t : Fin cfg0.N, t.val = (i 0).val / 512 :=
    ⟨⟨(i 0).val / 512, lt_of_lt_of_eq (by omega) N_0.symm⟩, rfl⟩
  refine (dats m 0 c).arrAt_forall_of_flushed 6 (fun i v => v = resOf m c i) ?_ cfg0.N t i t.isLt ?_ ?_
  · intro t hf y
    idx_bounds y
    have hN := lt_N t
    have ey : (win0_6.blk t).view.emb y = ix2 (rowAt t (y 0)) (y 1) := by
      blk_ext [at6, rowAt]
    blk_simp
    rw [after0_6]
    refine Eq.trans ?_ (congrArg (resOf m c) ey).symm
    exact (congrArg _ (eq_ix2 y)).trans (outs_apply m c t (y 0) (y 1))
  · exact flush0_6 t
  · mem_blk [at6]
    exact ⟨⟨by omega, by omega⟩, by omega, by omega⟩

/-! ## The reference -/

open Cert.PleReferenceIdeal.Read in
/-- The reference's result, from its arguments. -/
theorem ref (x0 x1 : Vec Ideal S16384x2048 .f32) (x2 : Vec Ideal S1x8x2048x256 .f32) (x3 : Vec Ideal S2048x2048 .bf16) (x4 : Vec Ideal S256x2048 .bf16)
    (x5 : Vec Ideal Cert.PleReferenceIdeal.S2048 .f32) :
    (val_main_v27 (F := Ideal) x0 x1 x2 x3 x4 x5 : S16384x2048.Idx → EReal) = pleOf x0 x1 (val_main_v10 (F := Ideal) x2) x3 x4 (fun n => x5 (ix1 n)) := by
  funext i
  obtain ⟨r, n, rfl⟩ : ∃ (r : Fin 16384) (n : Fin 2048), i = ix2 r n := ⟨i 0, i 1, eq_ix2 i⟩
  have eT : ∀ n, val_main_v14 (F := Ideal) x0 x1 x2 x3 x4 (ix2 r n) = rowOf x0 x1 (val_main_v10 (F := Ideal) x2) x3 x4 r n := by
    intro n
    unfold rowOf Ideal.logistic
    pointwise [val_main_v0, val_main_v1, val_main_v2, val_main_v3, val_main_v4, val_main_v5, val_main_v6, val_main_v7, val_main_v8, val_main_v11,
      val_main_v12, val_main_v13, val_main_v14, val_main_cst, val_main_cst_0]
  have eR : val_main_v27 (F := Ideal) x0 x1 x2 x3 x4 x5 (ix2 r n)
      = val_main_v14 (F := Ideal) x0 x1 x2 x3 x4 (ix2 r n) * Ideal.rsqrt (Ideal.div (∑ k : Fin 2048, val_main_v14 (F := Ideal) x0 x1 x2 x3 x4 (ix2 r k)
          * val_main_v14 (F := Ideal) x0 x1 x2 x3 x4 (ix2 r k)) (Ideal.ofBits FTy.f32 1157627904#32) + Ideal.ofBits FTy.f32 897988541#32) * x5 (ix1 n) := by
    pointwise [val_main_v15, val_main_v16, val_main_v17, val_main_v18, val_main_v19, val_main_v20, val_main_v21, val_main_v22, val_main_v23,
      val_main_v24, val_main_v25, val_main_v26, val_main_v27, val_main_cst_1, val_main_cst_2, val_main_cst_3]
  rw [eR]
  simp only [eT]
  rfl

/-- The per-layer input as the call is handed it. -/
theorem V_p : V m c main_v1 = Cert.PleReferenceIdeal.Read.val_main_v10 (F := Ideal) (m ((c : Thread nD τ).loc main_arg2)) := by
  show StableHlo.after hostOps0 (fun b => m (c, b)) main_v1 = _
  after_results <;> rfl

/-- The gains as the call is handed them. -/
theorem V_gain (n : Fin 2048) : V m c main_v2 (ix2 0 n) = m ((c : Thread nD τ).loc main_arg5) (ix1 n) := by
  have e : V m c main_v2 = Cert.PleReferenceIdeal.Read.val_main_v25 (F := Ideal) (m ((c : Thread nD τ).loc main_arg5)) := by
    show StableHlo.after hostOps0 (fun b => m (c, b)) main_v2 = _
    after_results <;> rfl
  rw [e]
  pointwise [Cert.PleReferenceIdeal.Read.val_main_v25]

/-- The result array after the run is the reference's result of the arguments. -/
theorem res_eq : ((dats m 0 c).arrAt 6 cfg0.N : S16384x2048.Idx → EReal)
    = Cert.PleReferenceIdeal.Read.val_main_v27 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  rw [ref, arr, resOf, V_p, V_main_arg0 m c, V_main_arg1 m c, V_main_arg3 m c, V_main_arg4 m c]
  exact congrArg _ (funext fun n => V_gain m c n)

end Cert.Proof.Ple

end
-- ==== Proof.Hgrn.lean ====
/-
  The recurrent mixer's call, at the ideal instance: what one grid point computes for one head and one chunk of 64 rows.
-/
module

public import proofs.«01_k».proof.Proof.Gen.HgrnIdeal.Value
public import proofs.«01_k».proof.Proof.Tiles

@[expose] public section

set_option maxRecDepth 16384

noncomputable section

namespace Cert.Proof.Hgrn

open Idealize.ShloMosaic Idealize.ShloMosaic.TcCoe
open Idealize.ShloMosaic.Pipeline (Dat Cfg Window)
open Cert.HgrnIdeal Cert.HgrnIdeal.Gen

/-! ## One chunk of one head -/

/-- The sum of the logarithms of the decays up to a row. -/
def cum (f : Fin 64 → Fin 128 → EReal) (t : Fin 64) (d : Fin 128) : EReal := ∑ u : Fin 64, if u ≤ t then Ideal.log (f u d) else 0

/-- What a chunk adds to the output from the state before it and from its own earlier rows. -/
def chunkOut (q f v : Fin 64 → Fin 128 → EReal) (S : Fin 128 → Fin 128 → EReal) (t : Fin 64) (e : Fin 128) : EReal :=
  (∑ u : Fin 64, (if u ≤ t then ∑ d : Fin 128, (q t d * Ideal.exp (cum f t d)) * ((1 - f u d) * Ideal.exp (-(cum f u d))) else 0) * v u e)
    + ∑ d : Fin 128, (q t d * Ideal.exp (cum f t d)) * S d e

/-- The state after a chunk. -/
def chunkNext (f v : Fin 64 → Fin 128 → EReal) (S : Fin 128 → Fin 128 → EReal) (d e : Fin 128) : EReal :=
  Ideal.exp (cum f 63 d) * S d e + ∑ u : Fin 64, ((1 - f u d) * Ideal.exp (cum f 63 d - cum f u d)) * v u e

theorem cum_le (f : Fin 64 → Fin 128 → EReal) (d : Fin 128) (hf : ∀ u, Ideal.log (f u d) ≤ 0) (t : Fin 64) : cum f 63 d ≤ cum f t d ∧ cum f t d ≤ 0 := by
  constructor
  · refine Finset.sum_le_sum fun u _ => ?_
    have h63 : u ≤ (63 : Fin 64) := Fin.le_def.mpr (by have := u.isLt; show u.val ≤ 63; omega)
    rw [if_pos h63]
    split
    · exact le_rfl
    · exact hf u
  · refine Finset.sum_nonpos fun u _ => ?_
    split
    · exact hf u
    · exact le_rfl

/-- Multiplying by `e⁻ᵇ` and then by `eᴸ` is multiplying by `e` to the difference, for `L ≤ b ≤ 0`. -/
theorem decay_end (a b L : EReal) (h1 : L ≤ b) (h2 : b ≤ 0) : a * Ideal.exp (-b) * Ideal.exp L = a * Ideal.exp (L - b) := by
  induction L using EReal.rec with
  | bot =>
    have e : (⊥ : EReal) - b = ⊥ := by rw [sub_eq_add_neg, EReal.bot_add]
    rw [e]; simp
  | top => exact absurd (h1.trans h2) (by simp)
  | coe l =>
    induction b using EReal.rec with
    | bot => exact absurd h1 (by simp)
    | top => exact absurd h2 (by simp)
    | coe r =>
      rw [← EReal.coe_neg, ← EReal.coe_sub, Ideal.exp_coe, Ideal.exp_coe, Ideal.exp_coe, mul_assoc, ← EReal.coe_mul, ← Real.exp_add, neg_add_eq_sub]

/-! ## Rows and columns of a block -/

/-- Row `t` of chunk `c`. -/
def ch (c : Fin 4) (t : Fin 64) : Fin 256 := ⟨64 * c.val + t.val, by omega⟩
/-- Column `d` of head `h`. -/
def hd (h : Fin 8) (d : Fin 128) : Fin 1024 := ⟨128 * h.val + d.val, by omega⟩

theorem sum_ch (g : Fin 256 → EReal) : ∑ r : Fin 256, g r = ∑ c : Fin 4, ∑ t : Fin 64, g (ch c t) := by
  rw [← Fin.sum_mul_add_fin 4 64 g]
  refine Finset.sum_congr rfl fun c _ => Finset.sum_congr rfl fun t _ => congrArg g (Fin.ext ?_)
  show c.val * 64 + t.val = 64 * c.val + t.val
  omega

/-! ## The running sum of a chunk -/

/-- The sum of the `w` latest entries of a row's chunk. -/
def win (L : ℕ → EReal) (w r : ℕ) : EReal := ∑ i ∈ Finset.range w, if i ≤ r % 64 then L (r - i) else 0

theorem win_one (L : ℕ → EReal) (r : ℕ) : win L 1 r = L r := by simp [win]

theorem win_double (L : ℕ → EReal) (w r : ℕ) : win L w r + (if w ≤ r % 64 then win L w (r - w) else 0) = win L (w + w) r := by
  unfold win
  rw [Finset.sum_range_add]
  congr 1
  split
  · next h =>
    refine Finset.sum_congr rfl fun i _ => ?_
    have e : (r - w) % 64 = r % 64 - w := by omega
    rw [e]
    by_cases hi : w + i ≤ r % 64
    · rw [if_pos (by omega), if_pos hi]; congr 1; omega
    · rw [if_neg (by omega), if_neg hi]
  · next h =>
    refine (Finset.sum_eq_zero fun i _ => ?_).symm
    rw [if_neg (by omega)]

theorem win_all (L : ℕ → EReal) (c : Fin 4) (t : Fin 64) : win L 64 (64 * c.val + t.val) = ∑ u : Fin 64, if u ≤ t then L (64 * c.val + u.val) else 0 := by
  unfold win
  have e : (64 * c.val + t.val) % 64 = t.val := by omega
  rw [e, ← Finset.sum_filter, ← Finset.sum_filter]
  refine Finset.sum_bij' (fun i _ => (⟨t.val - i, by omega⟩ : Fin 64)) (fun u _ => t.val - u.val) ?_ ?_ ?_ ?_ ?_
  · intro i hi
    exact Finset.mem_filter.mpr ⟨Finset.mem_univ _, Fin.le_def.mpr (Nat.sub_le _ _)⟩
  · intro u hu
    have h := Fin.le_def.mp (Finset.mem_filter.mp hu).2
    exact Finset.mem_filter.mpr ⟨Finset.mem_range.mpr (by omega), Nat.sub_le _ _⟩
  · intro i hi
    have h := (Finset.mem_filter.mp hi).2
    show t.val - (t.val - i) = i
    omega
  · intro u hu
    have h := Fin.le_def.mp (Finset.mem_filter.mp hu).2
    apply Fin.ext
    show t.val - (t.val - u.val) = u.val
    omega
  · intro i hi
    have h := (Finset.mem_filter.mp hi).2
    refine congrArg L ?_
    show 64 * c.val + t.val - i = 64 * c.val + (t.val - i)
    omega

theorem p13 (r : Fin 256) (n : Fin 1024) : k0_pay13 (ix2 r n) = BitVec.ofNat 32 (r.val % 64) := by
  pointwise [k0_pay13]
  revert r
  decide +kernel

/-- The decays of a block, from what the kernel computes of the first argument. -/
abbrev fArr (x0 : Vec Ideal S2x1024 .f32) (x3 : Vec Ideal S1x256x1024 .f32) : FVec Ideal S256x1024 .f32 := k0_pay12 (k0_pay10 x0) (k0_pay11 x0) x3
abbrev cArr (x0 : Vec Ideal S2x1024 .f32) (x3 : Vec Ideal S1x256x1024 .f32) : FVec Ideal S256x1024 .f32 :=
  k0_pay17 k0_pay13 (k0_pay14 (k0_pay10 x0) (k0_pay11 x0) x3) k0_pay15 (k0_pay16 (k0_pay10 x0) (k0_pay11 x0) x3) (FloatOps.ofBits FTy.f32 0#32)

/-- One step of the running sum: add the entry `w` rows before, inside a chunk. -/
def rollStep (w : ℕ) (wb : BitVec 32) (X : FVec Ideal S256x1024 .f32) : FVec Ideal S256x1024 .f32 :=
  addf X (select (cmpi .sge k0_pay13 (broadcast S256x1024 wb)) (dynamicRotate 0 wb none X rotates_S256x1024_d0) (broadcast S256x1024 (Scalar.ofBits .f32 0x00000000#32)))

theorem sge_iff (w : ℕ) (hw : w < 64) (r : Fin 256) : IntOp.cmpi CmpIPredicate.sge (BitVec.ofNat 32 (r.val % 64)) (BitVec.ofNat 32 w) = if w ≤ r.val % 64 then 1#1 else 0#1 := by
  have h : ∀ (w a : Fin 64), IntOp.cmpi CmpIPredicate.sge (BitVec.ofNat 32 a.val) (BitVec.ofNat 32 w.val) = if w.val ≤ a.val then 1#1 else 0#1 := by decide +kernel
  exact h ⟨w, hw⟩ ⟨r.val % 64, by omega⟩

theorem rollStep_apply (w : ℕ) (hw : w < 64) (L : Fin 1024 → ℕ → EReal) (X : FVec Ideal S256x1024 .f32) (hX : ∀ r n, X (ix2 r n) = win (L n) w r.val) (r : Fin 256) (n : Fin 1024) :
    (rollStep w (BitVec.ofNat 32 w) X (ix2 r n) : EReal) = win (L n) (w + w) r.val := by
  have hn : (BitVec.ofNat 32 w).toNat = w := by rw [BitVec.toNat_ofNat]; omega
  rw [← win_double]
  pointwise [rollStep]
  rw [p13, sge_iff w hw, hX]
  by_cases h : w ≤ r.val % 64
  · simp only [h, if_true]
    refine congrArg (win (L n) w r.val + ·) ?_
    refine (hX _ n).trans (congrArg (win (L n) w) ?_)
    show (r.val + 256 - (BitVec.ofNat 32 w).toNat % 256) % 256 = r.val - w
    rw [hn]
    omega
  · simp only [h, if_false]
    rfl

theorem cArr_apply (x0 : Vec Ideal S2x1024 .f32) (x3 : Vec Ideal S1x256x1024 .f32) (c : Fin 4) (t : Fin 64) (n : Fin 1024) :
    (cArr x0 x3 (ix2 (ch c t) n) : EReal) = ∑ u : Fin 64, if u ≤ t then Ideal.log (fArr x0 x3 (ix2 (ch c u) n)) else 0 := by
  have L0 : ∀ r n, (log (fArr x0 x3) (ix2 r n) : EReal) = win (fun k => Ideal.log (fArr x0 x3 (ix2 (Fin.ofNat 256 k) n))) 1 r.val := by
    intro r n
    rw [win_one]
    have : Fin.ofNat 256 r.val = r := Fin.ext (Nat.mod_eq_of_lt r.isLt)
    rw [this]
    rfl
  have e : cArr x0 x3 = rollStep 32 32#32 (rollStep 16 16#32 (rollStep 8 8#32 (rollStep 4 4#32 (rollStep 2 2#32 (rollStep 1 1#32 (log (fArr x0 x3))))))) := rfl
  rw [e]
  refine (rollStep_apply 32 (by decide) _ _ (rollStep_apply 16 (by decide) _ _ (rollStep_apply 8 (by decide) _ _ (rollStep_apply 4 (by decide) _ _
    (rollStep_apply 2 (by decide) _ _ (rollStep_apply 1 (by decide) _ _ L0))))) (ch c t) n).trans ?_
  refine (win_all _ c t).trans ?_
  refine Finset.sum_congr rfl fun u _ => ?_
  have : Fin.ofNat 256 (64 * c.val + u.val) = ch c u := Fin.ext (Nat.mod_eq_of_lt (ch c u).isLt)
  simp only [this]

/-! ## The causal mask -/

abbrev rowNo : IVec S256x256 32 := iota .tc S256x256 32 [0] iota_S256x256_d0_w32
abbrev colNo : IVec S256x256 32 := iota .tc S256x256 32 [1] iota_S256x256_d1_w32
abbrev maskV : IVec S256x256 1 := k0_pay35 rowNo colNo k0_pay32 64#32 k0_pay33 k0_pay34 0#32

/-- The number of the chunk a row lies in, as the kernel computes it. -/
def chunkNo (a : BitVec 32) : BitVec 32 :=
  Scalar.select (IntOp.andi (IntOp.cmpi CmpIPredicate.ne (IntOp.subi (BitVec.setWidth 32 (IntOp.cmpi CmpIPredicate.sgt a 0#32)) (BitVec.setWidth 32 (IntOp.cmpi CmpIPredicate.slt a 0#32)))
      (Scalar.subi (Scalar.extui (Scalar.cmpi CmpIPredicate.sgt 64#32 0#32)) (Scalar.extui (Scalar.cmpi CmpIPredicate.slt 64#32 0#32))))
    (IntOp.cmpi CmpIPredicate.ne (IntOp.remsi ArithUnit.vector a 64#32) 0#32)) (IntOp.subi (IntOp.divsi ArithUnit.vector a 64#32) 1#32) (IntOp.divsi ArithUnit.vector a 64#32)

theorem chunkNo_ch (c : Fin 4) (t : Fin 64) : chunkNo (BitVec.ofNat 32 (ch c t).val) = BitVec.ofNat 32 c.val := by
  revert c t
  decide +kernel

theorem mask_ch (c c' : Fin 4) (t u : Fin 64) : maskV (ix2 (ch c t) (ch c' u)) = if c = c' ∧ u ≤ t then 1#1 else 0#1 := by
  have e : maskV (ix2 (ch c t) (ch c' u)) = IntOp.andi (IntOp.cmpi CmpIPredicate.sge (BitVec.ofNat 32 (ch c t).val) (BitVec.ofNat 32 (ch c' u).val))
      (IntOp.cmpi CmpIPredicate.eq (chunkNo (BitVec.ofNat 32 (ch c t).val)) (chunkNo (BitVec.ofNat 32 (ch c' u).val))) := by
    pointwise [maskV, k0_pay35, k0_pay32, k0_pay33, k0_pay34, chunkNo]
  have h1 : ∀ c c' : Fin 4, IntOp.cmpi CmpIPredicate.eq (BitVec.ofNat 32 c.val) (BitVec.ofNat 32 c'.val) = if c = c' then 1#1 else 0#1 := by decide +kernel
  have h2 : ∀ (c : Fin 4) (t u : Fin 64), IntOp.cmpi CmpIPredicate.sge (BitVec.ofNat 32 (ch c t).val) (BitVec.ofNat 32 (ch c u).val) = if u ≤ t then 1#1 else 0#1 := by decide +kernel
  have h3 : ∀ b : BitVec 1, IntOp.andi b 0#1 = 0#1 := by decide
  have h4 : ∀ b : BitVec 1, IntOp.andi b 1#1 = b := by decide
  rw [e, chunkNo_ch, chunkNo_ch, h1]
  by_cases hc : c = c'
  · subst hc
    rw [if_pos rfl, h4, h2]
    simp
  · rw [if_neg hc, h3, if_neg (fun h => hc h.1)]

/-! ## One head, in the kernel's own operations -/

theorem slc {m n o : ℕ} {M N : ℕ} (h1 : m ≤ M) (h2 : o + n ≤ N) : (⟨2, ![M, N]⟩ : Shape).Slices ![0, o] ⟨2, ![m, n]⟩ :=
  ⟨rfl, fun a => by fin_cases a <;> simp <;> omega⟩
theorem slr {ro m n o : ℕ} {M N : ℕ} (h1 : ro + m ≤ M) (h2 : o + n ≤ N) : (⟨2, ![M, N]⟩ : Shape).Slices ![ro, o] ⟨2, ![m, n]⟩ :=
  ⟨rfl, fun a => by fin_cases a <;> simp <;> omega⟩

/-- The scores of a head's rows against the rows of their own chunks. -/
def attH (h : Fin 8) (Q K : FVec Ideal S256x1024 .bf16) : FVec Ideal S256x256 .bf16 :=
  truncf .bf16 (select maskV (matmul dot_S256x128_S256x128_S256x256_1_1_0_0_n_n none (extractStridedSlice S256x128 ![0, 128 * h.val] Q (slc (by decide) (by omega)))
    (extractStridedSlice S256x128 ![0, 128 * h.val] K (slc (by decide) (by omega))) (constant S256x256 .f32 0x00000000#32)) (broadcast S256x256 (Scalar.ofBits .f32 0x00000000#32))) bitsLt_bf16_f32

/-- The part of a head's output that comes from the chunk's own rows. -/
def intraH (h : Fin 8) (Q K V : FVec Ideal S256x1024 .bf16) : FVec Ideal S256x128 .f32 :=
  matmul dot_S256x256_S256x128_S256x128_1_0_0_1_n_n none (attH h Q K) (extractStridedSlice S256x128 ![0, 128 * h.val] V (slc (by decide) (by omega))) (constant S256x128 .f32 0x00000000#32)

/-- One chunk of a head's output. -/
def outH (c : Fin 4) (h : Fin 8) (Q K V : FVec Ideal S256x1024 .bf16) (S : FVec Ideal S128x128 .f32) : FVec Ideal S64x128 .f32 :=
  addf (extractStridedSlice S64x128 ![64 * c.val, 0] (intraH h Q K V) (slr (by omega) (by decide)))
    (matmul dot_S64x128_S128x128_S64x128_1_1_0_0_n_n none (extractStridedSlice S64x128 ![64 * c.val, 128 * h.val] Q (slr (by omega) (by omega))) (truncf .bf16 S bitsLt_bf16_f32) (constant S64x128 .f32 0x00000000#32))

/-- A head's state after one chunk. -/
def stepH (c : Fin 4) (h : Fin 8) (E : FVec Ideal S1x1024 .f32) (KE : FVec Ideal S64x1024 .bf16) (V : FVec Ideal S256x1024 .bf16) (S : FVec Ideal S128x128 .f32) : FVec Ideal S128x128 .f32 :=
  addf (mulf S (broadcastTo S128x128 (extractStridedSlice S1x128 ![0, 128 * h.val] E (slc (by decide) (by omega))) broadcasts_S1x128_S128x128))
    (matmul dot_S64x128_S64x128_S128x128_0_0_1_1_n_n none (extractStridedSlice S64x128 ![64 * c.val, 128 * h.val] V (slr (by omega) (by omega)))
      (extractStridedSlice S64x128 ![0, 128 * h.val] KE (slc (by decide) (by omega))) (constant S128x128 .f32 0x00000000#32))

/-- The four chunks of a head's output, one under another. -/
def cat4 (o0 o1 o2 o3 : FVec Ideal S64x128 .f32) : FVec Ideal S256x128 .f32 :=
  concatenate S256x128 0 [⟨S64x128, o0⟩, ⟨S64x128, o1⟩, ⟨S64x128, o2⟩, ⟨S64x128, o3⟩] concatenates_S64x128_S64x128_S64x128_S64x128_S256x128_d0

/-- A head's output normalised, scaled and gated. -/
def normH (h : Fin 8) (G : FVec Ideal S256x1024 .f32) (o0 o1 o2 o3 : FVec Ideal S64x128 .f32) : FVec Ideal S1x256x128 .bf16 :=
  shapeCast S1x256x128 (truncf .bf16 (mulf (mulf (cat4 o0 o1 o2 o3) (broadcastTo S256x128 (rsqrt (addf (divf (shapeCast S256x1 (multiReduction .add [1] S256 (mulf (cat4 o0 o1 o2 o3) (cat4 o0 o1 o2 o3)) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128))
    (extractStridedSlice S256x128 ![0, 128 * h.val] G (slc (by decide) (by omega)))) bitsLt_bf16_f32) shapeCasts_S256x128_S1x256x128

theorem stepH_apply (c : Fin 4) (h : Fin 8) (E : FVec Ideal S1x1024 .f32) (KE : FVec Ideal S64x1024 .bf16) (V : FVec Ideal S256x1024 .bf16) (S : FVec Ideal S128x128 .f32)
    (f v : Fin 64 → Fin 128 → EReal) (T : Fin 128 → Fin 128 → EReal) (hf : ∀ u d, Ideal.log (f u d) ≤ 0)
    (hE : ∀ d, E (ix2 0 (hd h d)) = Ideal.exp (cum f 63 d))
    (hK : ∀ u d, KE (ix2 u (hd h d)) = (1 - f u d) * Ideal.exp (-(cum f u d)) * Ideal.exp (cum f 63 d))
    (hV : ∀ u e, V (ix2 (ch c u) (hd h e)) = v u e) (hS : ∀ d e, S (ix2 e d) = T d e) (d e : Fin 128) :
    (stepH c h E KE V S (ix2 e d) : EReal) = chunkNext f v T d e := by
  have r1 : (stepH c h E KE V S (ix2 e d) : EReal) = S (ix2 e d) * E (ix2 0 (hd h d)) + ∑ u : Fin 64, V (ix2 (ch c u) (hd h e)) * KE (ix2 u (hd h d)) := by
    pointwise [stepH]
    rfl
  rw [r1, hS, hE, mul_comm]
  unfold chunkNext
  refine congrArg₂ (· + ·) rfl (Finset.sum_congr rfl fun u _ => ?_)
  rw [hV, hK, mul_comm, decay_end _ _ _ (cum_le f d (fun u => hf u d) u).1 (cum_le f d (fun u => hf u d) u).2]

theorem outH_apply (c : Fin 4) (h : Fin 8) (Q K V : FVec Ideal S256x1024 .bf16) (S : FVec Ideal S128x128 .f32)
    (q f v : Fin 64 → Fin 128 → EReal) (T : Fin 128 → Fin 128 → EReal)
    (hQ : ∀ t d, Q (ix2 (ch c t) (hd h d)) = q t d * Ideal.exp (cum f t d))
    (hK : ∀ u d, K (ix2 (ch c u) (hd h d)) = (1 - f u d) * Ideal.exp (-(cum f u d)))
    (hV : ∀ u e, V (ix2 (ch c u) (hd h e)) = v u e) (hS : ∀ d e, S (ix2 e d) = T d e) (t : Fin 64) (e : Fin 128) :
    (outH c h Q K V S (ix2 t e) : EReal) = chunkOut q f v T t e := by
  have r1 : (outH c h Q K V S (ix2 t e) : EReal) = (∑ r : Fin 256, (Scalar.select (maskV (ix2 (ch c t) r)) (∑ d : Fin 128, Q (ix2 (ch c t) (hd h d)) * K (ix2 r (hd h d))) 0) * V (ix2 r (hd h e)))
      + ∑ d : Fin 128, Q (ix2 (ch c t) (hd h d)) * S (ix2 e d) := by
    pointwise [outH, intraH, attH]
    rfl
  rw [r1, sum_ch, Finset.sum_eq_single c]
  · unfold chunkOut
    refine congrArg₂ (· + ·) (Finset.sum_congr rfl fun u _ => ?_) (Finset.sum_congr rfl fun d _ => by rw [hQ, hS])
    rw [mask_ch, hV]
    by_cases hu : u ≤ t
    · rw [if_pos ⟨rfl, hu⟩, if_pos hu]
      refine congrArg (· * v u e) (show (∑ d : Fin 128, Q (ix2 (ch c t) (hd h d)) * K (ix2 (ch c u) (hd h d)) : EReal) = _ from Finset.sum_congr rfl fun d _ => ?_)
      rw [hQ, hK]
    · rw [if_neg (fun h => hu h.2), if_neg hu]
      rfl
  · intro c' _ hc
    refine Finset.sum_eq_zero fun u _ => ?_
    rw [mask_ch, if_neg (fun h => hc h.1.symm)]
    exact zero_mul _
  · intro hc
    exact absurd (Finset.mem_univ c) hc

theorem cat4_apply (o0 o1 o2 o3 : FVec Ideal S64x128 .f32) (O : Fin 4 → Fin 64 → Fin 128 → EReal)
    (h0 : ∀ t e, o0 (ix2 t e) = O 0 t e) (h1 : ∀ t e, o1 (ix2 t e) = O 1 t e) (h2 : ∀ t e, o2 (ix2 t e) = O 2 t e) (h3 : ∀ t e, o3 (ix2 t e) = O 3 t e)
    (c : Fin 4) (t : Fin 64) (e : Fin 128) : (cat4 o0 o1 o2 o3 (ix2 (ch c t) e) : EReal) = O c t e := by
  have ht := t.isLt
  pointwise [cat4]
  match c with
  | 0 =>
    have e0 : (ch 0 t).val = t.val := by show 64 * 0 + t.val = _; omega
    rw [dif_pos (by omega)]
    exact (congrArg (fun k => o0 (ix2 k e)) (Fin.ext e0)).trans (h0 t e)
  | 1 =>
    have e0 : (ch 1 t).val = 64 + t.val := by show 64 * 1 + t.val = _; omega
    rw [dif_neg (by omega), dif_pos (by omega)]
    exact (congrArg (fun k => o1 (ix2 k e)) (Fin.ext (by show (ch 1 t).val - 64 = t.val; omega))).trans (h1 t e)
  | 2 =>
    have e0 : (ch 2 t).val = 128 + t.val := by show 64 * 2 + t.val = _; omega
    rw [dif_neg (by omega), dif_neg (by omega), dif_pos (by omega)]
    exact (congrArg (fun k => o2 (ix2 k e)) (Fin.ext (by show (ch 2 t).val - 64 - 64 = t.val; omega))).trans (h2 t e)
  | 3 =>
    have e0 : (ch 3 t).val = 192 + t.val := by show 64 * 3 + t.val = _; omega
    rw [dif_neg (by omega), dif_neg (by omega), dif_neg (by omega)]
    exact (congrArg (fun k => o3 (ix2 k e)) (Fin.ext (by show (ch 3 t).val - 64 - 64 - 64 = t.val; omega))).trans (h3 t e)

theorem normH_apply (h : Fin 8) (G : FVec Ideal S256x1024 .f32) (o0 o1 o2 o3 : FVec Ideal S64x128 .f32) (O : Fin 4 → Fin 64 → Fin 128 → EReal)
    (h0 : ∀ t e, o0 (ix2 t e) = O 0 t e) (h1 : ∀ t e, o1 (ix2 t e) = O 1 t e) (h2 : ∀ t e, o2 (ix2 t e) = O 2 t e) (h3 : ∀ t e, o3 (ix2 t e) = O 3 t e)
    (c : Fin 4) (t : Fin 64) (e : Fin 128) :
    (normH h G o0 o1 o2 o3 (ix3 0 (ch c t) e) : EReal)
      = O c t e * Ideal.rsqrt (Ideal.div (∑ k : Fin 128, O c t k * O c t k) (Ideal.ofBits FTy.f32 0x43000000#32) + Ideal.ofBits FTy.f32 0x358637BD#32) * G (ix2 (ch c t) (hd h e)) := by
  have r1 : (normH h G o0 o1 o2 o3 (ix3 0 (ch c t) e) : EReal) = cat4 o0 o1 o2 o3 (ix2 (ch c t) e)
      * Ideal.rsqrt (Ideal.div (∑ k : Fin 128, cat4 o0 o1 o2 o3 (ix2 (ch c t) k) * cat4 o0 o1 o2 o3 (ix2 (ch c t) k)) (Ideal.ofBits FTy.f32 0x43000000#32) + Ideal.ofBits FTy.f32 0x358637BD#32)
      * G (ix2 (ch c t) (hd h e)) := by
    pointwise [normH]
    rfl
  have hc := cat4_apply o0 o1 o2 o3 O h0 h1 h2 h3 c t
  rw [r1, hc e]
  refine congrArg (fun s => O c t e * Ideal.rsqrt (Ideal.div s (Ideal.ofBits FTy.f32 0x43000000#32) + Ideal.ofBits FTy.f32 0x358637BD#32) * G (ix2 (ch c t) (hd h e))) ?_
  exact Finset.sum_congr rfl fun k _ => by rw [hc k]

/-! ## A block of one grid point -/

/-- The decays at the ends of the chunks and what they scale, as the kernel computes them. -/
abbrev e0 (x0 : Vec Ideal S2x1024 .f32) (x3 : Vec Ideal S1x256x1024 .f32) : FVec Ideal S1x1024 .f32 :=
  k0_pay21 k0_pay13 (k0_pay14 (k0_pay10 x0) (k0_pay11 x0) x3) k0_pay15 (k0_pay16 (k0_pay10 x0) (k0_pay11 x0) x3) (FloatOps.ofBits FTy.f32 0#32)
abbrev l1 (x0 : Vec Ideal S2x1024 .f32) (x3 : Vec Ideal S1x256x1024 .f32) : FVec Ideal S1x1024 .f32 :=
  k0_pay22 k0_pay13 (k0_pay14 (k0_pay10 x0) (k0_pay11 x0) x3) k0_pay15 (k0_pay16 (k0_pay10 x0) (k0_pay11 x0) x3) (FloatOps.ofBits FTy.f32 0#32)
abbrev qArr (x0 : Vec Ideal S2x1024 .f32) (x2 : Vec Ideal S1x256x1024 .bf16) (x3 : Vec Ideal S1x256x1024 .f32) : FVec Ideal S256x1024 .bf16 :=
  k0_pay18 k0_pay13 (k0_pay14 (k0_pay10 x0) (k0_pay11 x0) x3) k0_pay15 (k0_pay16 (k0_pay10 x0) (k0_pay11 x0) x3) (FloatOps.ofBits FTy.f32 0#32) x2
abbrev kArr (x0 : Vec Ideal S2x1024 .f32) (x3 : Vec Ideal S1x256x1024 .f32) : FVec Ideal S256x1024 .f32 :=
  k0_pay19 (k0_pay12 (k0_pay10 x0) (k0_pay11 x0) x3) k0_pay13 (k0_pay14 (k0_pay10 x0) (k0_pay11 x0) x3) k0_pay15 (k0_pay16 (k0_pay10 x0) (k0_pay11 x0) x3) (FloatOps.ofBits FTy.f32 0#32)
abbrev kbArr (x0 : Vec Ideal S2x1024 .f32) (x3 : Vec Ideal S1x256x1024 .f32) : FVec Ideal S256x1024 .bf16 :=
  k0_pay20 (k0_pay12 (k0_pay10 x0) (k0_pay11 x0) x3) k0_pay13 (k0_pay14 (k0_pay10 x0) (k0_pay11 x0) x3) k0_pay15 (k0_pay16 (k0_pay10 x0) (k0_pay11 x0) x3) (FloatOps.ofBits FTy.f32 0#32)

/-- The decays of a chunk at its last row. -/
def eC (x0 : Vec Ideal S2x1024 .f32) (x3 : Vec Ideal S1x256x1024 .f32) : Fin 4 → FVec Ideal S1x1024 .f32
  | 0 => e0 x0 x3 | 1 => k0_pay23 (l1 x0 x3) | 2 => k0_pay24 (cArr x0 x3) | 3 => k0_pay25 (cArr x0 x3)
/-- The keys of a chunk carried to its last row. -/
def kC (x0 : Vec Ideal S2x1024 .f32) (x3 : Vec Ideal S1x256x1024 .f32) : Fin 4 → FVec Ideal S64x1024 .bf16
  | 0 => k0_pay26 (kArr x0 x3) (e0 x0 x3) | 1 => k0_pay27 (kArr x0 x3) (l1 x0 x3) | 2 => k0_pay28 (cArr x0 x3) (kArr x0 x3) | 3 => k0_pay29 (cArr x0 x3) (kArr x0 x3)

/-- The rows of a chunk and the columns of a head of an array of 256 rows. -/
def part (X : Fin 256 → Fin 1024 → EReal) (h : Fin 8) (c : Fin 4) : Fin 64 → Fin 128 → EReal := fun t d => X (ch c t) (hd h d)

theorem cArr_cum (x0 : Vec Ideal S2x1024 .f32) (x3 : Vec Ideal S1x256x1024 .f32) (h : Fin 8) (c : Fin 4) (t : Fin 64) (d : Fin 128) :
    (cArr x0 x3 (ix2 (ch c t) (hd h d)) : EReal) = cum (part (fun r n => fArr x0 x3 (ix2 r n)) h c) t d := cArr_apply x0 x3 c t (hd h d)

section
variable (v62 : IVec S256x1024 32) (v68 : FVec Ideal S256x1024 .f32) (v70 : IVec S256x1024 1) (v71 : FVec Ideal S256x1024 .f32) (z : Ideal .f32) (F C K : FVec Ideal S256x1024 .f32)

theorem pay18_apply (x2 : Vec Ideal S1x256x1024 .bf16) (r : Fin 256) (n : Fin 1024) :
    (k0_pay18 v62 v68 v70 v71 z x2 (ix2 r n) : EReal) = x2 (ix3 0 r n) * Ideal.exp (k0_pay17 v62 v68 v70 v71 z (ix2 r n)) := by
  pointwise [k0_pay18]

theorem pay19_apply (r : Fin 256) (n : Fin 1024) :
    (k0_pay19 F v62 v68 v70 v71 z (ix2 r n) : EReal) = (1 - F (ix2 r n)) * Ideal.exp (-(k0_pay17 v62 v68 v70 v71 z (ix2 r n))) := by
  pointwise [k0_pay19]
  rw [zero_sub]

theorem pay20_apply (r : Fin 256) (n : Fin 1024) :
    (k0_pay20 F v62 v68 v70 v71 z (ix2 r n) : EReal) = k0_pay19 F v62 v68 v70 v71 z (ix2 r n) := by
  pointwise [k0_pay20]

theorem pay21_apply (n : Fin 1024) :
    (k0_pay21 v62 v68 v70 v71 z (ix2 0 n) : EReal) = Ideal.exp (k0_pay17 v62 v68 v70 v71 z (ix2 (ch 0 63) n)) := by
  pointwise [k0_pay21]
  rfl

theorem pay23_apply (n : Fin 1024) :
    (k0_pay23 (k0_pay22 v62 v68 v70 v71 z) (ix2 0 n) : EReal) = Ideal.exp (k0_pay17 v62 v68 v70 v71 z (ix2 (ch 1 63) n)) := by
  pointwise [k0_pay23, k0_pay22]
  rfl

theorem pay24_apply (n : Fin 1024) : (k0_pay24 C (ix2 0 n) : EReal) = Ideal.exp (C (ix2 (ch 2 63) n)) := by
  pointwise [k0_pay24]
  rfl

theorem pay25_apply (n : Fin 1024) : (k0_pay25 C (ix2 0 n) : EReal) = Ideal.exp (C (ix2 (ch 3 63) n)) := by
  pointwise [k0_pay25]
  rfl

theorem pay26_apply (E : FVec Ideal S1x1024 .f32) (u : Fin 64) (n : Fin 1024) : (k0_pay26 K E (ix2 u n) : EReal) = K (ix2 (ch 0 u) n) * E (ix2 0 n) := by
  pointwise [k0_pay26]
  exact congrArg (fun r => K (ix2 r n) * E (ix2 0 n)) (Fin.ext (show u.val = 64 * 0 + u.val by omega))

theorem pay27_apply (L : FVec Ideal S1x1024 .f32) (u : Fin 64) (n : Fin 1024) : (k0_pay27 K L (ix2 u n) : EReal) = K (ix2 (ch 1 u) n) * k0_pay23 L (ix2 0 n) := by
  pointwise [k0_pay27]
  rfl

theorem pay28_apply (u : Fin 64) (n : Fin 1024) : (k0_pay28 C K (ix2 u n) : EReal) = K (ix2 (ch 2 u) n) * k0_pay24 C (ix2 0 n) := by
  pointwise [k0_pay28]
  rfl

theorem pay29_apply (u : Fin 64) (n : Fin 1024) : (k0_pay29 C K (ix2 u n) : EReal) = K (ix2 (ch 3 u) n) * k0_pay25 C (ix2 0 n) := by
  pointwise [k0_pay29]
  rfl
end

theorem eC_apply (x0 : Vec Ideal S2x1024 .f32) (x3 : Vec Ideal S1x256x1024 .f32) (c : Fin 4) (n : Fin 1024) :
    (eC x0 x3 c (ix2 0 n) : EReal) = Ideal.exp (cArr x0 x3 (ix2 (ch c 63) n)) := by
  match c with
  | 0 => exact pay21_apply _ _ _ _ _ n
  | 1 => exact pay23_apply _ _ _ _ _ n
  | 2 => exact pay24_apply _ n
  | 3 => exact pay25_apply _ n

theorem kC_apply (x0 : Vec Ideal S2x1024 .f32) (x3 : Vec Ideal S1x256x1024 .f32) (c : Fin 4) (u : Fin 64) (n : Fin 1024) :
    (kC x0 x3 c (ix2 u n) : EReal) = kArr x0 x3 (ix2 (ch c u) n) * Ideal.exp (cArr x0 x3 (ix2 (ch c 63) n)) := by
  refine Eq.trans ?_ (congrArg (kArr x0 x3 (ix2 (ch c u) n) * ·) (eC_apply x0 x3 c n))
  match c with
  | 0 => exact pay26_apply _ _ u n
  | 1 => exact pay27_apply _ _ u n
  | 2 => exact pay28_apply _ _ u n
  | 3 => exact pay29_apply _ _ u n

end Cert.Proof.Hgrn
-- ==== Proof.HgrnBlocks.lean ====
/- The recurrence's blocks: what the stores of a grid point leave in its output block and in scratch, head by head. -/
module

public import proofs.«01_k».proof.Proof.Hgrn

@[expose] public section

set_option maxRecDepth 16384

noncomputable section

namespace Cert.Proof.Hgrn

open Idealize.ShloMosaic Idealize.ShloMosaic.TcCoe
open Idealize.ShloMosaic.Pipeline (Dat Cfg Window)
open Cert.HgrnIdeal Cert.HgrnIdeal.Gen

/-- The head of a column and the column's place in it. -/
def hOf (y : Fin 1024) : Fin 8 := ⟨y.val / 128, by omega⟩
def nOf (y : Fin 1024) : Fin 128 := ⟨y.val % 128, by omega⟩
theorem hOf_hd (h : Fin 8) (n : Fin 128) : hOf (hd h n) = h := Fin.ext (by show (128 * h.val + n.val) / 128 = h.val; omega)
theorem nOf_hd (h : Fin 8) (n : Fin 128) : nOf (hd h n) = n := Fin.ext (by show (128 * h.val + n.val) % 128 = n.val; omega)

section canon
variable {Val : EltTy → Type} [∀ e, Nonempty (Val e)] {e : EltTy}

/-- Where a head's columns lie in a block of 256 rows. -/
theorem emb_head {o : ℕ} (j : Fin 8) (ho : o = 128 * j.val)
    (inb : ∀ a : Fin S1x256x1024.rank, ![0, 0, o] a + (![1, 256, 128] : Fin 3 → ℕ) a ≤ S1x256x1024.size a) (x : S1x256x128.Idx) :
    (Rect.unit (s := S1x256x1024) ![0, 0, o] ![1, 256, 128] inb).emb x = ix3 0 (x 1) (hd j (x 2)) := by
  have h0 : (x 0).val = 0 := Nat.lt_one_iff.mp (x 0).isLt
  funext a; apply Fin.ext
  refine (Rect.idx_unit_val _ _ _ x a).trans ?_
  fin_cases a <;> simp [hd, ho, h0]

/-- Eight pieces that are the heads of one block make that block, whatever was written before. -/
theorem canon_heads (G : S1x256x1024.Idx → Val e) (w0 w1 w2 w3 w4 w5 w6 w7 : S1x256x128.Idx → Val e) (L' : List (View.Piece Val S1x256x1024 e))
    (h0 : ∀ r n, w0 (ix3 0 r n) = G (ix3 0 r (hd 0 n)))
    (h1 : ∀ r n, w1 (ix3 0 r n) = G (ix3 0 r (hd 1 n)))
    (h2 : ∀ r n, w2 (ix3 0 r n) = G (ix3 0 r (hd 2 n)))
    (h3 : ∀ r n, w3 (ix3 0 r n) = G (ix3 0 r (hd 3 n)))
    (h4 : ∀ r n, w4 (ix3 0 r n) = G (ix3 0 r (hd 4 n)))
    (h5 : ∀ r n, w5 (ix3 0 r n) = G (ix3 0 r (hd 5 n)))
    (h6 : ∀ r n, w6 (ix3 0 r n) = G (ix3 0 r (hd 6 n)))
    (h7 : ∀ r n, w7 (ix3 0 r n) = G (ix3 0 r (hd 7 n)))
    (i0 : ∀ a : Fin S1x256x1024.rank, ![0, 0, 0] a + (![1, 256, 128] : Fin 3 → ℕ) a ≤ S1x256x1024.size a)
    (i1 : ∀ a : Fin S1x256x1024.rank, ![0, 0, 128] a + (![1, 256, 128] : Fin 3 → ℕ) a ≤ S1x256x1024.size a)
    (i2 : ∀ a : Fin S1x256x1024.rank, ![0, 0, 256] a + (![1, 256, 128] : Fin 3 → ℕ) a ≤ S1x256x1024.size a)
    (i3 : ∀ a : Fin S1x256x1024.rank, ![0, 0, 384] a + (![1, 256, 128] : Fin 3 → ℕ) a ≤ S1x256x1024.size a)
    (i4 : ∀ a : Fin S1x256x1024.rank, ![0, 0, 512] a + (![1, 256, 128] : Fin 3 → ℕ) a ≤ S1x256x1024.size a)
    (i5 : ∀ a : Fin S1x256x1024.rank, ![0, 0, 640] a + (![1, 256, 128] : Fin 3 → ℕ) a ≤ S1x256x1024.size a)
    (i6 : ∀ a : Fin S1x256x1024.rank, ![0, 0, 768] a + (![1, 256, 128] : Fin 3 → ℕ) a ≤ S1x256x1024.size a)
    (i7 : ∀ a : Fin S1x256x1024.rank, ![0, 0, 896] a + (![1, 256, 128] : Fin 3 → ℕ) a ≤ S1x256x1024.size a) :
    View.canon (⟨Rect.unit (s := S1x256x1024) ![0, 0, 896] ![1, 256, 128] i7, w7⟩
      :: ⟨Rect.unit (s := S1x256x1024) ![0, 0, 768] ![1, 256, 128] i6, w6⟩
      :: ⟨Rect.unit (s := S1x256x1024) ![0, 0, 640] ![1, 256, 128] i5, w5⟩
      :: ⟨Rect.unit (s := S1x256x1024) ![0, 0, 512] ![1, 256, 128] i4, w4⟩
      :: ⟨Rect.unit (s := S1x256x1024) ![0, 0, 384] ![1, 256, 128] i3, w3⟩
      :: ⟨Rect.unit (s := S1x256x1024) ![0, 0, 256] ![1, 256, 128] i2, w2⟩
      :: ⟨Rect.unit (s := S1x256x1024) ![0, 0, 128] ![1, 256, 128] i1, w1⟩
      :: ⟨Rect.unit (s := S1x256x1024) ![0, 0, 0] ![1, 256, 128] i0, w0⟩ :: L') = G := by
  funext y
  have put : ∀ (j : Fin 8) (o : ℕ) (ho : o = 128 * j.val) (inb : ∀ a : Fin S1x256x1024.rank, ![0, 0, o] a + (![1, 256, 128] : Fin 3 → ℕ) a ≤ S1x256x1024.size a)
      (w : S1x256x128.Idx → Val e), (∀ r n, w (ix3 0 r n) = G (ix3 0 r (hd j n))) →
      ∀ x : S1x256x128.Idx, w x = G ((Rect.unit (s := S1x256x1024) ![0, 0, o] ![1, 256, 128] inb).emb x) := by
    intro j o ho inb w hw x
    rw [emb_head j ho inb x]
    have h0 : x 0 = (0 : Fin 1) := Fin.ext (Nat.lt_one_iff.mp (x 0).isLt)
    have hx := eq_ix3 x
    rw [h0] at hx
    exact (congrArg w hx).trans (hw (x 1) (x 2))
  refine View.canon_append_of_piecesOf G L'
    [⟨Rect.unit (s := S1x256x1024) ![0, 0, 896] ![1, 256, 128] i7, w7⟩,
      ⟨Rect.unit (s := S1x256x1024) ![0, 0, 768] ![1, 256, 128] i6, w6⟩,
      ⟨Rect.unit (s := S1x256x1024) ![0, 0, 640] ![1, 256, 128] i5, w5⟩,
      ⟨Rect.unit (s := S1x256x1024) ![0, 0, 512] ![1, 256, 128] i4, w4⟩,
      ⟨Rect.unit (s := S1x256x1024) ![0, 0, 384] ![1, 256, 128] i3, w3⟩,
      ⟨Rect.unit (s := S1x256x1024) ![0, 0, 256] ![1, 256, 128] i2, w2⟩,
      ⟨Rect.unit (s := S1x256x1024) ![0, 0, 128] ![1, 256, 128] i1, w1⟩,
      ⟨Rect.unit (s := S1x256x1024) ![0, 0, 0] ![1, 256, 128] i0, w0⟩]
    ⟨put 7 _ rfl i7 w7 h7, put 6 _ rfl i6 w6 h6, put 5 _ rfl i5 w5 h5, put 4 _ rfl i4 w4 h4, put 3 _ rfl i3 w3 h3, put 2 _ rfl i2 w2 h2, put 1 _ rfl i1 w1 h1, put 0 _ rfl i0 w0 h0, trivial⟩ y ?_
  exact View.cover_of_tiledL _ ![1, 256, 128] (by sl_kernel_rfl) y

/-- Where a head's state lies in the states of all heads. -/
theorem emb_slab {o : ℕ} (j : Fin 8) (ho : o = j.val)
    (inb : ∀ a : Fin S8x128x128.rank, ![o, 0, 0] a + (![1, 128, 128] : Fin 3 → ℕ) a ≤ S8x128x128.size a) (x : S1x128x128.Idx) :
    (Rect.unit (s := S8x128x128) ![o, 0, 0] ![1, 128, 128] inb).emb x = ix3 j (x 1) (x 2) := by
  have h0 : (x 0).val = 0 := Nat.lt_one_iff.mp (x 0).isLt
  funext a; apply Fin.ext
  refine (Rect.idx_unit_val _ _ _ x a).trans ?_
  fin_cases a <;> simp [ho, h0]

/-- Eight pieces that are the states of the heads make the states of all heads, whatever was written before. -/
theorem canon_slabs (G : S8x128x128.Idx → Val e) (w0 w1 w2 w3 w4 w5 w6 w7 : S1x128x128.Idx → Val e) (L' : List (View.Piece Val S8x128x128 e))
    (h0 : ∀ r n, w0 (ix3 0 r n) = G (ix3 0 r n))
    (h1 : ∀ r n, w1 (ix3 0 r n) = G (ix3 1 r n))
    (h2 : ∀ r n, w2 (ix3 0 r n) = G (ix3 2 r n))
    (h3 : ∀ r n, w3 (ix3 0 r n) = G (ix3 3 r n))
    (h4 : ∀ r n, w4 (ix3 0 r n) = G (ix3 4 r n))
    (h5 : ∀ r n, w5 (ix3 0 r n) = G (ix3 5 r n))
    (h6 : ∀ r n, w6 (ix3 0 r n) = G (ix3 6 r n))
    (h7 : ∀ r n, w7 (ix3 0 r n) = G (ix3 7 r n))
    (i0 : ∀ a : Fin S8x128x128.rank, ![0, 0, 0] a + (![1, 128, 128] : Fin 3 → ℕ) a ≤ S8x128x128.size a)
    (i1 : ∀ a : Fin S8x128x128.rank, ![1, 0, 0] a + (![1, 128, 128] : Fin 3 → ℕ) a ≤ S8x128x128.size a)
    (i2 : ∀ a : Fin S8x128x128.rank, ![2, 0, 0] a + (![1, 128, 128] : Fin 3 → ℕ) a ≤ S8x128x128.size a)
    (i3 : ∀ a : Fin S8x128x128.rank, ![3, 0, 0] a + (![1, 128, 128] : Fin 3 → ℕ) a ≤ S8x128x128.size a)
    (i4 : ∀ a : Fin S8x128x128.rank, ![4, 0, 0] a + (![1, 128, 128] : Fin 3 → ℕ) a ≤ S8x128x128.size a)
    (i5 : ∀ a : Fin S8x128x128.rank, ![5, 0, 0] a + (![1, 128, 128] : Fin 3 → ℕ) a ≤ S8x128x128.size a)
    (i6 : ∀ a : Fin S8x128x128.rank, ![6, 0, 0] a + (![1, 128, 128] : Fin 3 → ℕ) a ≤ S8x128x128.size a)
    (i7 : ∀ a : Fin S8x128x128.rank, ![7, 0, 0] a + (![1, 128, 128] : Fin 3 → ℕ) a ≤ S8x128x128.size a) :
    View.canon (⟨Rect.unit (s := S8x128x128) ![7, 0, 0] ![1, 128, 128] i7, w7⟩
      :: ⟨Rect.unit (s := S8x128x128) ![6, 0, 0] ![1, 128, 128] i6, w6⟩
      :: ⟨Rect.unit (s := S8x128x128) ![5, 0, 0] ![1, 128, 128] i5, w5⟩
      :: ⟨Rect.unit (s := S8x128x128) ![4, 0, 0] ![1, 128, 128] i4, w4⟩
      :: ⟨Rect.unit (s := S8x128x128) ![3, 0, 0] ![1, 128, 128] i3, w3⟩
      :: ⟨Rect.unit (s := S8x128x128) ![2, 0, 0] ![1, 128, 128] i2, w2⟩
      :: ⟨Rect.unit (s := S8x128x128) ![1, 0, 0] ![1, 128, 128] i1, w1⟩
      :: ⟨Rect.unit (s := S8x128x128) ![0, 0, 0] ![1, 128, 128] i0, w0⟩ :: L') = G := by
  funext y
  have put : ∀ (j : Fin 8) (o : ℕ) (ho : o = j.val) (inb : ∀ a : Fin S8x128x128.rank, ![o, 0, 0] a + (![1, 128, 128] : Fin 3 → ℕ) a ≤ S8x128x128.size a)
      (w : S1x128x128.Idx → Val e), (∀ r n, w (ix3 0 r n) = G (ix3 j r n)) →
      ∀ x : S1x128x128.Idx, w x = G ((Rect.unit (s := S8x128x128) ![o, 0, 0] ![1, 128, 128] inb).emb x) := by
    intro j o ho inb w hw x
    rw [emb_slab j ho inb x]
    have h0 : x 0 = (0 : Fin 1) := Fin.ext (Nat.lt_one_iff.mp (x 0).isLt)
    have hx := eq_ix3 x
    rw [h0] at hx
    exact (congrArg w hx).trans (hw (x 1) (x 2))
  refine View.canon_append_of_piecesOf G L'
    [⟨Rect.unit (s := S8x128x128) ![7, 0, 0] ![1, 128, 128] i7, w7⟩,
      ⟨Rect.unit (s := S8x128x128) ![6, 0, 0] ![1, 128, 128] i6, w6⟩,
      ⟨Rect.unit (s := S8x128x128) ![5, 0, 0] ![1, 128, 128] i5, w5⟩,
      ⟨Rect.unit (s := S8x128x128) ![4, 0, 0] ![1, 128, 128] i4, w4⟩,
      ⟨Rect.unit (s := S8x128x128) ![3, 0, 0] ![1, 128, 128] i3, w3⟩,
      ⟨Rect.unit (s := S8x128x128) ![2, 0, 0] ![1, 128, 128] i2, w2⟩,
      ⟨Rect.unit (s := S8x128x128) ![1, 0, 0] ![1, 128, 128] i1, w1⟩,
      ⟨Rect.unit (s := S8x128x128) ![0, 0, 0] ![1, 128, 128] i0, w0⟩]
    ⟨put 7 _ rfl i7 w7 h7, put 6 _ rfl i6 w6 h6, put 5 _ rfl i5 w5 h5, put 4 _ rfl i4 w4 h4, put 3 _ rfl i3 w3 h3, put 2 _ rfl i2 w2 h2, put 1 _ rfl i1 w1 h1, put 0 _ rfl i0 w0 h0, trivial⟩ y ?_
  exact View.cover_of_tiledL _ ![1, 128, 128] (by sl_kernel_rfl) y

end canon

/-- A head's state read from the states of all heads. -/
def initS (xs0 : Vec Ideal S8x128x128 .f32) (h : Fin 8) : FVec Ideal S128x128 .f32 :=
  shapeCast S128x128 (View.ld xs0 (Rect.unit (s := S8x128x128) ![h.val, 0, 0] ![1, 128, 128] (by intro a; fin_cases a <;> simp <;> omega)) : Vec Ideal S1x128x128 .f32) shapeCasts_S1x128x128_S128x128

theorem slab_apply (X : Vec Ideal S1x128x128 .f32) (a d : Fin 128) : (shapeCast S128x128 X shapeCasts_S1x128x128_S128x128 (ix2 a d) : EReal) = X (ix3 0 a d) := by
  pointwise []

theorem initS_apply (xs0 : Vec Ideal S8x128x128 .f32) (h : Fin 8) (a d : Fin 128) : (initS xs0 h (ix2 a d) : EReal) = xs0 (ix3 h a d) := by
  refine (slab_apply _ a d).trans ?_
  refine View.ld_unit_apply_of _ _ _ _ _ (ix3 h a d) ?_
  intro k; fin_cases k <;> simp

section head
variable (x0 : Vec Ideal S2x1024 .f32) (x1 : Vec Ideal S1x1024 .f32) (x2 : Vec Ideal S1x256x1024 .bf16) (x3 : Vec Ideal S1x256x1024 .f32) (x4 x5 : Vec Ideal S1x256x1024 .bf16) (h : Fin 8) (S : FVec Ideal S128x128 .f32)

/-- A head's state after one, two, three and four chunks. -/
def s1 : FVec Ideal S128x128 .f32 := stepH 0 h (eC x0 x3 0) (kC x0 x3 0) (k0_pay30 x4) S
def s2 : FVec Ideal S128x128 .f32 := stepH 1 h (eC x0 x3 1) (kC x0 x3 1) (k0_pay30 x4) (s1 x0 x3 x4 h S)
def s3 : FVec Ideal S128x128 .f32 := stepH 2 h (eC x0 x3 2) (kC x0 x3 2) (k0_pay30 x4) (s2 x0 x3 x4 h S)
def s4 : FVec Ideal S128x128 .f32 := stepH 3 h (eC x0 x3 3) (kC x0 x3 3) (k0_pay30 x4) (s3 x0 x3 x4 h S)

/-- A head's four chunks of output, normalised and gated. -/
def headOut : FVec Ideal S1x256x128 .bf16 :=
  normH h (k0_pay31 x5 x1) (outH 0 h (qArr x0 x2 x3) (kbArr x0 x3) (k0_pay30 x4) S) (outH 1 h (qArr x0 x2 x3) (kbArr x0 x3) (k0_pay30 x4) (s1 x0 x3 x4 h S))
    (outH 2 h (qArr x0 x2 x3) (kbArr x0 x3) (k0_pay30 x4) (s2 x0 x3 x4 h S)) (outH 3 h (qArr x0 x2 x3) (kbArr x0 x3) (k0_pay30 x4) (s3 x0 x3 x4 h S))

/-- The state a head hands the next grid point. -/
def headState : FVec Ideal S1x128x128 .f32 := shapeCast S1x128x128 (s4 x0 x3 x4 h S) shapeCasts_S128x128_S1x128x128
end head

/-- The block of outputs of a grid point from the states before it. -/
def blockOut (x0 : Vec Ideal S2x1024 .f32) (x1 : Vec Ideal S1x1024 .f32) (x2 : Vec Ideal S1x256x1024 .bf16) (x3 : Vec Ideal S1x256x1024 .f32) (x4 x5 : Vec Ideal S1x256x1024 .bf16)
    (xs0 : Vec Ideal S8x128x128 .f32) : S1x256x1024.Idx → EReal :=
  fun y => headOut x0 x1 x2 x3 x4 x5 (hOf (y 2)) (initS xs0 (hOf (y 2))) (ix3 0 (y 1) (nOf (y 2)))

/-- The states of all heads after a grid point. -/
def blockState (x0 : Vec Ideal S2x1024 .f32) (x3 : Vec Ideal S1x256x1024 .f32) (x4 : Vec Ideal S1x256x1024 .bf16)
    (xs0 : Vec Ideal S8x128x128 .f32) : S8x128x128.Idx → EReal :=
  fun y => headState x0 x3 x4 (y 0) (initS xs0 (y 0)) (ix3 0 (y 1) (y 2))

theorem blockOut_apply (x0 : Vec Ideal S2x1024 .f32) (x1 : Vec Ideal S1x1024 .f32) (x2 : Vec Ideal S1x256x1024 .bf16) (x3 : Vec Ideal S1x256x1024 .f32) (x4 x5 : Vec Ideal S1x256x1024 .bf16)
    (xs0 : Vec Ideal S8x128x128 .f32) (r : Fin 256) (h : Fin 8) (n : Fin 128) :
    blockOut x0 x1 x2 x3 x4 x5 xs0 (ix3 0 r (hd h n)) = headOut x0 x1 x2 x3 x4 x5 h (initS xs0 h) (ix3 0 r n) := by
  show (headOut x0 x1 x2 x3 x4 x5 (hOf (hd h n)) (initS xs0 (hOf (hd h n))) (ix3 0 r (nOf (hd h n))) : EReal) = _
  rw [hOf_hd, nOf_hd]

/-- The states a batch starts from. -/
def zeroS : Vec Ideal S8x128x128 .f32 := k0_pay8 (F := Ideal)

theorem outB_eq (c : Dev nD) (i : grid0.Coords) (arg2 : Memref sig .tc .vmem S2x1024 .f32) (harg2 : arg2.IsWhole) (arg3 : Memref sig .tc .vmem S1x1024 .f32) (harg3 : arg3.IsWhole) (arg4 : Memref sig .tc .vmem S1x256x1024 .bf16) (harg4 : arg4.IsWhole) (arg5 : Memref sig .tc .vmem S1x256x1024 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S16x2048 .f32) (harg8 : arg8.IsWhole) (arg9 : Memref sig .tc .vmem S16x2048 .f32) (harg9 : arg9.IsWhole) (arg10 : Memref sig .tc .vmem S32x2048 .f32) (harg10 : arg10.IsWhole) (arg11 : Memref sig .tc .vmem S128x2048 .f32) (harg11 : arg11.IsWhole) (arg12 : Memref sig .tc .vmem S1x256x1024 .bf16) (harg12 : arg12.IsWhole) (arg13 : Memref sig .tc .vmem S16x2048 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S128x2048 .bf16) (harg16 : arg16.IsWhole) (arg17 : Memref sig .tc .vmem S8x128x128 .f32) (harg17 : arg17.IsWhole) (hc0 : ¬cond0_0 i) (x0 : Vec Ideal S2x1024 .f32) (x1 : Vec Ideal S1x1024 .f32) (x2 : Vec Ideal S1x256x1024 .bf16) (x3 : Vec Ideal S1x256x1024 .f32) (x4 : Vec Ideal S1x256x1024 .bf16) (x5 : Vec Ideal S1x256x1024 .bf16) (x6 : Vec Ideal S16x2048 .f32) (x7 : Vec Ideal S16x2048 .f32) (x8 : Vec Ideal S32x2048 .f32) (x9 : Vec Ideal S128x2048 .f32) (xs0 : Vec Ideal S8x128x128 .f32) :
    (out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 : S1x256x1024.Idx → EReal) = blockOut x0 x1 x2 x3 x4 x5 xs0 := by
  frame_open
  simp (disch := decide) only [↓ View.readCov_skip, ↓ View.readCov_cons_toLoadRect, ↓ View.readCov_fill]
  frame_out
  refine canon_heads (Val := Elt Ideal) (e := .bf16) (blockOut x0 x1 x2 x3 x4 x5 xs0) _ _ _ _ _ _ _ _ _ ?_ ?_ ?_ ?_ ?_ ?_ ?_ ?_ _ _ _ _ _ _ _ _
  · exact fun r n => Eq.trans rfl (blockOut_apply x0 x1 x2 x3 x4 x5 xs0 r 0 n).symm
  · exact fun r n => Eq.trans rfl (blockOut_apply x0 x1 x2 x3 x4 x5 xs0 r 1 n).symm
  · exact fun r n => Eq.trans rfl (blockOut_apply x0 x1 x2 x3 x4 x5 xs0 r 2 n).symm
  · exact fun r n => Eq.trans rfl (blockOut_apply x0 x1 x2 x3 x4 x5 xs0 r 3 n).symm
  · exact fun r n => Eq.trans rfl (blockOut_apply x0 x1 x2 x3 x4 x5 xs0 r 4 n).symm
  · exact fun r n => Eq.trans rfl (blockOut_apply x0 x1 x2 x3 x4 x5 xs0 r 5 n).symm
  · exact fun r n => Eq.trans rfl (blockOut_apply x0 x1 x2 x3 x4 x5 xs0 r 6 n).symm
  · exact fun r n => Eq.trans rfl (blockOut_apply x0 x1 x2 x3 x4 x5 xs0 r 7 n).symm

theorem soutB_eq (c : Dev nD) (i : grid0.Coords) (arg2 : Memref sig .tc .vmem S2x1024 .f32) (harg2 : arg2.IsWhole) (arg3 : Memref sig .tc .vmem S1x1024 .f32) (harg3 : arg3.IsWhole) (arg4 : Memref sig .tc .vmem S1x256x1024 .bf16) (harg4 : arg4.IsWhole) (arg5 : Memref sig .tc .vmem S1x256x1024 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S16x2048 .f32) (harg8 : arg8.IsWhole) (arg9 : Memref sig .tc .vmem S16x2048 .f32) (harg9 : arg9.IsWhole) (arg10 : Memref sig .tc .vmem S32x2048 .f32) (harg10 : arg10.IsWhole) (arg11 : Memref sig .tc .vmem S128x2048 .f32) (harg11 : arg11.IsWhole) (arg12 : Memref sig .tc .vmem S1x256x1024 .bf16) (harg12 : arg12.IsWhole) (arg13 : Memref sig .tc .vmem S16x2048 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S128x2048 .bf16) (harg16 : arg16.IsWhole) (arg17 : Memref sig .tc .vmem S8x128x128 .f32) (harg17 : arg17.IsWhole) (hc0 : ¬cond0_0 i) (x0 : Vec Ideal S2x1024 .f32) (x1 : Vec Ideal S1x1024 .f32) (x2 : Vec Ideal S1x256x1024 .bf16) (x3 : Vec Ideal S1x256x1024 .f32) (x4 : Vec Ideal S1x256x1024 .bf16) (x5 : Vec Ideal S1x256x1024 .bf16) (x6 : Vec Ideal S16x2048 .f32) (x7 : Vec Ideal S16x2048 .f32) (x8 : Vec Ideal S32x2048 .f32) (x9 : Vec Ideal S128x2048 .f32) (xs0 : Vec Ideal S8x128x128 .f32) :
    (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 : S8x128x128.Idx → EReal) = blockState x0 x3 x4 xs0 := by
  frame_open
  simp (disch := decide) only [↓ View.readCov_skip, ↓ View.readCov_cons_toLoadRect, ↓ View.readCov_fill]
  frame_out
  refine canon_slabs (Val := Elt Ideal) (e := .f32) (blockState x0 x3 x4 xs0) _ _ _ _ _ _ _ _ _ ?_ ?_ ?_ ?_ ?_ ?_ ?_ ?_ _ _ _ _ _ _ _ _
  · exact fun r n => rfl
  · exact fun r n => rfl
  · exact fun r n => rfl
  · exact fun r n => rfl
  · exact fun r n => rfl
  · exact fun r n => rfl
  · exact fun r n => rfl
  · exact fun r n => rfl

theorem outA_eq (c : Dev nD) (i : grid0.Coords) (arg2 : Memref sig .tc .vmem S2x1024 .f32) (harg2 : arg2.IsWhole) (arg3 : Memref sig .tc .vmem S1x1024 .f32) (harg3 : arg3.IsWhole) (arg4 : Memref sig .tc .vmem S1x256x1024 .bf16) (harg4 : arg4.IsWhole) (arg5 : Memref sig .tc .vmem S1x256x1024 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S16x2048 .f32) (harg8 : arg8.IsWhole) (arg9 : Memref sig .tc .vmem S16x2048 .f32) (harg9 : arg9.IsWhole) (arg10 : Memref sig .tc .vmem S32x2048 .f32) (harg10 : arg10.IsWhole) (arg11 : Memref sig .tc .vmem S128x2048 .f32) (harg11 : arg11.IsWhole) (arg12 : Memref sig .tc .vmem S1x256x1024 .bf16) (harg12 : arg12.IsWhole) (arg13 : Memref sig .tc .vmem S16x2048 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S128x2048 .bf16) (harg16 : arg16.IsWhole) (arg17 : Memref sig .tc .vmem S8x128x128 .f32) (harg17 : arg17.IsWhole) (hc0 : cond0_0 i) (x0 : Vec Ideal S2x1024 .f32) (x1 : Vec Ideal S1x1024 .f32) (x2 : Vec Ideal S1x256x1024 .bf16) (x3 : Vec Ideal S1x256x1024 .f32) (x4 : Vec Ideal S1x256x1024 .bf16) (x5 : Vec Ideal S1x256x1024 .bf16) (x6 : Vec Ideal S16x2048 .f32) (x7 : Vec Ideal S16x2048 .f32) (x8 : Vec Ideal S32x2048 .f32) (x9 : Vec Ideal S128x2048 .f32) :
    (out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 : S1x256x1024.Idx → EReal) = blockOut x0 x1 x2 x3 x4 x5 zeroS := by
  frame_open
  simp (disch := decide) only [↓ View.readCov_skip, ↓ View.readCov_cons_toLoadRect, ↓ View.readCov_fill]
  frame_out
  refine canon_heads (Val := Elt Ideal) (e := .bf16) (blockOut x0 x1 x2 x3 x4 x5 zeroS) _ _ _ _ _ _ _ _ _ ?_ ?_ ?_ ?_ ?_ ?_ ?_ ?_ _ _ _ _ _ _ _ _
  · exact fun r n => Eq.trans rfl (blockOut_apply x0 x1 x2 x3 x4 x5 zeroS r 0 n).symm
  · exact fun r n => Eq.trans rfl (blockOut_apply x0 x1 x2 x3 x4 x5 zeroS r 1 n).symm
  · exact fun r n => Eq.trans rfl (blockOut_apply x0 x1 x2 x3 x4 x5 zeroS r 2 n).symm
  · exact fun r n => Eq.trans rfl (blockOut_apply x0 x1 x2 x3 x4 x5 zeroS r 3 n).symm
  · exact fun r n => Eq.trans rfl (blockOut_apply x0 x1 x2 x3 x4 x5 zeroS r 4 n).symm
  · exact fun r n => Eq.trans rfl (blockOut_apply x0 x1 x2 x3 x4 x5 zeroS r 5 n).symm
  · exact fun r n => Eq.trans rfl (blockOut_apply x0 x1 x2 x3 x4 x5 zeroS r 6 n).symm
  · exact fun r n => Eq.trans rfl (blockOut_apply x0 x1 x2 x3 x4 x5 zeroS r 7 n).symm

theorem soutA_eq (c : Dev nD) (i : grid0.Coords) (arg2 : Memref sig .tc .vmem S2x1024 .f32) (harg2 : arg2.IsWhole) (arg3 : Memref sig .tc .vmem S1x1024 .f32) (harg3 : arg3.IsWhole) (arg4 : Memref sig .tc .vmem S1x256x1024 .bf16) (harg4 : arg4.IsWhole) (arg5 : Memref sig .tc .vmem S1x256x1024 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S16x2048 .f32) (harg8 : arg8.IsWhole) (arg9 : Memref sig .tc .vmem S16x2048 .f32) (harg9 : arg9.IsWhole) (arg10 : Memref sig .tc .vmem S32x2048 .f32) (harg10 : arg10.IsWhole) (arg11 : Memref sig .tc .vmem S128x2048 .f32) (harg11 : arg11.IsWhole) (arg12 : Memref sig .tc .vmem S1x256x1024 .bf16) (harg12 : arg12.IsWhole) (arg13 : Memref sig .tc .vmem S16x2048 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S128x2048 .bf16) (harg16 : arg16.IsWhole) (arg17 : Memref sig .tc .vmem S8x128x128 .f32) (harg17 : arg17.IsWhole) (hc0 : cond0_0 i) (x0 : Vec Ideal S2x1024 .f32) (x1 : Vec Ideal S1x1024 .f32) (x2 : Vec Ideal S1x256x1024 .bf16) (x3 : Vec Ideal S1x256x1024 .f32) (x4 : Vec Ideal S1x256x1024 .bf16) (x5 : Vec Ideal S1x256x1024 .bf16) (x6 : Vec Ideal S16x2048 .f32) (x7 : Vec Ideal S16x2048 .f32) (x8 : Vec Ideal S32x2048 .f32) (x9 : Vec Ideal S128x2048 .f32) :
    (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 : S8x128x128.Idx → EReal) = blockState x0 x3 x4 zeroS := by
  frame_open
  simp (disch := decide) only [↓ View.readCov_skip, ↓ View.readCov_cons_toLoadRect, ↓ View.readCov_fill]
  frame_out
  refine canon_slabs (Val := Elt Ideal) (e := .f32) (blockState x0 x3 x4 zeroS) _ _ _ _ _ _ _ _ _ ?_ ?_ ?_ ?_ ?_ ?_ ?_ ?_ _ _ _ _ _ _ _ _
  · exact fun r n => rfl
  · exact fun r n => rfl
  · exact fun r n => rfl
  · exact fun r n => rfl
  · exact fun r n => rfl
  · exact fun r n => rfl
  · exact fun r n => rfl
  · exact fun r n => rfl

theorem out11A_eq (c : Dev nD) (i : grid0.Coords) (arg2 : Memref sig .tc .vmem S2x1024 .f32) (harg2 : arg2.IsWhole) (arg3 : Memref sig .tc .vmem S1x1024 .f32) (harg3 : arg3.IsWhole) (arg4 : Memref sig .tc .vmem S1x256x1024 .bf16) (harg4 : arg4.IsWhole) (arg5 : Memref sig .tc .vmem S1x256x1024 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S16x2048 .f32) (harg8 : arg8.IsWhole) (arg9 : Memref sig .tc .vmem S16x2048 .f32) (harg9 : arg9.IsWhole) (arg10 : Memref sig .tc .vmem S32x2048 .f32) (harg10 : arg10.IsWhole) (arg11 : Memref sig .tc .vmem S128x2048 .f32) (harg11 : arg11.IsWhole) (arg12 : Memref sig .tc .vmem S1x256x1024 .bf16) (harg12 : arg12.IsWhole) (arg13 : Memref sig .tc .vmem S16x2048 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S128x2048 .bf16) (harg16 : arg16.IsWhole) (arg17 : Memref sig .tc .vmem S8x128x128 .f32) (harg17 : arg17.IsWhole) (hc0 : cond0_0 i) (x0 : Vec Ideal S2x1024 .f32) (x1 : Vec Ideal S1x1024 .f32) (x2 : Vec Ideal S1x256x1024 .bf16) (x3 : Vec Ideal S1x256x1024 .f32) (x4 : Vec Ideal S1x256x1024 .bf16) (x5 : Vec Ideal S1x256x1024 .bf16) (x6 : Vec Ideal S16x2048 .f32) (x7 : Vec Ideal S16x2048 .f32) (x8 : Vec Ideal S32x2048 .f32) (x9 : Vec Ideal S128x2048 .f32) :
    (out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 : S16x2048.Idx → EReal) = x6 := by
  frame_out
  funext i
  obtain ⟨a, b, rfl⟩ : ∃ a b, i = ix2 a b := ⟨i 0, i 1, eq_ix2 i⟩
  pointwise [k0_pay4]

theorem out11B_eq (c : Dev nD) (i : grid0.Coords) (arg2 : Memref sig .tc .vmem S2x1024 .f32) (harg2 : arg2.IsWhole) (arg3 : Memref sig .tc .vmem S1x1024 .f32) (harg3 : arg3.IsWhole) (arg4 : Memref sig .tc .vmem S1x256x1024 .bf16) (harg4 : arg4.IsWhole) (arg5 : Memref sig .tc .vmem S1x256x1024 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S16x2048 .f32) (harg8 : arg8.IsWhole) (arg9 : Memref sig .tc .vmem S16x2048 .f32) (harg9 : arg9.IsWhole) (arg10 : Memref sig .tc .vmem S32x2048 .f32) (harg10 : arg10.IsWhole) (arg11 : Memref sig .tc .vmem S128x2048 .f32) (harg11 : arg11.IsWhole) (arg12 : Memref sig .tc .vmem S1x256x1024 .bf16) (harg12 : arg12.IsWhole) (arg13 : Memref sig .tc .vmem S16x2048 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S128x2048 .bf16) (harg16 : arg16.IsWhole) (arg17 : Memref sig .tc .vmem S8x128x128 .f32) (harg17 : arg17.IsWhole) (hc0 : ¬cond0_0 i) (x0 : Vec Ideal S2x1024 .f32) (x1 : Vec Ideal S1x1024 .f32) (x2 : Vec Ideal S1x256x1024 .bf16) (x3 : Vec Ideal S1x256x1024 .f32) (x4 : Vec Ideal S1x256x1024 .bf16) (x5 : Vec Ideal S1x256x1024 .bf16) (x6 : Vec Ideal S16x2048 .f32) (x7 : Vec Ideal S16x2048 .f32) (x8 : Vec Ideal S32x2048 .f32) (x9 : Vec Ideal S128x2048 .f32) (xs0 : Vec Ideal S8x128x128 .f32) :
    (out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 : S16x2048.Idx → EReal) = x6 := by
  frame_out
  funext i
  obtain ⟨a, b, rfl⟩ : ∃ a b, i = ix2 a b := ⟨i 0, i 1, eq_ix2 i⟩
  pointwise [k0_pay4]

theorem out12A_eq (c : Dev nD) (i : grid0.Coords) (arg2 : Memref sig .tc .vmem S2x1024 .f32) (harg2 : arg2.IsWhole) (arg3 : Memref sig .tc .vmem S1x1024 .f32) (harg3 : arg3.IsWhole) (arg4 : Memref sig .tc .vmem S1x256x1024 .bf16) (harg4 : arg4.IsWhole) (arg5 : Memref sig .tc .vmem S1x256x1024 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S16x2048 .f32) (harg8 : arg8.IsWhole) (arg9 : Memref sig .tc .vmem S16x2048 .f32) (harg9 : arg9.IsWhole) (arg10 : Memref sig .tc .vmem S32x2048 .f32) (harg10 : arg10.IsWhole) (arg11 : Memref sig .tc .vmem S128x2048 .f32) (harg11 : arg11.IsWhole) (arg12 : Memref sig .tc .vmem S1x256x1024 .bf16) (harg12 : arg12.IsWhole) (arg13 : Memref sig .tc .vmem S16x2048 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S128x2048 .bf16) (harg16 : arg16.IsWhole) (arg17 : Memref sig .tc .vmem S8x128x128 .f32) (harg17 : arg17.IsWhole) (hc0 : cond0_0 i) (x0 : Vec Ideal S2x1024 .f32) (x1 : Vec Ideal S1x1024 .f32) (x2 : Vec Ideal S1x256x1024 .bf16) (x3 : Vec Ideal S1x256x1024 .f32) (x4 : Vec Ideal S1x256x1024 .bf16) (x5 : Vec Ideal S1x256x1024 .bf16) (x6 : Vec Ideal S16x2048 .f32) (x7 : Vec Ideal S16x2048 .f32) (x8 : Vec Ideal S32x2048 .f32) (x9 : Vec Ideal S128x2048 .f32) :
    (out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 : S16x2048.Idx → EReal) = x7 := by
  frame_out
  funext i
  obtain ⟨a, b, rfl⟩ : ∃ a b, i = ix2 a b := ⟨i 0, i 1, eq_ix2 i⟩
  pointwise [k0_pay5]

theorem out12B_eq (c : Dev nD) (i : grid0.Coords) (arg2 : Memref sig .tc .vmem S2x1024 .f32) (harg2 : arg2.IsWhole) (arg3 : Memref sig .tc .vmem S1x1024 .f32) (harg3 : arg3.IsWhole) (arg4 : Memref sig .tc .vmem S1x256x1024 .bf16) (harg4 : arg4.IsWhole) (arg5 : Memref sig .tc .vmem S1x256x1024 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S16x2048 .f32) (harg8 : arg8.IsWhole) (arg9 : Memref sig .tc .vmem S16x2048 .f32) (harg9 : arg9.IsWhole) (arg10 : Memref sig .tc .vmem S32x2048 .f32) (harg10 : arg10.IsWhole) (arg11 : Memref sig .tc .vmem S128x2048 .f32) (harg11 : arg11.IsWhole) (arg12 : Memref sig .tc .vmem S1x256x1024 .bf16) (harg12 : arg12.IsWhole) (arg13 : Memref sig .tc .vmem S16x2048 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S128x2048 .bf16) (harg16 : arg16.IsWhole) (arg17 : Memref sig .tc .vmem S8x128x128 .f32) (harg17 : arg17.IsWhole) (hc0 : ¬cond0_0 i) (x0 : Vec Ideal S2x1024 .f32) (x1 : Vec Ideal S1x1024 .f32) (x2 : Vec Ideal S1x256x1024 .bf16) (x3 : Vec Ideal S1x256x1024 .f32) (x4 : Vec Ideal S1x256x1024 .bf16) (x5 : Vec Ideal S1x256x1024 .bf16) (x6 : Vec Ideal S16x2048 .f32) (x7 : Vec Ideal S16x2048 .f32) (x8 : Vec Ideal S32x2048 .f32) (x9 : Vec Ideal S128x2048 .f32) (xs0 : Vec Ideal S8x128x128 .f32) :
    (out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 : S16x2048.Idx → EReal) = x7 := by
  frame_out
  funext i
  obtain ⟨a, b, rfl⟩ : ∃ a b, i = ix2 a b := ⟨i 0, i 1, eq_ix2 i⟩
  pointwise [k0_pay5]

theorem out13A_eq (c : Dev nD) (i : grid0.Coords) (arg2 : Memref sig .tc .vmem S2x1024 .f32) (harg2 : arg2.IsWhole) (arg3 : Memref sig .tc .vmem S1x1024 .f32) (harg3 : arg3.IsWhole) (arg4 : Memref sig .tc .vmem S1x256x1024 .bf16) (harg4 : arg4.IsWhole) (arg5 : Memref sig .tc .vmem S1x256x1024 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S16x2048 .f32) (harg8 : arg8.IsWhole) (arg9 : Memref sig .tc .vmem S16x2048 .f32) (harg9 : arg9.IsWhole) (arg10 : Memref sig .tc .vmem S32x2048 .f32) (harg10 : arg10.IsWhole) (arg11 : Memref sig .tc .vmem S128x2048 .f32) (harg11 : arg11.IsWhole) (arg12 : Memref sig .tc .vmem S1x256x1024 .bf16) (harg12 : arg12.IsWhole) (arg13 : Memref sig .tc .vmem S16x2048 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S128x2048 .bf16) (harg16 : arg16.IsWhole) (arg17 : Memref sig .tc .vmem S8x128x128 .f32) (harg17 : arg17.IsWhole) (hc0 : cond0_0 i) (x0 : Vec Ideal S2x1024 .f32) (x1 : Vec Ideal S1x1024 .f32) (x2 : Vec Ideal S1x256x1024 .bf16) (x3 : Vec Ideal S1x256x1024 .f32) (x4 : Vec Ideal S1x256x1024 .bf16) (x5 : Vec Ideal S1x256x1024 .bf16) (x6 : Vec Ideal S16x2048 .f32) (x7 : Vec Ideal S16x2048 .f32) (x8 : Vec Ideal S32x2048 .f32) (x9 : Vec Ideal S128x2048 .f32) :
    (out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 : S32x2048.Idx → EReal) = x8 := by
  frame_out
  funext i
  obtain ⟨a, b, rfl⟩ : ∃ a b, i = ix2 a b := ⟨i 0, i 1, eq_ix2 i⟩
  pointwise [k0_pay6]

theorem out13B_eq (c : Dev nD) (i : grid0.Coords) (arg2 : Memref sig .tc .vmem S2x1024 .f32) (harg2 : arg2.IsWhole) (arg3 : Memref sig .tc .vmem S1x1024 .f32) (harg3 : arg3.IsWhole) (arg4 : Memref sig .tc .vmem S1x256x1024 .bf16) (harg4 : arg4.IsWhole) (arg5 : Memref sig .tc .vmem S1x256x1024 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S16x2048 .f32) (harg8 : arg8.IsWhole) (arg9 : Memref sig .tc .vmem S16x2048 .f32) (harg9 : arg9.IsWhole) (arg10 : Memref sig .tc .vmem S32x2048 .f32) (harg10 : arg10.IsWhole) (arg11 : Memref sig .tc .vmem S128x2048 .f32) (harg11 : arg11.IsWhole) (arg12 : Memref sig .tc .vmem S1x256x1024 .bf16) (harg12 : arg12.IsWhole) (arg13 : Memref sig .tc .vmem S16x2048 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S128x2048 .bf16) (harg16 : arg16.IsWhole) (arg17 : Memref sig .tc .vmem S8x128x128 .f32) (harg17 : arg17.IsWhole) (hc0 : ¬cond0_0 i) (x0 : Vec Ideal S2x1024 .f32) (x1 : Vec Ideal S1x1024 .f32) (x2 : Vec Ideal S1x256x1024 .bf16) (x3 : Vec Ideal S1x256x1024 .f32) (x4 : Vec Ideal S1x256x1024 .bf16) (x5 : Vec Ideal S1x256x1024 .bf16) (x6 : Vec Ideal S16x2048 .f32) (x7 : Vec Ideal S16x2048 .f32) (x8 : Vec Ideal S32x2048 .f32) (x9 : Vec Ideal S128x2048 .f32) (xs0 : Vec Ideal S8x128x128 .f32) :
    (out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 : S32x2048.Idx → EReal) = x8 := by
  frame_out
  funext i
  obtain ⟨a, b, rfl⟩ : ∃ a b, i = ix2 a b := ⟨i 0, i 1, eq_ix2 i⟩
  pointwise [k0_pay6]

theorem out14A_eq (c : Dev nD) (i : grid0.Coords) (arg2 : Memref sig .tc .vmem S2x1024 .f32) (harg2 : arg2.IsWhole) (arg3 : Memref sig .tc .vmem S1x1024 .f32) (harg3 : arg3.IsWhole) (arg4 : Memref sig .tc .vmem S1x256x1024 .bf16) (harg4 : arg4.IsWhole) (arg5 : Memref sig .tc .vmem S1x256x1024 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S16x2048 .f32) (harg8 : arg8.IsWhole) (arg9 : Memref sig .tc .vmem S16x2048 .f32) (harg9 : arg9.IsWhole) (arg10 : Memref sig .tc .vmem S32x2048 .f32) (harg10 : arg10.IsWhole) (arg11 : Memref sig .tc .vmem S128x2048 .f32) (harg11 : arg11.IsWhole) (arg12 : Memref sig .tc .vmem S1x256x1024 .bf16) (harg12 : arg12.IsWhole) (arg13 : Memref sig .tc .vmem S16x2048 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S128x2048 .bf16) (harg16 : arg16.IsWhole) (arg17 : Memref sig .tc .vmem S8x128x128 .f32) (harg17 : arg17.IsWhole) (hc0 : cond0_0 i) (x0 : Vec Ideal S2x1024 .f32) (x1 : Vec Ideal S1x1024 .f32) (x2 : Vec Ideal S1x256x1024 .bf16) (x3 : Vec Ideal S1x256x1024 .f32) (x4 : Vec Ideal S1x256x1024 .bf16) (x5 : Vec Ideal S1x256x1024 .bf16) (x6 : Vec Ideal S16x2048 .f32) (x7 : Vec Ideal S16x2048 .f32) (x8 : Vec Ideal S32x2048 .f32) (x9 : Vec Ideal S128x2048 .f32) :
    (out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 : S128x2048.Idx → EReal) = x9 := by
  frame_out
  funext i
  obtain ⟨a, b, rfl⟩ : ∃ a b, i = ix2 a b := ⟨i 0, i 1, eq_ix2 i⟩
  pointwise [k0_pay7]

theorem out14B_eq (c : Dev nD) (i : grid0.Coords) (arg2 : Memref sig .tc .vmem S2x1024 .f32) (harg2 : arg2.IsWhole) (arg3 : Memref sig .tc .vmem S1x1024 .f32) (harg3 : arg3.IsWhole) (arg4 : Memref sig .tc .vmem S1x256x1024 .bf16) (harg4 : arg4.IsWhole) (arg5 : Memref sig .tc .vmem S1x256x1024 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S16x2048 .f32) (harg8 : arg8.IsWhole) (arg9 : Memref sig .tc .vmem S16x2048 .f32) (harg9 : arg9.IsWhole) (arg10 : Memref sig .tc .vmem S32x2048 .f32) (harg10 : arg10.IsWhole) (arg11 : Memref sig .tc .vmem S128x2048 .f32) (harg11 : arg11.IsWhole) (arg12 : Memref sig .tc .vmem S1x256x1024 .bf16) (harg12 : arg12.IsWhole) (arg13 : Memref sig .tc .vmem S16x2048 .bf16) (harg13 : arg13.IsWhole) (arg14 : Memref sig .tc .vmem S16x2048 .bf16) (harg14 : arg14.IsWhole) (arg15 : Memref sig .tc .vmem S32x2048 .bf16) (harg15 : arg15.IsWhole) (arg16 : Memref sig .tc .vmem S128x2048 .bf16) (harg16 : arg16.IsWhole) (arg17 : Memref sig .tc .vmem S8x128x128 .f32) (harg17 : arg17.IsWhole) (hc0 : ¬cond0_0 i) (x0 : Vec Ideal S2x1024 .f32) (x1 : Vec Ideal S1x1024 .f32) (x2 : Vec Ideal S1x256x1024 .bf16) (x3 : Vec Ideal S1x256x1024 .f32) (x4 : Vec Ideal S1x256x1024 .bf16) (x5 : Vec Ideal S1x256x1024 .bf16) (x6 : Vec Ideal S16x2048 .f32) (x7 : Vec Ideal S16x2048 .f32) (x8 : Vec Ideal S32x2048 .f32) (x9 : Vec Ideal S128x2048 .f32) (xs0 : Vec Ideal S8x128x128 .f32) :
    (out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 : S128x2048.Idx → EReal) = x9 := by
  frame_out
  funext i
  obtain ⟨a, b, rfl⟩ : ∃ a b, i = ix2 a b := ⟨i 0, i 1, eq_ix2 i⟩
  pointwise [k0_pay7]

end Cert.Proof.Hgrn
-- ==== Proof.HgrnScalar.lean ====
/- The gates of the recurrence as numbers: the forget gate and the output gate the two programs compute, the kernel by the
   hyperbolic tangent of half the argument and the reference by the logistic. -/
module

public import proofs.«01_k».proof.Proof.Hgrn

@[expose] public section

noncomputable section

namespace Cert.Proof.Hgrn

open Idealize.ShloMosaic

abbrev half : EReal := Ideal.ofBits FTy.f32 1056964608#32

theorem half_eq : half = ((1 / 2 : ℝ) : EReal) := by
  unfold half
  simp [Ideal.ofBits, Ideal.ieee, -EReal.coe_mul]
  norm_num

/-- The word of minus infinity. -/
theorem ninf_eq : Ideal.ofBits FTy.f32 4286578688#32 = (⊥ : EReal) := by
  simp [Ideal.ofBits, Ideal.ieee]

/-- The logistic of a real number by the hyperbolic tangent of its half. -/
theorem logistic_half (x : ℝ) : 1 / (1 + Real.exp (-x)) = 1 / 2 + 1 / 2 * Real.tanh (1 / 2 * x) := by
  rw [Real.tanh_eq_sinh_div_cosh, Real.sinh_eq, Real.cosh_eq]
  have e1 : Real.exp (-x) = Real.exp (-(1 / 2 * x)) * Real.exp (-(1 / 2 * x)) := by rw [← Real.exp_add]; congr 1; ring
  have e2 : Real.exp (1 / 2 * x) * Real.exp (-(1 / 2 * x)) = 1 := by rw [← Real.exp_add]; simp
  rw [e1]
  have hu : 0 < Real.exp (1 / 2 * x) := Real.exp_pos _
  have hv : 0 < Real.exp (-(1 / 2 * x)) := Real.exp_pos _
  generalize Real.exp (1 / 2 * x) = u at *
  generalize Real.exp (-(1 / 2 * x)) = v at *
  have h1 : 1 + v * v ≠ 0 := by positivity
  have h2 : u + v ≠ 0 := by positivity
  field_simp
  nlinarith [e2]

/-- The logistic as the reference prints it. -/
def logi (x : EReal) : EReal := Ideal.div 1 (1 + Ideal.exp (-x))

theorem logi_coe (x : ℝ) : logi (x : EReal) = ((1 / (1 + Real.exp (-x)) : ℝ) : EReal) := by
  unfold logi
  have h : (1 + Real.exp (-x) : ℝ) ≠ 0 := by positivity
  rw [← EReal.coe_neg, Ideal.exp_coe, ← EReal.coe_one, ← EReal.coe_add, Ideal.div_coe h, EReal.coe_one, one_mul]

theorem logi_top : logi ⊤ = 1 := by
  unfold logi
  rw [EReal.neg_top, show Ideal.exp ⊥ = 0 from rfl, add_zero, ← EReal.coe_one, Ideal.div_coe one_ne_zero]
  norm_num

theorem logi_bot : logi ⊥ = 0 := by
  unfold logi
  rw [EReal.neg_bot, show Ideal.exp ⊤ = ⊤ from rfl, ← EReal.coe_one, EReal.coe_add_top]
  unfold Ideal.div
  simp

/-- The logistic is a real number from 0 to 1. -/
theorem logi_real (x : EReal) : ∃ s : ℝ, 0 ≤ s ∧ s ≤ 1 ∧ logi x = s := by
  induction x using EReal.rec with
  | bot => exact ⟨0, le_refl _, zero_le_one, logi_bot⟩
  | top => exact ⟨1, zero_le_one, le_refl _, logi_top⟩
  | coe x =>
    have hp : 0 < Real.exp (-x) := Real.exp_pos _
    refine ⟨_, by positivity, ?_, logi_coe x⟩
    rw [div_le_one (by positivity)]
    linarith

/-- The tangent of half the argument, against the logistic, at every number. -/
theorem tanh_half (x : EReal) : ∃ s : ℝ, Ideal.tanh (half * x) = (s : EReal) ∧ logi x = ((1 / 2 + 1 / 2 * s : ℝ) : EReal) := by
  rw [half_eq]
  induction x using EReal.rec with
  | bot =>
    refine ⟨-1, ?_, ?_⟩
    · rw [EReal.coe_mul_bot_of_pos (by norm_num), show Ideal.tanh ⊥ = -1 from rfl]; norm_num
    · rw [logi_bot]; norm_num
  | top =>
    refine ⟨1, ?_, ?_⟩
    · rw [EReal.coe_mul_top_of_pos (by norm_num), show Ideal.tanh ⊤ = 1 from rfl]; norm_num
    · rw [logi_top]; norm_num
  | coe x =>
    refine ⟨Real.tanh (1 / 2 * x), ?_, ?_⟩
    · rw [← EReal.coe_mul, Ideal.tanh_coe]
    · rw [logi_coe, logistic_half]

/-- The forget gate: from the lower bound to 1 by the logistic. -/
def fGate (lb x : EReal) : EReal := lb + (1 - lb) * logi x

theorem fGate_half (lb x : EReal) (hlb : lb = ⊥ ∨ ∃ r : ℝ, 0 ≤ r ∧ r ≤ 1 ∧ lb = r) :
    lb + half * (1 - lb) + half * (1 - lb) * Ideal.tanh (half * x) = fGate lb x := by
  obtain ⟨s, h1, h2⟩ := tanh_half x
  unfold fGate
  rw [h1, h2, half_eq]
  rcases hlb with rfl | ⟨r, h0, h1, rfl⟩
  · simp only [EReal.bot_add]
  · rw [← EReal.coe_one]
    simp only [← EReal.coe_sub, ← EReal.coe_mul, ← EReal.coe_add]
    congr 1
    ring

theorem log_le (y : EReal) (hy : y ≤ 1) : Ideal.log y ≤ 0 := by
  induction y using EReal.rec with
  | bot => exact bot_le
  | top => exact absurd hy (by decide +revert)
  | coe y =>
    have hy' : y ≤ 1 := by exact_mod_cast hy
    rw [Ideal.log_coe]
    split
    · exact bot_le
    · next h =>
      exact_mod_cast Real.log_nonpos (by linarith) hy'

theorem log_fGate (lb x : EReal) (hlb : lb = ⊥ ∨ ∃ r : ℝ, 0 ≤ r ∧ r ≤ 1 ∧ lb = r) : Ideal.log (fGate lb x) ≤ 0 := by
  refine log_le _ ?_
  obtain ⟨s, h0, h1, h2⟩ := logi_real x
  unfold fGate
  rw [h2]
  rcases hlb with rfl | ⟨r, h0', h1', rfl⟩
  · simp only [EReal.bot_add]
    exact bot_le
  · rw [← EReal.coe_one, ← EReal.coe_sub, ← EReal.coe_mul, ← EReal.coe_add]
    have : r + (1 - r) * s ≤ 1 := by nlinarith
    exact_mod_cast this

/-- The output gate, at an argument above minus infinity. -/
theorem gate_half (g : EReal) (hg : ⊥ < g) : half * g + half * g * Ideal.tanh (half * g) = g * logi g := by
  rw [half_eq]
  induction g using EReal.rec with
  | bot => exact absurd hg (lt_irrefl _)
  | top =>
    rw [EReal.coe_mul_top_of_pos (by norm_num), show Ideal.tanh ⊤ = 1 from rfl, logi_top, mul_one]
    rfl
  | coe x =>
    rw [← EReal.coe_mul, Ideal.tanh_coe, logi_coe, logistic_half]
    simp only [← EReal.coe_mul, ← EReal.coe_add]
    congr 1
    ring

/-- The exponential of a difference that is not positive is a real number from 0 to 1. -/
theorem exp_sub_real (x M : EReal) (h : x ≤ M) : ∃ r : ℝ, 0 ≤ r ∧ r ≤ 1 ∧ Ideal.exp (x - M) = r := by
  have hz : x - M ≤ 0 := by
    induction M using EReal.rec with
    | bot => rw [le_bot_iff.1 h]; simp
    | top => simp
    | coe M =>
      induction x using EReal.rec with
      | bot => simp
      | top => exact absurd h (by simp)
      | coe x =>
        rw [← EReal.coe_sub]
        have : x ≤ M := by exact_mod_cast h
        exact_mod_cast sub_nonpos.2 this
  generalize x - M = z at hz
  induction z using EReal.rec with
  | bot => exact ⟨0, le_refl _, zero_le_one, rfl⟩
  | top => exact absurd hz (by simp)
  | coe z =>
    have : z ≤ 0 := by exact_mod_cast hz
    exact ⟨Real.exp z, (Real.exp_pos z).le, Real.exp_le_one_iff.2 this, Ideal.exp_coe z⟩

/-- A share of a sum of two weights: the first row of a column's softmax. -/
def share (x : Fin 2 → EReal) : EReal :=
  Ideal.div (Ideal.exp (x 0 - Finset.fold max ⊥ x Finset.univ)) (∑ j, Ideal.exp (x j - Finset.fold max ⊥ x Finset.univ))

theorem share_real (x : Fin 2 → EReal) : share x = ⊥ ∨ ∃ r : ℝ, 0 ≤ r ∧ r ≤ 1 ∧ share x = r := by
  have hM : ∀ j, x j ≤ Finset.fold max ⊥ x Finset.univ := fun j => (Finset.fold_max_le (c := Finset.fold max ⊥ x Finset.univ)).1 (le_refl _) |>.2 j (Finset.mem_univ _)
  unfold share
  obtain ⟨a, ha0, ha1, ea⟩ := exp_sub_real _ _ (hM 0)
  obtain ⟨b, hb0, hb1, eb⟩ := exp_sub_real _ _ (hM 1)
  rw [Fin.sum_univ_two, ea, eb, ← EReal.coe_add]
  by_cases h : a + b = 0
  · left
    have : a = 0 := by linarith
    subst this
    rw [h]
    simp [Ideal.div]
  · right
    have hp : 0 < a + b := lt_of_le_of_ne (by linarith) (Ne.symm h)
    exact ⟨a / (a + b), by positivity, (div_le_one hp).2 (by linarith), by rw [Ideal.div_coe h, ← EReal.coe_mul, mul_one_div]⟩

end Cert.Proof.Hgrn

end
-- ==== Proof.HgrnRun.lean ====
/- The run of the recurrence's reference, read as the trips of its loop: a valuation that holds a state goes to one that
   holds the next state, so the results are the readings of the state after the thirty-second trip. -/
module

public import proofs.«01_k».proof.Proof.Gen.HgrnReferenceIdeal.Run
public import proofs.«01_k».proof.Proof.Gen.HgrnReferenceIdeal.Step

@[expose] public section

noncomputable section

namespace Cert.Proof.HgrnRun

open Idealize.ShloMosaic Idealize.ShloMosaic.TcCoe Idealize.SL.Sem Idealize.ShloMosaic.StableHlo
open Cert.HgrnReferenceIdeal Cert.HgrnReferenceIdeal.Gen Cert.HgrnReferenceIdeal.Value
open Cert.HgrnReferenceIdeal.Step

variable {F : FTy → Type} [FloatOps F]

/-- The carried buffers of a valuation, as a state of the loop. -/
def stateOf (V : Valuation τ sig (Elt F)) : State F where
  main_v42_5 := V (Proc.devRef .tc main_v42_5)
  main_v42_6 := V (Proc.devRef .tc main_v42_6)
  main_v42_0 := V (Proc.devRef .tc main_v42_0)
  main_v42_1 := V (Proc.devRef .tc main_v42_1)
  main_v42_2 := V (Proc.devRef .tc main_v42_2)

/-- The trip's number and the causal mask stand where the body reads them. -/
structure Trip (V : Valuation τ sig (Elt F)) (j : ℕ) : Prop where
  num : V (Proc.devRef .tc main_v42_4) = constantI S_ 32 (BitVec.ofNat 32 j)
  mask : V (Proc.devRef .tc main_v42_3) = K_main_v15 (F := F)

variable {V : Valuation τ sig (Elt F)} {j : ℕ}

set_option maxRecDepth 8192 in
theorem state_next (h : Trip V j) : Value.step_main_v42_5 V = (step j (stateOf V)).main_v42_5 := by
  show _ = b51 j (stateOf V)
  unfold Value.step_main_v42_5 b51 b50 b49 b48 b47 b46 b45
  simp only [res_main_while0b_v76, res_main_while0b_v77, res_main_while0b_v79, res_main_while0b_v80, h.num]
  rfl

set_option maxRecDepth 8192 in
theorem outs_next (h : Trip V j) : Value.step_main_v42_6 V = (step j (stateOf V)).main_v42_6 := by
  show _ = b57 j (stateOf V)
  unfold Value.step_main_v42_6
  simp only [res_main_while0b_v76, res_main_while0b_v77, res_main_while0b_v79, res_main_while0b_v82, h.num, h.mask]
  rfl

theorem num_next (h : Trip V j) : Value.step_main_v42_4 V = constantI S_ 32 (BitVec.ofNat 32 (j + 1)) := by
  unfold Value.step_main_v42_4
  rw [h.num]
  funext i
  show BitVec.ofNat 32 j + 1#32 = BitVec.ofNat 32 (j + 1)
  simp only [BitVec.ofNat_add]

theorem trip_next (h : Trip V j) : Trip (STEP V) (j + 1) :=
  ⟨(STEP_main_v42_4 V).trans (num_next h), (STEP_main_v42_3 V).trans h.mask⟩

theorem stateOf_next (h : Trip V j) : stateOf (STEP V) = step j (stateOf V) := by
  have e5 := (STEP_main_v42_5 V).trans (state_next h)
  have e6 := (STEP_main_v42_6 V).trans (outs_next h)
  unfold stateOf
  rw [e5, e6, STEP_main_v42_0 V, STEP_main_v42_1 V, STEP_main_v42_2 V]
  rfl

variable (m : (ℓ : Loc nD τ sig) → Buf (Elt F) ℓ) (c : Dev nD)

/-- The state before the first trip, of the memory the run starts from. -/
abbrev start : State F :=
  init (m ((c.tc : Thread nD τ).loc main_arg0)) (m ((c.tc : Thread nD τ).loc main_arg1)) (m ((c.tc : Thread nD τ).loc main_arg2))

set_option maxRecDepth 65536 in
set_option maxHeartbeats 400000 in
theorem trip_start : Trip (entryContents preI m c) 0 := by
  constructor <;> (simp only [entryContents, afterL_cons, afterL_nil]; after_reads_simp) <;> rfl

set_option maxRecDepth 65536 in
set_option maxHeartbeats 400000 in
theorem stateOf_start : stateOf (entryContents preI m c) = start m c := by
  have e5 : entryContents preI m c (Proc.devRef .tc main_v42_5) = (start m c).main_v42_5 := by
    (simp only [entryContents, afterL_cons, afterL_nil]; after_reads_simp) <;> rfl
  have e6 : entryContents preI m c (Proc.devRef .tc main_v42_6) = (start m c).main_v42_6 := by
    (simp only [entryContents, afterL_cons, afterL_nil]; after_reads_simp) <;> rfl
  have e0 : entryContents preI m c (Proc.devRef .tc main_v42_0) = (start m c).main_v42_0 := by
    (simp only [entryContents, afterL_cons, afterL_nil]; after_reads_simp) <;> rfl
  have e1 : entryContents preI m c (Proc.devRef .tc main_v42_1) = (start m c).main_v42_1 := by
    (simp only [entryContents, afterL_cons, afterL_nil]; after_reads_simp) <;> rfl
  have e2 : entryContents preI m c (Proc.devRef .tc main_v42_2) = (start m c).main_v42_2 := by
    (simp only [entryContents, afterL_cons, afterL_nil]; after_reads_simp) <;> rfl
  unfold stateOf
  rw [e5, e6, e0, e1, e2]

/-- The state after `k` trips. -/
def trips : ℕ → State F
  | 0 => start m c
  | k + 1 => step k (trips k)

theorem trips_at (k : ℕ) : Trip (STEP^[k] (entryContents preI m c)) k
    ∧ stateOf (STEP^[k] (entryContents preI m c)) = trips m c k := by
  induction k with
  | zero => exact ⟨trip_start m c, stateOf_start m c⟩
  | succ k ih =>
    rw [Function.iterate_succ_apply']
    exact ⟨trip_next ih.1, (stateOf_next ih.1).trans (congrArg (step k) ih.2)⟩

set_option maxRecDepth 8192 in
theorem out_main (k : ℕ) : out_main_v66 (STEP^[k] (entryContents preI m c))
    = R_main_v66 (trips m c k) (m ((c.tc : Thread nD τ).loc main_arg0)) (m ((c.tc : Thread nD τ).loc main_arg3)) := by
  rw [← (trips_at m c k).2, ← iter_main_arg0 m c k, ← iter_main_arg3 m c k]
  rfl

/-- The run of the reference: the mixer's rows are read off the last state, the weights off the arguments. -/
theorem run_trips (ρ : Dev nD → PrngReg) :
    θ_run (defs (F := F)) (onTc (τ := τ) (main (F := F))) ⟨m, fun _ => 0, ρ⟩ fun r => ∀ c : Dev nD,
      r.2.mem ((c.tc : Thread nD τ).loc main_v66) = R_main_v66 (trips m c 32) (m ((c.tc : Thread nD τ).loc main_arg0)) (m ((c.tc : Thread nD τ).loc main_arg3))
      ∧ r.2.mem ((c.tc : Thread nD τ).loc main_v68) = R_main_v68 (trips m c 32) (m ((c.tc : Thread nD τ).loc main_arg4))
      ∧ r.2.mem ((c.tc : Thread nD τ).loc main_v70) = R_main_v70 (trips m c 32) (m ((c.tc : Thread nD τ).loc main_arg5))
      ∧ r.2.mem ((c.tc : Thread nD τ).loc main_v72) = R_main_v72 (trips m c 32) (m ((c.tc : Thread nD τ).loc main_arg6))
      ∧ r.2.mem ((c.tc : Thread nD τ).loc main_v74) = R_main_v74 (trips m c 32) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_) (Value.run m ρ)
  obtain ⟨h0, h1, h2, h3, h4, hk⟩ := h c
  refine ⟨h0.trans (out_main m c 32), h1.trans ?_, h2.trans ?_, h3.trans ?_, h4.trans ?_, hk⟩
  · rw [← iter_main_arg4 m c 32]; rfl
  · rw [← iter_main_arg5 m c 32]; rfl
  · rw [← iter_main_arg6 m c 32]; rfl
  · rw [← iter_main_arg7 m c 32]; rfl

end Cert.Proof.HgrnRun

end
-- ==== Proof.HgrnRef.lean ====
/- The reference of the recurrence, read: what a trip of its loop makes of the state and what its last state's results are. -/
module

public import proofs.«01_k».proof.Proof.HgrnScalar
public import proofs.«01_k».proof.Proof.HgrnRun

@[expose] public section

set_option maxRecDepth 16384

noncomputable section

namespace Cert.Proof.HgrnRef

open Idealize.ShloMosaic Idealize.ShloMosaic.TcCoe
open Cert.HgrnReferenceIdeal Cert.HgrnReferenceIdeal.Step
open Cert.Proof.Hgrn (cum chunkOut chunkNext fGate logi share hd ninf_eq)

/-! ## The running sums -/

/-- Adding terms one by one is adding their sum. -/
theorem foldl_add (g : ℕ → EReal) (N : ℕ) (z : EReal) : (List.finRange N).foldl (fun r n => r + g n.val) z = z + ∑ n : Fin N, g n.val := by
  induction N generalizing z with
  | zero => simp
  | succ N ih =>
    rw [List.finRange_succ_last, List.foldl_append, List.foldl_map]
    simp only [List.foldl_cons, List.foldl_nil, Fin.val_last, Fin.val_castSucc]
    rw [ih, Fin.sum_univ_castSucc]
    simp only [Fin.val_last, Fin.val_castSucc]
    exact add_assoc _ _ _

/-- A list of words of a shape, one word per place. -/
theorem numel4 : (⟨4, ![1, 1, 64, 1]⟩ : Shape).numel = 64 := by decide

theorem symm4 (n : Fin (⟨4, ![1, 1, 64, 1]⟩ : Shape).numel) :
    (⟨4, ![1, 1, 64, 1]⟩ : Shape).rowMajor.symm n = ix4 (0 : Fin 1) (0 : Fin 1) (n.cast numel4 : Fin 64) (0 : Fin 1) :=
  ((⟨4, ![1, 1, 64, 1]⟩ : Shape).rowMajor.symm_apply_eq).2 (Fin.ext (by
    rw [Shape.rowMajor_val_four]
    show n.val = ((0 * 1 + 0) * 64 + n.val) * 1 + 0
    omega))

theorem numel2 : (⟨2, ![2, 1]⟩ : Shape).numel = 2 := by decide

theorem symm2 (n : Fin (⟨2, ![2, 1]⟩ : Shape).numel) : (⟨2, ![2, 1]⟩ : Shape).rowMajor.symm n = ix2 (n.cast numel2 : Fin 2) (0 : Fin 1) :=
  ((⟨2, ![2, 1]⟩ : Shape).rowMajor.symm_apply_eq).2 (Fin.ext (by
    rw [Shape.rowMajor_val_two]
    show n.val = n.val * 1 + 0
    omega))

/-- The sums of a window of 64 over what it holds, its places before the first row empty. -/
theorem shift_sum (L : ℕ → EReal) (t : Fin 64) : (∑ n : Fin 64, if 63 ≤ t.val + n.val then L (t.val + n.val - 63) else 0) = ∑ u : Fin 64, if u ≤ t then L u.val else 0 := by
  rw [Fin.sum_univ_eq_sum_range (fun n => if 63 ≤ t.val + n then L (t.val + n - 63) else 0) 64]
  have e : ∀ u : Fin 64, (if u ≤ t then L u.val else 0) = (fun n : ℕ => if n ≤ t.val then L n else 0) u.val := fun u => rfl
  rw [Finset.sum_congr rfl fun u _ => e u, Fin.sum_univ_eq_sum_range (fun n => if n ≤ t.val then L n else 0) 64]
  have ht := t.isLt
  rw [← Finset.sum_filter, ← Finset.sum_filter]
  refine Finset.sum_nbij' (fun n => t.val + n - 63) (fun u => u + 63 - t.val) ?_ ?_ ?_ ?_ ?_
  · intro n hn
    rw [Finset.mem_filter, Finset.mem_range] at hn ⊢
    omega
  · intro u hu
    rw [Finset.mem_filter, Finset.mem_range] at hu ⊢
    omega
  · intro n hn
    rw [Finset.mem_filter, Finset.mem_range] at hn
    show t.val + n - 63 + 63 - t.val = n
    omega
  · intro u hu
    rw [Finset.mem_filter, Finset.mem_range] at hu
    show t.val + (u + 63 - t.val) - 63 = u
    omega
  · intro n hn
    rfl

/-- The running sum along the rows of each chunk. -/
theorem cumsum4 (x : S8x8x64x128.Idx → EReal) (h : S8x8x64x128.ReduceWindows ![1, 1, 64, 1] ![1, 1, 1, 1] ![0, 0, 63, 0] ![0, 0, 0, 0] S8x8x64x128)
    (b : Fin 8) (k : Fin 8) (t : Fin 64) (d : Fin 128) :
    Ideal.hostReduceWindowAdd ![1, 1, 64, 1] ![1, 1, 1, 1] ![0, 0, 63, 0] ![0, 0, 0, 0] h x 0 (ix4 b k t d) = ∑ u : Fin 64, if u ≤ t then x (ix4 b k u d) else 0 := by
  have ht := t.isLt
  have hb := b.isLt
  have hk := k.isLt
  have hd := d.isLt
  unfold Ideal.hostReduceWindowAdd Host.reduceWindow
  dsimp only
  refine Eq.trans (congrArg (fun f => List.foldl f (0 : EReal) (List.finRange (⟨4, ![1, 1, 64, 1]⟩ : Shape).numel)) (funext fun r => funext fun n => congrArg (r + ·)
    (?_ : _ = (fun n : ℕ => if hn : 63 ≤ t.val + n ∧ t.val + n - 63 < 64 then x (ix4 b k (⟨t.val + n - 63, hn.2⟩ : Fin 64) d) else 0) n.val))) ?_
  · have hw0 : ((⟨4, ![1, 1, 64, 1]⟩ : Shape).rowMajor.symm n 0).val = 0 := by rw [symm4]; rfl
    have hw1 : ((⟨4, ![1, 1, 64, 1]⟩ : Shape).rowMajor.symm n 1).val = 0 := by rw [symm4]; rfl
    have hw2 : ((⟨4, ![1, 1, 64, 1]⟩ : Shape).rowMajor.symm n 2).val = n.val := by rw [symm4]; rfl
    have hw3 : ((⟨4, ![1, 1, 64, 1]⟩ : Shape).rowMajor.symm n 3).val = 0 := by rw [symm4]; rfl
    have hn : n.val < 64 := (n.cast numel4).isLt
    dsimp only
    split
    · next hin =>
      have h2 := hin 2
      change 63 ≤ t.val * 1 + ((⟨4, ![1, 1, 64, 1]⟩ : Shape).rowMajor.symm n 2).val
        ∧ t.val * 1 + ((⟨4, ![1, 1, 64, 1]⟩ : Shape).rowMajor.symm n 2).val - 63 < 64 at h2
      rw [hw2] at h2
      rw [dif_pos (by omega)]
      refine congrArg x (funext fun a => Fin.ext ?_)
      match a with
      | ⟨0, _⟩ =>
        show b.val * 1 + ((⟨4, ![1, 1, 64, 1]⟩ : Shape).rowMajor.symm n 0).val - 0 = b.val
        rw [hw0]; omega
      | ⟨1, _⟩ =>
        show k.val * 1 + ((⟨4, ![1, 1, 64, 1]⟩ : Shape).rowMajor.symm n 1).val - 0 = k.val
        rw [hw1]; omega
      | ⟨2, _⟩ =>
        show t.val * 1 + ((⟨4, ![1, 1, 64, 1]⟩ : Shape).rowMajor.symm n 2).val - 63 = t.val + n.val - 63
        rw [hw2]; omega
      | ⟨3, _⟩ =>
        show d.val * 1 + ((⟨4, ![1, 1, 64, 1]⟩ : Shape).rowMajor.symm n 3).val - 0 = d.val
        rw [hw3]; omega
    · next hin =>
      rw [dif_neg fun hle => hin fun a => by
        match a with
        | ⟨0, _⟩ =>
          show 0 ≤ b.val * 1 + ((⟨4, ![1, 1, 64, 1]⟩ : Shape).rowMajor.symm n 0).val ∧ b.val * 1 + ((⟨4, ![1, 1, 64, 1]⟩ : Shape).rowMajor.symm n 0).val - 0 < 8
          rw [hw0]; omega
        | ⟨1, _⟩ =>
          show 0 ≤ k.val * 1 + ((⟨4, ![1, 1, 64, 1]⟩ : Shape).rowMajor.symm n 1).val ∧ k.val * 1 + ((⟨4, ![1, 1, 64, 1]⟩ : Shape).rowMajor.symm n 1).val - 0 < 8
          rw [hw1]; omega
        | ⟨2, _⟩ =>
          show 63 ≤ t.val * 1 + ((⟨4, ![1, 1, 64, 1]⟩ : Shape).rowMajor.symm n 2).val ∧ t.val * 1 + ((⟨4, ![1, 1, 64, 1]⟩ : Shape).rowMajor.symm n 2).val - 63 < 64
          rw [hw2]; omega
        | ⟨3, _⟩ =>
          show 0 ≤ d.val * 1 + ((⟨4, ![1, 1, 64, 1]⟩ : Shape).rowMajor.symm n 3).val ∧ d.val * 1 + ((⟨4, ![1, 1, 64, 1]⟩ : Shape).rowMajor.symm n 3).val - 0 < 128
          rw [hw3]; omega]
  · refine (foldl_add (fun n : ℕ => if hn : 63 ≤ t.val + n ∧ t.val + n - 63 < 64 then x (ix4 b k (⟨t.val + n - 63, hn.2⟩ : Fin 64) d) else 0) _ 0).trans ?_
    rw [zero_add, Fin.sum_univ_eq_sum_range (fun n : ℕ => if hn : 63 ≤ t.val + n ∧ t.val + n - 63 < 64 then x (ix4 b k (⟨t.val + n - 63, hn.2⟩ : Fin 64) d) else 0), numel4,
      ← Fin.sum_univ_eq_sum_range]
    refine Eq.trans (Finset.sum_congr rfl fun n _ => ?_) ((shift_sum (fun u => if hu : u < 64 then x (ix4 b k (⟨u, hu⟩ : Fin 64) d) else 0) t).trans (Finset.sum_congr rfl fun u _ => ?_))
    · have hn := n.isLt
      by_cases hc : 63 ≤ t.val + n.val
      · rw [dif_pos ⟨hc, by omega⟩, if_pos hc, dif_pos (by omega)]
      · rw [dif_neg (fun q => hc q.1), if_neg hc]
    · rw [dif_pos u.isLt]

/-- The first row of the running sum of two rows is the first row. -/
theorem cumsum_first (x : S2x1024.Idx → EReal) (h : S2x1024.ReduceWindows ![2, 1] ![1, 1] ![1, 0] ![0, 0] S2x1024) (n : Fin 1024) :
    Ideal.hostReduceWindowAdd ![2, 1] ![1, 1] ![1, 0] ![0, 0] h x 0 (ix2 (0 : Fin 2) n) = x (ix2 (0 : Fin 2) n) := by
  have hn := n.isLt
  unfold Ideal.hostReduceWindowAdd Host.reduceWindow
  dsimp only
  refine Eq.trans (congrArg (fun f => List.foldl f (0 : EReal) (List.finRange (⟨2, ![2, 1]⟩ : Shape).numel)) (funext fun r => funext fun w => congrArg (r + ·)
    (?_ : _ = (fun w : ℕ => if w = 1 then x (ix2 (0 : Fin 2) n) else 0) w.val))) ?_
  · have hw0 : ((⟨2, ![2, 1]⟩ : Shape).rowMajor.symm w 0).val = w.val := by rw [symm2]; rfl
    have hw1 : ((⟨2, ![2, 1]⟩ : Shape).rowMajor.symm w 1).val = 0 := by rw [symm2]; rfl
    have hw : w.val < 2 := (w.cast (numel2)).isLt
    dsimp only
    split
    · next hin =>
      have h0 := hin 0
      change 1 ≤ 0 * 1 + ((⟨2, ![2, 1]⟩ : Shape).rowMajor.symm w 0).val ∧ 0 * 1 + ((⟨2, ![2, 1]⟩ : Shape).rowMajor.symm w 0).val - 1 < 2 at h0
      rw [hw0] at h0
      rw [if_pos (by omega)]
      refine congrArg x (funext fun a => Fin.ext ?_)
      match a with
      | ⟨0, _⟩ =>
        show 0 * 1 + ((⟨2, ![2, 1]⟩ : Shape).rowMajor.symm w 0).val - 1 = 0
        rw [hw0]; omega
      | ⟨1, _⟩ =>
        show n.val * 1 + ((⟨2, ![2, 1]⟩ : Shape).rowMajor.symm w 1).val - 0 = n.val
        rw [hw1]; omega
    · next hin =>
      rw [if_neg fun hle => hin fun a => by
        match a with
        | ⟨0, _⟩ =>
          show 1 ≤ 0 * 1 + ((⟨2, ![2, 1]⟩ : Shape).rowMajor.symm w 0).val ∧ 0 * 1 + ((⟨2, ![2, 1]⟩ : Shape).rowMajor.symm w 0).val - 1 < 2
          rw [hw0]; omega
        | ⟨1, _⟩ =>
          show 0 ≤ n.val * 1 + ((⟨2, ![2, 1]⟩ : Shape).rowMajor.symm w 1).val ∧ n.val * 1 + ((⟨2, ![2, 1]⟩ : Shape).rowMajor.symm w 1).val - 0 < 1024
          rw [hw1]; omega]
  · refine (foldl_add (fun w : ℕ => if w = 1 then x (ix2 (0 : Fin 2) n) else 0) _ 0).trans ?_
    rw [zero_add, Fin.sum_univ_eq_sum_range (fun w : ℕ => if w = 1 then x (ix2 (0 : Fin 2) n) else 0), numel2]
    simp [Finset.sum_range_succ]

/-! ## What the loop reads -/

section args
variable (p : Vec Ideal S16384x11264 .bf16) (f : Vec Ideal S16384x1024 .f32) (l : Vec Ideal S2x1024 .f32)

theorem soft_apply (r : Fin 2) (n : Fin 1024) (hr : r = 0) : (A_main_v10 (F := Ideal) p f l (ix2 r n) : EReal) = share (fun j => l (ix2 j n)) := by
  subst hr
  unfold share
  pointwise [A_main_v10, A_main_v9, A_main_v8, A_main_v7, A_main_v6, A_main_v5, A_main_v4, A_main_v3, A_main_v2, A_main_v0, K_main_cst, K_main_cst_0, K_main_v1, K_main_cst_1]
  simp only [ninf_eq, max_bot_left]

theorem low_apply (n : Fin 1024) : (A_main_v13 (F := Ideal) p f l (ix1 n) : EReal) = share (fun j => l (ix2 j n)) := by
  have e : (A_main_v13 (F := Ideal) p f l (ix1 n) : EReal) = A_main_v11 (F := Ideal) p f l (ix2 (0 : Fin 2) n) := by
    pointwise [A_main_v13, A_main_v12]
  rw [e]
  unfold A_main_v11
  have z : K_main_call0_call0_v0 (F := Ideal) (Shape.Idx.first Gen.h_S_) = (0 : EReal) := by
    rw [show Shape.Idx.first Gen.h_S_ = ix0 from funext fun a => a.elim0]
    pointwise [K_main_call0_call0_v0, K_main_call0_call0_cst]
  refine (show _ = Ideal.hostReduceWindowAdd ![2, 1] ![1, 1] ![1, 0] ![0, 0] Gen.reduceWindows_S2x1024_S2x1024_w2s1p1_0_w1s1p0_0 (A_main_v10 (F := Ideal) p f l)
    (K_main_call0_call0_v0 (F := Ideal) (Shape.Idx.first Gen.h_S_)) (ix2 (0 : Fin 2) n) from rfl).trans ?_
  rw [z]
  exact (cumsum_first _ _ n).trans (soft_apply p f l 0 n rfl)

/-- The forget gate of a row. -/
theorem f_apply (r : Fin 16384) (n : Fin 1024) : (A_main_v30 (F := Ideal) p f l (ix2 r n) : EReal) = fGate (share fun j => l (ix2 j n)) (f (ix2 r n)) := by
  rw [← low_apply p f l n]
  unfold fGate logi
  pointwise [A_main_v30, A_main_v29, A_main_v28, A_main_v27, A_main_v26, A_main_v25, A_main_v24, A_main_v22, A_main_v20, A_main_v19, A_main_v18, K_main_v17, K_main_v21, K_main_v23, K_main_cst_4, K_main_cst_5, K_main_cst_6]

theorem fs_apply (n : Fin 32) (b h : Fin 8) (t : Fin 64) (d : Fin 128) (R : Fin 16384) (hR : R.val = b.val * 2048 + n.val * 64 + t.val) :
    (A_main_v36 (F := Ideal) p f l (ix5 n b h t d) : EReal) = fGate (share fun j => l (ix2 j (hd h d))) (f (ix2 R (hd h d))) := by
  refine Eq.trans ?_ (f_apply p f l R (hd h d))
  obtain rfl : R = ⟨b.val * 2048 + n.val * 64 + t.val, by clear hR; omega⟩ := Fin.ext hR
  have e : hd h d = ⟨h.val * 128 + d.val, by omega⟩ := Fin.ext (by show 128 * h.val + d.val = h.val * 128 + d.val; omega)
  rw [e]
  pointwise [A_main_v36, A_main_v35]

theorem qs_apply (n : Fin 32) (b h : Fin 8) (t : Fin 64) (d : Fin 128) (R : Fin 16384) (hR : R.val = b.val * 2048 + n.val * 64 + t.val) :
    (A_main_v34 (F := Ideal) p f l (ix5 n b h t d) : EReal) = p (ix2 R ⟨3072 + (hd h d).val, by omega⟩) := by
  obtain rfl : R = ⟨b.val * 2048 + n.val * 64 + t.val, by clear hR; omega⟩ := Fin.ext hR
  have e : hd h d = ⟨h.val * 128 + d.val, by omega⟩ := Fin.ext (by show 128 * h.val + d.val = h.val * 128 + d.val; omega)
  simp only [e]
  pointwise [A_main_v34, A_main_v33, A_main_v32, A_main_v31]

theorem vs_apply (n : Fin 32) (b h : Fin 8) (t : Fin 64) (d : Fin 128) (R : Fin 16384) (hR : R.val = b.val * 2048 + n.val * 64 + t.val) :
    (A_main_v40 (F := Ideal) p f l (ix5 n b h t d) : EReal) = p (ix2 R ⟨5120 + (hd h d).val, by omega⟩) := by
  obtain rfl : R = ⟨b.val * 2048 + n.val * 64 + t.val, by clear hR; omega⟩ := Fin.ext hR
  have e : hd h d = ⟨h.val * 128 + d.val, by omega⟩ := Fin.ext (by show 128 * h.val + d.val = h.val * 128 + d.val; omega)
  simp only [e]
  pointwise [A_main_v40, A_main_v39, A_main_v38, A_main_v37]

end args

/-! ## A trip -/

/-- Where a trip's slice starts. -/
abbrev startAt (j : ℕ) : Fin 5 → Int := fun k =>
  (((![(constantI S_ 32 (BitVec.ofNat 32 j) : (⟨S_, .i32⟩ : BufTy).Contents (Elt Ideal)), constantI S_ 32 0#32, constantI S_ 32 0#32, constantI S_ 32 0#32, constantI S_ 32 0#32] :
    Fin 5 → (⟨S_, .i32⟩ : BufTy).Contents (Elt Ideal))) k (Shape.Idx.first Gen.h_S_)).toInt

theorem word_int (j : ℕ) (hj : j < 32) : (BitVec.ofNat 32 j).toInt = (j : Int) := by
  revert j
  decide +kernel

theorem start0 (j : ℕ) (hj : j < 32) (ht : S1x8x8x64x128.rank = S32x8x8x64x128.rank) : Host.clampedStart S32x8x8x64x128 S1x8x8x64x128 ht (startAt j) 0 = j :=
  Host.clampedStart_of_le ht (startAt j) 0 j (word_int j hj) (by show j + 1 ≤ 32; omega)
theorem start1 (j : ℕ) (ht : S1x8x8x64x128.rank = S32x8x8x64x128.rank) : Host.clampedStart S32x8x8x64x128 S1x8x8x64x128 ht (startAt j) 1 = 0 :=
  Host.clampedStart_of_le ht (startAt j) 1 0 rfl (by show 0 + 8 ≤ 8; omega)
theorem start2 (j : ℕ) (ht : S1x8x8x64x128.rank = S32x8x8x64x128.rank) : Host.clampedStart S32x8x8x64x128 S1x8x8x64x128 ht (startAt j) 2 = 0 :=
  Host.clampedStart_of_le ht (startAt j) 2 0 rfl (by show 0 + 8 ≤ 8; omega)
theorem start3 (j : ℕ) (ht : S1x8x8x64x128.rank = S32x8x8x64x128.rank) : Host.clampedStart S32x8x8x64x128 S1x8x8x64x128 ht (startAt j) 3 = 0 :=
  Host.clampedStart_of_le ht (startAt j) 3 0 rfl (by show 0 + 64 ≤ 64; omega)
theorem start4 (j : ℕ) (ht : S1x8x8x64x128.rank = S32x8x8x64x128.rank) : Host.clampedStart S32x8x8x64x128 S1x8x8x64x128 ht (startAt j) 4 = 0 :=
  Host.clampedStart_of_le ht (startAt j) 4 0 rfl (by show 0 + 128 ≤ 128; omega)

section trip
variable (j : ℕ) (hj : j < 32) (s : State Ideal)
include hj

/-- A slice of one chunk, all of it. -/
theorem slice_apply (x : Vec Ideal S32x8x8x64x128 .f32) (b h : Fin 8) (t : Fin 64) (d : Fin 128) :
    (shapeCast S8x8x64x128 (Host.dynamicSlice S1x8x8x64x128 x (startAt j) Gen.sliceFits_S32x8x8x64x128_S1x8x8x64x128) Gen.shapeCasts_S1x8x8x64x128_S8x8x64x128 (ix4 b h t d) : EReal)
      = x (ix5 (⟨j, hj⟩ : Fin 32) b h t d) := by
  pointwise
  refine congrArg x ?_
  congr 1 <;> refine Fin.ext ?_
  · exact start0 j hj rfl
  · exact (congrArg (· + b.val) (start1 j rfl)).trans (Nat.zero_add _)
  · exact (congrArg (· + h.val) (start2 j rfl)).trans (Nat.zero_add _)
  · exact (congrArg (· + t.val) (start3 j rfl)).trans (Nat.zero_add _)
  · exact (congrArg (· + d.val) (start4 j rfl)).trans (Nat.zero_add _)

theorem b5_apply (b h : Fin 8) (t : Fin 64) (d : Fin 128) : (b5 (F := Ideal) j s (ix4 b h t d) : EReal) = s.main_v42_0 (ix5 (⟨j, hj⟩ : Fin 32) b h t d) :=
  slice_apply j hj s.main_v42_0 b h t d
theorem b11_apply (b h : Fin 8) (t : Fin 64) (d : Fin 128) : (b11 (F := Ideal) j s (ix4 b h t d) : EReal) = s.main_v42_1 (ix5 (⟨j, hj⟩ : Fin 32) b h t d) :=
  slice_apply j hj s.main_v42_1 b h t d
theorem b17_apply (b h : Fin 8) (t : Fin 64) (d : Fin 128) : (b17 (F := Ideal) j s (ix4 b h t d) : EReal) = s.main_v42_2 (ix5 (⟨j, hj⟩ : Fin 32) b h t d) :=
  slice_apply j hj s.main_v42_2 b h t d

omit hj in
theorem b21_apply (b h : Fin 8) (t : Fin 64) (d : Fin 128) :
    (b21 (F := Ideal) j s (ix4 b h t d) : EReal) = cum (fun u d => b11 (F := Ideal) j s (ix4 b h u d)) t d := by
  unfold b21
  have z : b20 (F := Ideal) j s (Shape.Idx.first Gen.h_S_) = (0 : EReal) := by
    rw [show Shape.Idx.first Gen.h_S_ = ix0 from funext fun a => a.elim0]
    pointwise [b20, b19]
  refine (show _ = Ideal.hostReduceWindowAdd ![1, 1, 64, 1] ![1, 1, 1, 1] ![0, 0, 63, 0] ![0, 0, 0, 0] Gen.reduceWindows_S8x8x64x128_S8x8x64x128_w1s1p0_0_w1s1p0_0_w64s1p63_0_w1s1p0_0
    (b18 (F := Ideal) j s) (b20 (F := Ideal) j s (Shape.Idx.first Gen.h_S_)) (ix4 b h t d) from rfl).trans ?_
  rw [z, cumsum4]
  unfold cum
  refine Finset.sum_congr rfl fun u _ => ?_
  have e : (b18 (F := Ideal) j s (ix4 b h u d) : EReal) = Ideal.log (b11 (F := Ideal) j s (ix4 b h u d)) := by pointwise [b18]
  rw [e]

omit hj in
theorem causal_apply (t u : Fin 64) : IntOp.cmpi CmpIPredicate.sge (IntOp.addi (BitVec.ofNat 32 t.val) 0#32) (BitVec.ofNat 32 u.val) = if u ≤ t then 1#1 else 0#1 := by
  revert t u
  decide +kernel

omit hj in
theorem b44_apply (b h : Fin 8) (t : Fin 64) (e : Fin 128) :
    (b44 (F := Ideal) j s (ix4 b h t e) : EReal) = chunkOut (fun t d => b5 (F := Ideal) j s (ix4 b h t d)) (fun t d => b11 (F := Ideal) j s (ix4 b h t d))
      (fun t d => b17 (F := Ideal) j s (ix4 b h t d)) (fun d e => s.main_v42_5 (ix4 b h d e)) t e := by
  have e24 : ∀ t d, (b24 (F := Ideal) j s (ix4 b h t d) : EReal) = b5 (F := Ideal) j s (ix4 b h t d) * Ideal.exp (cum (fun u d => b11 (F := Ideal) j s (ix4 b h u d)) t d) := fun t d => by
    rw [← b21_apply j s b h t d]
    pointwise [b24, b23]
  have e30 : ∀ t d, (b30 (F := Ideal) j s (ix4 b h t d) : EReal) = (1 - b11 (F := Ideal) j s (ix4 b h t d)) * Ideal.exp (-(cum (fun u d => b11 (F := Ideal) j s (ix4 b h u d)) t d)) := fun t d => by
    rw [← b21_apply j s b h t d]
    pointwise [b30, b29, b28, b27, b26, b25]
  have e44 : (b44 (F := Ideal) j s (ix4 b h t e) : EReal)
      = (∑ x : Fin 64, Scalar.select (IntOp.cmpi CmpIPredicate.sge (IntOp.addi (BitVec.ofNat 32 t.val) 0#32) (BitVec.ofNat 32 x.val))
          ((∑ y : Fin 128, b24 (F := Ideal) j s (ix4 b h t y) * b30 (F := Ideal) j s (ix4 b h x y)) * b17 (F := Ideal) j s (ix4 b h x e)) (0 : EReal))
        + ∑ x : Fin 128, b24 (F := Ideal) j s (ix4 b h t x) * s.main_v42_5 (ix4 b h x e) := by
    pointwise [b44, b43, b42, b41, b40, b39, b38, K_main_v15, K_main_v14, K_main_cst_2, K_main_call1_v5, K_main_call1_v4, K_main_call1_v3, K_main_call1_v2, K_main_call1_v1, K_main_call1_v0, K_main_call1_c, K_main_call1_cst]
  rw [e44]
  unfold chunkOut
  refine congrArg₂ (· + ·) (Finset.sum_congr rfl fun u _ => ?_) (Finset.sum_congr rfl fun d _ => congrArg (· * _) (e24 t d))
  rw [causal_apply]
  by_cases hu : u ≤ t
  · rw [if_pos hu, if_pos hu]
    refine (show _ = (∑ y : Fin 128, b24 (F := Ideal) j s (ix4 b h t y) * b30 (F := Ideal) j s (ix4 b h u y)) * b17 (F := Ideal) j s (ix4 b h u e) from rfl).trans ?_
    refine congrArg (· * _) (Finset.sum_congr rfl fun d _ => ?_)
    rw [e24, e30]
  · rw [if_neg hu, if_neg hu, zero_mul]
    rfl

omit hj in
theorem b51_apply (b h : Fin 8) (d e : Fin 128) :
    (b51 (F := Ideal) j s (ix4 b h d e) : EReal) = chunkNext (fun t d => b11 (F := Ideal) j s (ix4 b h t d)) (fun t d => b17 (F := Ideal) j s (ix4 b h t d))
      (fun d e => s.main_v42_5 (ix4 b h d e)) d e := by
  have e37 : ∀ t d, (b37 (F := Ideal) j s (ix4 b h t d) : EReal) = (1 - b11 (F := Ideal) j s (ix4 b h t d))
      * Ideal.exp (cum (fun u d => b11 (F := Ideal) j s (ix4 b h u d)) 63 d - cum (fun u d => b11 (F := Ideal) j s (ix4 b h u d)) t d) := fun t d => by
    rw [← b21_apply j s b h t d, ← b21_apply j s b h 63 d]
    pointwise [b37, b36, b35, b34, b33, b32, b31, b22]
  have e51 : (b51 (F := Ideal) j s (ix4 b h d e) : EReal) = Ideal.exp (b21 (F := Ideal) j s (ix4 b h (63 : Fin 64) d)) * s.main_v42_5 (ix4 b h d e)
      + ∑ x : Fin 64, b37 (F := Ideal) j s (ix4 b h x d) * b17 (F := Ideal) j s (ix4 b h x e) := by
    pointwise [b51, b50, b49, b48, b47, b46, b45, b22]
  rw [e51, b21_apply]
  unfold chunkNext
  refine congrArg (_ + ·) (Finset.sum_congr rfl fun u _ => ?_)
  rw [e37]

/-- A trip writes its chunk's rows and leaves the others. -/
theorem b57_apply (n : Fin 32) (b h : Fin 8) (t : Fin 64) (e : Fin 128) :
    (b57 (F := Ideal) j s (ix5 n b h t e) : EReal) = if n.val = j then b44 (F := Ideal) j s (ix4 b h t e) else s.main_v42_6 (ix5 n b h t e) := by
  have hs := start0 j hj rfl
  pointwise [b57, b52, b53, b54, b55, b56]
  have hb := b.isLt
  have hh := h.isLt
  have ht := t.isLt
  have he := e.isLt
  by_cases hn : n.val = j
  · rw [if_pos hn, dif_pos ⟨by rw [start0 j hj]; omega, by rw [start1]; omega, by rw [start2]; omega, by rw [start3]; omega, by rw [start4]; omega⟩]
    refine congrArg _ ?_
    congr 1
  · rw [if_neg hn, dif_neg]
    intro q
    have q0 := q.1
    rw [start0 j hj] at q0
    omega

end trip

end Cert.Proof.HgrnRef

end
-- ==== Proof.HgrnChain.lean ====
/- The recurrence as a chain of chunks: the state before each chunk, and the rows it gives. The reference's loop is read as it. -/
module

public import proofs.«01_k».proof.Proof.HgrnBlocks
public import proofs.«01_k».proof.Proof.HgrnRef

@[expose] public section

set_option maxRecDepth 16384

noncomputable section

namespace Cert.Proof.Hgrn

open Idealize.ShloMosaic Idealize.ShloMosaic.TcCoe

abbrev ProjShape : Shape := ⟨2, ![16384, 11264]⟩
abbrev GateShape : Shape := ⟨2, ![16384, 1024]⟩
abbrev LowShape : Shape := ⟨2, ![2, 1024]⟩
abbrev GainShape : Shape := ⟨2, ![1, 1024]⟩

/-- Row `t` of chunk `n` of batch `b`. -/
def rowOf (b : Fin 8) (n : ℕ) (t : Fin 64) : Fin 16384 := ⟨(b.val * 2048 + n * 64 + t.val) % 16384, Nat.mod_lt _ (by norm_num)⟩

theorem rowOf_val (b : Fin 8) (n : ℕ) (t : Fin 64) (hn : n < 32) : (rowOf b n t).val = b.val * 2048 + n * 64 + t.val :=
  Nat.mod_eq_of_lt (by omega)

section chain
variable (p : ProjShape.Idx → EReal) (f : GateShape.Idx → EReal) (l : LowShape.Idx → EReal)

/-- A head's forget gates in a chunk. -/
def gF (b h : Fin 8) (n : ℕ) (t : Fin 64) (d : Fin 128) : EReal := fGate (share fun j => l (ix2 j (hd h d))) (f (ix2 (rowOf b n t) (hd h d)))

/-- A head's columns of the projection in a chunk, from the first column `o`. -/
def gP (o : ℕ) (ho : o + 1024 ≤ 11264) (b h : Fin 8) (n : ℕ) (t : Fin 64) (d : Fin 128) : EReal :=
  p (ix2 (rowOf b n t) ⟨o + (hd h d).val, by have := (hd h d).isLt; omega⟩)

/-- The state before chunk `n`. -/
def stG (F V : ℕ → Fin 64 → Fin 128 → EReal) : ℕ → Fin 128 → Fin 128 → EReal
  | 0 => fun _ _ => 0
  | n + 1 => chunkNext (F n) (V n) (stG F V n)

/-- A head's outputs in a chunk, before they are normalized. -/
def oG (b h : Fin 8) (n : ℕ) (t : Fin 64) (e : Fin 128) : EReal :=
  chunkOut (gP p 3072 (by omega) b h n) (gF f l b h n) (gP p 5120 (by omega) b h n) (stG (gF f l b h) (gP p 5120 (by omega) b h) n) t e

/-- A head's row normalized by its root mean square, times a weight. -/
def outRow (o : Fin 128 → EReal) (w : EReal) (e : Fin 128) : EReal :=
  o e * Ideal.rsqrt (Ideal.div (∑ k, o k * o k) (Ideal.ofBits FTy.f32 1124073472#32) + Ideal.ofBits FTy.f32 897988541#32) * w

/-- The mixer's output in a chunk. -/
def yG (g : GainShape.Idx → EReal) (b h : Fin 8) (n : ℕ) (t : Fin 64) (e : Fin 128) : EReal :=
  outRow (oG p f l b h n t) (g (ix2 0 (hd h e)) * (gP p 6144 (by omega) b h n t e * logi (gP p 6144 (by omega) b h n t e))) e

/-- The chunk and the row in it of a row of a batch. -/
def chOf (r : Fin 2048) : ℕ := r.val / 64
def tOf (r : Fin 2048) : Fin 64 := ⟨r.val % 64, Nat.mod_lt _ (by norm_num)⟩

end chain

end Cert.Proof.Hgrn

namespace Cert.Proof.HgrnRef

open Idealize.ShloMosaic Idealize.ShloMosaic.TcCoe
open Cert.HgrnReferenceIdeal Cert.HgrnReferenceIdeal.Step
open Cert.Proof.Hgrn (rowOf rowOf_val gF gP stG oG outRow yG chOf tOf hOf nOf hd chunkOut chunkNext logi)

variable (m : (ℓ : Loc nD τ sig) → Buf (Elt Ideal) ℓ) (c : Dev nD)

abbrev argP : Vec Ideal S16384x11264 .bf16 := m ((c.tc : Thread nD τ).loc main_arg0)
abbrev argF : Vec Ideal S16384x1024 .f32 := m ((c.tc : Thread nD τ).loc main_arg1)
abbrev argL : Vec Ideal S2x1024 .f32 := m ((c.tc : Thread nD τ).loc main_arg2)

theorem trips_fixed (k : ℕ) : (HgrnRun.trips m c k).main_v42_0 = A_main_v34 (F := Ideal) (argP m c) (argF m c) (argL m c)
    ∧ (HgrnRun.trips m c k).main_v42_1 = A_main_v36 (F := Ideal) (argP m c) (argF m c) (argL m c)
    ∧ (HgrnRun.trips m c k).main_v42_2 = A_main_v40 (F := Ideal) (argP m c) (argF m c) (argL m c) := by
  induction k with
  | zero => exact ⟨rfl, rfl, rfl⟩
  | succ k ih => exact ih

theorem trip_q (k : ℕ) (hk : k < 32) (b h : Fin 8) : (fun t d => b5 (F := Ideal) k (HgrnRun.trips m c k) (ix4 b h t d)) = gP (argP m c) 3072 (by omega) b h k :=
  funext fun t => funext fun d => (b5_apply k hk _ b h t d).trans
    ((congrFun (trips_fixed m c k).1 _).trans (qs_apply _ _ _ ⟨k, hk⟩ b h t d (rowOf b k t) (rowOf_val b k t hk)))
theorem trip_f (k : ℕ) (hk : k < 32) (b h : Fin 8) : (fun t d => b11 (F := Ideal) k (HgrnRun.trips m c k) (ix4 b h t d)) = gF (argF m c) (argL m c) b h k :=
  funext fun t => funext fun d => (b11_apply k hk _ b h t d).trans
    ((congrFun (trips_fixed m c k).2.1 _).trans (fs_apply _ _ _ ⟨k, hk⟩ b h t d (rowOf b k t) (rowOf_val b k t hk)))
theorem trip_v (k : ℕ) (hk : k < 32) (b h : Fin 8) : (fun t d => b17 (F := Ideal) k (HgrnRun.trips m c k) (ix4 b h t d)) = gP (argP m c) 5120 (by omega) b h k :=
  funext fun t => funext fun d => (b17_apply k hk _ b h t d).trans
    ((congrFun (trips_fixed m c k).2.2 _).trans (vs_apply _ _ _ ⟨k, hk⟩ b h t d (rowOf b k t) (rowOf_val b k t hk)))

/-- The states and the outputs after `k` trips. -/
theorem trips_chain (k : ℕ) (hk : k ≤ 32) :
    (∀ b h d e, ((HgrnRun.trips m c k).main_v42_5 (ix4 b h d e) : EReal) = stG (gF (argF m c) (argL m c) b h) (gP (argP m c) 5120 (by omega) b h) k d e)
    ∧ ∀ (n : Fin 32) b h t e, n.val < k → ((HgrnRun.trips m c k).main_v42_6 (ix5 n b h t e) : EReal) = oG (argP m c) (argF m c) (argL m c) b h n.val t e := by
  induction k with
  | zero =>
    refine ⟨fun b h d e => ?_, fun n b h t e hn => absurd hn (by omega)⟩
    show (K_main_v16 (F := Ideal) (ix4 b h d e) : EReal) = 0
    pointwise [K_main_v16, K_main_cst_3]
  | succ k ih =>
    obtain ⟨ih1, ih2⟩ := ih (by omega)
    have hk' : k < 32 := by omega
    refine ⟨fun b h d e => ?_, fun n b h t e hn => ?_⟩
    · refine (b51_apply k (HgrnRun.trips m c k) b h d e).trans ?_
      rw [trip_f m c k hk', trip_v m c k hk', show (fun d e => (HgrnRun.trips m c k).main_v42_5 (ix4 b h d e)) = _ from funext fun d => funext fun e => ih1 b h d e]
      rfl
    · refine (b57_apply k hk' (HgrnRun.trips m c k) n b h t e).trans ?_
      by_cases hnk : n.val = k
      · rw [if_pos hnk, b44_apply, trip_q m c k hk', trip_f m c k hk', trip_v m c k hk',
          show (fun d e => (HgrnRun.trips m c k).main_v42_5 (ix4 b h d e)) = _ from funext fun d => funext fun e => ih1 b h d e, hnk]
        rfl
      · rw [if_neg hnk]
        exact ih2 n b h t e (by omega)

/-- The results' rows, of a state. -/
theorem read_rows (s : State Ideal) (p : Vec Ideal S16384x11264 .bf16) (g : Vec Ideal S1x1024 .f32) (b : Fin 8) (r : Fin 2048) (n : Fin 1024) :
    (R_main_v66 (F := Ideal) s p g (ix3 b r n) : EReal)
      = outRow (fun e => s.main_v42_6 (ix5 (⟨r.val / 64, by omega⟩ : Fin 32) b (⟨n.val / 128, by omega⟩ : Fin 8) (⟨r.val % 64, by omega⟩ : Fin 64) e))
        (g (ix2 0 n) * (p (ix2 (⟨b.val * 2048 + r.val, by omega⟩ : Fin 16384) (⟨6144 + n.val, by omega⟩ : Fin 11264))
          * logi (p (ix2 (⟨b.val * 2048 + r.val, by omega⟩ : Fin 16384) (⟨6144 + n.val, by omega⟩ : Fin 11264))))) (⟨n.val % 128, by omega⟩ : Fin 128) := by
  unfold outRow logi
  refine Eq.trans ?_ (mul_assoc _ _ _)
  pointwise [R_main_v66]

/-- The reference's rows. -/
theorem rows_apply (g : Vec Ideal S1x1024 .f32) (b : Fin 8) (r : Fin 2048) (n : Fin 1024) :
    (R_main_v66 (F := Ideal) (HgrnRun.trips m c 32) (argP m c) g (ix3 b r n) : EReal)
      = yG (argP m c) (argF m c) (argL m c) g b (hOf n) (chOf r) (tOf r) (nOf n) := by
  have hr := r.isLt
  have en : hd (hOf n) (nOf n) = n := Fin.ext (by show 128 * (n.val / 128) + n.val % 128 = n.val; omega)
  have er : rowOf b (chOf r) (tOf r) = ⟨b.val * 2048 + r.val, by omega⟩ :=
    Fin.ext ((rowOf_val b (chOf r) (tOf r) (by show r.val / 64 < 32; omega)).trans (by show b.val * 2048 + r.val / 64 * 64 + r.val % 64 = b.val * 2048 + r.val; omega))
  have eg : argP m c (ix2 (⟨b.val * 2048 + r.val, by omega⟩ : Fin 16384) (⟨6144 + n.val, by omega⟩ : Fin 11264)) = gP (argP m c) 6144 (by omega) b (hOf n) (chOf r) (tOf r) (nOf n) := by
    unfold gP
    rw [er]
    exact congrArg (fun q => argP m c (ix2 _ q)) (Fin.ext (congrArg (fun q : Fin 1024 => 6144 + q.val) en.symm))
  refine (read_rows _ _ g b r n).trans ?_
  unfold yG
  refine congr (congrArg₂ outRow (funext fun e => ?_) ?_) rfl
  · exact (trips_chain m c 32 (le_refl _)).2 ⟨r.val / 64, by omega⟩ b _ _ e (by show r.val / 64 < 32; omega)
  · exact congrArg₂ (· * ·) (congrArg (fun q => g (ix2 0 q)) en.symm) (congrArg (fun x => x * logi x) eg)

end Cert.Proof.HgrnRef

end
-- ==== Proof.HgrnHead.lean ====
/- What a grid point computes for one head, from the chain of chunks before it. -/
module

public import proofs.«01_k».proof.Proof.HgrnChain

@[expose] public section

set_option maxRecDepth 16384

noncomputable section

namespace Cert.Proof.Hgrn

open Idealize.ShloMosaic Idealize.ShloMosaic.TcCoe
open Cert.HgrnIdeal Cert.HgrnIdeal.Gen

/-! ## The gates -/

theorem pay10_apply (x0 : Vec Ideal S2x1024 .f32) (n : Fin 1024) :
    (k0_pay10 x0 (ix2 0 n) : EReal) = Ideal.exp (x0 (ix2 0 n) - Finset.fold max ⊥ (fun j : Fin 2 => x0 (ix2 j n)) Finset.univ) := by
  rw [← ninf_eq]
  pointwise [k0_pay10, k0_pay9]
  exact Fin.sum_univ_one _

theorem pay11_apply (x0 : Vec Ideal S2x1024 .f32) (n : Fin 1024) :
    (k0_pay11 x0 (ix2 0 n) : EReal) = ∑ i : Fin 2, Ideal.exp (x0 (ix2 i n) - Finset.fold max ⊥ (fun j : Fin 2 => x0 (ix2 j n)) Finset.univ) := by
  rw [← ninf_eq]
  pointwise [k0_pay11, k0_pay9]

theorem pay12_apply (A B : FVec Ideal S1x1024 .f32) (x3 : Vec Ideal S1x256x1024 .f32) (r : Fin 256) (n : Fin 1024) :
    (k0_pay12 A B x3 (ix2 r n) : EReal) = Ideal.div (A (ix2 0 n)) (B (ix2 0 n)) + half * (1 - Ideal.div (A (ix2 0 n)) (B (ix2 0 n)))
      + half * (1 - Ideal.div (A (ix2 0 n)) (B (ix2 0 n))) * Ideal.tanh (half * x3 (ix3 0 r n)) := by
  pointwise [k0_pay12]

/-- The forget gates of a block. -/
theorem fArr_apply (x0 : Vec Ideal S2x1024 .f32) (x3 : Vec Ideal S1x256x1024 .f32) (r : Fin 256) (n : Fin 1024) :
    (fArr x0 x3 (ix2 r n) : EReal) = fGate (share fun j => x0 (ix2 j n)) (x3 (ix3 0 r n)) := by
  refine (pay12_apply _ _ x3 r n).trans ?_
  rw [pay10_apply, pay11_apply]
  exact fGate_half _ _ (share_real _)

/-- The output gates of a block, times the gain. -/
theorem gate_apply (x5 : Vec Ideal S1x256x1024 .bf16) (x1 : Vec Ideal S1x1024 .f32) (r : Fin 256) (n : Fin 1024) (hg : (⊥ : EReal) < x5 (ix3 0 r n)) :
    (k0_pay31 x5 x1 (ix2 r n) : EReal) = x1 (ix2 0 n) * (x5 (ix3 0 r n) * logi (x5 (ix3 0 r n))) := by
  rw [mul_comm, ← gate_half _ hg]
  pointwise [k0_pay31]

theorem pay30_apply (x4 : Vec Ideal S1x256x1024 .bf16) (r : Fin 256) (n : Fin 1024) : (k0_pay30 x4 (ix2 r n) : EReal) = x4 (ix3 0 r n) := by
  pointwise [k0_pay30]

theorem state_cast (S : FVec Ideal S128x128 .f32) (e d : Fin 128) : (shapeCast S1x128x128 S shapeCasts_S128x128_S1x128x128 (ix3 0 e d) : EReal) = S (ix2 e d) := by
  pointwise []

/-! ## One head of one block -/

section head
variable (x0 : Vec Ideal S2x1024 .f32) (x1 : Vec Ideal S1x1024 .f32) (x2 : Vec Ideal S1x256x1024 .bf16) (x3 : Vec Ideal S1x256x1024 .f32) (x4 x5 : Vec Ideal S1x256x1024 .bf16)
  (h : Fin 8) (S : FVec Ideal S128x128 .f32) (F Q V : ℕ → Fin 64 → Fin 128 → EReal) (k : ℕ)

/-- The block's gates, queries and values of head `h` are the chain's from chunk `k` on, and its state is the chain's before chunk `k`. -/
structure Local : Prop where
  f : ∀ (c : Fin 4) t d, (fArr x0 x3 (ix2 (ch c t) (hd h d)) : EReal) = F (k + c.val) t d
  q : ∀ (c : Fin 4) t d, (x2 (ix3 0 (ch c t) (hd h d)) : EReal) = Q (k + c.val) t d
  v : ∀ (c : Fin 4) t d, (x4 (ix3 0 (ch c t) (hd h d)) : EReal) = V (k + c.val) t d
  log : ∀ n t d, Ideal.log (F n t d) ≤ 0
  s : ∀ d e, (S (ix2 e d) : EReal) = stG F V k d e

variable {x0 x1 x2 x3 x4 x5 h S F Q V k}

theorem Local.cum (H : Local x0 x2 x3 x4 h S F Q V k) (c : Fin 4) (t : Fin 64) (d : Fin 128) :
    (cArr x0 x3 (ix2 (ch c t) (hd h d)) : EReal) = cum (F (k + c.val)) t d :=
  (cArr_cum x0 x3 h c t d).trans (congrArg (fun f => Hgrn.cum f t d) (funext fun t => funext fun d => H.f c t d))

theorem Local.query (H : Local x0 x2 x3 x4 h S F Q V k) (c : Fin 4) (t : Fin 64) (d : Fin 128) :
    (qArr x0 x2 x3 (ix2 (ch c t) (hd h d)) : EReal) = Q (k + c.val) t d * Ideal.exp (Hgrn.cum (F (k + c.val)) t d) :=
  (pay18_apply _ _ _ _ _ x2 _ _).trans (congrArg₂ (fun a b => a * Ideal.exp b) (H.q c t d) (H.cum c t d))

theorem Local.key (H : Local x0 x2 x3 x4 h S F Q V k) (c : Fin 4) (t : Fin 64) (d : Fin 128) :
    (kArr x0 x3 (ix2 (ch c t) (hd h d)) : EReal) = (1 - F (k + c.val) t d) * Ideal.exp (-(Hgrn.cum (F (k + c.val)) t d)) :=
  (pay19_apply _ _ _ _ _ _ _ _).trans (congrArg₂ (fun a b => (1 - a) * Ideal.exp (-b)) (H.f c t d) (H.cum c t d))

theorem Local.keyb (H : Local x0 x2 x3 x4 h S F Q V k) (c : Fin 4) (t : Fin 64) (d : Fin 128) :
    (kbArr x0 x3 (ix2 (ch c t) (hd h d)) : EReal) = (1 - F (k + c.val) t d) * Ideal.exp (-(Hgrn.cum (F (k + c.val)) t d)) :=
  (pay20_apply _ _ _ _ _ _ _ _).trans (H.key c t d)

theorem Local.step (H : Local x0 x2 x3 x4 h S F Q V k) (c : Fin 4) (T : FVec Ideal S128x128 .f32)
    (hT : ∀ d e, (T (ix2 e d) : EReal) = stG F V (k + c.val) d e) (d e : Fin 128) :
    (stepH c h (eC x0 x3 c) (kC x0 x3 c) (k0_pay30 x4) T (ix2 e d) : EReal) = stG F V (k + c.val + 1) d e :=
  stepH_apply c h _ _ _ T (F (k + c.val)) (V (k + c.val)) (stG F V (k + c.val)) (H.log _)
    (fun d => (eC_apply x0 x3 c (hd h d)).trans (congrArg Ideal.exp (H.cum c 63 d)))
    (fun u d => (kC_apply x0 x3 c u (hd h d)).trans (congrArg₂ (fun a b => a * Ideal.exp b) (H.key c u d) (H.cum c 63 d)))
    (fun u e => (pay30_apply x4 _ _).trans (H.v c u e)) hT d e

theorem Local.out (H : Local x0 x2 x3 x4 h S F Q V k) (c : Fin 4) (T : FVec Ideal S128x128 .f32)
    (hT : ∀ d e, (T (ix2 e d) : EReal) = stG F V (k + c.val) d e) (t : Fin 64) (e : Fin 128) :
    (outH c h (qArr x0 x2 x3) (kbArr x0 x3) (k0_pay30 x4) T (ix2 t e) : EReal)
      = chunkOut (Q (k + c.val)) (F (k + c.val)) (V (k + c.val)) (stG F V (k + c.val)) t e :=
  outH_apply c h _ _ _ T (Q (k + c.val)) (F (k + c.val)) (V (k + c.val)) (stG F V (k + c.val)) (H.query c) (H.keyb c)
    (fun u e => (pay30_apply x4 _ _).trans (H.v c u e)) hT t e

theorem Local.s1 (H : Local x0 x2 x3 x4 h S F Q V k) (d e : Fin 128) : (s1 x0 x3 x4 h S (ix2 e d) : EReal) = stG F V (k + 1) d e := H.step 0 S H.s d e
theorem Local.s2 (H : Local x0 x2 x3 x4 h S F Q V k) (d e : Fin 128) : (s2 x0 x3 x4 h S (ix2 e d) : EReal) = stG F V (k + 2) d e := H.step 1 _ H.s1 d e
theorem Local.s3 (H : Local x0 x2 x3 x4 h S F Q V k) (d e : Fin 128) : (s3 x0 x3 x4 h S (ix2 e d) : EReal) = stG F V (k + 3) d e := H.step 2 _ H.s2 d e
theorem Local.s4 (H : Local x0 x2 x3 x4 h S F Q V k) (d e : Fin 128) : (s4 x0 x3 x4 h S (ix2 e d) : EReal) = stG F V (k + 4) d e := H.step 3 _ H.s3 d e

/-- The state a head hands on is the chain's four chunks later. -/
theorem Local.state (H : Local x0 x2 x3 x4 h S F Q V k) (d e : Fin 128) : (headState x0 x3 x4 h S (ix3 0 e d) : EReal) = stG F V (k + 4) d e :=
  (state_cast _ e d).trans (H.s4 d e)

/-- A head's rows are the chain's, normalized and gated. -/
theorem Local.rows (H : Local x0 x2 x3 x4 h S F Q V k) (c : Fin 4) (t : Fin 64) (e : Fin 128) :
    (headOut x0 x1 x2 x3 x4 x5 h S (ix3 0 (ch c t) e) : EReal)
      = outRow (chunkOut (Q (k + c.val)) (F (k + c.val)) (V (k + c.val)) (stG F V (k + c.val)) t) (k0_pay31 x5 x1 (ix2 (ch c t) (hd h e))) e := by
  refine (normH_apply h (k0_pay31 x5 x1) _ _ _ _ (fun c t e => chunkOut (Q (k + c.val)) (F (k + c.val)) (V (k + c.val)) (stG F V (k + c.val)) t e) ?_ ?_ ?_ ?_ c t e).trans rfl
  · exact fun t e => H.out 0 S H.s t e
  · exact fun t e => H.out 1 _ H.s1 t e
  · exact fun t e => H.out 2 _ H.s2 t e
  · exact fun t e => H.out 3 _ H.s3 t e

end head

end Cert.Proof.Hgrn

end
-- ==== Proof.HgrnCall.lean ====
/-
  The recurrence's call over its grid: point `8 b + j` computes rows `256 j` to `256 j + 255` of batch `b`, which are the
  chunks `4 j` to `4 j + 3` of the chain, and hands the states on in scratch. Beside them four weights are copied in another float type.
-/
module

public import proofs.«01_k».proof.Proof.HgrnHead
public import proofs.«01_k».proof.Proof.Gen.HgrnIdeal.Value
public import proofs.«01_k».proof.Defs
public import proofs.«01_k».proof.Proof.Gen.Pre_gates_above

@[expose] public section

set_option maxRecDepth 16384

noncomputable section

namespace Cert.Proof.Hgrn

open Idealize.ShloMosaic Idealize.ShloMosaic.TcCoe
open Idealize.ShloMosaic.Pipeline (Dat Cfg Window)
open Cert.HgrnIdeal Cert.HgrnIdeal.Gen

theorem at0 : ∀ t : Fin cfg0.N, win0_0.index t = ![0, 0] := (by decide +kernel : ∀ t : Fin grid0.N, win0_0.index t = ![0, 0])
theorem at1 : ∀ t : Fin cfg0.N, win0_1.index t = ![0, 0] := (by decide +kernel : ∀ t : Fin grid0.N, win0_1.index t = ![0, 0])
theorem at2 : ∀ t : Fin cfg0.N, win0_2.index t = ![t.val / 8, t.val % 8, 3] := (by decide +kernel : ∀ t : Fin grid0.N, win0_2.index t = ![t.val / 8, t.val % 8, 3])
theorem at3 : ∀ t : Fin cfg0.N, win0_3.index t = ![t.val / 8, t.val % 8, 0] := (by decide +kernel : ∀ t : Fin grid0.N, win0_3.index t = ![t.val / 8, t.val % 8, 0])
theorem at4 : ∀ t : Fin cfg0.N, win0_4.index t = ![t.val / 8, t.val % 8, 5] := (by decide +kernel : ∀ t : Fin grid0.N, win0_4.index t = ![t.val / 8, t.val % 8, 5])
theorem at5 : ∀ t : Fin cfg0.N, win0_5.index t = ![t.val / 8, t.val % 8, 6] := (by decide +kernel : ∀ t : Fin grid0.N, win0_5.index t = ![t.val / 8, t.val % 8, 6])
theorem at6 : ∀ t : Fin cfg0.N, win0_6.index t = ![t.val, 0] := (by decide +kernel : ∀ t : Fin grid0.N, win0_6.index t = ![t.val, 0])
theorem at7 : ∀ t : Fin cfg0.N, win0_7.index t = ![t.val, 0] := (by decide +kernel : ∀ t : Fin grid0.N, win0_7.index t = ![t.val, 0])
theorem at8 : ∀ t : Fin cfg0.N, win0_8.index t = ![t.val, 0] := (by decide +kernel : ∀ t : Fin grid0.N, win0_8.index t = ![t.val, 0])
theorem at9 : ∀ t : Fin cfg0.N, win0_9.index t = ![min t.val 43, 0] := (by decide +kernel : ∀ t : Fin grid0.N, win0_9.index t = ![min t.val 43, 0])
theorem at10 : ∀ t : Fin cfg0.N, win0_10.index t = ![t.val / 8, t.val % 8, 0] := (by decide +kernel : ∀ t : Fin grid0.N, win0_10.index t = ![t.val / 8, t.val % 8, 0])
theorem at11 : ∀ t : Fin cfg0.N, win0_11.index t = ![t.val, 0] := (by decide +kernel : ∀ t : Fin grid0.N, win0_11.index t = ![t.val, 0])
theorem at12 : ∀ t : Fin cfg0.N, win0_12.index t = ![t.val, 0] := (by decide +kernel : ∀ t : Fin grid0.N, win0_12.index t = ![t.val, 0])
theorem at13 : ∀ t : Fin cfg0.N, win0_13.index t = ![t.val, 0] := (by decide +kernel : ∀ t : Fin grid0.N, win0_13.index t = ![t.val, 0])
theorem at14 : ∀ t : Fin cfg0.N, win0_14.index t = ![min t.val 43, 0] := (by decide +kernel : ∀ t : Fin grid0.N, win0_14.index t = ![min t.val 43, 0])

/-- The last block of the last weight stays in its buffer until the run ends; each block before it is written when the next is due. -/
theorem flush14 : ∀ t : Fin cfg0.N, t.val < 43 ∨ t.val = 63 → (cfg0.win 14).flush t = true :=
  (by decide +kernel : ∀ t : Fin grid0.N, t.val < 43 ∨ t.val = 63 → win0_14.flush t = true)

theorem lt_N (t : Fin cfg0.N) : t.val < 64 := lt_of_lt_of_eq t.isLt N_0

variable (m : (ℓ : Loc nD τ sig) → Buf (Elt Ideal) ℓ) (c : Dev nD)

/-- The batch of a point, and the block's row of that batch. -/
def bOf (t : Fin cfg0.N) : Fin 8 := ⟨t.val / 8, by have := lt_N t; omega⟩
def rowIn (t : Fin cfg0.N) (r : Fin 256) : Fin 2048 := ⟨t.val % 8 * 256 + r.val, by omega⟩

abbrev kP : ProjShape.Idx → EReal := m ((c : Thread nD τ).loc main_arg0)
abbrev kF : GateShape.Idx → EReal := m ((c : Thread nD τ).loc main_arg1)
abbrev kL : LowShape.Idx → EReal := m ((c : Thread nD τ).loc main_arg2)
abbrev kG : GainShape.Idx → EReal := m ((c : Thread nD τ).loc main_arg3)

/-! ## The arrays as the call is handed them -/

theorem V_v0 : V m c main_v0 = shapeCast S8x2048x11264 (m ((c : Thread nD τ).loc main_arg0) : Vec Ideal S16384x11264 .bf16) shapeCasts_S16384x11264_S8x2048x11264 := by
  show StableHlo.after hostOps0 (fun b => m (c, b)) main_v0 = _
  after_results <;> rfl

theorem V_v1 : V m c main_v1 = shapeCast S8x2048x1024 (m ((c : Thread nD τ).loc main_arg1) : Vec Ideal S16384x1024 .f32) shapeCasts_S16384x1024_S8x2048x1024 := by
  show StableHlo.after hostOps0 (fun b => m (c, b)) main_v1 = _
  after_results <;> rfl

theorem V_v3 : V m c main_v3 = broadcastInDim S1x1024 ![1] bcast_S1024_S1x1024_1 (shapeCast S1024 (m ((c : Thread nD τ).loc main_arg3) : Vec Ideal S1x1024 .f32) shapeCasts_S1x1024_S1024) := by
  show StableHlo.after hostOps0 (fun b => m (c, b)) main_v3 = _
  after_results <;> rfl

section weights
variable (s : Cert.HgrnReferenceIdeal.Step.State Ideal)

theorem V_v4 : V m c main_v4 = Cert.HgrnReferenceIdeal.Step.R_main_v68 s (m ((c : Thread nD τ).loc main_arg4)) := by
  show StableHlo.after hostOps0 (fun b => m (c, b)) main_v4 = _
  after_results <;> rfl

theorem V_v5 : V m c main_v5 = Cert.HgrnReferenceIdeal.Step.R_main_v70 s (m ((c : Thread nD τ).loc main_arg5)) := by
  show StableHlo.after hostOps0 (fun b => m (c, b)) main_v5 = _
  after_results <;> rfl

theorem V_v6 : V m c main_v6 = Cert.HgrnReferenceIdeal.Step.R_main_v72 s (m ((c : Thread nD τ).loc main_arg6)) := by
  show StableHlo.after hostOps0 (fun b => m (c, b)) main_v6 = _
  after_results <;> rfl

theorem V_v7 : V m c main_v7 = Cert.HgrnReferenceIdeal.Step.R_main_v74 s (m ((c : Thread nD τ).loc main_arg7)) := by
  show StableHlo.after hostOps0 (fun b => m (c, b)) main_v7 = _
  after_results <;> rfl
end weights

theorem cast_rows (x : Vec Ideal S16384x11264 .bf16) (b : Fin 8) (r : Fin 2048) (n : Fin 11264) :
    (shapeCast S8x2048x11264 x shapeCasts_S16384x11264_S8x2048x11264 (ix3 b r n) : EReal) = x (ix2 (⟨b.val * 2048 + r.val, by omega⟩ : Fin 16384) n) := by
  pointwise []

theorem cast_gates (x : Vec Ideal S16384x1024 .f32) (b : Fin 8) (r : Fin 2048) (n : Fin 1024) :
    (shapeCast S8x2048x1024 x shapeCasts_S16384x1024_S8x2048x1024 (ix3 b r n) : EReal) = x (ix2 (⟨b.val * 2048 + r.val, by omega⟩ : Fin 16384) n) := by
  pointwise []

theorem cast_gain (x : Vec Ideal S1x1024 .f32) (n : Fin 1024) :
    (broadcastInDim S1x1024 ![1] bcast_S1024_S1x1024_1 (shapeCast S1024 x shapeCasts_S1x1024_S1024) (ix2 0 n) : EReal) = x (ix2 0 n) := by
  pointwise []

/-! ## The blocks -/

theorem iblk0_apply (t : Fin cfg0.N) (j : Fin 2) (n : Fin 1024) : iblk m c 0 t (ix2 j n) = kL m c (ix2 j n) := by
  refine Eq.trans ?_ (congrFun (V_main_arg2 m c) (ix2 j n))
  unfold iblk
  blk_simp
  refine congrArg (V m c main_arg2) ?_
  blk_ext [at0]

theorem iblk1_apply (t : Fin cfg0.N) (n : Fin 1024) : iblk m c 1 t (ix2 0 n) = kG m c (ix2 0 n) := by
  refine Eq.trans ?_ ((congrFun (V_v3 m c) (ix2 0 n)).trans (cast_gain _ n))
  unfold iblk
  blk_simp
  refine congrArg (V m c main_v3) ?_
  blk_ext [at1]

theorem iblk2_apply (t : Fin cfg0.N) (r : Fin 256) (n : Fin 1024) :
    iblk m c 2 t (ix3 0 r n) = kP m c (ix2 (⟨(bOf t).val * 2048 + (rowIn t r).val, by omega⟩ : Fin 16384) ⟨3072 + n.val, by omega⟩) := by
  refine Eq.trans ?_ ((congrFun (V_v0 m c) (ix3 (bOf t) (rowIn t r) ⟨3072 + n.val, by omega⟩)).trans (cast_rows _ _ _ _))
  unfold iblk
  blk_simp
  refine congrArg (V m c main_v0) ?_
  blk_ext [at2, bOf, rowIn]

theorem iblk3_apply (t : Fin cfg0.N) (r : Fin 256) (n : Fin 1024) :
    iblk m c 3 t (ix3 0 r n) = kF m c (ix2 (⟨(bOf t).val * 2048 + (rowIn t r).val, by omega⟩ : Fin 16384) n) := by
  refine Eq.trans ?_ ((congrFun (V_v1 m c) (ix3 (bOf t) (rowIn t r) n)).trans (cast_gates _ _ _ _))
  unfold iblk
  blk_simp
  refine congrArg (V m c main_v1) ?_
  blk_ext [at3, bOf, rowIn]

theorem iblk4_apply (t : Fin cfg0.N) (r : Fin 256) (n : Fin 1024) :
    iblk m c 4 t (ix3 0 r n) = kP m c (ix2 (⟨(bOf t).val * 2048 + (rowIn t r).val, by omega⟩ : Fin 16384) ⟨5120 + n.val, by omega⟩) := by
  refine Eq.trans ?_ ((congrFun (V_v0 m c) (ix3 (bOf t) (rowIn t r) ⟨5120 + n.val, by omega⟩)).trans (cast_rows _ _ _ _))
  unfold iblk
  blk_simp
  refine congrArg (V m c main_v0) ?_
  blk_ext [at4, bOf, rowIn]

theorem iblk5_apply (t : Fin cfg0.N) (r : Fin 256) (n : Fin 1024) :
    iblk m c 5 t (ix3 0 r n) = kP m c (ix2 (⟨(bOf t).val * 2048 + (rowIn t r).val, by omega⟩ : Fin 16384) ⟨6144 + n.val, by omega⟩) := by
  refine Eq.trans ?_ ((congrFun (V_v0 m c) (ix3 (bOf t) (rowIn t r) ⟨6144 + n.val, by omega⟩)).trans (cast_rows _ _ _ _))
  unfold iblk
  blk_simp
  refine congrArg (V m c main_v0) ?_
  blk_ext [at5, bOf, rowIn]

theorem iblk6_apply (t : Fin cfg0.N) (r : Fin 16) (n : Fin 2048) : iblk m c 6 t (ix2 r n) = V m c main_v4 (ix2 ⟨t.val * 16 + r.val, by have := lt_N t; omega⟩ n) := by
  unfold iblk
  blk_simp
  refine congrArg (V m c main_v4) ?_
  blk_ext [at6]

theorem iblk7_apply (t : Fin cfg0.N) (r : Fin 16) (n : Fin 2048) : iblk m c 7 t (ix2 r n) = V m c main_v5 (ix2 ⟨t.val * 16 + r.val, by have := lt_N t; omega⟩ n) := by
  unfold iblk
  blk_simp
  refine congrArg (V m c main_v5) ?_
  blk_ext [at7]

theorem iblk8_apply (t : Fin cfg0.N) (r : Fin 32) (n : Fin 2048) : iblk m c 8 t (ix2 r n) = V m c main_v6 (ix2 ⟨t.val * 32 + r.val, by have := lt_N t; omega⟩ n) := by
  unfold iblk
  blk_simp
  refine congrArg (V m c main_v6) ?_
  blk_ext [at8]

theorem iblk9_apply (t : Fin cfg0.N) (r : Fin 128) (n : Fin 2048) : iblk m c 9 t (ix2 r n) = V m c main_v7 (ix2 ⟨min t.val 43 * 128 + r.val, by omega⟩ n) := by
  unfold iblk
  blk_simp
  refine congrArg (V m c main_v7) ?_
  blk_ext [at9]

/-! ## A point -/

/-- A block's row is the chain's. -/
theorem row_chain (t : Fin cfg0.N) (k : Fin 4) (u : Fin 64) :
    (⟨(bOf t).val * 2048 + (rowIn t (ch k u)).val, by omega⟩ : Fin 16384) = rowOf (bOf t) (4 * (t.val % 8) + k.val) u :=
  Fin.ext ((show t.val / 8 * 2048 + (t.val % 8 * 256 + (64 * k.val + u.val)) = t.val / 8 * 2048 + (4 * (t.val % 8) + k.val) * 64 + u.val by omega).trans
    (rowOf_val (bOf t) _ u (by omega)).symm)

abbrev cF (b h : Fin 8) : ℕ → Fin 64 → Fin 128 → EReal := gF (kF m c) (kL m c) b h
abbrev cQ (b h : Fin 8) : ℕ → Fin 64 → Fin 128 → EReal := gP (kP m c) 3072 (by omega) b h
abbrev cV (b h : Fin 8) : ℕ → Fin 64 → Fin 128 → EReal := gP (kP m c) 5120 (by omega) b h

theorem local_at (t : Fin cfg0.N) (h : Fin 8) (S : FVec Ideal S128x128 .f32)
    (hS : ∀ d e, (S (ix2 e d) : EReal) = stG (cF m c (bOf t) h) (cV m c (bOf t) h) (4 * (t.val % 8)) d e) :
    Local (iblk m c 0 t) (iblk m c 2 t) (iblk m c 3 t) (iblk m c 4 t) h S (cF m c (bOf t) h) (cQ m c (bOf t) h) (cV m c (bOf t) h) (4 * (t.val % 8)) where
  f k u d := by
    refine (fArr_apply _ _ _ _).trans ?_
    refine congrArg₂ fGate (congrArg share (funext fun j => iblk0_apply m c t j (hd h d))) ?_
    exact (iblk3_apply m c t _ _).trans (congrArg (fun r => kF m c (ix2 r (hd h d))) (row_chain t k u))
  q k u d := (iblk2_apply m c t _ _).trans (congrArg (fun r => kP m c (ix2 r ⟨3072 + (hd h d).val, _⟩)) (row_chain t k u))
  v k u d := (iblk4_apply m c t _ _).trans (congrArg (fun r => kP m c (ix2 r ⟨5120 + (hd h d).val, _⟩)) (row_chain t k u))
  log n u d := log_fGate _ _ (share_real _)
  s := hS

section point
variable (t : Fin cfg0.N) (xs0 : Vec Ideal S8x128x128 .f32)
  (hx : ∀ h e d, (xs0 (ix3 h e d) : EReal) = stG (cF m c (bOf t) h) (cV m c (bOf t) h) (4 * (t.val % 8)) d e)
include hx

theorem point_local (h : Fin 8) : Local (iblk m c 0 t) (iblk m c 2 t) (iblk m c 3 t) (iblk m c 4 t) h (initS xs0 h) (cF m c (bOf t) h) (cQ m c (bOf t) h) (cV m c (bOf t) h) (4 * (t.val % 8)) :=
  local_at m c t h (initS xs0 h) fun d e => (initS_apply xs0 h e d).trans (hx h e d)

theorem point_state (h : Fin 8) (e d : Fin 128) : blockState (iblk m c 0 t) (iblk m c 3 t) (iblk m c 4 t) xs0 (ix3 h e d)
    = stG (cF m c (bOf t) h) (cV m c (bOf t) h) (4 * (t.val % 8) + 4) d e :=
  (point_local m c t xs0 hx h).state d e

theorem point_out (hg : ∀ (r : Fin 16384) (n : Fin 1024), ⊥ < kP m c (ix2 r ⟨6144 + n.val, by omega⟩)) (k : Fin 4) (u : Fin 64) (h : Fin 8) (e : Fin 128) :
    blockOut (iblk m c 0 t) (iblk m c 1 t) (iblk m c 2 t) (iblk m c 3 t) (iblk m c 4 t) (iblk m c 5 t) xs0 (ix3 0 (ch k u) (hd h e))
      = yG (kP m c) (kF m c) (kL m c) (kG m c) (bOf t) h (4 * (t.val % 8) + k.val) u e := by
  have e5 : iblk m c 5 t (ix3 0 (ch k u) (hd h e)) = gP (kP m c) 6144 (by omega) (bOf t) h (4 * (t.val % 8) + k.val) u e :=
    (iblk5_apply m c t _ _).trans (congrArg (fun r => kP m c (ix2 r ⟨6144 + (hd h e).val, _⟩)) (row_chain t k u))
  refine (blockOut_apply _ _ _ _ _ _ xs0 (ch k u) h e).trans (((point_local m c t xs0 hx h).rows k u e).trans ?_)
  refine congrArg (fun w => outRow _ w e) ?_
  refine (gate_apply _ _ _ _ (lt_of_lt_of_eq (hg _ _) e5.symm)).trans ?_
  exact congrArg₂ (fun a b => a * (b * logi b)) (iblk1_apply m c t _) e5
end point

/-! ## The grid -/

theorem outsA_state (t : Fin cfg0.N) (h0 : t.val % 8 = 0) : (outsAt0 m c t.val t.isLt).2.2.2.2.2 = blockState (iblk m c 0 t) (iblk m c 3 t) (iblk m c 4 t) zeroS := by
  rw [outsAt0_A m c t h0]
  dsimp only
  exact soutA_eq c _ _ _ _ _ _ _ _ _ _ _ _ _ _ _ _ _ _ _ _ _ _ _ _ _ _ _ _ _ _ _ _ _ _ _ _ _ _ _ _ _ _ _ _

theorem outsB_state (t : Fin cfg0.N) (h0 : ¬t.val % 8 = 0) : (outsAt0 m c t.val t.isLt).2.2.2.2.2
    = blockState (iblk m c 0 t) (iblk m c 3 t) (iblk m c 4 t) (outsAt0 m c (t.val - 1) (Nat.lt_of_le_of_lt (Nat.sub_le _ _) t.isLt)).2.2.2.2.2 := by
  rw [outsAt0_B m c t h0]
  dsimp only
  exact soutB_eq c _ _ _ _ _ _ _ _ _ _ _ _ _ _ _ _ _ _ _ _ _ _ _ _ _ _ _ _ _ _ _ _ _ _ _ _ _ _ _ _ _ _ _ _ _

theorem outsA_rows (t : Fin cfg0.N) (h0 : t.val % 8 = 0) : (outsAt0 m c t.val t.isLt).1
    = blockOut (iblk m c 0 t) (iblk m c 1 t) (iblk m c 2 t) (iblk m c 3 t) (iblk m c 4 t) (iblk m c 5 t) zeroS := by
  rw [outsAt0_A m c t h0]
  dsimp only
  exact outA_eq c _ _ _ _ _ _ _ _ _ _ _ _ _ _ _ _ _ _ _ _ _ _ _ _ _ _ _ _ _ _ _ _ _ _ _ _ _ _ _ _ _ _ _ _

theorem outsB_rows (t : Fin cfg0.N) (h0 : ¬t.val % 8 = 0) : (outsAt0 m c t.val t.isLt).1
    = blockOut (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2 := by
  rw [outsAt0_B m c t h0]
  dsimp only
  exact outB_eq c _ _ _ _ _ _ _ _ _ _ _ _ _ _ _ _ _ _ _ _ _ _ _ _ _ _ _ _ _ _ _ _ _ _ _ _ _ _ _ _ _ _ _ _ _

theorem zeroS_chain (t : Fin cfg0.N) (h0 : t.val % 8 = 0) (h : Fin 8) (e d : Fin 128) :
    (zeroS (ix3 h e d) : EReal) = stG (cF m c (bOf t) h) (cV m c (bOf t) h) (4 * (t.val % 8)) d e := by
  rw [h0]
  show (zeroS (ix3 h e d) : EReal) = 0
  pointwise [zeroS, k0_pay8]

/-- After each point the scratch is the chain's state after the point's chunks. -/
theorem scratch_chain (n : ℕ) : ∀ (hn : n < cfg0.N) (h : Fin 8) (e d : Fin 128), ((outsAt0 m c n hn).2.2.2.2.2 (ix3 h e d) : EReal)
    = stG (cF m c (bOf ⟨n, hn⟩) h) (cV m c (bOf ⟨n, hn⟩) h) (4 * (n % 8) + 4) d e := by
  induction n with
  | zero => exact fun hn h e d => (congrFun (outsA_state m c ⟨0, hn⟩ rfl) (ix3 h e d)).trans (point_state m c ⟨0, hn⟩ zeroS (zeroS_chain m c ⟨0, hn⟩ rfl) h e d)
  | succ n ih =>
    intro hn h e d
    by_cases h0 : (n + 1) % 8 = 0
    · exact (congrFun (outsA_state m c ⟨n + 1, hn⟩ h0) (ix3 h e d)).trans (point_state m c ⟨n + 1, hn⟩ zeroS (zeroS_chain m c ⟨n + 1, hn⟩ h0) h e d)
    · refine (congrFun (outsB_state m c ⟨n + 1, hn⟩ h0) (ix3 h e d)).trans (point_state m c ⟨n + 1, hn⟩ _ (fun h e d => ?_) h e d)
      have hb : bOf ⟨n, by omega⟩ = bOf ⟨n + 1, hn⟩ := Fin.ext (show n / 8 = (n + 1) / 8 by omega)
      have hk : 4 * (n % 8) + 4 = 4 * ((n + 1) % 8) := by omega
      exact (ih (by omega) h e d).trans (by rw [hb, hk])

/-- What a point before found in scratch. -/
theorem scratch_before (t : Fin cfg0.N) (h0 : ¬t.val % 8 = 0) (h : Fin 8) (e d : Fin 128) :
    ((outsAt0 m c (t.val - 1) (Nat.lt_of_le_of_lt (Nat.sub_le _ _) t.isLt)).2.2.2.2.2 (ix3 h e d) : EReal) = stG (cF m c (bOf t) h) (cV m c (bOf t) h) (4 * (t.val % 8)) d e := by
  refine (scratch_chain m c (t.val - 1) _ h e d).trans ?_
  have hb : bOf ⟨t.val - 1, Nat.lt_of_le_of_lt (Nat.sub_le _ _) t.isLt⟩ = bOf t := Fin.ext (show (t.val - 1) / 8 = t.val / 8 by omega)
  have hk : 4 * ((t.val - 1) % 8) + 4 = 4 * (t.val % 8) := by omega
  rw [hb, hk]

/-- The rows of a point are the chain's. -/
theorem outs10_apply (hg : ∀ (r : Fin 16384) (n : Fin 1024), ⊥ < kP m c (ix2 r ⟨6144 + n.val, by omega⟩)) (t : Fin cfg0.N) (r : Fin 256) (n : Fin 1024) :
    ((outsAt0 m c t.val t.isLt).1 (ix3 0 r n) : EReal) = yG (kP m c) (kF m c) (kL m c) (kG m c) (bOf t) (hOf n) (chOf (rowIn t r)) (tOf (rowIn t r)) (nOf n) := by
  have er : r = ch ⟨r.val / 64, by omega⟩ ⟨r.val % 64, by omega⟩ := Fin.ext (show r.val = 64 * (r.val / 64) + r.val % 64 by omega)
  have en : n = hd (hOf n) (nOf n) := Fin.ext (by show n.val = 128 * (n.val / 128) + n.val % 128; omega)
  have ec : 4 * (t.val % 8) + r.val / 64 = chOf (rowIn t r) := show _ = (t.val % 8 * 256 + r.val) / 64 by omega
  have et : (⟨r.val % 64, by omega⟩ : Fin 64) = tOf (rowIn t r) := Fin.ext (show r.val % 64 = (t.val % 8 * 256 + r.val) % 64 by omega)
  have ei : (ix3 0 r n : S1x256x1024.Idx) = ix3 0 (ch ⟨r.val / 64, by omega⟩ ⟨r.val % 64, by omega⟩) (hd (hOf n) (nOf n)) := congrArg₂ (fun r n => ix3 0 r n) er en
  refine Eq.trans ?_ (congrArg₂ (fun k u => yG (kP m c) (kF m c) (kL m c) (kG m c) (bOf t) (hOf n) k u (nOf n)) ec et)
  refine (congrArg _ ei).trans ?_
  by_cases h0 : t.val % 8 = 0
  · exact (congrFun (outsA_rows m c t h0) _).trans (point_out m c t zeroS (zeroS_chain m c t h0) hg _ _ _ _)
  · exact (congrFun (outsB_rows m c t h0) _).trans (point_out m c t _ (scratch_before m c t h0) hg _ _ _ _)

theorem outs11_apply (t : Fin cfg0.N) (r : Fin 16) (n : Fin 2048) :
    (outsAt0 m c t.val t.isLt).2.1 (ix2 r n) = V m c main_v4 (ix2 ⟨t.val * 16 + r.val, by have := lt_N t; omega⟩ n) := by
  refine Eq.trans ?_ (iblk6_apply m c t r n)
  by_cases h0 : t.val % 8 = 0
  · rw [outsAt0_A m c t h0]
    dsimp only
    exact congrFun (out11A_eq c _ _ _ _ _ _ _ _ _ _ _ _ _ _ _ _ _ _ _ _ _ _ _ _ _ _ _ _ _ _ _ _ _ _ _ _ _ _ _ _ _ _ _ _) (ix2 r n)
  · rw [outsAt0_B m c t h0]
    dsimp only
    exact congrFun (out11B_eq c _ _ _ _ _ _ _ _ _ _ _ _ _ _ _ _ _ _ _ _ _ _ _ _ _ _ _ _ _ _ _ _ _ _ _ _ _ _ _ _ _ _ _ _ _) (ix2 r n)

theorem outs12_apply (t : Fin cfg0.N) (r : Fin 16) (n : Fin 2048) :
    (outsAt0 m c t.val t.isLt).2.2.1 (ix2 r n) = V m c main_v5 (ix2 ⟨t.val * 16 + r.val, by have := lt_N t; omega⟩ n) := by
  refine Eq.trans ?_ (iblk7_apply m c t r n)
  by_cases h0 : t.val % 8 = 0
  · rw [outsAt0_A m c t h0]
    dsimp only
    exact congrFun (out12A_eq c _ _ _ _ _ _ _ _ _ _ _ _ _ _ _ _ _ _ _ _ _ _ _ _ _ _ _ _ _ _ _ _ _ _ _ _ _ _ _ _ _ _ _ _) (ix2 r n)
  · rw [outsAt0_B m c t h0]
    dsimp only
    exact congrFun (out12B_eq c _ _ _ _ _ _ _ _ _ _ _ _ _ _ _ _ _ _ _ _ _ _ _ _ _ _ _ _ _ _ _ _ _ _ _ _ _ _ _ _ _ _ _ _ _) (ix2 r n)

theorem outs13_apply (t : Fin cfg0.N) (r : Fin 32) (n : Fin 2048) :
    (outsAt0 m c t.val t.isLt).2.2.2.1 (ix2 r n) = V m c main_v6 (ix2 ⟨t.val * 32 + r.val, by have := lt_N t; omega⟩ n) := by
  refine Eq.trans ?_ (iblk8_apply m c t r n)
  by_cases h0 : t.val % 8 = 0
  · rw [outsAt0_A m c t h0]
    dsimp only
    exact congrFun (out13A_eq c _ _ _ _ _ _ _ _ _ _ _ _ _ _ _ _ _ _ _ _ _ _ _ _ _ _ _ _ _ _ _ _ _ _ _ _ _ _ _ _ _ _ _ _) (ix2 r n)
  · rw [outsAt0_B m c t h0]
    dsimp only
    exact congrFun (out13B_eq c _ _ _ _ _ _ _ _ _ _ _ _ _ _ _ _ _ _ _ _ _ _ _ _ _ _ _ _ _ _ _ _ _ _ _ _ _ _ _ _ _ _ _ _ _) (ix2 r n)

theorem outs14_apply (t : Fin cfg0.N) (r : Fin 128) (n : Fin 2048) :
    (outsAt0 m c t.val t.isLt).2.2.2.2.1 (ix2 r n) = V m c main_v7 (ix2 ⟨min t.val 43 * 128 + r.val, by omega⟩ n) := by
  refine Eq.trans ?_ (iblk9_apply m c t r n)
  by_cases h0 : t.val % 8 = 0
  · rw [outsAt0_A m c t h0]
    dsimp only
    exact congrFun (out14A_eq c _ _ _ _ _ _ _ _ _ _ _ _ _ _ _ _ _ _ _ _ _ _ _ _ _ _ _ _ _ _ _ _ _ _ _ _ _ _ _ _ _ _ _ _) (ix2 r n)
  · rw [outsAt0_B m c t h0]
    dsimp only
    exact congrFun (out14B_eq c _ _ _ _ _ _ _ _ _ _ _ _ _ _ _ _ _ _ _ _ _ _ _ _ _ _ _ _ _ _ _ _ _ _ _ _ _ _ _ _ _ _ _ _ _) (ix2 r n)

/-! ## The arrays after the run -/

/-- The recurrence's rows, of the arguments. -/
def yArr : S8x2048x1024.Idx → EReal := fun i => yG (kP m c) (kF m c) (kL m c) (kG m c) (i 0) (hOf (i 2)) (chOf (i 1)) (tOf (i 1)) (nOf (i 2))

theorem arr10 (hg : ∀ (r : Fin 16384) (n : Fin 1024), ⊥ < kP m c (ix2 r ⟨6144 + n.val, by omega⟩)) :
    ((dats m 0 c).arrAt 10 cfg0.N : S8x2048x1024.Idx → EReal) = yArr m c := by
  refine funext fun i => ?_
  have hi0 : (i 0).val < 8 := (i 0).isLt
  have hi1 : (i 1).val < 2048 := (i 1).isLt
  have hi2 : (i 2).val < 1024 := (i 2).isLt
  obtain ⟨t, ht⟩ : ∃ t : Fin cfg0.N, t.val = (i 0).val * 8 + (i 1).val / 256 :=
    ⟨⟨(i 0).val * 8 + (i 1).val / 256, lt_of_lt_of_eq (by omega) N_0.symm⟩, rfl⟩
  refine (dats m 0 c).arrAt_forall_of_flushed 10 (fun i v => v = (yArr m c : S8x2048x1024.Idx → EReal) i) ?_ cfg0.N t i t.isLt ?_ ?_
  · intro t hf y
    idx_bounds y
    have hN := lt_N t
    have ey : (win0_10.blk t).view.emb y = ix3 (bOf t) (rowIn t (y 1)) (y 2) := by
      blk_ext [at10, bOf, rowIn]
    have e0 : y = ix3 0 (y 1) (y 2) := (eq_ix3 y).trans (congrArg (fun q : Fin 1 => (ix3 q (y 1) (y 2) : S1x256x1024.Idx)) (Subsingleton.elim _ _))
    blk_simp
    rw [after0_10]
    refine Eq.trans ?_ (congrArg (yArr m c : S8x2048x1024.Idx → EReal) ey).symm
    exact (congrArg _ e0).trans (outs10_apply m c hg t (y 1) (y 2))
  · exact flush0_10 t
  · have h1 : t.val / 8 = (i 0).val := by omega
    have h2 : t.val % 8 = (i 1).val / 256 := by omega
    mem_blk [at10]
    exact ⟨⟨by omega, by omega⟩, ⟨by omega, by omega⟩, by omega, by omega⟩

/-- The first weight's copy after the run. -/
theorem arr11 : ((dats m 0 c).arrAt 11 cfg0.N : (⟨2, ![1024, 2048]⟩ : Shape).Idx → EReal) = V m c main_v4 := by
  refine funext fun i => ?_
  have hi0 : (i 0).val < 1024 := (i 0).isLt
  have hi1 : (i 1).val < 2048 := (i 1).isLt
  obtain ⟨t, ht⟩ : ∃ t : Fin cfg0.N, t.val = (i 0).val / 16 :=
    ⟨⟨(i 0).val / 16, lt_of_lt_of_eq (by omega) N_0.symm⟩, rfl⟩
  refine (dats m 0 c).arrAt_forall_of_flushed 11 (fun i v => v = (V m c main_v4 : (⟨2, ![1024, 2048]⟩ : Shape).Idx → EReal) i) ?_ cfg0.N t i t.isLt ?_ ?_
  · intro t hf y
    idx_bounds y
    have hN := lt_N t
    have ey : (win0_11.blk t).view.emb y = ix2 ⟨t.val * 16 + (y 0).val, by omega⟩ (y 1) := by
      blk_ext [at11]
    blk_simp
    rw [after0_11]
    refine Eq.trans ?_ (congrArg (V m c main_v4 : (⟨2, ![1024, 2048]⟩ : Shape).Idx → EReal) ey).symm
    exact (congrArg _ (eq_ix2 y)).trans (outs11_apply m c t (y 0) (y 1))
  · exact flush0_11 t
  · skip
    mem_blk [at11]
    exact ⟨⟨by omega, by omega⟩, by omega, by omega⟩

/-- The second weight's copy after the run. -/
theorem arr12 : ((dats m 0 c).arrAt 12 cfg0.N : (⟨2, ![1024, 2048]⟩ : Shape).Idx → EReal) = V m c main_v5 := by
  refine funext fun i => ?_
  have hi0 : (i 0).val < 1024 := (i 0).isLt
  have hi1 : (i 1).val < 2048 := (i 1).isLt
  obtain ⟨t, ht⟩ : ∃ t : Fin cfg0.N, t.val = (i 0).val / 16 :=
    ⟨⟨(i 0).val / 16, lt_of_lt_of_eq (by omega) N_0.symm⟩, rfl⟩
  refine (dats m 0 c).arrAt_forall_of_flushed 12 (fun i v => v = (V m c main_v5 : (⟨2, ![1024, 2048]⟩ : Shape).Idx → EReal) i) ?_ cfg0.N t i t.isLt ?_ ?_
  · intro t hf y
    idx_bounds y
    have hN := lt_N t
    have ey : (win0_12.blk t).view.emb y = ix2 ⟨t.val * 16 + (y 0).val, by omega⟩ (y 1) := by
      blk_ext [at12]
    blk_simp
    rw [after0_12]
    refine Eq.trans ?_ (congrArg (V m c main_v5 : (⟨2, ![1024, 2048]⟩ : Shape).Idx → EReal) ey).symm
    exact (congrArg _ (eq_ix2 y)).trans (outs12_apply m c t (y 0) (y 1))
  · exact flush0_12 t
  · skip
    mem_blk [at12]
    exact ⟨⟨by omega, by omega⟩, by omega, by omega⟩

/-- The third weight's copy after the run. -/
theorem arr13 : ((dats m 0 c).arrAt 13 cfg0.N : (⟨2, ![2048, 2048]⟩ : Shape).Idx → EReal) = V m c main_v6 := by
  refine funext fun i => ?_
  have hi0 : (i 0).val < 2048 := (i 0).isLt
  have hi1 : (i 1).val < 2048 := (i 1).isLt
  obtain ⟨t, ht⟩ : ∃ t : Fin cfg0.N, t.val = (i 0).val / 32 :=
    ⟨⟨(i 0).val / 32, lt_of_lt_of_eq (by omega) N_0.symm⟩, rfl⟩
  refine (dats m 0 c).arrAt_forall_of_flushed 13 (fun i v => v = (V m c main_v6 : (⟨2, ![2048, 2048]⟩ : Shape).Idx → EReal) i) ?_ cfg0.N t i t.isLt ?_ ?_
  · intro t hf y
    idx_bounds y
    have hN := lt_N t
    have ey : (win0_13.blk t).view.emb y = ix2 ⟨t.val * 32 + (y 0).val, by omega⟩ (y 1) := by
      blk_ext [at13]
    blk_simp
    rw [after0_13]
    refine Eq.trans ?_ (congrArg (V m c main_v6 : (⟨2, ![2048, 2048]⟩ : Shape).Idx → EReal) ey).symm
    exact (congrArg _ (eq_ix2 y)).trans (outs13_apply m c t (y 0) (y 1))
  · exact flush0_13 t
  · skip
    mem_blk [at13]
    exact ⟨⟨by omega, by omega⟩, by omega, by omega⟩

/-- The last weight's copy after the run. -/
theorem arr14 : ((dats m 0 c).arrAt 14 cfg0.N : (⟨2, ![5632, 2048]⟩ : Shape).Idx → EReal) = V m c main_v7 := by
  refine funext fun i => ?_
  have hi0 : (i 0).val < 5632 := (i 0).isLt
  have hi1 : (i 1).val < 2048 := (i 1).isLt
  obtain ⟨t, ht⟩ : ∃ t : Fin cfg0.N, t.val = if (i 0).val / 128 < 43 then (i 0).val / 128 else 63 :=
    ⟨⟨if (i 0).val / 128 < 43 then (i 0).val / 128 else 63, lt_of_lt_of_eq (by split <;> omega) N_0.symm⟩, rfl⟩
  refine (dats m 0 c).arrAt_forall_of_flushed 14 (fun i v => v = (V m c main_v7 : (⟨2, ![5632, 2048]⟩ : Shape).Idx → EReal) i) ?_ cfg0.N t i t.isLt ?_ ?_
  · intro t hf y
    idx_bounds y
    have hN := lt_N t
    have ey : (win0_14.blk t).view.emb y = ix2 ⟨min t.val 43 * 128 + (y 0).val, by omega⟩ (y 1) := by
      blk_ext [at14]
    blk_simp
    rw [after0_14]
    refine Eq.trans ?_ (congrArg (V m c main_v7 : (⟨2, ![5632, 2048]⟩ : Shape).Idx → EReal) ey).symm
    exact (congrArg _ (eq_ix2 y)).trans (outs14_apply m c t (y 0) (y 1))
  · exact flush14 t (by rw [ht]; split <;> omega)
  · have ht' : min t.val 43 = (i 0).val / 128 := by rw [ht]; split <;> omega
    mem_blk [at14]
    exact ⟨⟨by omega, by omega⟩, by omega, by omega⟩

/-! ## The results are the reference's -/

theorem ninf16_eq : Ideal.ofBits FTy.bf16 0xFF80#16 = (⊥ : EReal) := by
  simp [Ideal.ofBits, Ideal.ieee]

theorem pre_apply (x0 : FVec Ideal S16384x11264 .bf16) (x1 : FVec Ideal S16384x1024 .f32) (x2 : FVec Ideal S2x1024 .f32) (x3 : FVec Ideal S1x1024 .f32)
    (x4 x5 : FVec Ideal S1x1024x2048 .f32) (x6 : FVec Ideal S1x2048x2048 .f32) (x7 : FVec Ideal S1x5632x2048 .f32) (r : Fin 16384) (n : Fin 1024)
    (h : Cert.Pre_gates_above.fn (F := Ideal) x0 x1 x2 x3 x4 x5 x6 x7 (ix2 r n) = 1#1) : (⊥ : EReal) < x0 (ix2 r ⟨6144 + n.val, by omega⟩) := by
  have e : Cert.Pre_gates_above.fn (F := Ideal) x0 x1 x2 x3 x4 x5 x6 x7 (ix2 r n)
      = BitVec.ofBool (decide (Ideal.ofBits FTy.bf16 0xFF80#16 < x0 (ix2 r ⟨6144 + n.val, by omega⟩))) := by
    pointwise [Cert.Pre_gates_above.fn]
  rw [ninf16_eq] at e
  by_contra hn
  rw [e, decide_eq_false hn] at h
  exact absurd h (by decide)

/-- The precondition, element by element. -/
theorem gates_apply (h : Cert.Pre_HgrnIdeal_gates_above m) (r : Fin 16384) (n : Fin 1024) : ⊥ < kP m c (ix2 r ⟨6144 + n.val, by omega⟩) :=
  pre_apply _ _ _ _ _ _ _ _ r n (congrFun (h c) (ix2 r n))

theorem res0_eq (hg : ∀ (r : Fin 16384) (n : Fin 1024), ⊥ < kP m c (ix2 r ⟨6144 + n.val, by omega⟩))
    (m' : (ℓ : Loc Cert.HgrnReferenceIdeal.nD Cert.HgrnReferenceIdeal.τ Cert.HgrnReferenceIdeal.sig) → Buf (Elt Ideal) ℓ)
    (e0 : (HgrnRef.argP m' c : ProjShape.Idx → EReal) = kP m c) (e1 : (HgrnRef.argF m' c : GateShape.Idx → EReal) = kF m c) (e2 : (HgrnRef.argL m' c : LowShape.Idx → EReal) = kL m c) :
    ((dats m 0 c).arrAt 10 cfg0.N : S8x2048x1024.Idx → EReal)
      = Cert.HgrnReferenceIdeal.Step.R_main_v66 (F := Ideal) (HgrnRun.trips m' c 32) (HgrnRef.argP m' c) (m ((c : Thread nD τ).loc main_arg3)) := by
  refine (arr10 m c hg).trans (funext fun i => ?_)
  refine Eq.trans ?_ (congrArg _ (eq_ix3 i).symm)
  refine Eq.trans ?_ (HgrnRef.rows_apply m' c (m ((c : Thread nD τ).loc main_arg3)) (i 0) (i 1) (i 2)).symm
  rw [e0, e1, e2]
  rfl

end Cert.Proof.Hgrn

end
-- ==== Proof.Mix.lean ====
/-
  The call that merges the two mixers' outputs, at the ideal instance: each block of 512 rows is finished in one grid
  point. The gated sum is kept in scratch, in eight column tiles; the residual rows are written tile by tile while
  their squares are summed; then the normalized rows are written. Beside them two weights are copied in another float type.
-/
module

public import proofs.«01_k».proof.Proof.Gen.MixIdeal.Value
public import proofs.«01_k».proof.Proof.Gen.MixReferenceIdeal.Read
public import proofs.«01_k».proof.Proof.Tiles

@[expose] public section

set_option maxRecDepth 16384

noncomputable section

namespace Cert.Proof.Mix

open Idealize.ShloMosaic Idealize.ShloMosaic.TcCoe
open Idealize.ShloMosaic.Pipeline (Dat Cfg Window)
open Cert.MixIdeal Cert.MixIdeal.Gen

/-! ## The mathematics, for any number of rows -/

/-- Row `r`, column `n` of the two mixers' projections, each times the logistic of its gate. -/
def mixRow {M : ℕ} (ya yb : (⟨2, ![M, 1024]⟩ : Shape).Idx → EReal) (ga gb : Fin M → Fin 2048 → EReal) (wa wb : S1024x2048.Idx → EReal)
    (r : Fin M) (n : Fin 2048) : EReal :=
  Ideal.logistic (ga r n) * (∑ k : Fin 1024, ya (ix2 r k) * wa (ix2 k n)) + Ideal.logistic (gb r n) * ∑ k : Fin 1024, yb (ix2 r k) * wb (ix2 k n)

/-- The residual stream after the mixers: a row of the input, and of the merged rows times the output projection. -/
def resRow {M : ℕ} (x : (⟨2, ![M, 2048]⟩ : Shape).Idx → EReal) (mix : Fin M → Fin 2048 → EReal) (wo : S2048x2048.Idx → EReal)
    (r : Fin M) (n : Fin 2048) : EReal :=
  x (ix2 r n) + ∑ k : Fin 2048, mix r k * wo (ix2 k n)

/-- The normalized row, times the gains. -/
def normRow (T g : Fin 2048 → EReal) (n : Fin 2048) : EReal := T n * Tiles.invRms T * g n

/-! ## The body at an index -/

/-- A gate's row as the body is handed it, in two halves of 1024 columns. -/
def gateOf {M : ℕ} (a b : (⟨2, ![M, 1024]⟩ : Shape).Idx → EReal) (r : Fin M) (n : Fin 2048) : EReal :=
  if h : n.val < 1024 then a (ix2 r ⟨n.val, h⟩) else b (ix2 r ⟨n.val - 1024, by omega⟩)

/-- The block of merged rows that the body keeps in scratch. -/
def mixBlk (x0 x1 x2 x3 x4 x5 : S512x1024.Idx → EReal) (x7 x8 : S1024x2048.Idx → EReal) : S512x2048.Idx → EReal :=
  fun i => mixRow x0 x1 (gateOf x2 x3) (gateOf x4 x5) x7 x8 (i 0) (i 1)

/-- Columns of a gate's first half. -/
theorem gate_lo (j : Fin 8) (hj : j.val < 4) (o : ℕ) (ho : o = j.val % 4 * 256) (a b : Vec Ideal S512x1024 .bf16)
    (inb : ∀ k : Fin S512x1024.rank, ![0, o] k + (![512, 256] : Fin 2 → ℕ) k ≤ S512x1024.size k) (r : Fin 512) (n : Fin 256) :
    View.ld a (Rect.unit ![0, o] ![512, 256] inb) (ix2 r n) = gateOf a b r (Tiles.col j n) := by
  have hc : (Tiles.col j n).val < 1024 := by show j.val * 256 + n.val < 1024; omega
  have e : gateOf a b r (Tiles.col j n) = a (ix2 r ⟨(Tiles.col j n).val, hc⟩) := by
    unfold gateOf
    exact dif_pos hc
  refine (View.ld_unit_apply_of _ _ _ _ _ (ix2 r ⟨(Tiles.col j n).val, hc⟩) ?_).trans e.symm
  intro k; fin_cases k <;> simp [Tiles.col, ho]
  omega

/-- Columns of a gate's second half. -/
theorem gate_hi (j : Fin 8) (hj : 4 ≤ j.val) (o : ℕ) (ho : o = j.val % 4 * 256) (a b : Vec Ideal S512x1024 .bf16)
    (inb : ∀ k : Fin S512x1024.rank, ![0, o] k + (![512, 256] : Fin 2 → ℕ) k ≤ S512x1024.size k) (r : Fin 512) (n : Fin 256) :
    View.ld b (Rect.unit ![0, o] ![512, 256] inb) (ix2 r n) = gateOf a b r (Tiles.col j n) := by
  have hc : ¬ (Tiles.col j n).val < 1024 := by show ¬ j.val * 256 + n.val < 1024; omega
  have e : gateOf a b r (Tiles.col j n) = b (ix2 r ⟨(Tiles.col j n).val - 1024, by omega⟩) := by
    unfold gateOf
    exact dif_neg hc
  refine (View.ld_unit_apply_of _ _ _ _ _ (ix2 r ⟨(Tiles.col j n).val - 1024, by omega⟩) ?_).trans e.symm
  intro k; fin_cases k <;> simp [Tiles.col, ho]
  omega

/-- A tile of the merged rows. -/
theorem mix_apply (j : Fin 8) (x0 x1 x2 x3 x4 x5 : Vec Ideal S512x1024 .bf16) (x7 x8 : Vec Ideal S1024x2048 .bf16) (wa wb : Vec Ideal S1024x256 .bf16) (ga gb : Vec Ideal S512x256 .bf16)
    (ha : ∀ k n, wa (ix2 k n) = x7 (ix2 k (Tiles.col j n))) (hb : ∀ k n, wb (ix2 k n) = x8 (ix2 k (Tiles.col j n)))
    (hga : ∀ r n, ga (ix2 r n) = gateOf x2 x3 r (Tiles.col j n)) (hgb : ∀ r n, gb (ix2 r n) = gateOf x4 x5 r (Tiles.col j n))
    (r : Fin 512) (n : Fin 256) : k0_pay8 x0 x1 wa wb ga gb (ix2 r n) = mixBlk x0 x1 x2 x3 x4 x5 x7 x8 (ix2 r (Tiles.col j n)) := by
  have e : k0_pay8 x0 x1 wa wb ga gb (ix2 r n)
      = Ideal.logistic (ga (ix2 r n)) * (∑ k : Fin 1024, x0 (ix2 r k) * wa (ix2 k n)) + Ideal.logistic (gb (ix2 r n)) * ∑ k : Fin 1024, x1 (ix2 r k) * wb (ix2 k n) := by
    pointwise [k0_pay8, k0_pay6, k0_pay7]
  rw [e]
  show _ = mixRow x0 x1 (gateOf x2 x3) (gateOf x4 x5) x7 x8 r (Tiles.col j n)
  unfold mixRow
  simp only [ha, hb, hga, hgb]

/-- The same, of the columns the body loads, for the first four tiles. -/
theorem mix_lo (j : Fin 8) (hj : j.val < 4) (o o' : ℕ) (ho : o = j.val * 256) (ho' : o' = j.val % 4 * 256) (x0 x1 x2 x3 x4 x5 : Vec Ideal S512x1024 .bf16) (x7 x8 : Vec Ideal S1024x2048 .bf16)
    (ia : ∀ a : Fin S1024x2048.rank, ![0, o] a + (![1024, 256] : Fin 2 → ℕ) a ≤ S1024x2048.size a)
    (ib : ∀ a : Fin S1024x2048.rank, ![0, o] a + (![1024, 256] : Fin 2 → ℕ) a ≤ S1024x2048.size a)
    (iga : ∀ k : Fin S512x1024.rank, ![0, o'] k + (![512, 256] : Fin 2 → ℕ) k ≤ S512x1024.size k)
    (igb : ∀ k : Fin S512x1024.rank, ![0, o'] k + (![512, 256] : Fin 2 → ℕ) k ≤ S512x1024.size k) (r : Fin 512) (n : Fin 256) :
    k0_pay8 x0 x1 (View.ld x7 (Rect.unit ![0, o] ![1024, 256] ia)) (View.ld x8 (Rect.unit ![0, o] ![1024, 256] ib))
      (View.ld x2 (Rect.unit ![0, o'] ![512, 256] iga)) (View.ld x4 (Rect.unit ![0, o'] ![512, 256] igb)) (ix2 r n)
      = mixBlk x0 x1 x2 x3 x4 x5 x7 x8 (ix2 r (Tiles.col j n)) :=
  mix_apply j x0 x1 x2 x3 x4 x5 x7 x8 _ _ _ _ (fun k n => Tiles.ld_cols j ho x7 ia k n) (fun k n => Tiles.ld_cols j ho x8 ib k n)
    (fun r n => gate_lo j hj o' ho' x2 x3 iga r n) (fun r n => gate_lo j hj o' ho' x4 x5 igb r n) r n

/-- The same, for the last four tiles. -/
theorem mix_hi (j : Fin 8) (hj : 4 ≤ j.val) (o o' : ℕ) (ho : o = j.val * 256) (ho' : o' = j.val % 4 * 256) (x0 x1 x2 x3 x4 x5 : Vec Ideal S512x1024 .bf16) (x7 x8 : Vec Ideal S1024x2048 .bf16)
    (ia : ∀ a : Fin S1024x2048.rank, ![0, o] a + (![1024, 256] : Fin 2 → ℕ) a ≤ S1024x2048.size a)
    (ib : ∀ a : Fin S1024x2048.rank, ![0, o] a + (![1024, 256] : Fin 2 → ℕ) a ≤ S1024x2048.size a)
    (iga : ∀ k : Fin S512x1024.rank, ![0, o'] k + (![512, 256] : Fin 2 → ℕ) k ≤ S512x1024.size k)
    (igb : ∀ k : Fin S512x1024.rank, ![0, o'] k + (![512, 256] : Fin 2 → ℕ) k ≤ S512x1024.size k) (r : Fin 512) (n : Fin 256) :
    k0_pay8 x0 x1 (View.ld x7 (Rect.unit ![0, o] ![1024, 256] ia)) (View.ld x8 (Rect.unit ![0, o] ![1024, 256] ib))
      (View.ld x3 (Rect.unit ![0, o'] ![512, 256] iga)) (View.ld x5 (Rect.unit ![0, o'] ![512, 256] igb)) (ix2 r n)
      = mixBlk x0 x1 x2 x3 x4 x5 x7 x8 (ix2 r (Tiles.col j n)) :=
  mix_apply j x0 x1 x2 x3 x4 x5 x7 x8 _ _ _ _ (fun k n => Tiles.ld_cols j ho x7 ia k n) (fun k n => Tiles.ld_cols j ho x8 ib k n)
    (fun r n => gate_hi j hj o' ho' x2 x3 iga r n) (fun r n => gate_hi j hj o' ho' x4 x5 igb r n) r n

/-- A tile of the residual rows. -/
theorem x1_ld (j : Fin 8) (o : ℕ) (ho : o = j.val * 256) (x6 : Vec Ideal S512x2048 .f32) (M : Vec Ideal S512x2048 .bf16) (x9 : Vec Ideal S2048x2048 .bf16)
    (is : ∀ a : Fin S512x2048.rank, ![0, o] a + (![512, 256] : Fin 2 → ℕ) a ≤ S512x2048.size a)
    (iw : ∀ a : Fin S2048x2048.rank, ![0, o] a + (![2048, 256] : Fin 2 → ℕ) a ≤ S2048x2048.size a) (r : Fin 512) (n : Fin 256) :
    k0_pay16 (View.ld x6 (Rect.unit ![0, o] ![512, 256] is)) M (View.ld x9 (Rect.unit ![0, o] ![2048, 256] iw)) (ix2 r n)
      = resRow x6 (fun r k => M (ix2 r k)) x9 r (Tiles.col j n) := by
  have e : ∀ (s : Vec Ideal S512x256 .f32) (w : Vec Ideal S2048x256 .bf16), k0_pay16 s M w (ix2 r n)
      = s (ix2 r n) + ∑ k : Fin 2048, M (ix2 r k) * w (ix2 k n) := by
    intro s w
    pointwise [k0_pay16]
  refine (e _ _).trans ?_
  unfold resRow
  exact congrArg₂ (· + ·) (Tiles.ld_cols j ho x6 is r n) (Finset.sum_congr rfl fun k _ => congrArg (M (ix2 r k) * ·) (Tiles.ld_cols j ho x9 iw k n))

/-- The sum of squares after the first tile. -/
theorem ssq1 (M : Vec Ideal S512x2048 .bf16) (s0 : Vec Ideal S512x256 .f32) (w0 : Vec Ideal S2048x256 .bf16) (r : Fin 512) :
    k0_pay17 s0 M w0 (ix2 r 0) = (∑ n : Fin 256, k0_pay16 s0 M w0 (ix2 r n) * k0_pay16 s0 M w0 (ix2 r n)) := by
  pointwise [k0_pay17]

/-- Three more tiles' squares. -/
theorem ssq2 (M : Vec Ideal S512x2048 .bf16) (v : FVec Ideal S512x1 .f32) (s1 s2 s3 : Vec Ideal S512x256 .f32) (w1 w2 w3 : Vec Ideal S2048x256 .bf16) (r : Fin 512) :
    k0_pay22 v (k0_pay18 s1) M w1 s2 M w2 s3 M w3 (ix2 r 0) = v (ix2 r 0) + (∑ n : Fin 256, k0_pay16 s1 M w1 (ix2 r n) * k0_pay16 s1 M w1 (ix2 r n))
      + (∑ n : Fin 256, k0_pay16 s2 M w2 (ix2 r n) * k0_pay16 s2 M w2 (ix2 r n))
      + (∑ n : Fin 256, k0_pay16 s3 M w3 (ix2 r n) * k0_pay16 s3 M w3 (ix2 r n)) := by
  have e : k0_pay19 (k0_pay18 s1) M w1 = k0_pay16 s1 M w1 := rfl
  have e' : k0_pay20 s2 M w2 = k0_pay16 s2 M w2 := rfl
  have e'' : k0_pay21 s3 M w3 = k0_pay16 s3 M w3 := rfl
  rw [← e, ← e', ← e'']
  pointwise [k0_pay22]

/-- Two more tiles' squares. -/
theorem ssq3 (M : Vec Ideal S512x2048 .bf16) (v : FVec Ideal S512x1 .f32) (s4 s5 : Vec Ideal S512x256 .f32) (w4 w5 : Vec Ideal S2048x256 .bf16) (r : Fin 512) :
    k0_pay25 v s4 M w4 s5 M w5 (ix2 r 0) = v (ix2 r 0) + (∑ n : Fin 256, k0_pay16 s4 M w4 (ix2 r n) * k0_pay16 s4 M w4 (ix2 r n))
      + (∑ n : Fin 256, k0_pay16 s5 M w5 (ix2 r n) * k0_pay16 s5 M w5 (ix2 r n)) := by
  have e : k0_pay23 s4 M w4 = k0_pay16 s4 M w4 := rfl
  have e' : k0_pay24 s5 M w5 = k0_pay16 s5 M w5 := rfl
  rw [← e, ← e']
  pointwise [k0_pay25]

/-- The last two tiles' squares, and the scale. -/
theorem ssq4 (M : Vec Ideal S512x2048 .bf16) (v : FVec Ideal S512x1 .f32) (s6 s7 : Vec Ideal S512x256 .f32) (w6 w7 : Vec Ideal S2048x256 .bf16) (r : Fin 512) :
    k0_pay29 v (k0_pay27 s6 M w6) s7 M w7 (ix2 r 0) = Ideal.rsqrt ((v (ix2 r 0) + (∑ n : Fin 256, k0_pay16 s6 M w6 (ix2 r n) * k0_pay16 s6 M w6 (ix2 r n))
      + (∑ n : Fin 256, k0_pay16 s7 M w7 (ix2 r n) * k0_pay16 s7 M w7 (ix2 r n))) * Ideal.ofBits FTy.f32 973078528#32 + Ideal.ofBits FTy.f32 897988541#32) := by
  have e : k0_pay26 s6 M w6 = k0_pay16 s6 M w6 := rfl
  have e' : k0_pay28 s7 M w7 = k0_pay16 s7 M w7 := rfl
  rw [← e, ← e']
  pointwise [k0_pay29, k0_pay27]

/-- The scale of the normalization: one over the root mean square of the whole row. -/
theorem inv_apply (M : Vec Ideal S512x2048 .bf16) (s0 s1 s2 s3 s4 s5 s6 s7 : Vec Ideal S512x256 .f32) (w0 w1 w2 w3 w4 w5 w6 w7 : Vec Ideal S2048x256 .bf16) (r : Fin 512) (T : Fin 2048 → EReal)
    (h0 : ∀ n, k0_pay16 s0 M w0 (ix2 r n) = T (Tiles.col 0 n))
    (h1 : ∀ n, k0_pay16 s1 M w1 (ix2 r n) = T (Tiles.col 1 n))
    (h2 : ∀ n, k0_pay16 s2 M w2 (ix2 r n) = T (Tiles.col 2 n))
    (h3 : ∀ n, k0_pay16 s3 M w3 (ix2 r n) = T (Tiles.col 3 n))
    (h4 : ∀ n, k0_pay16 s4 M w4 (ix2 r n) = T (Tiles.col 4 n))
    (h5 : ∀ n, k0_pay16 s5 M w5 (ix2 r n) = T (Tiles.col 5 n))
    (h6 : ∀ n, k0_pay16 s6 M w6 (ix2 r n) = T (Tiles.col 6 n))
    (h7 : ∀ n, k0_pay16 s7 M w7 (ix2 r n) = T (Tiles.col 7 n)) :
    k0_pay29 (k0_pay25 (k0_pay22 (k0_pay17 s0 M w0) (k0_pay18 s1) M w1 s2 M w2 s3 M w3) s4 M w4 s5 M w5) (k0_pay27 s6 M w6) s7 M w7 (ix2 r 0) = Tiles.invRms T := by
  rw [ssq4, ssq3, ssq2, ssq1]
  simp only [h0, h1, h2, h3, h4, h5, h6, h7]
  unfold Tiles.invRms
  rw [← Tiles.mul_inv_2048, ← Tiles.sum_cols (fun n => T n * T n)]

/-- A tile of the normalized rows: the tile, times the row's scale, times the column's gain. -/
theorem scaled_apply (v : FVec Ideal S512x1 .f32) (b : Vec Ideal S512x256 .f32) (g : Vec Ideal S1x256 .f32) (r : Fin 512) (n : Fin 256) :
    k0_pay34 v b g (ix2 r n) = b (ix2 r n) * v (ix2 r 0) * g (ix2 0 n) := by
  pointwise [k0_pay34]

/-- The block of residual rows. -/
def resBlk (x0 x1 x2 x3 x4 x5 : S512x1024.Idx → EReal) (x6 : S512x2048.Idx → EReal) (x7 x8 : S1024x2048.Idx → EReal) (x9 : S2048x2048.Idx → EReal)
    (r : Fin 512) : Fin 2048 → EReal :=
  resRow x6 (mixRow x0 x1 (gateOf x2 x3) (gateOf x4 x5) x7 x8) x9 r

/-- The residual block a grid point writes, from the blocks it is handed. -/
theorem out13_eq (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x2048 .f32) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S64x2048 .f32) (harg12 : arg12.IsWhole) (arg13 : Memref sig .tc .vmem S16x2048 .f32) (harg13 : arg13.IsWhole) (arg14 : Memref sig .tc .vmem S512x2048 .f32) (harg14 : arg14.IsWhole) (arg15 : Memref sig .tc .vmem S512x2048 .bf16) (harg15 : arg15.IsWhole) (arg16 : Memref sig .tc .vmem S64x2048 .bf16) (harg16 : arg16.IsWhole) (arg17 : Memref sig .tc .vmem S16x2048 .bf16) (harg17 : arg17.IsWhole) (arg18 : Memref sig .tc .vmem S512x2048 .bf16) (harg18 : arg18.IsWhole)
    (x0 x1 x2 x3 x4 x5 : Vec Ideal S512x1024 .bf16) (x6 : Vec Ideal S512x2048 .f32) (x7 x8 : Vec Ideal S1024x2048 .bf16) (x9 : Vec Ideal S2048x2048 .bf16)
    (x10 : Vec Ideal S1x2048 .f32) (x11 : Vec Ideal S64x2048 .f32) (x12 : Vec Ideal S16x2048 .f32) :
    (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 : S512x2048.Idx → EReal)
      = fun i => resBlk x0 x1 x2 x3 x4 x5 x6 x7 x8 x9 (i 0) (i 1) := by
  frame_open
  simp (disch := decide) only [↓ View.readCov_skip, ↓ View.readCov_cons_toLoadRect, ↓ View.readCov_fill]
  frame_out
  rw [Tiles.read_cols arg18.view (Val := Elt Ideal) (e := .bf16) (mixBlk x0 x1 x2 x3 x4 x5 x7 x8)]
  case h0 => exact fun r n => mix_lo 0 (by decide) 0 0 rfl rfl x0 x1 x2 x3 x4 x5 x7 x8 _ _ _ _ r n
  case h1 => exact fun r n => mix_lo 1 (by decide) 256 256 rfl rfl x0 x1 x2 x3 x4 x5 x7 x8 _ _ _ _ r n
  case h2 => exact fun r n => mix_lo 2 (by decide) 512 512 rfl rfl x0 x1 x2 x3 x4 x5 x7 x8 _ _ _ _ r n
  case h3 => exact fun r n => mix_lo 3 (by decide) 768 768 rfl rfl x0 x1 x2 x3 x4 x5 x7 x8 _ _ _ _ r n
  case h4 => exact fun r n => mix_hi 4 (by decide) 1024 0 rfl rfl x0 x1 x2 x3 x4 x5 x7 x8 _ _ _ _ r n
  case h5 => exact fun r n => mix_hi 5 (by decide) 1280 256 rfl rfl x0 x1 x2 x3 x4 x5 x7 x8 _ _ _ _ r n
  case h6 => exact fun r n => mix_hi 6 (by decide) 1536 512 rfl rfl x0 x1 x2 x3 x4 x5 x7 x8 _ _ _ _ r n
  case h7 => exact fun r n => mix_hi 7 (by decide) 1792 768 rfl rfl x0 x1 x2 x3 x4 x5 x7 x8 _ _ _ _ r n
  refine Tiles.canon_cols (Val := Elt Ideal) (e := .f32) (fun i => resBlk x0 x1 x2 x3 x4 x5 x6 x7 x8 x9 (i 0) (i 1)) _ _ _ _ _ _ _ _ _ ?_ ?_ ?_ ?_ ?_ ?_ ?_ ?_ _ _ _ _ _ _ _ _
  · exact fun r n => x1_ld 0 0 rfl x6 (mixBlk x0 x1 x2 x3 x4 x5 x7 x8) x9 inb_S512x2048_S512x256_0_0 inb_S2048x2048_S2048x256_0_0 r n
  · exact fun r n => x1_ld 1 256 rfl x6 (mixBlk x0 x1 x2 x3 x4 x5 x7 x8) x9 inb_S512x2048_S512x256_0_256 inb_S2048x2048_S2048x256_0_256 r n
  · exact fun r n => x1_ld 2 512 rfl x6 (mixBlk x0 x1 x2 x3 x4 x5 x7 x8) x9 inb_S512x2048_S512x256_0_512 inb_S2048x2048_S2048x256_0_512 r n
  · exact fun r n => x1_ld 3 768 rfl x6 (mixBlk x0 x1 x2 x3 x4 x5 x7 x8) x9 inb_S512x2048_S512x256_0_768 inb_S2048x2048_S2048x256_0_768 r n
  · exact fun r n => x1_ld 4 1024 rfl x6 (mixBlk x0 x1 x2 x3 x4 x5 x7 x8) x9 inb_S512x2048_S512x256_0_1024 inb_S2048x2048_S2048x256_0_1024 r n
  · exact fun r n => x1_ld 5 1280 rfl x6 (mixBlk x0 x1 x2 x3 x4 x5 x7 x8) x9 inb_S512x2048_S512x256_0_1280 inb_S2048x2048_S2048x256_0_1280 r n
  · exact fun r n => x1_ld 6 1536 rfl x6 (mixBlk x0 x1 x2 x3 x4 x5 x7 x8) x9 inb_S512x2048_S512x256_0_1536 inb_S2048x2048_S2048x256_0_1536 r n
  · exact fun r n => x1_ld 7 1792 rfl x6 (mixBlk x0 x1 x2 x3 x4 x5 x7 x8) x9 inb_S512x2048_S512x256_0_1792 inb_S2048x2048_S2048x256_0_1792 r n

/-- The normalized block a grid point writes, from the blocks it is handed. -/
theorem out14_eq (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x2048 .f32) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S64x2048 .f32) (harg12 : arg12.IsWhole) (arg13 : Memref sig .tc .vmem S16x2048 .f32) (harg13 : arg13.IsWhole) (arg14 : Memref sig .tc .vmem S512x2048 .f32) (harg14 : arg14.IsWhole) (arg15 : Memref sig .tc .vmem S512x2048 .bf16) (harg15 : arg15.IsWhole) (arg16 : Memref sig .tc .vmem S64x2048 .bf16) (harg16 : arg16.IsWhole) (arg17 : Memref sig .tc .vmem S16x2048 .bf16) (harg17 : arg17.IsWhole) (arg18 : Memref sig .tc .vmem S512x2048 .bf16) (harg18 : arg18.IsWhole)
    (x0 x1 x2 x3 x4 x5 : Vec Ideal S512x1024 .bf16) (x6 : Vec Ideal S512x2048 .f32) (x7 x8 : Vec Ideal S1024x2048 .bf16) (x9 : Vec Ideal S2048x2048 .bf16)
    (x10 : Vec Ideal S1x2048 .f32) (x11 : Vec Ideal S64x2048 .f32) (x12 : Vec Ideal S16x2048 .f32) :
    (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 : S512x2048.Idx → EReal)
      = fun i => normRow (resBlk x0 x1 x2 x3 x4 x5 x6 x7 x8 x9 (i 0)) (fun n => x10 (ix2 0 n)) (i 1) := by
  have inv_apply' := fun r : Fin 512 => inv_apply (mixBlk x0 x1 x2 x3 x4 x5 x7 x8) _ _ _ _ _ _ _ _ _ _ _ _ _ _ _ _ r (resBlk x0 x1 x2 x3 x4 x5 x6 x7 x8 x9 r)
      (x1_ld 0 0 rfl x6 (mixBlk x0 x1 x2 x3 x4 x5 x7 x8) x9 inb_S512x2048_S512x256_0_0 inb_S2048x2048_S2048x256_0_0 r)
      (x1_ld 1 256 rfl x6 (mixBlk x0 x1 x2 x3 x4 x5 x7 x8) x9 inb_S512x2048_S512x256_0_256 inb_S2048x2048_S2048x256_0_256 r)
      (x1_ld 2 512 rfl x6 (mixBlk x0 x1 x2 x3 x4 x5 x7 x8) x9 inb_S512x2048_S512x256_0_512 inb_S2048x2048_S2048x256_0_512 r)
      (x1_ld 3 768 rfl x6 (mixBlk x0 x1 x2 x3 x4 x5 x7 x8) x9 inb_S512x2048_S512x256_0_768 inb_S2048x2048_S2048x256_0_768 r)
      (x1_ld 4 1024 rfl x6 (mixBlk x0 x1 x2 x3 x4 x5 x7 x8) x9 inb_S512x2048_S512x256_0_1024 inb_S2048x2048_S2048x256_0_1024 r)
      (x1_ld 5 1280 rfl x6 (mixBlk x0 x1 x2 x3 x4 x5 x7 x8) x9 inb_S512x2048_S512x256_0_1280 inb_S2048x2048_S2048x256_0_1280 r)
      (x1_ld 6 1536 rfl x6 (mixBlk x0 x1 x2 x3 x4 x5 x7 x8) x9 inb_S512x2048_S512x256_0_1536 inb_S2048x2048_S2048x256_0_1536 r)
      (x1_ld 7 1792 rfl x6 (mixBlk x0 x1 x2 x3 x4 x5 x7 x8) x9 inb_S512x2048_S512x256_0_1792 inb_S2048x2048_S2048x256_0_1792 r)
  frame_open
  simp (disch := decide) only [↓ View.readCov_skip, ↓ View.readCov_cons_toLoadRect, ↓ View.readCov_fill]
  frame_out
  rw [Tiles.read_cols arg18.view (Val := Elt Ideal) (e := .bf16) (mixBlk x0 x1 x2 x3 x4 x5 x7 x8)]
  case h0 => exact fun r n => mix_lo 0 (by decide) 0 0 rfl rfl x0 x1 x2 x3 x4 x5 x7 x8 _ _ _ _ r n
  case h1 => exact fun r n => mix_lo 1 (by decide) 256 256 rfl rfl x0 x1 x2 x3 x4 x5 x7 x8 _ _ _ _ r n
  case h2 => exact fun r n => mix_lo 2 (by decide) 512 512 rfl rfl x0 x1 x2 x3 x4 x5 x7 x8 _ _ _ _ r n
  case h3 => exact fun r n => mix_lo 3 (by decide) 768 768 rfl rfl x0 x1 x2 x3 x4 x5 x7 x8 _ _ _ _ r n
  case h4 => exact fun r n => mix_hi 4 (by decide) 1024 0 rfl rfl x0 x1 x2 x3 x4 x5 x7 x8 _ _ _ _ r n
  case h5 => exact fun r n => mix_hi 5 (by decide) 1280 256 rfl rfl x0 x1 x2 x3 x4 x5 x7 x8 _ _ _ _ r n
  case h6 => exact fun r n => mix_hi 6 (by decide) 1536 512 rfl rfl x0 x1 x2 x3 x4 x5 x7 x8 _ _ _ _ r n
  case h7 => exact fun r n => mix_hi 7 (by decide) 1792 768 rfl rfl x0 x1 x2 x3 x4 x5 x7 x8 _ _ _ _ r n
  refine Tiles.canon_cols (Val := Elt Ideal) (e := .bf16) (fun i => normRow (resBlk x0 x1 x2 x3 x4 x5 x6 x7 x8 x9 (i 0)) (fun n => x10 (ix2 0 n)) (i 1)) _ _ _ _ _ _ _ _ _ ?_ ?_ ?_ ?_ ?_ ?_ ?_ ?_ _ _ _ _ _ _ _ _
  · exact fun r n => (scaled_apply _ _ _ r n).trans (congrArg₂ (· * ·) (congrArg₂ (· * ·) (x1_ld 0 0 rfl x6 (mixBlk x0 x1 x2 x3 x4 x5 x7 x8) x9 inb_S512x2048_S512x256_0_0 inb_S2048x2048_S2048x256_0_0 r n) (inv_apply' r)) (Tiles.ld_cols 0 rfl x10 _ 0 n))
  · exact fun r n => (scaled_apply _ _ _ r n).trans (congrArg₂ (· * ·) (congrArg₂ (· * ·) (x1_ld 1 256 rfl x6 (mixBlk x0 x1 x2 x3 x4 x5 x7 x8) x9 inb_S512x2048_S512x256_0_256 inb_S2048x2048_S2048x256_0_256 r n) (inv_apply' r)) (Tiles.ld_cols 1 rfl x10 _ 0 n))
  · exact fun r n => (scaled_apply _ _ _ r n).trans (congrArg₂ (· * ·) (congrArg₂ (· * ·) (x1_ld 2 512 rfl x6 (mixBlk x0 x1 x2 x3 x4 x5 x7 x8) x9 inb_S512x2048_S512x256_0_512 inb_S2048x2048_S2048x256_0_512 r n) (inv_apply' r)) (Tiles.ld_cols 2 rfl x10 _ 0 n))
  · exact fun r n => (scaled_apply _ _ _ r n).trans (congrArg₂ (· * ·) (congrArg₂ (· * ·) (x1_ld 3 768 rfl x6 (mixBlk x0 x1 x2 x3 x4 x5 x7 x8) x9 inb_S512x2048_S512x256_0_768 inb_S2048x2048_S2048x256_0_768 r n) (inv_apply' r)) (Tiles.ld_cols 3 rfl x10 _ 0 n))
  · exact fun r n => (scaled_apply _ _ _ r n).trans (congrArg₂ (· * ·) (congrArg₂ (· * ·) (x1_ld 4 1024 rfl x6 (mixBlk x0 x1 x2 x3 x4 x5 x7 x8) x9 inb_S512x2048_S512x256_0_1024 inb_S2048x2048_S2048x256_0_1024 r n) (inv_apply' r)) (Tiles.ld_cols 4 rfl x10 _ 0 n))
  · exact fun r n => (scaled_apply _ _ _ r n).trans (congrArg₂ (· * ·) (congrArg₂ (· * ·) (x1_ld 5 1280 rfl x6 (mixBlk x0 x1 x2 x3 x4 x5 x7 x8) x9 inb_S512x2048_S512x256_0_1280 inb_S2048x2048_S2048x256_0_1280 r n) (inv_apply' r)) (Tiles.ld_cols 5 rfl x10 _ 0 n))
  · exact fun r n => (scaled_apply _ _ _ r n).trans (congrArg₂ (· * ·) (congrArg₂ (· * ·) (x1_ld 6 1536 rfl x6 (mixBlk x0 x1 x2 x3 x4 x5 x7 x8) x9 inb_S512x2048_S512x256_0_1536 inb_S2048x2048_S2048x256_0_1536 r n) (inv_apply' r)) (Tiles.ld_cols 6 rfl x10 _ 0 n))
  · exact fun r n => (scaled_apply _ _ _ r n).trans (congrArg₂ (· * ·) (congrArg₂ (· * ·) (x1_ld 7 1792 rfl x6 (mixBlk x0 x1 x2 x3 x4 x5 x7 x8) x9 inb_S512x2048_S512x256_0_1792 inb_S2048x2048_S2048x256_0_1792 r n) (inv_apply' r)) (Tiles.ld_cols 7 rfl x10 _ 0 n))

/-- The slab of the first weight that a grid point writes is the slab it is handed. -/
theorem out15_eq (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x2048 .f32) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S64x2048 .f32) (harg12 : arg12.IsWhole) (arg13 : Memref sig .tc .vmem S16x2048 .f32) (harg13 : arg13.IsWhole) (arg14 : Memref sig .tc .vmem S512x2048 .f32) (harg14 : arg14.IsWhole) (arg15 : Memref sig .tc .vmem S512x2048 .bf16) (harg15 : arg15.IsWhole) (arg16 : Memref sig .tc .vmem S64x2048 .bf16) (harg16 : arg16.IsWhole) (arg17 : Memref sig .tc .vmem S16x2048 .bf16) (harg17 : arg17.IsWhole) (arg18 : Memref sig .tc .vmem S512x2048 .bf16) (harg18 : arg18.IsWhole)
    (x0 x1 x2 x3 x4 x5 : Vec Ideal S512x1024 .bf16) (x6 : Vec Ideal S512x2048 .f32) (x7 x8 : Vec Ideal S1024x2048 .bf16) (x9 : Vec Ideal S2048x2048 .bf16)
    (x10 : Vec Ideal S1x2048 .f32) (x11 : Vec Ideal S64x2048 .f32) (x12 : Vec Ideal S16x2048 .f32) :
    (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 : S64x2048.Idx → EReal) = x11 := by
  frame_out
  funext i
  obtain ⟨a, b, rfl⟩ : ∃ a b, i = ix2 a b := ⟨i 0, i 1, eq_ix2 i⟩
  pointwise [k0_pay4]

/-- The slab of the second weight that a grid point writes is the slab it is handed. -/
theorem out16_eq (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x2048 .f32) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S64x2048 .f32) (harg12 : arg12.IsWhole) (arg13 : Memref sig .tc .vmem S16x2048 .f32) (harg13 : arg13.IsWhole) (arg14 : Memref sig .tc .vmem S512x2048 .f32) (harg14 : arg14.IsWhole) (arg15 : Memref sig .tc .vmem S512x2048 .bf16) (harg15 : arg15.IsWhole) (arg16 : Memref sig .tc .vmem S64x2048 .bf16) (harg16 : arg16.IsWhole) (arg17 : Memref sig .tc .vmem S16x2048 .bf16) (harg17 : arg17.IsWhole) (arg18 : Memref sig .tc .vmem S512x2048 .bf16) (harg18 : arg18.IsWhole)
    (x0 x1 x2 x3 x4 x5 : Vec Ideal S512x1024 .bf16) (x6 : Vec Ideal S512x2048 .f32) (x7 x8 : Vec Ideal S1024x2048 .bf16) (x9 : Vec Ideal S2048x2048 .bf16)
    (x10 : Vec Ideal S1x2048 .f32) (x11 : Vec Ideal S64x2048 .f32) (x12 : Vec Ideal S16x2048 .f32) :
    (out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 : S16x2048.Idx → EReal) = x12 := by
  frame_out
  funext i
  obtain ⟨a, b, rfl⟩ : ∃ a b, i = ix2 a b := ⟨i 0, i 1, eq_ix2 i⟩
  pointwise [k0_pay5]

/-! ## Where the blocks lie -/

theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![t.val, 7] := (by decide +kernel : ∀ t : Fin grid0.N, win0_2.index t = ![t.val, 7])
theorem at3 : ∀ t : Fin cfg0.N, win0_3.index t = ![t.val, 8] := (by decide +kernel : ∀ t : Fin grid0.N, win0_3.index t = ![t.val, 8])
theorem at4 : ∀ t : Fin cfg0.N, win0_4.index t = ![t.val, 9] := (by decide +kernel : ∀ t : Fin grid0.N, win0_4.index t = ![t.val, 9])
theorem at5 : ∀ t : Fin cfg0.N, win0_5.index t = ![t.val, 10] := (by decide +kernel : ∀ t : Fin grid0.N, win0_5.index t = ![t.val, 10])
theorem at6 : ∀ t : Fin cfg0.N, win0_6.index t = ![t.val, 0] := (by decide +kernel : ∀ t : Fin grid0.N, win0_6.index t = ![t.val, 0])
theorem at7 : ∀ t : Fin cfg0.N, win0_7.index t = ![0, 0] := (by decide +kernel : ∀ t : Fin grid0.N, win0_7.index t = ![0, 0])
theorem at8 : ∀ t : Fin cfg0.N, win0_8.index t = ![0, 0] := (by decide +kernel : ∀ t : Fin grid0.N, win0_8.index t = ![0, 0])
theorem at9 : ∀ t : Fin cfg0.N, win0_9.index t = ![0, 0] := (by decide +kernel : ∀ t : Fin grid0.N, win0_9.index t = ![0, 0])
theorem at10 : ∀ t : Fin cfg0.N, win0_10.index t = ![0, 0] := (by decide +kernel : ∀ t : Fin grid0.N, win0_10.index t = ![0, 0])
theorem at11 : ∀ t : Fin cfg0.N, win0_11.index t = ![t.val, 0] := (by decide +kernel : ∀ t : Fin grid0.N, win0_11.index t = ![t.val, 0])
theorem at12 : ∀ t : Fin cfg0.N, win0_12.index t = ![min t.val 15, 0] := (by decide +kernel : ∀ t : Fin grid0.N, win0_12.index t = ![min t.val 15, 0])
theorem at13 : ∀ t : Fin cfg0.N, win0_13.index t = ![t.val, 0] := (by decide +kernel : ∀ t : Fin grid0.N, win0_13.index t = ![t.val, 0])
theorem at14 : ∀ t : Fin cfg0.N, win0_14.index t = ![t.val, 0] := (by decide +kernel : ∀ t : Fin grid0.N, win0_14.index t = ![t.val, 0])
theorem at15 : ∀ t : Fin cfg0.N, win0_15.index t = ![t.val, 0] := (by decide +kernel : ∀ t : Fin grid0.N, win0_15.index t = ![t.val, 0])
theorem at16 : ∀ t : Fin cfg0.N, win0_16.index t = ![min t.val 15, 0] := (by decide +kernel : ∀ t : Fin grid0.N, win0_16.index t = ![min t.val 15, 0])

theorem lt_N (t : Fin cfg0.N) : t.val < 32 := lt_of_lt_of_eq t.isLt N_0

variable (m : (ℓ : Loc nD τ sig) → Buf (Elt Ideal) ℓ) (c : Dev nD)

/-- Row `r` of the block of point `t`. -/
def rowAt (t : Fin cfg0.N) (r : Fin 512) : Fin 16384 := ⟨t.val * 512 + r.val, by have := lt_N t; omega⟩

theorem iblk0_apply (t : Fin cfg0.N) (r : Fin 512) (k : Fin 1024) : iblk m c 0 t (ix2 r k) = V m c main_v1 (ix2 (rowAt t r) k) := by
  unfold iblk
  blk_simp
  refine congrArg (V m c main_v1) ?_
  blk_ext [at0, rowAt]

theorem iblk1_apply (t : Fin cfg0.N) (r : Fin 512) (k : Fin 1024) : iblk m c 1 t (ix2 r k) = V m c main_v2 (ix2 (rowAt t r) k) := by
  unfold iblk
  blk_simp
  refine congrArg (V m c main_v2) ?_
  blk_ext [at1, rowAt]

theorem iblk2_apply (t : Fin cfg0.N) (r : Fin 512) (k : Fin 1024) : iblk m c 2 t (ix2 r k) = V m c main_arg2 (ix2 (rowAt t r) ⟨7168 + k.val, by omega⟩) := by
  unfold iblk
  blk_simp
  refine congrArg (V m c main_arg2) ?_
  blk_ext [at2, rowAt]

theorem iblk3_apply (t : Fin cfg0.N) (r : Fin 512) (k : Fin 1024) : iblk m c 3 t (ix2 r k) = V m c main_arg2 (ix2 (rowAt t r) ⟨8192 + k.val, by omega⟩) := by
  unfold iblk
  blk_simp
  refine congrArg (V m c main_arg2) ?_
  blk_ext [at3, rowAt]

theorem iblk4_apply (t : Fin cfg0.N) (r : Fin 512) (k : Fin 1024) : iblk m c 4 t (ix2 r k) = V m c main_arg2 (ix2 (rowAt t r) ⟨9216 + k.val, by omega⟩) := by
  unfold iblk
  blk_simp
  refine congrArg (V m c main_arg2) ?_
  blk_ext [at4, rowAt]

theorem iblk5_apply (t : Fin cfg0.N) (r : Fin 512) (k : Fin 1024) : iblk m c 5 t (ix2 r k) = V m c main_arg2 (ix2 (rowAt t r) ⟨10240 + k.val, by omega⟩) := by
  unfold iblk
  blk_simp
  refine congrArg (V m c main_arg2) ?_
  blk_ext [at5, rowAt]

theorem iblk6_apply (t : Fin cfg0.N) (r : Fin 512) (k : Fin 2048) : iblk m c 6 t (ix2 r k) = V m c main_v0 (ix2 (rowAt t r) k) := by
  unfold iblk
  blk_simp
  refine congrArg (V m c main_v0) ?_
  blk_ext [at6, rowAt]

theorem iblk7_apply (t : Fin cfg0.N) (k : Fin 1024) (n : Fin 2048) : iblk m c 7 t (ix2 k n) = V m c main_arg4 (ix2 k n) := by
  unfold iblk
  blk_simp
  refine congrArg (V m c main_arg4) ?_
  blk_ext [at7]

theorem iblk8_apply (t : Fin cfg0.N) (k : Fin 1024) (n : Fin 2048) : iblk m c 8 t (ix2 k n) = V m c main_arg5 (ix2 k n) := by
  unfold iblk
  blk_simp
  refine congrArg (V m c main_arg5) ?_
  blk_ext [at8]

theorem iblk9_apply (t : Fin cfg0.N) (k : Fin 2048) (n : Fin 2048) : iblk m c 9 t (ix2 k n) = V m c main_arg6 (ix2 k n) := by
  unfold iblk
  blk_simp
  refine congrArg (V m c main_arg6) ?_
  blk_ext [at9]

theorem iblk10_apply (t : Fin cfg0.N) (k : Fin 1) (n : Fin 2048) : iblk m c 10 t (ix2 k n) = V m c main_v4 (ix2 k n) := by
  unfold iblk
  blk_simp
  refine congrArg (V m c main_v4) ?_
  blk_ext [at10]

theorem iblk11_apply (t : Fin cfg0.N) (r : Fin 64) (k : Fin 2048) : iblk m c 11 t (ix2 r k) = V m c main_v5 (ix2 ⟨t.val * 64 + r.val, by have := lt_N t; omega⟩ k) := by
  unfold iblk
  blk_simp
  refine congrArg (V m c main_v5) ?_
  blk_ext [at11]

theorem iblk12_apply (t : Fin cfg0.N) (r : Fin 16) (k : Fin 2048) : iblk m c 12 t (ix2 r k) = V m c main_v6 (ix2 ⟨min t.val 15 * 16 + r.val, by omega⟩ k) := by
  unfold iblk
  blk_simp
  refine congrArg (V m c main_v6) ?_
  blk_ext [at12]

/-! ## The arrays -/

/-- The merged rows, from the arrays the call is handed. -/
def mixArr : Fin 16384 → Fin 2048 → EReal :=
  mixRow (V m c main_v1) (V m c main_v2) (fun r n => V m c main_arg2 (ix2 r ⟨7168 + n.val, by omega⟩)) (fun r n => V m c main_arg2 (ix2 r ⟨9216 + n.val, by omega⟩))
    (V m c main_arg4) (V m c main_arg5)

/-- The residual rows, from the arrays the call is handed. -/
def resArr : Fin 16384 → Fin 2048 → EReal := resRow (V m c main_v0) (mixArr m c) (V m c main_arg6)

/-- A gate's row in two halves is the row. -/
theorem gate_join (a b : S512x1024.Idx → EReal) (P : S16384x11264.Idx → EReal) (s : ℕ) (hs : s + 2048 ≤ 11264) (r : Fin 512) (R : Fin 16384)
    (ha : ∀ k : Fin 1024, a (ix2 r k) = P (ix2 R ⟨s + k.val, by omega⟩)) (hb : ∀ k : Fin 1024, b (ix2 r k) = P (ix2 R ⟨s + 1024 + k.val, by omega⟩))
    (n : Fin 2048) : gateOf a b r n = P (ix2 R ⟨s + n.val, by omega⟩) := by
  unfold gateOf
  split
  · exact ha _
  · exact (hb _).trans (congrArg (fun q => P (ix2 R q)) (Fin.ext (by show s + 1024 + (n.val - 1024) = s + n.val; omega)))

/-- A row of a block is that row of the arrays. -/
theorem res_row (x0 x1 x2 x3 x4 x5 : S512x1024.Idx → EReal) (x6 : S512x2048.Idx → EReal) (x7 x8 : S1024x2048.Idx → EReal) (x9 : S2048x2048.Idx → EReal)
    (r : Fin 512) (R : Fin 16384) (h0 : ∀ k, x0 (ix2 r k) = V m c main_v1 (ix2 R k)) (h1 : ∀ k, x1 (ix2 r k) = V m c main_v2 (ix2 R k))
    (ha : ∀ n, gateOf x2 x3 r n = V m c main_arg2 (ix2 R ⟨7168 + n.val, by omega⟩)) (hb : ∀ n, gateOf x4 x5 r n = V m c main_arg2 (ix2 R ⟨9216 + n.val, by omega⟩))
    (h6 : ∀ k, x6 (ix2 r k) = V m c main_v0 (ix2 R k)) (h7 : ∀ k n, x7 (ix2 k n) = V m c main_arg4 (ix2 k n))
    (h8 : ∀ k n, x8 (ix2 k n) = V m c main_arg5 (ix2 k n)) (h9 : ∀ k n, x9 (ix2 k n) = V m c main_arg6 (ix2 k n)) :
    resBlk x0 x1 x2 x3 x4 x5 x6 x7 x8 x9 r = resArr m c R := by
  funext n
  unfold resBlk resArr resRow mixArr mixRow
  simp only [h0, h1, ha, hb, h6, h7, h8, h9]

theorem res_point (t : Fin cfg0.N) (r : Fin 512) :
    resBlk (iblk m c 0 t) (iblk m c 1 t) (iblk m c 2 t) (iblk m c 3 t) (iblk m c 4 t) (iblk m c 5 t) (iblk m c 6 t) (iblk m c 7 t) (iblk m c 8 t) (iblk m c 9 t) r
      = resArr m c (rowAt t r) :=
  res_row m c _ _ _ _ _ _ _ _ _ _ r (rowAt t r) (iblk0_apply m c t r) (iblk1_apply m c t r)
    (gate_join _ _ _ 7168 (by omega) r _ (iblk2_apply m c t r) (iblk3_apply m c t r))
    (gate_join _ _ _ 9216 (by omega) r _ (iblk4_apply m c t r) (iblk5_apply m c t r))
    (iblk6_apply m c t r) (iblk7_apply m c t) (iblk8_apply m c t) (iblk9_apply m c t)

theorem outs13_apply (t : Fin cfg0.N) (r : Fin 512) (n : Fin 2048) : (outsAt0 m c t).1 (ix2 r n) = resArr m c (rowAt t r) n := by
  unfold outsAt0
  dsimp only
  exact (congrFun (out13_eq c _ _ _ _ _ _ _ _ _ _ _ _ _ _ _ _ _ _ _ _ _ _ _ _ _ _ _ _ _ _ _ _ _ _ _ _ _ _ _ _ _ _ _ _ _ _ _ _ _ _) (ix2 r n)).trans (congrFun (res_point m c t r) n)

theorem outs14_apply (t : Fin cfg0.N) (r : Fin 512) (n : Fin 2048) :
    (outsAt0 m c t).2.1 (ix2 r n) = normRow (resArr m c (rowAt t r)) (fun n => V m c main_v4 (ix2 0 n)) n := by
  unfold outsAt0
  dsimp only
  refine (congrFun (out14_eq c _ _ _ _ _ _ _ _ _ _ _ _ _ _ _ _ _ _ _ _ _ _ _ _ _ _ _ _ _ _ _ _ _ _ _ _ _ _ _ _ _ _ _ _ _ _ _ _ _ _) (ix2 r n)).trans ?_
  exact congrArg₂ (fun T g => normRow T g n) (res_point m c t r) (funext fun n => iblk10_apply m c t 0 n)

theorem outs15_apply (t : Fin cfg0.N) (r : Fin 64) (n : Fin 2048) :
    (outsAt0 m c t).2.2.1 (ix2 r n) = V m c main_v5 (ix2 ⟨t.val * 64 + r.val, by have := lt_N t; omega⟩ n) := by
  unfold outsAt0
  dsimp only
  exact (congrFun (out15_eq c _ _ _ _ _ _ _ _ _ _ _ _ _ _ _ _ _ _ _ _ _ _ _ _ _ _ _ _ _ _ _ _ _ _ _ _ _ _ _ _ _ _ _ _ _ _ _ _ _ _) (ix2 r n)).trans (iblk11_apply m c t r n)

theorem outs16_apply (t : Fin cfg0.N) (r : Fin 16) (n : Fin 2048) :
    (outsAt0 m c t).2.2.2 (ix2 r n) = V m c main_v6 (ix2 ⟨min t.val 15 * 16 + r.val, by omega⟩ n) := by
  unfold outsAt0
  dsimp only
  exact (congrFun (out16_eq c _ _ _ _ _ _ _ _ _ _ _ _ _ _ _ _ _ _ _ _ _ _ _ _ _ _ _ _ _ _ _ _ _ _ _ _ _ _ _ _ _ _ _ _ _ _ _ _ _ _) (ix2 r n)).trans (iblk12_apply m c t r n)

/-- The last block of the second weight stays in its buffer until the run ends; each block before it is written when the next is due. -/
theorem flush16 : ∀ t : Fin cfg0.N, t.val < 15 ∨ t.val = 31 → (cfg0.win 16).flush t = true :=
  (by decide +kernel : ∀ t : Fin grid0.N, t.val < 15 ∨ t.val = 31 → win0_16.flush t = true)

/-- The residual stream after the run. -/
theorem arr13 : ((dats m 0 c).arrAt 13 cfg0.N : (⟨2, ![16384, 2048]⟩ : Shape).Idx → EReal) = (fun i => resArr m c (i 0) (i 1)) := by
  refine funext fun i => ?_
  have hi0 : (i 0).val < 16384 := (i 0).isLt
  have hi1 : (i 1).val < 2048 := (i 1).isLt
  obtain ⟨t, ht⟩ : ∃ t : Fin cfg0.N, t.val = (i 0).val / 512 :=
    ⟨⟨(i 0).val / 512, lt_of_lt_of_eq (by omega) N_0.symm⟩, rfl⟩
  refine (dats m 0 c).arrAt_forall_of_flushed 13 (fun i v => v = ((fun i => resArr m c (i 0) (i 1)) : (⟨2, ![16384, 2048]⟩ : Shape).Idx → EReal) i) ?_ cfg0.N t i t.isLt ?_ ?_
  · intro t hf y
    idx_bounds y
    have hN := lt_N t
    have ey : (win0_13.blk t).view.emb y = ix2 (rowAt t (y 0)) (y 1) := by
      blk_ext [at13, rowAt]
    blk_simp
    rw [after0_13]
    refine Eq.trans ?_ (congrArg ((fun i => resArr m c (i 0) (i 1)) : (⟨2, ![16384, 2048]⟩ : Shape).Idx → EReal) ey).symm
    exact (congrArg _ (eq_ix2 y)).trans (outs13_apply m c t (y 0) (y 1))
  · exact flush0_13 t
  · skip
    mem_blk [at13]
    exact ⟨⟨by omega, by omega⟩, by omega, by omega⟩

/-- The normalized rows after the run. -/
theorem arr14 : ((dats m 0 c).arrAt 14 cfg0.N : (⟨2, ![16384, 2048]⟩ : Shape).Idx → EReal) = (fun i => normRow (resArr m c (i 0)) (fun n => V m c main_v4 (ix2 0 n)) (i 1)) := by
  refine funext fun i => ?_
  have hi0 : (i 0).val < 16384 := (i 0).isLt
  have hi1 : (i 1).val < 2048 := (i 1).isLt
  obtain ⟨t, ht⟩ : ∃ t : Fin cfg0.N, t.val = (i 0).val / 512 :=
    ⟨⟨(i 0).val / 512, lt_of_lt_of_eq (by omega) N_0.symm⟩, rfl⟩
  refine (dats m 0 c).arrAt_forall_of_flushed 14 (fun i v => v = ((fun i => normRow (resArr m c (i 0)) (fun n => V m c main_v4 (ix2 0 n)) (i 1)) : (⟨2, ![16384, 2048]⟩ : Shape).Idx → EReal) i) ?_ cfg0.N t i t.isLt ?_ ?_
  · intro t hf y
    idx_bounds y
    have hN := lt_N t
    have ey : (win0_14.blk t).view.emb y = ix2 (rowAt t (y 0)) (y 1) := by
      blk_ext [at14, rowAt]
    blk_simp
    rw [after0_14]
    refine Eq.trans ?_ (congrArg ((fun i => normRow (resArr m c (i 0)) (fun n => V m c main_v4 (ix2 0 n)) (i 1)) : (⟨2, ![16384, 2048]⟩ : Shape).Idx → EReal) ey).symm
    exact (congrArg _ (eq_ix2 y)).trans (outs14_apply m c t (y 0) (y 1))
  · exact flush0_14 t
  · skip
    mem_blk [at14]
    exact ⟨⟨by omega, by omega⟩, by omega, by omega⟩

/-- The first weight's copy after the run. -/
theorem arr15 : ((dats m 0 c).arrAt 15 cfg0.N : (⟨2, ![2048, 2048]⟩ : Shape).Idx → EReal) = V m c main_v5 := by
  refine funext fun i => ?_
  have hi0 : (i 0).val < 2048 := (i 0).isLt
  have hi1 : (i 1).val < 2048 := (i 1).isLt
  obtain ⟨t, ht⟩ : ∃ t : Fin cfg0.N, t.val = (i 0).val / 64 :=
    ⟨⟨(i 0).val / 64, lt_of_lt_of_eq (by omega) N_0.symm⟩, rfl⟩
  refine (dats m 0 c).arrAt_forall_of_flushed 15 (fun i v => v = (V m c main_v5 : (⟨2, ![2048, 2048]⟩ : Shape).Idx → EReal) i) ?_ cfg0.N t i t.isLt ?_ ?_
  · intro t hf y
    idx_bounds y
    have hN := lt_N t
    have ey : (win0_15.blk t).view.emb y = ix2 ⟨t.val * 64 + (y 0).val, by omega⟩ (y 1) := by
      blk_ext [at15]
    blk_simp
    rw [after0_15]
    refine Eq.trans ?_ (congrArg (V m c main_v5 : (⟨2, ![2048, 2048]⟩ : Shape).Idx → EReal) ey).symm
    exact (congrArg _ (eq_ix2 y)).trans (outs15_apply m c t (y 0) (y 1))
  · exact flush0_15 t
  · skip
    mem_blk [at15]
    exact ⟨⟨by omega, by omega⟩, by omega, by omega⟩

/-- The second weight's copy after the run. -/
theorem arr16 : ((dats m 0 c).arrAt 16 cfg0.N : (⟨2, ![256, 2048]⟩ : Shape).Idx → EReal) = V m c main_v6 := by
  refine funext fun i => ?_
  have hi0 : (i 0).val < 256 := (i 0).isLt
  have hi1 : (i 1).val < 2048 := (i 1).isLt
  obtain ⟨t, ht⟩ : ∃ t : Fin cfg0.N, t.val = if (i 0).val / 16 < 15 then (i 0).val / 16 else 31 :=
    ⟨⟨if (i 0).val / 16 < 15 then (i 0).val / 16 else 31, lt_of_lt_of_eq (by split <;> omega) N_0.symm⟩, rfl⟩
  refine (dats m 0 c).arrAt_forall_of_flushed 16 (fun i v => v = (V m c main_v6 : (⟨2, ![256, 2048]⟩ : Shape).Idx → EReal) i) ?_ cfg0.N t i t.isLt ?_ ?_
  · intro t hf y
    idx_bounds y
    have hN := lt_N t
    have ey : (win0_16.blk t).view.emb y = ix2 ⟨min t.val 15 * 16 + (y 0).val, by omega⟩ (y 1) := by
      blk_ext [at16]
    blk_simp
    rw [after0_16]
    refine Eq.trans ?_ (congrArg (V m c main_v6 : (⟨2, ![256, 2048]⟩ : Shape).Idx → EReal) ey).symm
    exact (congrArg _ (eq_ix2 y)).trans (outs16_apply m c t (y 0) (y 1))
  · exact flush16 t (by rw [ht]; split <;> omega)
  · have ht' : min t.val 15 = (i 0).val / 16 := by rw [ht]; split <;> omega
    mem_blk [at16]
    exact ⟨⟨by omega, by omega⟩, by omega, by omega⟩

/-! ## The reference -/

open Cert.MixReferenceIdeal.Read in
/-- The reference's merged rows. -/
theorem ref_mix (x0 x1 : Vec Ideal S8x2048x1024 .bf16) (x2 : Vec Ideal S16384x11264 .bf16) (x4 x5 : Vec Ideal S1024x2048 .bf16) (r : Fin 16384) (n : Fin 2048) :
    val_main_v26 (F := Ideal) x0 x1 x2 x4 x5 (ix2 r n) = mixRow (val_main_v0 (F := Ideal) x0) (val_main_v2 (F := Ideal) x1)
      (fun r n => x2 (ix2 r ⟨7168 + n.val, by omega⟩)) (fun r n => x2 (ix2 r ⟨9216 + n.val, by omega⟩)) x4 x5 r n := by
  have ea : val_main_v6 (F := Ideal) x2 (ix2 r n) = x2 (ix2 r ⟨7168 + n.val, by omega⟩) := by
    pointwise [val_main_v6, val_main_v5, val_main_v4]
  have eb : val_main_v7 (F := Ideal) x2 (ix2 r n) = x2 (ix2 r ⟨9216 + n.val, by omega⟩) := by
    pointwise [val_main_v7, val_main_v5, val_main_v4]
    exact congrArg (fun q => x2 (ix2 r q)) (Fin.ext (by show 7168 + (2048 + n.val) = 9216 + n.val; omega))
  unfold mixRow Ideal.logistic
  beta_reduce
  rw [← ea, ← eb]
  pointwise [val_main_v1, val_main_v3, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2]

open Cert.MixReferenceIdeal.Read in
/-- The reference's residual rows. -/
theorem ref_res (x0 x1 : Vec Ideal S8x2048x1024 .bf16) (x2 : Vec Ideal S16384x11264 .bf16) (x3 : Vec Ideal S8x2048x2048 .f32) (x4 x5 : Vec Ideal S1024x2048 .bf16)
    (x6 : Vec Ideal S2048x2048 .bf16) (r : Fin 16384) (n : Fin 2048) :
    val_main_v30 (F := Ideal) x0 x1 x2 x3 x4 x5 x6 (ix2 r n) = resRow (val_main_v27 (F := Ideal) x3) (mixRow (val_main_v0 (F := Ideal) x0) (val_main_v2 (F := Ideal) x1)
      (fun r n => x2 (ix2 r ⟨7168 + n.val, by omega⟩)) (fun r n => x2 (ix2 r ⟨9216 + n.val, by omega⟩)) x4 x5) x6 r n := by
  have e : val_main_v30 (F := Ideal) x0 x1 x2 x3 x4 x5 x6 (ix2 r n)
      = val_main_v27 (F := Ideal) x3 (ix2 r n) + ∑ k : Fin 2048, val_main_v26 (F := Ideal) x0 x1 x2 x4 x5 (ix2 r k) * x6 (ix2 k n) := by
    pointwise [val_main_v28, val_main_v29, val_main_v30]
  rw [e]
  unfold resRow
  simp only [ref_mix]

open Cert.MixReferenceIdeal.Read in
/-- The reference's normalized rows, from its residual rows. -/
theorem ref_norm (x0 x1 : Vec Ideal S8x2048x1024 .bf16) (x2 : Vec Ideal S16384x11264 .bf16) (x3 : Vec Ideal S8x2048x2048 .f32) (x4 x5 : Vec Ideal S1024x2048 .bf16)
    (x6 : Vec Ideal S2048x2048 .bf16) (x7 : Vec Ideal S1x2048 .f32) (r : Fin 16384) (n : Fin 2048) :
    val_main_v45 (F := Ideal) x0 x1 x2 x3 x4 x5 x6 x7 (ix2 r n)
      = normRow (fun n => val_main_v30 (F := Ideal) x0 x1 x2 x3 x4 x5 x6 (ix2 r n)) (fun n => val_main_v42 (F := Ideal) x7 (ix2 0 n)) n := by
  unfold normRow Tiles.invRms
  pointwise [val_main_v32, val_main_v33, val_main_v34, val_main_v35, val_main_v36, val_main_v37, val_main_v38, val_main_v39, val_main_v40, val_main_v41, val_main_v43, val_main_v44, val_main_v45, val_main_cst_3, val_main_cst_4, val_main_cst_5]

/-! ## The arrays as the call is handed them -/

theorem V_v0 : V m c main_v0 = Cert.MixReferenceIdeal.Read.val_main_v27 (F := Ideal) (m ((c : Thread nD τ).loc main_arg3)) := by
  show StableHlo.after hostOps0 (fun b => m (c, b)) main_v0 = _
  after_results <;> rfl

theorem V_v1 : V m c main_v1 = Cert.MixReferenceIdeal.Read.val_main_v0 (F := Ideal) (m ((c : Thread nD τ).loc main_arg0)) := by
  show StableHlo.after hostOps0 (fun b => m (c, b)) main_v1 = _
  after_results <;> rfl

theorem V_v2 : V m c main_v2 = Cert.MixReferenceIdeal.Read.val_main_v2 (F := Ideal) (m ((c : Thread nD τ).loc main_arg1)) := by
  show StableHlo.after hostOps0 (fun b => m (c, b)) main_v2 = _
  after_results <;> rfl

theorem V_v4 : V m c main_v4 = Cert.MixReferenceIdeal.Read.val_main_v42 (F := Ideal) (m ((c : Thread nD τ).loc main_arg7)) := by
  show StableHlo.after hostOps0 (fun b => m (c, b)) main_v4 = _
  after_results <;> rfl

theorem V_v5 : V m c main_v5 = Cert.MixReferenceIdeal.Read.val_main_v46 (F := Ideal) (m ((c : Thread nD τ).loc main_arg8)) := by
  show StableHlo.after hostOps0 (fun b => m (c, b)) main_v5 = _
  after_results <;> rfl

theorem V_v6 : V m c main_v6 = Cert.MixReferenceIdeal.Read.val_main_v48 (F := Ideal) (m ((c : Thread nD τ).loc main_arg9)) := by
  show StableHlo.after hostOps0 (fun b => m (c, b)) main_v6 = _
  after_results <;> rfl

/-- The residual rows are the reference's. -/
theorem resArr_eq (r : Fin 16384) (n : Fin 2048) : resArr m c r n = Cert.MixReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r n) := by
  rw [ref_res]
  unfold resArr mixArr
  rw [V_v0, V_v1, V_v2, V_main_arg2 m c, V_main_arg4 m c, V_main_arg5 m c, V_main_arg6 m c]

/-- The residual stream after the run is the reference's. -/
theorem res0_eq : ((dats m 0 c).arrAt 13 cfg0.N : S16384x2048.Idx → EReal) = Cert.MixReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (arr13 m c).trans (funext fun i => ?_)
  exact (resArr_eq m c (i 0) (i 1)).trans (congrArg _ (eq_ix2 i).symm)

/-- The normalized rows after the run are the reference's. -/
theorem res1_eq : ((dats m 0 c).arrAt 14 cfg0.N : S16384x2048.Idx → EReal) = Cert.MixReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (arr14 m c).trans (funext fun i => ?_)
  refine Eq.trans ?_ (congrArg _ (eq_ix2 i).symm)
  refine Eq.trans ?_ (ref_norm _ _ _ _ _ _ _ _ (i 0) (i 1)).symm
  exact congrArg₂ (fun T g => normRow T g (i 1)) (funext fun n => resArr_eq m c (i 0) n) (funext fun n => congrFun (V_v4 m c) (ix2 0 n))

/-- The first weight's copy after the run is the reference's. -/
theorem res2_eq : ((dats m 0 c).arrAt 15 cfg0.N : S2048x2048.Idx → EReal) = Cert.MixReferenceIdeal.Read.val_main_v47 (F := Ideal) (m ((c : Thread nD τ).loc main_arg8)) :=
  (arr15 m c).trans (V_v5 m c)

/-- The second weight's copy after the run is the reference's. -/
theorem res3_eq : ((dats m 0 c).arrAt 16 cfg0.N : S256x2048.Idx → EReal) = Cert.MixReferenceIdeal.Read.val_main_v49 (F := Ideal) (m ((c : Thread nD τ).loc main_arg9)) :=
  (arr16 m c).trans (V_v6 m c)

end Cert.Proof.Mix

end
-- ==== Proof.lean ====
/-
The claims of the certificate.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Launch
public import proofs.«01_k».proof.Proof.Join
public import proofs.«01_k».proof.Proof.Same
public import Idealize.ShloMosaic.Lib.Quiescent
public import proofs.«01_k».proof.Proof.Gen.Ffn.Frame
public import proofs.«01_k».proof.Proof.Ffn
public import proofs.«01_k».proof.Proof.Gen.FfnIdeal.Value
public import proofs.«01_k».proof.Proof.Gen.FfnReferenceIdeal.Read
public import proofs.«01_k».proof.Proof.Gen.Ple.Frame
public import proofs.«01_k».proof.Proof.Ple
public import proofs.«01_k».proof.Proof.Gen.PleIdeal.Value
public import proofs.«01_k».proof.Proof.Gen.PleReferenceIdeal.Read
public import proofs.«01_k».proof.Proof.Gen.Hgrn.Frame
public import proofs.«01_k».proof.Proof.Gen.HgrnIdeal.Value
public import proofs.«01_k».proof.Proof.HgrnCall
public import proofs.«01_k».proof.Proof.Gen.Mix.Frame
public import proofs.«01_k».proof.Proof.Mix
public import proofs.«01_k».proof.Proof.Gen.MixIdeal.Value
public import proofs.«01_k».proof.Proof.Gen.MixReferenceIdeal.Read
public import proofs.«01_k».proof.Proof.Gen.ReferenceIdeal.Read

@[expose] public section

noncomputable section

namespace Cert.Proof

open Idealize.ShloMosaic Idealize.ShloMosaic.TcCoe Idealize.SL.Sem

/-- At the ideal instance the input projection runs to the end, its arguments as launched, every counter at zero. -/
theorem frame_kernelIdeal : Cert.quiescent_KernelIdeal := fun m ρ _ =>
  (θ_run Cert.KernelIdeal.defs _ _).mono (fun _ h => ⟨fun c => (h.1 c).2.2.2, h.2⟩) (InProj.run_out (F := Ideal) m ρ)

/-- The same at the bits: the two programs have one text. -/
theorem frame_kernel : Cert.quiescent_Kernel := by
  intro m ρ _
  rw [InProj.main_eq, InProj.defs_eq]
  exact (θ_run Cert.KernelIdeal.defs _ _).mono (fun _ h => ⟨fun c => (h.1 c).2.2.2, h.2⟩) (InProj.run_out (F := Bits) m ρ)

/-- The reference runs to the end, its arguments as launched, every counter at zero. -/
theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

/-- From equal arguments the kernel's three results are the reference's. -/
theorem algebraic : Cert.algebraic_KernelIdeal_ReferenceIdeal := by
  intro m g m' g' _ harg
  refine ⟨fun c => (InProj.dat1 (InProj.W3 m) c).arrAt 4 Cert.KernelIdeal.cfg1.N, fun c => (InProj.dat1 (InProj.W3 m) c).arrAt 5 Cert.KernelIdeal.cfg1.N,
    fun c => (InProj.dat1 (InProj.W3 m) c).arrAt 6 Cert.KernelIdeal.cfg1.N,
    (θ_run Cert.KernelIdeal.defs _ _).mono (fun _ h => h.1) (InProj.run_out (F := Ideal) m g),
    (θ_run Cert.ReferenceIdeal.defs _ _).mono (fun _ h c => ?_) (Cert.ReferenceIdeal.Value.run m' g')⟩
  obtain ⟨e0, e1, e2, e3⟩ := harg c
  obtain ⟨h0, h1, h2, ha⟩ := h c
  refine ⟨h0.trans ?_, h1.trans ?_, h2.trans ?_, ha⟩
  · rw [e0, e1, e2]; exact (InProj.res_eq m c).symm
  · rw [e0, e1, e2]; exact (InProj.fb_eq m c).symm
  · rw [e3]; exact (InProj.slab_eq m c).symm

/-- At the bits the gated feed-forward call runs to the end, its arguments as launched, every counter at zero. -/
theorem frame_Ffn : Cert.quiescent_Ffn := fun m ρ _ => Cert.Ffn.Gen.frame m ρ

/-- The same at the ideal instance. -/
theorem frame_FfnIdeal : Cert.quiescent_FfnIdeal := fun m ρ _ => Cert.FfnIdeal.Gen.frame m ρ

/-- Its reference runs to the end, its arguments as launched, every counter at zero. -/
theorem frame_FfnReferenceIdeal : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run m ρ)

/-- From equal arguments the gated feed-forward call's result is the reference's. -/
theorem algebraic_Ffn : Cert.algebraic_FfnIdeal_FfnReferenceIdeal := by
  intro m g m' g' _ harg
  refine ⟨fun c => (Cert.FfnIdeal.Gen.dats m 0 c).arrAt 4 Cert.FfnIdeal.cfg0.N,
    Cert.FfnIdeal.Value.run_blocks m g, (θ_run Cert.FfnReferenceIdeal.defs _ _).mono (fun _ h c => ?_) (Cert.FfnReferenceIdeal.Value.run m' g')⟩
  obtain ⟨e0, e1, e2⟩ := harg c
  obtain ⟨h0, ha⟩ := h c
  refine ⟨h0.trans ?_, ha⟩
  · rw [e0, e1, e2]; exact (Ffn.res_eq m c).symm

/-- At the bits the per-layer embedding call runs to the end, its arguments as launched, every counter at zero. -/
theorem frame_Ple : Cert.quiescent_Ple := fun m ρ _ => Cert.Ple.Gen.frame m ρ

/-- The same at the ideal instance. -/
theorem frame_PleIdeal : Cert.quiescent_PleIdeal := fun m ρ _ => Cert.PleIdeal.Gen.frame m ρ

/-- Its reference runs to the end, its arguments as launched, every counter at zero. -/
theorem frame_PleReferenceIdeal : Cert.quiescent_PleReferenceIdeal := fun m ρ _ =>
  (θ_run Cert.PleReferenceIdeal.defs _ _).mono (fun r h => ⟨fun c => (h c).2, sem_eq_zero_of_no_sems (by decide) r.2⟩)
    (Cert.PleReferenceIdeal.Value.run m ρ)

/-- From equal arguments the per-layer embedding call's result is the reference's. -/
theorem algebraic_Ple : Cert.algebraic_PleIdeal_PleReferenceIdeal := by
  intro m g m' g' _ harg
  refine ⟨fun c => (Cert.PleIdeal.Gen.dats m 0 c).arrAt 6 Cert.PleIdeal.cfg0.N,
    Cert.PleIdeal.Value.run_blocks m g, (θ_run Cert.PleReferenceIdeal.defs _ _).mono (fun _ h c => ?_) (Cert.PleReferenceIdeal.Value.run m' g')⟩
  obtain ⟨e0, e1, e2, e3, e4, e5⟩ := harg c
  obtain ⟨h0, ha⟩ := h c
  refine ⟨h0.trans ?_, ha⟩
  · rw [e0, e1, e2, e3, e4, e5]; exact (Ple.res_eq m c).symm

/-- At the bits the mixing call runs to the end, its arguments as launched, every counter at zero. -/
theorem frame_Mix : Cert.quiescent_Mix := fun m ρ _ => Cert.Mix.Gen.frame m ρ

/-- The same at the ideal instance. -/
theorem frame_MixIdeal : Cert.quiescent_MixIdeal := fun m ρ _ => Cert.MixIdeal.Gen.frame m ρ

/-- Its reference runs to the end, its arguments as launched, every counter at zero. -/
theorem frame_MixReferenceIdeal : Cert.quiescent_MixReferenceIdeal := fun m ρ _ =>
  (θ_run Cert.MixReferenceIdeal.defs _ _).mono (fun r h => ⟨fun c => (h c).2.2.2.2, sem_eq_zero_of_no_sems (by decide) r.2⟩)
    (Cert.MixReferenceIdeal.Value.run m ρ)

/-- From equal arguments the mixing call's four results are the reference's. -/
theorem algebraic_Mix : Cert.algebraic_MixIdeal_MixReferenceIdeal := by
  intro m g m' g' _ harg
  refine ⟨fun c => (Cert.MixIdeal.Gen.dats m 0 c).arrAt 13 Cert.MixIdeal.cfg0.N,
    fun c => (Cert.MixIdeal.Gen.dats m 0 c).arrAt 14 Cert.MixIdeal.cfg0.N,
    fun c => (Cert.MixIdeal.Gen.dats m 0 c).arrAt 15 Cert.MixIdeal.cfg0.N,
    fun c => (Cert.MixIdeal.Gen.dats m 0 c).arrAt 16 Cert.MixIdeal.cfg0.N,
    Cert.MixIdeal.Value.run_blocks m g, (θ_run Cert.MixReferenceIdeal.defs _ _).mono (fun _ h c => ?_) (Cert.MixReferenceIdeal.Value.run m' g')⟩
  obtain ⟨e0, e1, e2, e3, e4, e5, e6, e7, e8, e9⟩ := harg c
  obtain ⟨h0, h1, h2, h3, ha⟩ := h c
  refine ⟨h0.trans ?_, h1.trans ?_, h2.trans ?_, h3.trans ?_, ha⟩
  · rw [e0, e1, e2, e3, e4, e5, e6]; exact (Mix.res0_eq m c).symm
  · rw [Cert.MixReferenceIdeal.Read.val_main_v45_eq, e0, e1, e2, e3, e4, e5, e6, e7]; exact (Mix.res1_eq m c).symm
  · rw [e8]; exact (Mix.res2_eq m c).symm
  · rw [e9]; exact (Mix.res3_eq m c).symm

/-- At the bits the recurrence's call runs to the end, its arguments as launched, every counter at zero. -/
theorem frame_Hgrn : Cert.quiescent_Hgrn := fun m ρ _ => Cert.Hgrn.Gen.frame m ρ

/-- The same at the ideal instance. -/
theorem frame_HgrnIdeal : Cert.quiescent_HgrnIdeal := fun m ρ _ => Cert.HgrnIdeal.Gen.frame m ρ

/-- Its reference runs to the end, its arguments as launched, every counter at zero. -/
theorem frame_HgrnReferenceIdeal : Cert.quiescent_HgrnReferenceIdeal := fun m ρ _ =>
  (θ_run Cert.HgrnReferenceIdeal.defs _ _).mono (fun r h => ⟨fun c => (h c).2.2.2.2.2, sem_eq_zero_of_no_sems (by decide) r.2⟩)
    (Cert.HgrnReferenceIdeal.Value.run m ρ)

/-- From equal arguments, no output gate at minus infinity, the recurrence's five results are the reference's. -/
theorem algebraic_Hgrn : Cert.algebraic_HgrnIdeal_HgrnReferenceIdeal_pre_gates_above := by
  intro m g m' g' hpre harg
  refine ⟨fun c => (Cert.HgrnIdeal.Gen.dats m 0 c).arrAt 10 Cert.HgrnIdeal.cfg0.N,
    fun c => (Cert.HgrnIdeal.Gen.dats m 0 c).arrAt 11 Cert.HgrnIdeal.cfg0.N,
    fun c => (Cert.HgrnIdeal.Gen.dats m 0 c).arrAt 12 Cert.HgrnIdeal.cfg0.N,
    fun c => (Cert.HgrnIdeal.Gen.dats m 0 c).arrAt 13 Cert.HgrnIdeal.cfg0.N,
    fun c => (Cert.HgrnIdeal.Gen.dats m 0 c).arrAt 14 Cert.HgrnIdeal.cfg0.N,
    Cert.HgrnIdeal.Value.run_blocks m g, (θ_run Cert.HgrnReferenceIdeal.defs _ _).mono (fun _ h c => ?_) (HgrnRun.run_trips m' g')⟩
  obtain ⟨e0, e1, e2, e3, e4, e5, e6, e7⟩ := harg c
  obtain ⟨h0, h1, h2, h3, h4, ha⟩ := h c
  refine ⟨h0.trans ?_, h1.trans ?_, h2.trans ?_, h3.trans ?_, h4.trans ?_, ha⟩
  · rw [e3]; exact (Hgrn.res0_eq m c (Hgrn.gates_apply m c hpre) m' e0 e1 e2).symm
  · rw [e4]; exact ((Hgrn.arr11 m c).trans (Hgrn.V_v4 m c _)).symm
  · rw [e5]; exact ((Hgrn.arr12 m c).trans (Hgrn.V_v5 m c _)).symm
  · rw [e6]; exact ((Hgrn.arr13 m c).trans (Hgrn.V_v6 m c _)).symm
  · rw [e7]; exact ((Hgrn.arr14 m c).trans (Hgrn.V_v7 m c _)).symm

/-- All the claims together. -/
theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.Ple.Gen.facts, Cert.PleIdeal.Gen.facts, Cert.PleReferenceIdeal.Gen.facts, Cert.Mix.Gen.facts, Cert.MixIdeal.Gen.facts, Cert.MixReferenceIdeal.Gen.facts, Cert.Hgrn.Gen.facts, Cert.HgrnIdeal.Gen.facts, Cert.HgrnReferenceIdeal.Gen.facts, Cert.Pre_gates_above.Gen.facts,
  frame_kernel, frame_kernelIdeal, frame_referenceIdeal, frame_Ffn, frame_FfnIdeal, frame_FfnReferenceIdeal, frame_Ple, frame_PleIdeal, frame_PleReferenceIdeal, frame_Mix, frame_MixIdeal, frame_MixReferenceIdeal, frame_Hgrn, frame_HgrnIdeal, fun m g _ => frame_HgrnIdeal m g trivial,
  frame_HgrnReferenceIdeal, fun m g _ => frame_HgrnReferenceIdeal m g trivial,
  trivial, algebraic, trivial, algebraic_Ffn, trivial, algebraic_Ple, trivial, algebraic_Mix, trivial, algebraic_Hgrn⟩

end Cert.Proof

end
